-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positions_nonneg [hPre_positions_nonneg : Cert.Pre_positions_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_positions_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_nonneg [hPre_positions_nonneg : Cert.Pre_positions_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_positions_nonneg [hKernelIdeal : Cert.KernelIdeal.Facts] [hPre_positions_nonneg : Cert.Pre_positions_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positions_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_positions_nonneg [hReferenceIdeal : Cert.ReferenceIdeal.Facts] [hPre_positions_nonneg : Cert.Pre_positions_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_positions_nonneg [hKernelIdeal : Cert.KernelIdeal.Facts] [hReferenceIdeal : Cert.ReferenceIdeal.Facts] [hPre_positions_nonneg : Cert.Pre_positions_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positions_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1069) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_positions_nonneg : Cert.Pre_positions_nonneg.Facts),
    quiescent_Kernel (hKernel := hKernel)
    ∧ quiescent_KernelIdeal (hKernelIdeal := hKernelIdeal)
    ∧ quiescent_KernelIdeal_pre_positions_nonneg (hKernelIdeal := hKernelIdeal) (hPre_positions_nonneg := hPre_positions_nonneg)
    ∧ quiescent_ReferenceIdeal (hReferenceIdeal := hReferenceIdeal)
    ∧ quiescent_ReferenceIdeal_pre_positions_nonneg (hReferenceIdeal := hReferenceIdeal) (hPre_positions_nonneg := hPre_positions_nonneg)
    ∧ preserves_Kernel_KernelIdeal
    ∧ algebraic_KernelIdeal_ReferenceIdeal_pre_positions_nonneg (hKernelIdeal := hKernelIdeal) (hReferenceIdeal := hReferenceIdeal) (hPre_positions_nonneg := hPre_positions_nonneg)
-- ==== Pre_positions_nonneg.lean ====
abbrev S8x30x64x64 : Shape := ⟨4, ![8, 30, 64, 64]⟩
abbrev S8x30x8x2 : Shape := ⟨4, ![8, 30, 8, 2]⟩
abbrev S32x1x5x5 : Shape := ⟨4, ![32, 1, 5, 5]⟩
abbrev S32x32x3x3 : Shape := ⟨4, ![32, 32, 3, 3]⟩
abbrev S64x32x3x3 : Shape := ⟨4, ![64, 32, 3, 3]⟩
abbrev S64x64x3x3 : Shape := ⟨4, ![64, 64, 3, 3]⟩
abbrev S128x64x3x3 : Shape := ⟨4, ![128, 64, 3, 3]⟩
abbrev S128x128x3x3 : Shape := ⟨4, ![128, 128, 3, 3]⟩
abbrev S256x32768 : Shape := ⟨2, ![256, 32768]⟩
abbrev S256 : Shape := ⟨1, ![256]⟩
abbrev S256x1152 : Shape := ⟨2, ![256, 1152]⟩
abbrev S256x8 : Shape := ⟨2, ![256, 8]⟩
abbrev S8x1 : Shape := ⟨2, ![8, 1]⟩
abbrev S8x16 : Shape := ⟨2, ![8, 16]⟩
abbrev S16x1 : Shape := ⟨2, ![16, 1]⟩
abbrev S_ : Shape := ⟨0, ![]⟩

class Facts : Prop where
  bcast_S_S8x30x8x2 : S_.BroadcastsInDim S8x30x8x2 (![] : Fin 0 → Fin S8x30x8x2.rank)
  reducesTo_S8x30x8x2_S_d0_1_2_3 : S8x30x8x2.ReducesTo [0, 1, 2, 3] S_
  h_S_ : 0 < S_.numel

variable [Facts]

def fn {F : FTy → Type} [FloatOps F] (main_arg0 : FVec F S8x30x64x64 .f32) (main_arg1 : FVec F S8x30x8x2 .f32) (main_arg2 : FVec F S32x1x5x5 .f32) (main_arg3 : FVec F S32x32x3x3 .f32) (main_arg4 : FVec F S64x32x3x3 .f32) (main_arg5 : FVec F S64x64x3x3 .f32) (main_arg6 : FVec F S128x64x3x3 .f32) (main_arg7 : FVec F S128x128x3x3 .f32) (main_arg8 : FVec F S256x32768 .f32) (main_arg9 : FVec F S256 .f32) (main_arg10 : FVec F S256x1152 .f32) (main_arg11 : FVec F S256 .f32) (main_arg12 : FVec F S256x8 .f32) (main_arg13 : FVec F S8x1 .f32) (main_arg14 : FVec F S8x1 .f32) (main_arg15 : FVec F S8x16 .f32) (main_arg16 : FVec F S16x1 .f32) (main_arg17 : FVec F S16x1 .f32) : IVec S_ 1 :=
  let main_cst : FVec F S_ .f32 := constant S_ .f32 0x00000000#32
  let main_v0 : FVec F S8x30x8x2 .f32 := broadcastInDim S8x30x8x2 ![] bcast_S_S8x30x8x2 main_cst
  let main_v1 : IVec S8x30x8x2 1 := cmpf .oge main_arg1 main_v0
  let main_c : IVec S_ 1 := constantI S_ 1 1#1
  let main_v2 : IVec S_ 1 := (fun x v => Host.reduce IntOp.andi x v reducesTo_S8x30x8x2_S_d0_1_2_3 h_S_) main_v1 main_c
  main_v2
-- ==== Kernel.lean ====
abbrev S8x30x64x64 : Shape := ⟨4, ![8, 30, 64, 64]⟩
abbrev S8x30x8x2 : Shape := ⟨4, ![8, 30, 8, 2]⟩
abbrev S32x1x5x5 : Shape := ⟨4, ![32, 1, 5, 5]⟩
abbrev S32x32x3x3 : Shape := ⟨4, ![32, 32, 3, 3]⟩
abbrev S64x32x3x3 : Shape := ⟨4, ![64, 32, 3, 3]⟩
abbrev S64x64x3x3 : Shape := ⟨4, ![64, 64, 3, 3]⟩
abbrev S128x64x3x3 : Shape := ⟨4, ![128, 64, 3, 3]⟩
abbrev S128x128x3x3 : Shape := ⟨4, ![128, 128, 3, 3]⟩
abbrev S256x32768 : Shape := ⟨2, ![256, 32768]⟩
abbrev S256 : Shape := ⟨1, ![256]⟩
abbrev S256x1152 : Shape := ⟨2, ![256, 1152]⟩
abbrev S256x8 : Shape := ⟨2, ![256, 8]⟩
abbrev S8x1 : Shape := ⟨2, ![8, 1]⟩
abbrev S8x16 : Shape := ⟨2, ![8, 16]⟩
abbrev S16x1 : Shape := ⟨2, ![16, 1]⟩
abbrev S5x5x1x32 : Shape := ⟨4, ![5, 5, 1, 32]⟩
abbrev S25x32 : Shape := ⟨2, ![25, 32]⟩
abbrev S3x3x32x32 : Shape := ⟨4, ![3, 3, 32, 32]⟩
abbrev S288x32 : Shape := ⟨2, ![288, 32]⟩
abbrev S3x3x32x64 : Shape := ⟨4, ![3, 3, 32, 64]⟩
abbrev S288x64 : Shape := ⟨2, ![288, 64]⟩
abbrev S3x3x64x64 : Shape := ⟨4, ![3, 3, 64, 64]⟩
abbrev S576x64 : Shape := ⟨2, ![576, 64]⟩
abbrev S3x3x64x128 : Shape := ⟨4, ![3, 3, 64, 128]⟩
abbrev S576x128 : Shape := ⟨2, ![576, 128]⟩
abbrev S3x3x128x128 : Shape := ⟨4, ![3, 3, 128, 128]⟩
abbrev S1152x128 : Shape := ⟨2, ![1152, 128]⟩
abbrev S8x256x128 : Shape := ⟨3, ![8, 256, 128]⟩
abbrev S1x1x64x64 : Shape := ⟨4, ![1, 1, 64, 64]⟩
abbrev S1x256x128 : Shape := ⟨3, ![1, 256, 128]⟩
abbrev S1x64x64 : Shape := ⟨3, ![1, 64, 64]⟩
abbrev S1x64x2 : Shape := ⟨3, ![1, 64, 2]⟩
abbrev S1x64x68 : Shape := ⟨3, ![1, 64, 68]⟩
abbrev S1x2x68 : Shape := ⟨3, ![1, 2, 68]⟩
abbrev S1x68x68 : Shape := ⟨3, ![1, 68, 68]⟩
abbrev S1x64x64x32 : Shape := ⟨4, ![1, 64, 64, 32]⟩
abbrev S1x64x64x1 : Shape := ⟨4, ![1, 64, 64, 1]⟩
abbrev S1x32 : Shape := ⟨2, ![1, 32]⟩
abbrev S32 : Shape := ⟨1, ![32]⟩
abbrev S1x1x1x32 : Shape := ⟨4, ![1, 1, 1, 32]⟩
abbrev S1x64x1x32 : Shape := ⟨4, ![1, 64, 1, 32]⟩
abbrev S1x64x66x32 : Shape := ⟨4, ![1, 64, 66, 32]⟩
abbrev S1x1x66x32 : Shape := ⟨4, ![1, 1, 66, 32]⟩
abbrev S1x66x66x32 : Shape := ⟨4, ![1, 66, 66, 32]⟩
abbrev S1x64x64x288 : Shape := ⟨4, ![1, 64, 64, 288]⟩
abbrev S4096x288 : Shape := ⟨2, ![4096, 288]⟩
abbrev S4096x32 : Shape := ⟨2, ![4096, 32]⟩
abbrev S1x32x2x64x32 : Shape := ⟨5, ![1, 32, 2, 64, 32]⟩
abbrev S1x32x64x32 : Shape := ⟨4, ![1, 32, 64, 32]⟩
abbrev S1x32x32x2x32 : Shape := ⟨5, ![1, 32, 32, 2, 32]⟩
abbrev S1x32x32x32 : Shape := ⟨4, ![1, 32, 32, 32]⟩
abbrev S1x32x1x32 : Shape := ⟨4, ![1, 32, 1, 32]⟩
abbrev S1x32x34x32 : Shape := ⟨4, ![1, 32, 34, 32]⟩
abbrev S1x1x34x32 : Shape := ⟨4, ![1, 1, 34, 32]⟩
abbrev S1x34x34x32 : Shape := ⟨4, ![1, 34, 34, 32]⟩
abbrev S1x32x32x288 : Shape := ⟨4, ![1, 32, 32, 288]⟩
abbrev S1024x288 : Shape := ⟨2, ![1024, 288]⟩
abbrev S1024x64 : Shape := ⟨2, ![1024, 64]⟩
abbrev S1x32x32x64 : Shape := ⟨4, ![1, 32, 32, 64]⟩
abbrev S1x32x1x64 : Shape := ⟨4, ![1, 32, 1, 64]⟩
abbrev S1x32x34x64 : Shape := ⟨4, ![1, 32, 34, 64]⟩
abbrev S1x1x34x64 : Shape := ⟨4, ![1, 1, 34, 64]⟩
abbrev S1x34x34x64 : Shape := ⟨4, ![1, 34, 34, 64]⟩
abbrev S1x32x32x576 : Shape := ⟨4, ![1, 32, 32, 576]⟩
abbrev S1024x576 : Shape := ⟨2, ![1024, 576]⟩
abbrev S1x16x2x32x64 : Shape := ⟨5, ![1, 16, 2, 32, 64]⟩
abbrev S1x16x32x64 : Shape := ⟨4, ![1, 16, 32, 64]⟩
abbrev S1x16x16x2x64 : Shape := ⟨5, ![1, 16, 16, 2, 64]⟩
abbrev S1x16x16x64 : Shape := ⟨4, ![1, 16, 16, 64]⟩
abbrev S1x16x1x64 : Shape := ⟨4, ![1, 16, 1, 64]⟩
abbrev S1x16x18x64 : Shape := ⟨4, ![1, 16, 18, 64]⟩
abbrev S1x1x18x64 : Shape := ⟨4, ![1, 1, 18, 64]⟩
abbrev S1x18x18x64 : Shape := ⟨4, ![1, 18, 18, 64]⟩
abbrev S1x16x16x576 : Shape := ⟨4, ![1, 16, 16, 576]⟩
abbrev S256x576 : Shape := ⟨2, ![256, 576]⟩
abbrev S256x128 : Shape := ⟨2, ![256, 128]⟩
abbrev S1x16x16x128 : Shape := ⟨4, ![1, 16, 16, 128]⟩
abbrev S1x16x1x128 : Shape := ⟨4, ![1, 16, 1, 128]⟩
abbrev S1x16x18x128 : Shape := ⟨4, ![1, 16, 18, 128]⟩
abbrev S1x1x18x128 : Shape := ⟨4, ![1, 1, 18, 128]⟩
abbrev S1x18x18x128 : Shape := ⟨4, ![1, 18, 18, 128]⟩
abbrev S1x16x16x1152 : Shape := ⟨4, ![1, 16, 16, 1152]⟩
abbrev S256x128x16x16 : Shape := ⟨4, ![256, 128, 16, 16]⟩
abbrev S16x16x128x256 : Shape := ⟨4, ![16, 16, 128, 256]⟩
abbrev S32768x256 : Shape := ⟨2, ![32768, 256]⟩
abbrev S8x32768 : Shape := ⟨2, ![8, 32768]⟩
abbrev S1x256 : Shape := ⟨2, ![1, 256]⟩
abbrev S8x256 : Shape := ⟨2, ![8, 256]⟩
abbrev S8x2048 : Shape := ⟨2, ![8, 2048]⟩
abbrev S2048x256 : Shape := ⟨2, ![2048, 256]⟩
abbrev S256x128x3x3 : Shape := ⟨4, ![256, 128, 3, 3]⟩
abbrev S3x3x128x256 : Shape := ⟨4, ![3, 3, 128, 256]⟩
abbrev S8x30x8x256 : Shape := ⟨4, ![8, 30, 8, 256]⟩
abbrev S1x1x8x2 : Shape := ⟨4, ![1, 1, 8, 2]⟩
abbrev S1x1x8x256 : Shape := ⟨4, ![1, 1, 8, 256]⟩
abbrev S64x64 : Shape := ⟨2, ![64, 64]⟩
abbrev S8x2 : Shape := ⟨2, ![8, 2]⟩
abbrev S8x14 : Shape := ⟨2, ![8, 14]⟩
abbrev S8x14x64 : Shape := ⟨3, ![8, 14, 64]⟩
abbrev S8x14x1 : Shape := ⟨3, ![8, 14, 1]⟩
abbrev S112x64 : Shape := ⟨2, ![112, 64]⟩
abbrev S112x112 : Shape := ⟨2, ![112, 112]⟩
abbrev S14x14 : Shape := ⟨2, ![14, 14]⟩
abbrev S1x14x14 : Shape := ⟨3, ![1, 14, 14]⟩
abbrev S8x14x14 : Shape := ⟨3, ![8, 14, 14]⟩
abbrev S8x14x2 : Shape := ⟨3, ![8, 14, 2]⟩
abbrev S8x14x18 : Shape := ⟨3, ![8, 14, 18]⟩
abbrev S8x2x18 : Shape := ⟨3, ![8, 2, 18]⟩
abbrev S8x18x18 : Shape := ⟨3, ![8, 18, 18]⟩
abbrev S8x14x14x32 : Shape := ⟨4, ![8, 14, 14, 32]⟩
abbrev S8x14x14x1 : Shape := ⟨4, ![8, 14, 14, 1]⟩
abbrev S8x14x1x32 : Shape := ⟨4, ![8, 14, 1, 32]⟩
abbrev S8x14x16x32 : Shape := ⟨4, ![8, 14, 16, 32]⟩
abbrev S8x1x16x32 : Shape := ⟨4, ![8, 1, 16, 32]⟩
abbrev S8x16x16x32 : Shape := ⟨4, ![8, 16, 16, 32]⟩
abbrev S8x14x14x288 : Shape := ⟨4, ![8, 14, 14, 288]⟩
abbrev S1568x288 : Shape := ⟨2, ![1568, 288]⟩
abbrev S1568x32 : Shape := ⟨2, ![1568, 32]⟩
abbrev S8x7x2x14x32 : Shape := ⟨5, ![8, 7, 2, 14, 32]⟩
abbrev S8x7x14x32 : Shape := ⟨4, ![8, 7, 14, 32]⟩
abbrev S8x7x7x2x32 : Shape := ⟨5, ![8, 7, 7, 2, 32]⟩
abbrev S8x7x7x32 : Shape := ⟨4, ![8, 7, 7, 32]⟩
abbrev S8x7x1x32 : Shape := ⟨4, ![8, 7, 1, 32]⟩
abbrev S8x7x9x32 : Shape := ⟨4, ![8, 7, 9, 32]⟩
abbrev S8x1x9x32 : Shape := ⟨4, ![8, 1, 9, 32]⟩
abbrev S8x9x9x32 : Shape := ⟨4, ![8, 9, 9, 32]⟩
abbrev S8x7x7x288 : Shape := ⟨4, ![8, 7, 7, 288]⟩
abbrev S392x288 : Shape := ⟨2, ![392, 288]⟩
abbrev S392x64 : Shape := ⟨2, ![392, 64]⟩
abbrev S8x7x7x64 : Shape := ⟨4, ![8, 7, 7, 64]⟩
abbrev S8x7x1x64 : Shape := ⟨4, ![8, 7, 1, 64]⟩
abbrev S8x7x9x64 : Shape := ⟨4, ![8, 7, 9, 64]⟩
abbrev S8x1x9x64 : Shape := ⟨4, ![8, 1, 9, 64]⟩
abbrev S8x9x9x64 : Shape := ⟨4, ![8, 9, 9, 64]⟩
abbrev S8x7x7x576 : Shape := ⟨4, ![8, 7, 7, 576]⟩
abbrev S392x576 : Shape := ⟨2, ![392, 576]⟩
abbrev S8x6x6x64 : Shape := ⟨4, ![8, 6, 6, 64]⟩
abbrev S8x3x2x6x64 : Shape := ⟨5, ![8, 3, 2, 6, 64]⟩
abbrev S8x3x6x64 : Shape := ⟨4, ![8, 3, 6, 64]⟩
abbrev S8x3x3x2x64 : Shape := ⟨5, ![8, 3, 3, 2, 64]⟩
abbrev S8x3x3x64 : Shape := ⟨4, ![8, 3, 3, 64]⟩
abbrev S8x3x1x64 : Shape := ⟨4, ![8, 3, 1, 64]⟩
abbrev S8x3x5x64 : Shape := ⟨4, ![8, 3, 5, 64]⟩
abbrev S8x1x5x64 : Shape := ⟨4, ![8, 1, 5, 64]⟩
abbrev S8x5x5x64 : Shape := ⟨4, ![8, 5, 5, 64]⟩
abbrev S8x3x3x576 : Shape := ⟨4, ![8, 3, 3, 576]⟩
abbrev S72x576 : Shape := ⟨2, ![72, 576]⟩
abbrev S72x128 : Shape := ⟨2, ![72, 128]⟩
abbrev S8x3x3x128 : Shape := ⟨4, ![8, 3, 3, 128]⟩
abbrev S8x3x1x128 : Shape := ⟨4, ![8, 3, 1, 128]⟩
abbrev S8x3x5x128 : Shape := ⟨4, ![8, 3, 5, 128]⟩
abbrev S8x1x5x128 : Shape := ⟨4, ![8, 1, 5, 128]⟩
abbrev S8x5x5x128 : Shape := ⟨4, ![8, 5, 5, 128]⟩
abbrev S8x3x3x1152 : Shape := ⟨4, ![8, 3, 3, 1152]⟩
abbrev S72x1152 : Shape := ⟨2, ![72, 1152]⟩
abbrev S8x1x1x128 : Shape := ⟨4, ![8, 1, 1, 128]⟩
abbrev S8x128 : Shape := ⟨2, ![8, 128]⟩
abbrev S1x1x128x256 : Shape := ⟨4, ![1, 1, 128, 256]⟩
abbrev S128x256 : Shape := ⟨2, ![128, 256]⟩
abbrev S8x240x256 : Shape := ⟨3, ![8, 240, 256]⟩
abbrev S8x1x256 : Shape := ⟨3, ![8, 1, 256]⟩
abbrev S8x1x1023 : Shape := ⟨3, ![8, 1, 1023]⟩
abbrev S1x240x256 : Shape := ⟨3, ![1, 240, 256]⟩
abbrev S1x1x256 : Shape := ⟨3, ![1, 1, 256]⟩
abbrev S1x1x1023 : Shape := ⟨3, ![1, 1, 1023]⟩
abbrev S240x256 : Shape := ⟨2, ![240, 256]⟩
abbrev S240x240 : Shape := ⟨2, ![240, 240]⟩
abbrev S240x8 : Shape := ⟨2, ![240, 8]⟩
abbrev S240x1 : Shape := ⟨2, ![240, 1]⟩
abbrev S1x240 : Shape := ⟨2, ![1, 240]⟩
abbrev S240 : Shape := ⟨1, ![240]⟩
abbrev S240x16 : Shape := ⟨2, ![240, 16]⟩
abbrev S16 : Shape := ⟨1, ![16]⟩
abbrev S528 : Shape := ⟨1, ![528]⟩
abbrev S264 : Shape := ⟨1, ![264]⟩
abbrev S132 : Shape := ⟨1, ![132]⟩
abbrev S66 : Shape := ⟨1, ![66]⟩
abbrev S33 : Shape := ⟨1, ![33]⟩
abbrev S1023 : Shape := ⟨1, ![1023]⟩

abbrev nBuf : Space → Nat
  | .hbm => 44
  | .vmem => 42
  | .smem => 0
  | _ => 0

abbrev bufTy : (tb : Table) → Fin (tcTables nBuf tb) → BufTy
  | .hbm, ⟨0, _⟩ => ⟨S8x30x64x64, .f32⟩
  | .hbm, ⟨1, _⟩ => ⟨S8x30x8x2, .f32⟩
  | .hbm, ⟨2, _⟩ => ⟨S32x1x5x5, .f32⟩
  | .hbm, ⟨3, _⟩ => ⟨S32x32x3x3, .f32⟩
  | .hbm, ⟨4, _⟩ => ⟨S64x32x3x3, .f32⟩
  | .hbm, ⟨5, _⟩ => ⟨S64x64x3x3, .f32⟩
  | .hbm, ⟨6, _⟩ => ⟨S128x64x3x3, .f32⟩
  | .hbm, ⟨7, _⟩ => ⟨S128x128x3x3, .f32⟩
  | .hbm, ⟨8, _⟩ => ⟨S256x32768, .f32⟩
  | .hbm, ⟨9, _⟩ => ⟨S256, .f32⟩
  | .hbm, ⟨10, _⟩ => ⟨S256x1152, .f32⟩
  | .hbm, ⟨11, _⟩ => ⟨S256, .f32⟩
  | .hbm, ⟨12, _⟩ => ⟨S256x8, .f32⟩
  | .hbm, ⟨13, _⟩ => ⟨S8x1, .f32⟩
  | .hbm, ⟨14, _⟩ => ⟨S8x1, .f32⟩
  | .hbm, ⟨15, _⟩ => ⟨S8x16, .f32⟩
  | .hbm, ⟨16, _⟩ => ⟨S16x1, .f32⟩
  | .hbm, ⟨17, _⟩ => ⟨S16x1, .f32⟩
  | .hbm, ⟨18, _⟩ => ⟨S5x5x1x32, .f32⟩
  | .hbm, ⟨19, _⟩ => ⟨S25x32, .f32⟩
  | .hbm, ⟨20, _⟩ => ⟨S3x3x32x32, .f32⟩
  | .hbm, ⟨21, _⟩ => ⟨S288x32, .f32⟩
  | .hbm, ⟨22, _⟩ => ⟨S3x3x32x64, .f32⟩
  | .hbm, ⟨23, _⟩ => ⟨S288x64, .f32⟩
  | .hbm, ⟨24, _⟩ => ⟨S3x3x64x64, .f32⟩
  | .hbm, ⟨25, _⟩ => ⟨S576x64, .f32⟩
  | .hbm, ⟨26, _⟩ => ⟨S3x3x64x128, .f32⟩
  | .hbm, ⟨27, _⟩ => ⟨S576x128, .f32⟩
  | .hbm, ⟨28, _⟩ => ⟨S3x3x128x128, .f32⟩
  | .hbm, ⟨29, _⟩ => ⟨S1152x128, .f32⟩
  | .hbm, ⟨30, _⟩ => ⟨S8x256x128, .f32⟩
  | .hbm, ⟨31, _⟩ => ⟨S256x128x16x16, .f32⟩
  | .hbm, ⟨32, _⟩ => ⟨S16x16x128x256, .f32⟩
  | .hbm, ⟨33, _⟩ => ⟨S32768x256, .f32⟩
  | .hbm, ⟨34, _⟩ => ⟨S8x32768, .f32⟩
  | .hbm, ⟨35, _⟩ => ⟨S1x256, .f32⟩
  | .hbm, ⟨36, _⟩ => ⟨S8x256, .f32⟩
  | .hbm, ⟨37, _⟩ => ⟨S256x128x3x3, .f32⟩
  | .hbm, ⟨38, _⟩ => ⟨S3x3x128x256, .f32⟩
  | .hbm, ⟨39, _⟩ => ⟨S1x256, .f32⟩
  | .hbm, ⟨40, _⟩ => ⟨S8x30x8x256, .f32⟩
  | .hbm, ⟨41, _⟩ => ⟨S8x240x256, .f32⟩
  | .hbm, ⟨42, _⟩ => ⟨S8x1x256, .f32⟩
  | .hbm, ⟨43, _⟩ => ⟨S8x1x1023, .f32⟩
  | .local _ .vmem, ⟨0, _⟩ => ⟨S1x1x64x64, .f32⟩
  | .local _ .vmem, ⟨1, _⟩ => ⟨S1x1x64x64, .f32⟩
  | .local _ .vmem, ⟨2, _⟩ => ⟨S25x32, .f32⟩
  | .local _ .vmem, ⟨3, _⟩ => ⟨S288x32, .f32⟩
  | .local _ .vmem, ⟨4, _⟩ => ⟨S288x64, .f32⟩
  | .local _ .vmem, ⟨5, _⟩ => ⟨S576x64, .f32⟩
  | .local _ .vmem, ⟨6, _⟩ => ⟨S576x128, .f32⟩
  | .local _ .vmem, ⟨7, _⟩ => ⟨S1152x128, .f32⟩
  | .local _ .vmem, ⟨8, _⟩ => ⟨S1x256x128, .f32⟩
  | .local _ .vmem, ⟨9, _⟩ => ⟨S1x256x128, .f32⟩
  | .local _ .vmem, ⟨10, _⟩ => ⟨S8x2048, .f32⟩
  | .local _ .vmem, ⟨11, _⟩ => ⟨S8x2048, .f32⟩
  | .local _ .vmem, ⟨12, _⟩ => ⟨S2048x256, .f32⟩
  | .local _ .vmem, ⟨13, _⟩ => ⟨S2048x256, .f32⟩
  | .local _ .vmem, ⟨14, _⟩ => ⟨S1x256, .f32⟩
  | .local _ .vmem, ⟨15, _⟩ => ⟨S8x256, .f32⟩
  | .local _ .vmem, ⟨16, _⟩ => ⟨S1x1x64x64, .f32⟩
  | .local _ .vmem, ⟨17, _⟩ => ⟨S1x1x64x64, .f32⟩
  | .local _ .vmem, ⟨18, _⟩ => ⟨S1x1x8x2, .f32⟩
  | .local _ .vmem, ⟨19, _⟩ => ⟨S1x1x8x2, .f32⟩
  | .local _ .vmem, ⟨20, _⟩ => ⟨S25x32, .f32⟩
  | .local _ .vmem, ⟨21, _⟩ => ⟨S288x32, .f32⟩
  | .local _ .vmem, ⟨22, _⟩ => ⟨S288x64, .f32⟩
  | .local _ .vmem, ⟨23, _⟩ => ⟨S576x64, .f32⟩
  | .local _ .vmem, ⟨24, _⟩ => ⟨S576x128, .f32⟩
  | .local _ .vmem, ⟨25, _⟩ => ⟨S1152x128, .f32⟩
  | .local _ .vmem, ⟨26, _⟩ => ⟨S3x3x128x256, .f32⟩
  | .local _ .vmem, ⟨27, _⟩ => ⟨S1x256, .f32⟩
  | .local _ .vmem, ⟨28, _⟩ => ⟨S1x1x8x256, .f32⟩
  | .local _ .vmem, ⟨29, _⟩ => ⟨S1x1x8x256, .f32⟩
  | .local _ .vmem, ⟨30, _⟩ => ⟨S1x240x256, .f32⟩
  | .local _ .vmem, ⟨31, _⟩ => ⟨S1x240x256, .f32⟩
  | .local _ .vmem, ⟨32, _⟩ => ⟨S1x1x256, .f32⟩
  | .local _ .vmem, ⟨33, _⟩ => ⟨S1x1x256, .f32⟩
  | .local _ .vmem, ⟨34, _⟩ => ⟨S256x8, .f32⟩
  | .local _ .vmem, ⟨35, _⟩ => ⟨S8x1, .f32⟩
  | .local _ .vmem, ⟨36, _⟩ => ⟨S8x1, .f32⟩
  | .local _ .vmem, ⟨37, _⟩ => ⟨S8x16, .f32⟩
  | .local _ .vmem, ⟨38, _⟩ => ⟨S16x1, .f32⟩
  | .local _ .vmem, ⟨39, _⟩ => ⟨S16x1, .f32⟩
  | .local _ .vmem, ⟨40, _⟩ => ⟨S1x1x1023, .f32⟩
  | .local _ .vmem, ⟨41, _⟩ => ⟨S1x1x1023, .f32⟩
  | _, _ => ⟨S8x30x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem10_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem8_1 : DmaSem sig := 41

abbrev nD : Nat := 1
abbrev τ : Topo := Topo.v7x

variable {F : FTy → Type} [FloatOps F]

abbrev grid0 : Pipeline.Grid := ⟨2, ![8, 30], ![false, false]⟩

def k0_cond1 (i : grid0.Coords) : BitVec 1 :=
  let arg1 : BitVec 32 := BitVec.ofNat 32 (i 1).val
  let c0_i32 : BitVec 32 := 0#32
  let v368 : BitVec 1 := Scalar.cmpi .eq arg1 c0_i32
  let v369 : BitVec 32 := Scalar.extui v368
  let c0_i32_48 : BitVec 32 := 0#32
  let v370 : BitVec 1 := Scalar.cmpi .ne v369 c0_i32_48
  v370

def k0_cond2 (i : grid0.Coords) : BitVec 1 :=
  let arg1 : BitVec 32 := BitVec.ofNat 32 (i 1).val
  let c0_i32_49 : BitVec 32 := 0#32
  let v371 : BitVec 1 := Scalar.cmpi .ne arg1 c0_i32_49
  let v372 : BitVec 32 := Scalar.extui v371
  let c0_i32_50 : BitVec 32 := 0#32
  let v373 : BitVec 1 := Scalar.cmpi .ne v372 c0_i32_50
  v373

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S25x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S288x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S288x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S576x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![8, 30], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x1x64x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x8x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S25x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S288x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S288x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S576x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S576x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1152x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S3x3x128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 2 → Memref sig .tc .vmem S1x1x8x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x240x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S8x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S16x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x1x1023 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== ReferenceIdeal.lean ====
abbrev S8x30x64x64 : Shape := ⟨4, ![8, 30, 64, 64]⟩
abbrev S8x30x8x2 : Shape := ⟨4, ![8, 30, 8, 2]⟩
abbrev S32x1x5x5 : Shape := ⟨4, ![32, 1, 5, 5]⟩
abbrev S32x32x3x3 : Shape := ⟨4, ![32, 32, 3, 3]⟩
abbrev S64x32x3x3 : Shape := ⟨4, ![64, 32, 3, 3]⟩
abbrev S64x64x3x3 : Shape := ⟨4, ![64, 64, 3, 3]⟩
abbrev S128x64x3x3 : Shape := ⟨4, ![128, 64, 3, 3]⟩
abbrev S128x128x3x3 : Shape := ⟨4, ![128, 128, 3, 3]⟩
abbrev S256x32768 : Shape := ⟨2, ![256, 32768]⟩
abbrev S256 : Shape := ⟨1, ![256]⟩
abbrev S256x1152 : Shape := ⟨2, ![256, 1152]⟩
abbrev S256x8 : Shape := ⟨2, ![256, 8]⟩
abbrev S8x1 : Shape := ⟨2, ![8, 1]⟩
abbrev S8x16 : Shape := ⟨2, ![8, 16]⟩
abbrev S16x1 : Shape := ⟨2, ![16, 1]⟩
abbrev S240x1x64x64 : Shape := ⟨4, ![240, 1, 64, 64]⟩
abbrev S_ : Shape := ⟨0, ![]⟩
abbrev S240x1x68x68 : Shape := ⟨4, ![240, 1, 68, 68]⟩
abbrev S32x1x1x1 : Shape := ⟨4, ![32, 1, 1, 1]⟩
abbrev S32x1 : Shape := ⟨2, ![32, 1]⟩
abbrev S32x240x64x64 : Shape := ⟨4, ![32, 240, 64, 64]⟩
abbrev S240x32x64x64 : Shape := ⟨4, ![240, 32, 64, 64]⟩
abbrev S240x32x66x66 : Shape := ⟨4, ![240, 32, 66, 66]⟩
abbrev S32x32x1x1 : Shape := ⟨4, ![32, 32, 1, 1]⟩
abbrev S32x32 : Shape := ⟨2, ![32, 32]⟩
abbrev S240x32x32x32 : Shape := ⟨4, ![240, 32, 32, 32]⟩
abbrev S240x32x34x34 : Shape := ⟨4, ![240, 32, 34, 34]⟩
abbrev S64x32x1x1 : Shape := ⟨4, ![64, 32, 1, 1]⟩
abbrev S64x32 : Shape := ⟨2, ![64, 32]⟩
abbrev S64x240x32x32 : Shape := ⟨4, ![64, 240, 32, 32]⟩
abbrev S240x64x32x32 : Shape := ⟨4, ![240, 64, 32, 32]⟩
abbrev S240x64x34x34 : Shape := ⟨4, ![240, 64, 34, 34]⟩
abbrev S64x64x1x1 : Shape := ⟨4, ![64, 64, 1, 1]⟩
abbrev S64x64 : Shape := ⟨2, ![64, 64]⟩
abbrev S240x64x16x16 : Shape := ⟨4, ![240, 64, 16, 16]⟩
abbrev S240x64x18x18 : Shape := ⟨4, ![240, 64, 18, 18]⟩
abbrev S128x64x1x1 : Shape := ⟨4, ![128, 64, 1, 1]⟩
abbrev S128x64 : Shape := ⟨2, ![128, 64]⟩
abbrev S128x240x16x16 : Shape := ⟨4, ![128, 240, 16, 16]⟩
abbrev S240x128x16x16 : Shape := ⟨4, ![240, 128, 16, 16]⟩
abbrev S240x128x18x18 : Shape := ⟨4, ![240, 128, 18, 18]⟩
abbrev S128x128x1x1 : Shape := ⟨4, ![128, 128, 1, 1]⟩
abbrev S128x128 : Shape := ⟨2, ![128, 128]⟩
abbrev S8x30x32768 : Shape := ⟨3, ![8, 30, 32768]⟩
abbrev S8x32768 : Shape := ⟨2, ![8, 32768]⟩
abbrev S32768x256 : Shape := ⟨2, ![32768, 256]⟩
abbrev S8x256 : Shape := ⟨2, ![8, 256]⟩
abbrev S1x256 : Shape := ⟨2, ![1, 256]⟩
abbrev S8x30x8x1 : Shape := ⟨4, ![8, 30, 8, 1]⟩
abbrev S8x30x8 : Shape := ⟨3, ![8, 30, 8]⟩
abbrev S14 : Shape := ⟨1, ![14]⟩
abbrev S1x1x1x14 : Shape := ⟨4, ![1, 1, 1, 14]⟩
abbrev S8x30x8x14 : Shape := ⟨4, ![8, 30, 8, 14]⟩
abbrev S240x64x64 : Shape := ⟨3, ![240, 64, 64]⟩
abbrev S240x8x14 : Shape := ⟨3, ![240, 8, 14]⟩
abbrev S240 : Shape := ⟨1, ![240]⟩
abbrev S240x1x1x1 : Shape := ⟨4, ![240, 1, 1, 1]⟩
abbrev S240x8x1x14 : Shape := ⟨4, ![240, 8, 1, 14]⟩
abbrev S240x8x14x1 : Shape := ⟨4, ![240, 8, 14, 1]⟩
abbrev S240x8x14x14 : Shape := ⟨4, ![240, 8, 14, 14]⟩
abbrev S240x8x14x14x1 : Shape := ⟨5, ![240, 8, 14, 14, 1]⟩
abbrev S240x8x14x14x3 : Shape := ⟨5, ![240, 8, 14, 14, 3]⟩
abbrev S1920x1x14x14 : Shape := ⟨4, ![1920, 1, 14, 14]⟩
abbrev S1920x1x18x18 : Shape := ⟨4, ![1920, 1, 18, 18]⟩
abbrev S32x1920x14x14 : Shape := ⟨4, ![32, 1920, 14, 14]⟩
abbrev S1920x32x14x14 : Shape := ⟨4, ![1920, 32, 14, 14]⟩
abbrev S1920x32x16x16 : Shape := ⟨4, ![1920, 32, 16, 16]⟩
abbrev S1920x32x7x7 : Shape := ⟨4, ![1920, 32, 7, 7]⟩
abbrev S1920x32x9x9 : Shape := ⟨4, ![1920, 32, 9, 9]⟩
abbrev S64x1920x7x7 : Shape := ⟨4, ![64, 1920, 7, 7]⟩
abbrev S1920x64x7x7 : Shape := ⟨4, ![1920, 64, 7, 7]⟩
abbrev S1920x64x9x9 : Shape := ⟨4, ![1920, 64, 9, 9]⟩
abbrev S1920x64x3x3 : Shape := ⟨4, ![1920, 64, 3, 3]⟩
abbrev S1920x64x5x5 : Shape := ⟨4, ![1920, 64, 5, 5]⟩
abbrev S128x1920x3x3 : Shape := ⟨4, ![128, 1920, 3, 3]⟩
abbrev S1920x128x3x3 : Shape := ⟨4, ![1920, 128, 3, 3]⟩
abbrev S1920x128x5x5 : Shape := ⟨4, ![1920, 128, 5, 5]⟩
abbrev S1920x1152 : Shape := ⟨2, ![1920, 1152]⟩
abbrev S1152x256 : Shape := ⟨2, ![1152, 256]⟩
abbrev S1920x256 : Shape := ⟨2, ![1920, 256]⟩
abbrev S8x240x256 : Shape := ⟨3, ![8, 240, 256]⟩
abbrev S240x1 : Shape := ⟨2, ![240, 1]⟩
abbrev S1x240 : Shape := ⟨2, ![1, 240]⟩
abbrev S240x240 : Shape := ⟨2, ![240, 240]⟩
abbrev S8x240x8 : Shape := ⟨3, ![8, 240, 8]⟩
abbrev S8x240x1 : Shape := ⟨3, ![8, 240, 1]⟩
abbrev S8x1x240 : Shape := ⟨3, ![8, 1, 240]⟩
abbrev S8x240x240 : Shape := ⟨3, ![8, 240, 240]⟩
abbrev S1x240x240 : Shape := ⟨3, ![1, 240, 240]⟩
abbrev S8x240 : Shape := ⟨2, ![8, 240]⟩
abbrev S8x240x16 : Shape := ⟨3, ![8, 240, 16]⟩
abbrev S8x240x272 : Shape := ⟨3, ![8, 240, 272]⟩
abbrev S8x272 : Shape := ⟨2, ![8, 272]⟩
abbrev S8x528 : Shape := ⟨2, ![8, 528]⟩
abbrev S8x1x528 : Shape := ⟨3, ![8, 1, 528]⟩
abbrev S8x2x264 : Shape := ⟨3, ![8, 2, 264]⟩
abbrev S8x264 : Shape := ⟨2, ![8, 264]⟩
abbrev S8x4x132 : Shape := ⟨3, ![8, 4, 132]⟩
abbrev S8x132 : Shape := ⟨2, ![8, 132]⟩
abbrev S8x8x66 : Shape := ⟨3, ![8, 8, 66]⟩
abbrev S8x66 : Shape := ⟨2, ![8, 66]⟩
abbrev S8x16x33 : Shape := ⟨3, ![8, 16, 33]⟩
abbrev S8x33 : Shape := ⟨2, ![8, 33]⟩
abbrev S8x1023 : Shape := ⟨2, ![8, 1023]⟩
abbrev S8x1x1023 : Shape := ⟨3, ![8, 1, 1023]⟩

abbrev nBuf : Space → Nat
  | .hbm => 1365
  | .vmem => 0
  | .smem => 0
  | _ => 0

abbrev hbmTy0_0 (i : Nat) : BufTy := match i % 128 with
  | 0 => ⟨S8x30x64x64, .f32⟩
  | 1 => ⟨S8x30x8x2, .f32⟩
  | 2 => ⟨S32x1x5x5, .f32⟩
  | 3 => ⟨S32x32x3x3, .f32⟩
  | 4 => ⟨S64x32x3x3, .f32⟩
  | 5 => ⟨S64x64x3x3, .f32⟩
  | 6 => ⟨S128x64x3x3, .f32⟩
  | 7 => ⟨S128x128x3x3, .f32⟩
  | 8 => ⟨S256x32768, .f32⟩
  | 9 => ⟨S256, .f32⟩
  | 10 => ⟨S256x1152, .f32⟩
  | 11 => ⟨S256, .f32⟩
  | 12 => ⟨S256x8, .f32⟩
  | 13 => ⟨S8x1, .f32⟩
  | 14 => ⟨S8x1, .f32⟩
  | 15 => ⟨S8x16, .f32⟩
  | 16 => ⟨S16x1, .f32⟩
  | 17 => ⟨S16x1, .f32⟩
  | 18 => ⟨S240x1x64x64, .f32⟩
  | 19 => ⟨S_, .i32⟩
  | 20 => ⟨S_, .f32⟩
  | 21 => ⟨S240x1x68x68, .f32⟩
  | 22 => ⟨S32x1x1x1, .f32⟩
  | 23 => ⟨S32x1, .f32⟩
  | 24 => ⟨S240x1x64x64, .f32⟩
  | 25 => ⟨S32x240x64x64, .f32⟩
  | 26 => ⟨S32x1x1x1, .f32⟩
  | 27 => ⟨S32x1, .f32⟩
  | 28 => ⟨S240x1x64x64, .f32⟩
  | 29 => ⟨S32x240x64x64, .f32⟩
  | 30 => ⟨S32x240x64x64, .f32⟩
  | 31 => ⟨S32x1x1x1, .f32⟩
  | 32 => ⟨S32x1, .f32⟩
  | 33 => ⟨S240x1x64x64, .f32⟩
  | 34 => ⟨S32x240x64x64, .f32⟩
  | 35 => ⟨S32x240x64x64, .f32⟩
  | 36 => ⟨S32x1x1x1, .f32⟩
  | 37 => ⟨S32x1, .f32⟩
  | 38 => ⟨S240x1x64x64, .f32⟩
  | 39 => ⟨S32x240x64x64, .f32⟩
  | 40 => ⟨S32x240x64x64, .f32⟩
  | 41 => ⟨S32x1x1x1, .f32⟩
  | 42 => ⟨S32x1, .f32⟩
  | 43 => ⟨S240x1x64x64, .f32⟩
  | 44 => ⟨S32x240x64x64, .f32⟩
  | 45 => ⟨S32x240x64x64, .f32⟩
  | 46 => ⟨S32x1x1x1, .f32⟩
  | 47 => ⟨S32x1, .f32⟩
  | 48 => ⟨S240x1x64x64, .f32⟩
  | 49 => ⟨S32x240x64x64, .f32⟩
  | 50 => ⟨S32x240x64x64, .f32⟩
  | 51 => ⟨S32x1x1x1, .f32⟩
  | 52 => ⟨S32x1, .f32⟩
  | 53 => ⟨S240x1x64x64, .f32⟩
  | 54 => ⟨S32x240x64x64, .f32⟩
  | 55 => ⟨S32x240x64x64, .f32⟩
  | 56 => ⟨S32x1x1x1, .f32⟩
  | 57 => ⟨S32x1, .f32⟩
  | 58 => ⟨S240x1x64x64, .f32⟩
  | 59 => ⟨S32x240x64x64, .f32⟩
  | 60 => ⟨S32x240x64x64, .f32⟩
  | 61 => ⟨S32x1x1x1, .f32⟩
  | 62 => ⟨S32x1, .f32⟩
  | 63 => ⟨S240x1x64x64, .f32⟩
  | 64 => ⟨S32x240x64x64, .f32⟩
  | 65 => ⟨S32x240x64x64, .f32⟩
  | 66 => ⟨S32x1x1x1, .f32⟩
  | 67 => ⟨S32x1, .f32⟩
  | 68 => ⟨S240x1x64x64, .f32⟩
  | 69 => ⟨S32x240x64x64, .f32⟩
  | 70 => ⟨S32x240x64x64, .f32⟩
  | 71 => ⟨S32x1x1x1, .f32⟩
  | 72 => ⟨S32x1, .f32⟩
  | 73 => ⟨S240x1x64x64, .f32⟩
  | 74 => ⟨S32x240x64x64, .f32⟩
  | 75 => ⟨S32x240x64x64, .f32⟩
  | 76 => ⟨S32x1x1x1, .f32⟩
  | 77 => ⟨S32x1, .f32⟩
  | 78 => ⟨S240x1x64x64, .f32⟩
  | 79 => ⟨S32x240x64x64, .f32⟩
  | 80 => ⟨S32x240x64x64, .f32⟩
  | 81 => ⟨S32x1x1x1, .f32⟩
  | 82 => ⟨S32x1, .f32⟩
  | 83 => ⟨S240x1x64x64, .f32⟩
  | 84 => ⟨S32x240x64x64, .f32⟩
  | 85 => ⟨S32x240x64x64, .f32⟩
  | 86 => ⟨S32x1x1x1, .f32⟩
  | 87 => ⟨S32x1, .f32⟩
  | 88 => ⟨S240x1x64x64, .f32⟩
  | 89 => ⟨S32x240x64x64, .f32⟩
  | 90 => ⟨S32x240x64x64, .f32⟩
  | 91 => ⟨S32x1x1x1, .f32⟩
  | 92 => ⟨S32x1, .f32⟩
  | 93 => ⟨S240x1x64x64, .f32⟩
  | 94 => ⟨S32x240x64x64, .f32⟩
  | 95 => ⟨S32x240x64x64, .f32⟩
  | 96 => ⟨S32x1x1x1, .f32⟩
  | 97 => ⟨S32x1, .f32⟩
  | 98 => ⟨S240x1x64x64, .f32⟩
  | 99 => ⟨S32x240x64x64, .f32⟩
  | 100 => ⟨S32x240x64x64, .f32⟩
  | 101 => ⟨S32x1x1x1, .f32⟩
  | 102 => ⟨S32x1, .f32⟩
  | 103 => ⟨S240x1x64x64, .f32⟩
  | 104 => ⟨S32x240x64x64, .f32⟩
  | 105 => ⟨S32x240x64x64, .f32⟩
  | 106 => ⟨S32x1x1x1, .f32⟩
  | 107 => ⟨S32x1, .f32⟩
  | 108 => ⟨S240x1x64x64, .f32⟩
  | 109 => ⟨S32x240x64x64, .f32⟩
  | 110 => ⟨S32x240x64x64, .f32⟩
  | 111 => ⟨S32x1x1x1, .f32⟩
  | 112 => ⟨S32x1, .f32⟩
  | 113 => ⟨S240x1x64x64, .f32⟩
  | 114 => ⟨S32x240x64x64, .f32⟩
  | 115 => ⟨S32x240x64x64, .f32⟩
  | 116 => ⟨S32x1x1x1, .f32⟩
  | 117 => ⟨S32x1, .f32⟩
  | 118 => ⟨S240x1x64x64, .f32⟩
  | 119 => ⟨S32x240x64x64, .f32⟩
  | 120 => ⟨S32x240x64x64, .f32⟩
  | 121 => ⟨S32x1x1x1, .f32⟩
  | 122 => ⟨S32x1, .f32⟩
  | 123 => ⟨S240x1x64x64, .f32⟩
  | 124 => ⟨S32x240x64x64, .f32⟩
  | 125 => ⟨S32x240x64x64, .f32⟩
  | 126 => ⟨S32x1x1x1, .f32⟩
  | 127 => ⟨S32x1, .f32⟩
  | _ => ⟨S8x30x64x64, .f32⟩

abbrev hbmTy0_1 (i : Nat) : BufTy := match i % 128 with
  | 0 => ⟨S240x1x64x64, .f32⟩
  | 1 => ⟨S32x240x64x64, .f32⟩
  | 2 => ⟨S32x240x64x64, .f32⟩
  | 3 => ⟨S32x1x1x1, .f32⟩
  | 4 => ⟨S32x1, .f32⟩
  | 5 => ⟨S240x1x64x64, .f32⟩
  | 6 => ⟨S32x240x64x64, .f32⟩
  | 7 => ⟨S32x240x64x64, .f32⟩
  | 8 => ⟨S32x1x1x1, .f32⟩
  | 9 => ⟨S32x1, .f32⟩
  | 10 => ⟨S240x1x64x64, .f32⟩
  | 11 => ⟨S32x240x64x64, .f32⟩
  | 12 => ⟨S32x240x64x64, .f32⟩
  | 13 => ⟨S32x1x1x1, .f32⟩
  | 14 => ⟨S32x1, .f32⟩
  | 15 => ⟨S240x1x64x64, .f32⟩
  | 16 => ⟨S32x240x64x64, .f32⟩
  | 17 => ⟨S32x240x64x64, .f32⟩
  | 18 => ⟨S240x32x64x64, .f32⟩
  | 19 => ⟨S_, .f32⟩
  | 20 => ⟨S240x32x64x64, .f32⟩
  | 21 => ⟨S240x32x64x64, .i1⟩
  | 22 => ⟨S_, .f32⟩
  | 23 => ⟨S240x32x64x64, .f32⟩
  | 24 => ⟨S240x32x64x64, .f32⟩
  | 25 => ⟨S240x32x64x64, .f32⟩
  | 26 => ⟨S_, .i32⟩
  | 27 => ⟨S_, .f32⟩
  | 28 => ⟨S240x32x66x66, .f32⟩
  | 29 => ⟨S32x32x1x1, .f32⟩
  | 30 => ⟨S32x32, .f32⟩
  | 31 => ⟨S240x32x64x64, .f32⟩
  | 32 => ⟨S32x240x64x64, .f32⟩
  | 33 => ⟨S32x32x1x1, .f32⟩
  | 34 => ⟨S32x32, .f32⟩
  | 35 => ⟨S240x32x64x64, .f32⟩
  | 36 => ⟨S32x240x64x64, .f32⟩
  | 37 => ⟨S32x240x64x64, .f32⟩
  | 38 => ⟨S32x32x1x1, .f32⟩
  | 39 => ⟨S32x32, .f32⟩
  | 40 => ⟨S240x32x64x64, .f32⟩
  | 41 => ⟨S32x240x64x64, .f32⟩
  | 42 => ⟨S32x240x64x64, .f32⟩
  | 43 => ⟨S32x32x1x1, .f32⟩
  | 44 => ⟨S32x32, .f32⟩
  | 45 => ⟨S240x32x64x64, .f32⟩
  | 46 => ⟨S32x240x64x64, .f32⟩
  | 47 => ⟨S32x240x64x64, .f32⟩
  | 48 => ⟨S32x32x1x1, .f32⟩
  | 49 => ⟨S32x32, .f32⟩
  | 50 => ⟨S240x32x64x64, .f32⟩
  | 51 => ⟨S32x240x64x64, .f32⟩
  | 52 => ⟨S32x240x64x64, .f32⟩
  | 53 => ⟨S32x32x1x1, .f32⟩
  | 54 => ⟨S32x32, .f32⟩
  | 55 => ⟨S240x32x64x64, .f32⟩
  | 56 => ⟨S32x240x64x64, .f32⟩
  | 57 => ⟨S32x240x64x64, .f32⟩
  | 58 => ⟨S32x32x1x1, .f32⟩
  | 59 => ⟨S32x32, .f32⟩
  | 60 => ⟨S240x32x64x64, .f32⟩
  | 61 => ⟨S32x240x64x64, .f32⟩
  | 62 => ⟨S32x240x64x64, .f32⟩
  | 63 => ⟨S32x32x1x1, .f32⟩
  | 64 => ⟨S32x32, .f32⟩
  | 65 => ⟨S240x32x64x64, .f32⟩
  | 66 => ⟨S32x240x64x64, .f32⟩
  | 67 => ⟨S32x240x64x64, .f32⟩
  | 68 => ⟨S32x32x1x1, .f32⟩
  | 69 => ⟨S32x32, .f32⟩
  | 70 => ⟨S240x32x64x64, .f32⟩
  | 71 => ⟨S32x240x64x64, .f32⟩
  | 72 => ⟨S32x240x64x64, .f32⟩
  | 73 => ⟨S240x32x64x64, .f32⟩
  | 74 => ⟨S_, .f32⟩
  | 75 => ⟨S240x32x64x64, .f32⟩
  | 76 => ⟨S240x32x64x64, .i1⟩
  | 77 => ⟨S_, .f32⟩
  | 78 => ⟨S240x32x64x64, .f32⟩
  | 79 => ⟨S240x32x64x64, .f32⟩
  | 80 => ⟨S240x32x64x64, .f32⟩
  | 81 => ⟨S_, .f32⟩
  | 82 => ⟨S_, .f32⟩
  | 83 => ⟨S240x32x32x32, .f32⟩
  | 84 => ⟨S_, .i32⟩
  | 85 => ⟨S_, .f32⟩
  | 86 => ⟨S240x32x34x34, .f32⟩
  | 87 => ⟨S64x32x1x1, .f32⟩
  | 88 => ⟨S64x32, .f32⟩
  | 89 => ⟨S240x32x32x32, .f32⟩
  | 90 => ⟨S64x240x32x32, .f32⟩
  | 91 => ⟨S64x32x1x1, .f32⟩
  | 92 => ⟨S64x32, .f32⟩
  | 93 => ⟨S240x32x32x32, .f32⟩
  | 94 => ⟨S64x240x32x32, .f32⟩
  | 95 => ⟨S64x240x32x32, .f32⟩
  | 96 => ⟨S64x32x1x1, .f32⟩
  | 97 => ⟨S64x32, .f32⟩
  | 98 => ⟨S240x32x32x32, .f32⟩
  | 99 => ⟨S64x240x32x32, .f32⟩
  | 100 => ⟨S64x240x32x32, .f32⟩
  | 101 => ⟨S64x32x1x1, .f32⟩
  | 102 => ⟨S64x32, .f32⟩
  | 103 => ⟨S240x32x32x32, .f32⟩
  | 104 => ⟨S64x240x32x32, .f32⟩
  | 105 => ⟨S64x240x32x32, .f32⟩
  | 106 => ⟨S64x32x1x1, .f32⟩
  | 107 => ⟨S64x32, .f32⟩
  | 108 => ⟨S240x32x32x32, .f32⟩
  | 109 => ⟨S64x240x32x32, .f32⟩
  | 110 => ⟨S64x240x32x32, .f32⟩
  | 111 => ⟨S64x32x1x1, .f32⟩
  | 112 => ⟨S64x32, .f32⟩
  | 113 => ⟨S240x32x32x32, .f32⟩
  | 114 => ⟨S64x240x32x32, .f32⟩
  | 115 => ⟨S64x240x32x32, .f32⟩
  | 116 => ⟨S64x32x1x1, .f32⟩
  | 117 => ⟨S64x32, .f32⟩
  | 118 => ⟨S240x32x32x32, .f32⟩
  | 119 => ⟨S64x240x32x32, .f32⟩
  | 120 => ⟨S64x240x32x32, .f32⟩
  | 121 => ⟨S64x32x1x1, .f32⟩
  | 122 => ⟨S64x32, .f32⟩
  | 123 => ⟨S240x32x32x32, .f32⟩
  | 124 => ⟨S64x240x32x32, .f32⟩
  | 125 => ⟨S64x240x32x32, .f32⟩
  | 126 => ⟨S64x32x1x1, .f32⟩
  | 127 => ⟨S64x32, .f32⟩
  | _ => ⟨S8x30x64x64, .f32⟩

abbrev hbmTy0_2 (i : Nat) : BufTy := match i % 128 with
  | 0 => ⟨S240x32x32x32, .f32⟩
  | 1 => ⟨S64x240x32x32, .f32⟩
  | 2 => ⟨S64x240x32x32, .f32⟩
  | 3 => ⟨S240x64x32x32, .f32⟩
  | 4 => ⟨S_, .f32⟩
  | 5 => ⟨S240x64x32x32, .f32⟩
  | 6 => ⟨S240x64x32x32, .i1⟩
  | 7 => ⟨S_, .f32⟩
  | 8 => ⟨S240x64x32x32, .f32⟩
  | 9 => ⟨S240x64x32x32, .f32⟩
  | 10 => ⟨S240x64x32x32, .f32⟩
  | 11 => ⟨S_, .i32⟩
  | 12 => ⟨S_, .f32⟩
  | 13 => ⟨S240x64x34x34, .f32⟩
  | 14 => ⟨S64x64x1x1, .f32⟩
  | 15 => ⟨S64x64, .f32⟩
  | 16 => ⟨S240x64x32x32, .f32⟩
  | 17 => ⟨S64x240x32x32, .f32⟩
  | 18 => ⟨S64x64x1x1, .f32⟩
  | 19 => ⟨S64x64, .f32⟩
  | 20 => ⟨S240x64x32x32, .f32⟩
  | 21 => ⟨S64x240x32x32, .f32⟩
  | 22 => ⟨S64x240x32x32, .f32⟩
  | 23 => ⟨S64x64x1x1, .f32⟩
  | 24 => ⟨S64x64, .f32⟩
  | 25 => ⟨S240x64x32x32, .f32⟩
  | 26 => ⟨S64x240x32x32, .f32⟩
  | 27 => ⟨S64x240x32x32, .f32⟩
  | 28 => ⟨S64x64x1x1, .f32⟩
  | 29 => ⟨S64x64, .f32⟩
  | 30 => ⟨S240x64x32x32, .f32⟩
  | 31 => ⟨S64x240x32x32, .f32⟩
  | 32 => ⟨S64x240x32x32, .f32⟩
  | 33 => ⟨S64x64x1x1, .f32⟩
  | 34 => ⟨S64x64, .f32⟩
  | 35 => ⟨S240x64x32x32, .f32⟩
  | 36 => ⟨S64x240x32x32, .f32⟩
  | 37 => ⟨S64x240x32x32, .f32⟩
  | 38 => ⟨S64x64x1x1, .f32⟩
  | 39 => ⟨S64x64, .f32⟩
  | 40 => ⟨S240x64x32x32, .f32⟩
  | 41 => ⟨S64x240x32x32, .f32⟩
  | 42 => ⟨S64x240x32x32, .f32⟩
  | 43 => ⟨S64x64x1x1, .f32⟩
  | 44 => ⟨S64x64, .f32⟩
  | 45 => ⟨S240x64x32x32, .f32⟩
  | 46 => ⟨S64x240x32x32, .f32⟩
  | 47 => ⟨S64x240x32x32, .f32⟩
  | 48 => ⟨S64x64x1x1, .f32⟩
  | 49 => ⟨S64x64, .f32⟩
  | 50 => ⟨S240x64x32x32, .f32⟩
  | 51 => ⟨S64x240x32x32, .f32⟩
  | 52 => ⟨S64x240x32x32, .f32⟩
  | 53 => ⟨S64x64x1x1, .f32⟩
  | 54 => ⟨S64x64, .f32⟩
  | 55 => ⟨S240x64x32x32, .f32⟩
  | 56 => ⟨S64x240x32x32, .f32⟩
  | 57 => ⟨S64x240x32x32, .f32⟩
  | 58 => ⟨S240x64x32x32, .f32⟩
  | 59 => ⟨S_, .f32⟩
  | 60 => ⟨S240x64x32x32, .f32⟩
  | 61 => ⟨S240x64x32x32, .i1⟩
  | 62 => ⟨S_, .f32⟩
  | 63 => ⟨S240x64x32x32, .f32⟩
  | 64 => ⟨S240x64x32x32, .f32⟩
  | 65 => ⟨S240x64x32x32, .f32⟩
  | 66 => ⟨S_, .f32⟩
  | 67 => ⟨S_, .f32⟩
  | 68 => ⟨S240x64x16x16, .f32⟩
  | 69 => ⟨S_, .i32⟩
  | 70 => ⟨S_, .f32⟩
  | 71 => ⟨S240x64x18x18, .f32⟩
  | 72 => ⟨S128x64x1x1, .f32⟩
  | 73 => ⟨S128x64, .f32⟩
  | 74 => ⟨S240x64x16x16, .f32⟩
  | 75 => ⟨S128x240x16x16, .f32⟩
  | 76 => ⟨S128x64x1x1, .f32⟩
  | 77 => ⟨S128x64, .f32⟩
  | 78 => ⟨S240x64x16x16, .f32⟩
  | 79 => ⟨S128x240x16x16, .f32⟩
  | 80 => ⟨S128x240x16x16, .f32⟩
  | 81 => ⟨S128x64x1x1, .f32⟩
  | 82 => ⟨S128x64, .f32⟩
  | 83 => ⟨S240x64x16x16, .f32⟩
  | 84 => ⟨S128x240x16x16, .f32⟩
  | 85 => ⟨S128x240x16x16, .f32⟩
  | 86 => ⟨S128x64x1x1, .f32⟩
  | 87 => ⟨S128x64, .f32⟩
  | 88 => ⟨S240x64x16x16, .f32⟩
  | 89 => ⟨S128x240x16x16, .f32⟩
  | 90 => ⟨S128x240x16x16, .f32⟩
  | 91 => ⟨S128x64x1x1, .f32⟩
  | 92 => ⟨S128x64, .f32⟩
  | 93 => ⟨S240x64x16x16, .f32⟩
  | 94 => ⟨S128x240x16x16, .f32⟩
  | 95 => ⟨S128x240x16x16, .f32⟩
  | 96 => ⟨S128x64x1x1, .f32⟩
  | 97 => ⟨S128x64, .f32⟩
  | 98 => ⟨S240x64x16x16, .f32⟩
  | 99 => ⟨S128x240x16x16, .f32⟩
  | 100 => ⟨S128x240x16x16, .f32⟩
  | 101 => ⟨S128x64x1x1, .f32⟩
  | 102 => ⟨S128x64, .f32⟩
  | 103 => ⟨S240x64x16x16, .f32⟩
  | 104 => ⟨S128x240x16x16, .f32⟩
  | 105 => ⟨S128x240x16x16, .f32⟩
  | 106 => ⟨S128x64x1x1, .f32⟩
  | 107 => ⟨S128x64, .f32⟩
  | 108 => ⟨S240x64x16x16, .f32⟩
  | 109 => ⟨S128x240x16x16, .f32⟩
  | 110 => ⟨S128x240x16x16, .f32⟩
  | 111 => ⟨S128x64x1x1, .f32⟩
  | 112 => ⟨S128x64, .f32⟩
  | 113 => ⟨S240x64x16x16, .f32⟩
  | 114 => ⟨S128x240x16x16, .f32⟩
  | 115 => ⟨S128x240x16x16, .f32⟩
  | 116 => ⟨S240x128x16x16, .f32⟩
  | 117 => ⟨S_, .f32⟩
  | 118 => ⟨S240x128x16x16, .f32⟩
  | 119 => ⟨S240x128x16x16, .i1⟩
  | 120 => ⟨S_, .f32⟩
  | 121 => ⟨S240x128x16x16, .f32⟩
  | 122 => ⟨S240x128x16x16, .f32⟩
  | 123 => ⟨S240x128x16x16, .f32⟩
  | 124 => ⟨S_, .i32⟩
  | 125 => ⟨S_, .f32⟩
  | 126 => ⟨S240x128x18x18, .f32⟩
  | 127 => ⟨S128x128x1x1, .f32⟩
  | _ => ⟨S8x30x64x64, .f32⟩

abbrev hbmTy0_3 (i : Nat) : BufTy := match i % 128 with
  | 0 => ⟨S128x128, .f32⟩
  | 1 => ⟨S240x128x16x16, .f32⟩
  | 2 => ⟨S128x240x16x16, .f32⟩
  | 3 => ⟨S128x128x1x1, .f32⟩
  | 4 => ⟨S128x128, .f32⟩
  | 5 => ⟨S240x128x16x16, .f32⟩
  | 6 => ⟨S128x240x16x16, .f32⟩
  | 7 => ⟨S128x240x16x16, .f32⟩
  | 8 => ⟨S128x128x1x1, .f32⟩
  | 9 => ⟨S128x128, .f32⟩
  | 10 => ⟨S240x128x16x16, .f32⟩
  | 11 => ⟨S128x240x16x16, .f32⟩
  | 12 => ⟨S128x240x16x16, .f32⟩
  | 13 => ⟨S128x128x1x1, .f32⟩
  | 14 => ⟨S128x128, .f32⟩
  | 15 => ⟨S240x128x16x16, .f32⟩
  | 16 => ⟨S128x240x16x16, .f32⟩
  | 17 => ⟨S128x240x16x16, .f32⟩
  | 18 => ⟨S128x128x1x1, .f32⟩
  | 19 => ⟨S128x128, .f32⟩
  | 20 => ⟨S240x128x16x16, .f32⟩
  | 21 => ⟨S128x240x16x16, .f32⟩
  | 22 => ⟨S128x240x16x16, .f32⟩
  | 23 => ⟨S128x128x1x1, .f32⟩
  | 24 => ⟨S128x128, .f32⟩
  | 25 => ⟨S240x128x16x16, .f32⟩
  | 26 => ⟨S128x240x16x16, .f32⟩
  | 27 => ⟨S128x240x16x16, .f32⟩
  | 28 => ⟨S128x128x1x1, .f32⟩
  | 29 => ⟨S128x128, .f32⟩
  | 30 => ⟨S240x128x16x16, .f32⟩
  | 31 => ⟨S128x240x16x16, .f32⟩
  | 32 => ⟨S128x240x16x16, .f32⟩
  | 33 => ⟨S128x128x1x1, .f32⟩
  | 34 => ⟨S128x128, .f32⟩
  | 35 => ⟨S240x128x16x16, .f32⟩
  | 36 => ⟨S128x240x16x16, .f32⟩
  | 37 => ⟨S128x240x16x16, .f32⟩
  | 38 => ⟨S128x128x1x1, .f32⟩
  | 39 => ⟨S128x128, .f32⟩
  | 40 => ⟨S240x128x16x16, .f32⟩
  | 41 => ⟨S128x240x16x16, .f32⟩
  | 42 => ⟨S128x240x16x16, .f32⟩
  | 43 => ⟨S240x128x16x16, .f32⟩
  | 44 => ⟨S_, .f32⟩
  | 45 => ⟨S240x128x16x16, .f32⟩
  | 46 => ⟨S240x128x16x16, .i1⟩
  | 47 => ⟨S_, .f32⟩
  | 48 => ⟨S240x128x16x16, .f32⟩
  | 49 => ⟨S240x128x16x16, .f32⟩
  | 50 => ⟨S240x128x16x16, .f32⟩
  | 51 => ⟨S8x30x32768, .f32⟩
  | 52 => ⟨S_, .f32⟩
  | 53 => ⟨S8x32768, .f32⟩
  | 54 => ⟨S32768x256, .f32⟩
  | 55 => ⟨S8x256, .f32⟩
  | 56 => ⟨S1x256, .f32⟩
  | 57 => ⟨S8x256, .f32⟩
  | 58 => ⟨S8x256, .f32⟩
  | 59 => ⟨S8x30x8x1, .f32⟩
  | 60 => ⟨S8x30x8, .f32⟩
  | 61 => ⟨S8x30x8x1, .f32⟩
  | 62 => ⟨S8x30x8, .f32⟩
  | 63 => ⟨S_, .f32⟩
  | 64 => ⟨S8x30x8, .f32⟩
  | 65 => ⟨S8x30x8, .f32⟩
  | 66 => ⟨S_, .f32⟩
  | 67 => ⟨S_, .f32⟩
  | 68 => ⟨S_, .f32⟩
  | 69 => ⟨S8x30x8, .f32⟩
  | 70 => ⟨S8x30x8, .f32⟩
  | 71 => ⟨S_, .f32⟩
  | 72 => ⟨S8x30x8, .f32⟩
  | 73 => ⟨S8x30x8, .f32⟩
  | 74 => ⟨S8x30x8, .f32⟩
  | 75 => ⟨S_, .f32⟩
  | 76 => ⟨S8x30x8, .f32⟩
  | 77 => ⟨S8x30x8, .f32⟩
  | 78 => ⟨S_, .f32⟩
  | 79 => ⟨S8x30x8, .f32⟩
  | 80 => ⟨S8x30x8, .f32⟩
  | 81 => ⟨S8x30x8, .f32⟩
  | 82 => ⟨S_, .f32⟩
  | 83 => ⟨S8x30x8, .f32⟩
  | 84 => ⟨S8x30x8, .f32⟩
  | 85 => ⟨S_, .f32⟩
  | 86 => ⟨S_, .f32⟩
  | 87 => ⟨S_, .f32⟩
  | 88 => ⟨S8x30x8, .f32⟩
  | 89 => ⟨S8x30x8, .f32⟩
  | 90 => ⟨S_, .f32⟩
  | 91 => ⟨S8x30x8, .f32⟩
  | 92 => ⟨S8x30x8, .f32⟩
  | 93 => ⟨S8x30x8, .f32⟩
  | 94 => ⟨S_, .f32⟩
  | 95 => ⟨S8x30x8, .f32⟩
  | 96 => ⟨S8x30x8, .f32⟩
  | 97 => ⟨S_, .f32⟩
  | 98 => ⟨S8x30x8, .f32⟩
  | 99 => ⟨S8x30x8, .f32⟩
  | 100 => ⟨S8x30x8, .f32⟩
  | 101 => ⟨S14, .f32⟩
  | 102 => ⟨S_, .f32⟩
  | 103 => ⟨S14, .f32⟩
  | 104 => ⟨S14, .f32⟩
  | 105 => ⟨S8x30x8x1, .f32⟩
  | 106 => ⟨S8x30x8, .f32⟩
  | 107 => ⟨S8x30x8x1, .f32⟩
  | 108 => ⟨S1x1x1x14, .f32⟩
  | 109 => ⟨S8x30x8x14, .f32⟩
  | 110 => ⟨S8x30x8x14, .f32⟩
  | 111 => ⟨S8x30x8x14, .f32⟩
  | 112 => ⟨S_, .f32⟩
  | 113 => ⟨S8x30x8x14, .f32⟩
  | 114 => ⟨S8x30x8x14, .f32⟩
  | 115 => ⟨S8x30x8x14, .f32⟩
  | 116 => ⟨S8x30x8x14, .f32⟩
  | 117 => ⟨S_, .f32⟩
  | 118 => ⟨S8x30x8x14, .f32⟩
  | 119 => ⟨S8x30x8x14, .f32⟩
  | 120 => ⟨S8x30x8x1, .f32⟩
  | 121 => ⟨S8x30x8x1, .f32⟩
  | 122 => ⟨S_, .f32⟩
  | 123 => ⟨S8x30x8x1, .f32⟩
  | 124 => ⟨S8x30x8x1, .f32⟩
  | 125 => ⟨S8x30x8x14, .f32⟩
  | 126 => ⟨S8x30x8x14, .f32⟩
  | 127 => ⟨S8x30x8x14, .f32⟩
  | _ => ⟨S8x30x64x64, .f32⟩

abbrev hbmTy0_4 (i : Nat) : BufTy := match i % 128 with
  | 0 => ⟨S8x30x8x14, .f32⟩
  | 1 => ⟨S8x30x8x1, .f32⟩
  | 2 => ⟨S8x30x8, .f32⟩
  | 3 => ⟨S8x30x8x1, .f32⟩
  | 4 => ⟨S1x1x1x14, .f32⟩
  | 5 => ⟨S8x30x8x14, .f32⟩
  | 6 => ⟨S8x30x8x14, .f32⟩
  | 7 => ⟨S8x30x8x14, .f32⟩
  | 8 => ⟨S_, .f32⟩
  | 9 => ⟨S8x30x8x14, .f32⟩
  | 10 => ⟨S8x30x8x14, .f32⟩
  | 11 => ⟨S8x30x8x14, .f32⟩
  | 12 => ⟨S8x30x8x14, .f32⟩
  | 13 => ⟨S_, .f32⟩
  | 14 => ⟨S8x30x8x14, .f32⟩
  | 15 => ⟨S8x30x8x14, .f32⟩
  | 16 => ⟨S8x30x8x1, .f32⟩
  | 17 => ⟨S8x30x8x1, .f32⟩
  | 18 => ⟨S_, .f32⟩
  | 19 => ⟨S8x30x8x1, .f32⟩
  | 20 => ⟨S8x30x8x1, .f32⟩
  | 21 => ⟨S8x30x8x14, .f32⟩
  | 22 => ⟨S8x30x8x14, .f32⟩
  | 23 => ⟨S8x30x8x14, .f32⟩
  | 24 => ⟨S8x30x8x14, .f32⟩
  | 25 => ⟨S8x30x8x14, .f32⟩
  | 26 => ⟨S8x30x8x14, .f32⟩
  | 27 => ⟨S8x30x8x14, .f32⟩
  | 28 => ⟨S8x30x8x14, .f32⟩
  | 29 => ⟨S8x30x8x14, .i32⟩
  | 30 => ⟨S_, .f32⟩
  | 31 => ⟨S8x30x8x14, .f32⟩
  | 32 => ⟨S8x30x8x14, .f32⟩
  | 33 => ⟨S8x30x8x1, .f32⟩
  | 34 => ⟨S_, .f32⟩
  | 35 => ⟨S8x30x8x1, .f32⟩
  | 36 => ⟨S8x30x8x1, .f32⟩
  | 37 => ⟨S8x30x8x14, .f32⟩
  | 38 => ⟨S8x30x8x14, .f32⟩
  | 39 => ⟨S8x30x8x14, .i32⟩
  | 40 => ⟨S8x30x8x14, .i32⟩
  | 41 => ⟨S_, .f32⟩
  | 42 => ⟨S8x30x8x14, .f32⟩
  | 43 => ⟨S8x30x8x14, .f32⟩
  | 44 => ⟨S8x30x8x1, .f32⟩
  | 45 => ⟨S_, .f32⟩
  | 46 => ⟨S8x30x8x1, .f32⟩
  | 47 => ⟨S8x30x8x1, .f32⟩
  | 48 => ⟨S8x30x8x14, .f32⟩
  | 49 => ⟨S8x30x8x14, .f32⟩
  | 50 => ⟨S8x30x8x14, .i32⟩
  | 51 => ⟨S240x64x64, .f32⟩
  | 52 => ⟨S240x8x14, .i32⟩
  | 53 => ⟨S240x8x14, .i32⟩
  | 54 => ⟨S240x8x14, .i32⟩
  | 55 => ⟨S240x8x14, .i32⟩
  | 56 => ⟨S240x8x14, .f32⟩
  | 57 => ⟨S240x8x14, .f32⟩
  | 58 => ⟨S240, .i32⟩
  | 59 => ⟨S240x1x1x1, .i32⟩
  | 60 => ⟨S240x8x1x14, .f32⟩
  | 61 => ⟨S240x8x14x1, .f32⟩
  | 62 => ⟨S_, .f32⟩
  | 63 => ⟨S240x8x1x14, .f32⟩
  | 64 => ⟨S240x8x1x14, .f32⟩
  | 65 => ⟨S240x8x14x1, .i32⟩
  | 66 => ⟨S240x8x1x14, .i32⟩
  | 67 => ⟨S_, .i32⟩
  | 68 => ⟨S240x1x1x1, .i32⟩
  | 69 => ⟨S240x1x1x1, .i1⟩
  | 70 => ⟨S_, .i32⟩
  | 71 => ⟨S240x1x1x1, .i32⟩
  | 72 => ⟨S240x1x1x1, .i32⟩
  | 73 => ⟨S240x1x1x1, .i32⟩
  | 74 => ⟨S_, .i32⟩
  | 75 => ⟨S240x8x14x1, .i32⟩
  | 76 => ⟨S240x8x14x1, .i1⟩
  | 77 => ⟨S_, .i32⟩
  | 78 => ⟨S240x8x14x1, .i32⟩
  | 79 => ⟨S240x8x14x1, .i32⟩
  | 80 => ⟨S240x8x14x1, .i32⟩
  | 81 => ⟨S_, .i32⟩
  | 82 => ⟨S240x8x1x14, .i32⟩
  | 83 => ⟨S240x8x1x14, .i1⟩
  | 84 => ⟨S_, .i32⟩
  | 85 => ⟨S240x8x1x14, .i32⟩
  | 86 => ⟨S240x8x1x14, .i32⟩
  | 87 => ⟨S240x8x1x14, .i32⟩
  | 88 => ⟨S240x8x14x14, .i32⟩
  | 89 => ⟨S240x8x14x14, .i32⟩
  | 90 => ⟨S240x8x14x14, .i32⟩
  | 91 => ⟨S240x8x14x14x1, .i32⟩
  | 92 => ⟨S240x8x14x14x1, .i32⟩
  | 93 => ⟨S240x8x14x14x1, .i32⟩
  | 94 => ⟨S240x8x14x14x3, .i32⟩
  | 95 => ⟨S240x8x14x14, .f32⟩
  | 96 => ⟨S240x8x14x14, .f32⟩
  | 97 => ⟨S240x8x14x14, .f32⟩
  | 98 => ⟨S240x8x14x1, .i32⟩
  | 99 => ⟨S240x8x1x14, .i32⟩
  | 100 => ⟨S_, .i32⟩
  | 101 => ⟨S240x1x1x1, .i32⟩
  | 102 => ⟨S240x1x1x1, .i1⟩
  | 103 => ⟨S_, .i32⟩
  | 104 => ⟨S240x1x1x1, .i32⟩
  | 105 => ⟨S240x1x1x1, .i32⟩
  | 106 => ⟨S240x1x1x1, .i32⟩
  | 107 => ⟨S_, .i32⟩
  | 108 => ⟨S240x8x14x1, .i32⟩
  | 109 => ⟨S240x8x14x1, .i1⟩
  | 110 => ⟨S_, .i32⟩
  | 111 => ⟨S240x8x14x1, .i32⟩
  | 112 => ⟨S240x8x14x1, .i32⟩
  | 113 => ⟨S240x8x14x1, .i32⟩
  | 114 => ⟨S_, .i32⟩
  | 115 => ⟨S240x8x1x14, .i32⟩
  | 116 => ⟨S240x8x1x14, .i1⟩
  | 117 => ⟨S_, .i32⟩
  | 118 => ⟨S240x8x1x14, .i32⟩
  | 119 => ⟨S240x8x1x14, .i32⟩
  | 120 => ⟨S240x8x1x14, .i32⟩
  | 121 => ⟨S240x8x14x14, .i32⟩
  | 122 => ⟨S240x8x14x14, .i32⟩
  | 123 => ⟨S240x8x14x14, .i32⟩
  | 124 => ⟨S240x8x14x14x1, .i32⟩
  | 125 => ⟨S240x8x14x14x1, .i32⟩
  | 126 => ⟨S240x8x14x14x1, .i32⟩
  | 127 => ⟨S240x8x14x14x3, .i32⟩
  | _ => ⟨S8x30x64x64, .f32⟩

abbrev hbmTy0_5 (i : Nat) : BufTy := match i % 128 with
  | 0 => ⟨S240x8x14x14, .f32⟩
  | 1 => ⟨S240x8x14x14, .f32⟩
  | 2 => ⟨S240x8x14x14, .f32⟩
  | 3 => ⟨S240x8x14x14, .f32⟩
  | 4 => ⟨S_, .f32⟩
  | 5 => ⟨S240x8x1x14, .f32⟩
  | 6 => ⟨S240x8x1x14, .f32⟩
  | 7 => ⟨S240x8x14x1, .i32⟩
  | 8 => ⟨S240x8x1x14, .i32⟩
  | 9 => ⟨S_, .i32⟩
  | 10 => ⟨S240x1x1x1, .i32⟩
  | 11 => ⟨S240x1x1x1, .i1⟩
  | 12 => ⟨S_, .i32⟩
  | 13 => ⟨S240x1x1x1, .i32⟩
  | 14 => ⟨S240x1x1x1, .i32⟩
  | 15 => ⟨S240x1x1x1, .i32⟩
  | 16 => ⟨S_, .i32⟩
  | 17 => ⟨S240x8x14x1, .i32⟩
  | 18 => ⟨S240x8x14x1, .i1⟩
  | 19 => ⟨S_, .i32⟩
  | 20 => ⟨S240x8x14x1, .i32⟩
  | 21 => ⟨S240x8x14x1, .i32⟩
  | 22 => ⟨S240x8x14x1, .i32⟩
  | 23 => ⟨S_, .i32⟩
  | 24 => ⟨S240x8x1x14, .i32⟩
  | 25 => ⟨S240x8x1x14, .i1⟩
  | 26 => ⟨S_, .i32⟩
  | 27 => ⟨S240x8x1x14, .i32⟩
  | 28 => ⟨S240x8x1x14, .i32⟩
  | 29 => ⟨S240x8x1x14, .i32⟩
  | 30 => ⟨S240x8x14x14, .i32⟩
  | 31 => ⟨S240x8x14x14, .i32⟩
  | 32 => ⟨S240x8x14x14, .i32⟩
  | 33 => ⟨S240x8x14x14x1, .i32⟩
  | 34 => ⟨S240x8x14x14x1, .i32⟩
  | 35 => ⟨S240x8x14x14x1, .i32⟩
  | 36 => ⟨S240x8x14x14x3, .i32⟩
  | 37 => ⟨S240x8x14x14, .f32⟩
  | 38 => ⟨S240x8x14x14, .f32⟩
  | 39 => ⟨S240x8x14x14, .f32⟩
  | 40 => ⟨S240x8x14x1, .i32⟩
  | 41 => ⟨S240x8x1x14, .i32⟩
  | 42 => ⟨S_, .i32⟩
  | 43 => ⟨S240x1x1x1, .i32⟩
  | 44 => ⟨S240x1x1x1, .i1⟩
  | 45 => ⟨S_, .i32⟩
  | 46 => ⟨S240x1x1x1, .i32⟩
  | 47 => ⟨S240x1x1x1, .i32⟩
  | 48 => ⟨S240x1x1x1, .i32⟩
  | 49 => ⟨S_, .i32⟩
  | 50 => ⟨S240x8x14x1, .i32⟩
  | 51 => ⟨S240x8x14x1, .i1⟩
  | 52 => ⟨S_, .i32⟩
  | 53 => ⟨S240x8x14x1, .i32⟩
  | 54 => ⟨S240x8x14x1, .i32⟩
  | 55 => ⟨S240x8x14x1, .i32⟩
  | 56 => ⟨S_, .i32⟩
  | 57 => ⟨S240x8x1x14, .i32⟩
  | 58 => ⟨S240x8x1x14, .i1⟩
  | 59 => ⟨S_, .i32⟩
  | 60 => ⟨S240x8x1x14, .i32⟩
  | 61 => ⟨S240x8x1x14, .i32⟩
  | 62 => ⟨S240x8x1x14, .i32⟩
  | 63 => ⟨S240x8x14x14, .i32⟩
  | 64 => ⟨S240x8x14x14, .i32⟩
  | 65 => ⟨S240x8x14x14, .i32⟩
  | 66 => ⟨S240x8x14x14x1, .i32⟩
  | 67 => ⟨S240x8x14x14x1, .i32⟩
  | 68 => ⟨S240x8x14x14x1, .i32⟩
  | 69 => ⟨S240x8x14x14x3, .i32⟩
  | 70 => ⟨S240x8x14x14, .f32⟩
  | 71 => ⟨S240x8x14x14, .f32⟩
  | 72 => ⟨S240x8x14x14, .f32⟩
  | 73 => ⟨S240x8x14x14, .f32⟩
  | 74 => ⟨S_, .f32⟩
  | 75 => ⟨S240x8x14x1, .f32⟩
  | 76 => ⟨S240x8x14x1, .f32⟩
  | 77 => ⟨S240x8x14x14, .f32⟩
  | 78 => ⟨S240x8x14x14, .f32⟩
  | 79 => ⟨S240x8x14x14, .f32⟩
  | 80 => ⟨S240x8x14x14, .f32⟩
  | 81 => ⟨S240x8x14x14, .f32⟩
  | 82 => ⟨S1920x1x14x14, .f32⟩
  | 83 => ⟨S_, .i32⟩
  | 84 => ⟨S_, .f32⟩
  | 85 => ⟨S1920x1x18x18, .f32⟩
  | 86 => ⟨S32x1x1x1, .f32⟩
  | 87 => ⟨S32x1, .f32⟩
  | 88 => ⟨S1920x1x14x14, .f32⟩
  | 89 => ⟨S32x1920x14x14, .f32⟩
  | 90 => ⟨S32x1x1x1, .f32⟩
  | 91 => ⟨S32x1, .f32⟩
  | 92 => ⟨S1920x1x14x14, .f32⟩
  | 93 => ⟨S32x1920x14x14, .f32⟩
  | 94 => ⟨S32x1920x14x14, .f32⟩
  | 95 => ⟨S32x1x1x1, .f32⟩
  | 96 => ⟨S32x1, .f32⟩
  | 97 => ⟨S1920x1x14x14, .f32⟩
  | 98 => ⟨S32x1920x14x14, .f32⟩
  | 99 => ⟨S32x1920x14x14, .f32⟩
  | 100 => ⟨S32x1x1x1, .f32⟩
  | 101 => ⟨S32x1, .f32⟩
  | 102 => ⟨S1920x1x14x14, .f32⟩
  | 103 => ⟨S32x1920x14x14, .f32⟩
  | 104 => ⟨S32x1920x14x14, .f32⟩
  | 105 => ⟨S32x1x1x1, .f32⟩
  | 106 => ⟨S32x1, .f32⟩
  | 107 => ⟨S1920x1x14x14, .f32⟩
  | 108 => ⟨S32x1920x14x14, .f32⟩
  | 109 => ⟨S32x1920x14x14, .f32⟩
  | 110 => ⟨S32x1x1x1, .f32⟩
  | 111 => ⟨S32x1, .f32⟩
  | 112 => ⟨S1920x1x14x14, .f32⟩
  | 113 => ⟨S32x1920x14x14, .f32⟩
  | 114 => ⟨S32x1920x14x14, .f32⟩
  | 115 => ⟨S32x1x1x1, .f32⟩
  | 116 => ⟨S32x1, .f32⟩
  | 117 => ⟨S1920x1x14x14, .f32⟩
  | 118 => ⟨S32x1920x14x14, .f32⟩
  | 119 => ⟨S32x1920x14x14, .f32⟩
  | 120 => ⟨S32x1x1x1, .f32⟩
  | 121 => ⟨S32x1, .f32⟩
  | 122 => ⟨S1920x1x14x14, .f32⟩
  | 123 => ⟨S32x1920x14x14, .f32⟩
  | 124 => ⟨S32x1920x14x14, .f32⟩
  | 125 => ⟨S32x1x1x1, .f32⟩
  | 126 => ⟨S32x1, .f32⟩
  | 127 => ⟨S1920x1x14x14, .f32⟩
  | _ => ⟨S8x30x64x64, .f32⟩

abbrev hbmTy0_6 (i : Nat) : BufTy := match i % 128 with
  | 0 => ⟨S32x1920x14x14, .f32⟩
  | 1 => ⟨S32x1920x14x14, .f32⟩
  | 2 => ⟨S32x1x1x1, .f32⟩
  | 3 => ⟨S32x1, .f32⟩
  | 4 => ⟨S1920x1x14x14, .f32⟩
  | 5 => ⟨S32x1920x14x14, .f32⟩
  | 6 => ⟨S32x1920x14x14, .f32⟩
  | 7 => ⟨S32x1x1x1, .f32⟩
  | 8 => ⟨S32x1, .f32⟩
  | 9 => ⟨S1920x1x14x14, .f32⟩
  | 10 => ⟨S32x1920x14x14, .f32⟩
  | 11 => ⟨S32x1920x14x14, .f32⟩
  | 12 => ⟨S32x1x1x1, .f32⟩
  | 13 => ⟨S32x1, .f32⟩
  | 14 => ⟨S1920x1x14x14, .f32⟩
  | 15 => ⟨S32x1920x14x14, .f32⟩
  | 16 => ⟨S32x1920x14x14, .f32⟩
  | 17 => ⟨S32x1x1x1, .f32⟩
  | 18 => ⟨S32x1, .f32⟩
  | 19 => ⟨S1920x1x14x14, .f32⟩
  | 20 => ⟨S32x1920x14x14, .f32⟩
  | 21 => ⟨S32x1920x14x14, .f32⟩
  | 22 => ⟨S32x1x1x1, .f32⟩
  | 23 => ⟨S32x1, .f32⟩
  | 24 => ⟨S1920x1x14x14, .f32⟩
  | 25 => ⟨S32x1920x14x14, .f32⟩
  | 26 => ⟨S32x1920x14x14, .f32⟩
  | 27 => ⟨S32x1x1x1, .f32⟩
  | 28 => ⟨S32x1, .f32⟩
  | 29 => ⟨S1920x1x14x14, .f32⟩
  | 30 => ⟨S32x1920x14x14, .f32⟩
  | 31 => ⟨S32x1920x14x14, .f32⟩
  | 32 => ⟨S32x1x1x1, .f32⟩
  | 33 => ⟨S32x1, .f32⟩
  | 34 => ⟨S1920x1x14x14, .f32⟩
  | 35 => ⟨S32x1920x14x14, .f32⟩
  | 36 => ⟨S32x1920x14x14, .f32⟩
  | 37 => ⟨S32x1x1x1, .f32⟩
  | 38 => ⟨S32x1, .f32⟩
  | 39 => ⟨S1920x1x14x14, .f32⟩
  | 40 => ⟨S32x1920x14x14, .f32⟩
  | 41 => ⟨S32x1920x14x14, .f32⟩
  | 42 => ⟨S32x1x1x1, .f32⟩
  | 43 => ⟨S32x1, .f32⟩
  | 44 => ⟨S1920x1x14x14, .f32⟩
  | 45 => ⟨S32x1920x14x14, .f32⟩
  | 46 => ⟨S32x1920x14x14, .f32⟩
  | 47 => ⟨S32x1x1x1, .f32⟩
  | 48 => ⟨S32x1, .f32⟩
  | 49 => ⟨S1920x1x14x14, .f32⟩
  | 50 => ⟨S32x1920x14x14, .f32⟩
  | 51 => ⟨S32x1920x14x14, .f32⟩
  | 52 => ⟨S32x1x1x1, .f32⟩
  | 53 => ⟨S32x1, .f32⟩
  | 54 => ⟨S1920x1x14x14, .f32⟩
  | 55 => ⟨S32x1920x14x14, .f32⟩
  | 56 => ⟨S32x1920x14x14, .f32⟩
  | 57 => ⟨S32x1x1x1, .f32⟩
  | 58 => ⟨S32x1, .f32⟩
  | 59 => ⟨S1920x1x14x14, .f32⟩
  | 60 => ⟨S32x1920x14x14, .f32⟩
  | 61 => ⟨S32x1920x14x14, .f32⟩
  | 62 => ⟨S32x1x1x1, .f32⟩
  | 63 => ⟨S32x1, .f32⟩
  | 64 => ⟨S1920x1x14x14, .f32⟩
  | 65 => ⟨S32x1920x14x14, .f32⟩
  | 66 => ⟨S32x1920x14x14, .f32⟩
  | 67 => ⟨S32x1x1x1, .f32⟩
  | 68 => ⟨S32x1, .f32⟩
  | 69 => ⟨S1920x1x14x14, .f32⟩
  | 70 => ⟨S32x1920x14x14, .f32⟩
  | 71 => ⟨S32x1920x14x14, .f32⟩
  | 72 => ⟨S32x1x1x1, .f32⟩
  | 73 => ⟨S32x1, .f32⟩
  | 74 => ⟨S1920x1x14x14, .f32⟩
  | 75 => ⟨S32x1920x14x14, .f32⟩
  | 76 => ⟨S32x1920x14x14, .f32⟩
  | 77 => ⟨S32x1x1x1, .f32⟩
  | 78 => ⟨S32x1, .f32⟩
  | 79 => ⟨S1920x1x14x14, .f32⟩
  | 80 => ⟨S32x1920x14x14, .f32⟩
  | 81 => ⟨S32x1920x14x14, .f32⟩
  | 82 => ⟨S1920x32x14x14, .f32⟩
  | 83 => ⟨S_, .f32⟩
  | 84 => ⟨S1920x32x14x14, .f32⟩
  | 85 => ⟨S1920x32x14x14, .i1⟩
  | 86 => ⟨S_, .f32⟩
  | 87 => ⟨S1920x32x14x14, .f32⟩
  | 88 => ⟨S1920x32x14x14, .f32⟩
  | 89 => ⟨S1920x32x14x14, .f32⟩
  | 90 => ⟨S_, .i32⟩
  | 91 => ⟨S_, .f32⟩
  | 92 => ⟨S1920x32x16x16, .f32⟩
  | 93 => ⟨S32x32x1x1, .f32⟩
  | 94 => ⟨S32x32, .f32⟩
  | 95 => ⟨S1920x32x14x14, .f32⟩
  | 96 => ⟨S32x1920x14x14, .f32⟩
  | 97 => ⟨S32x32x1x1, .f32⟩
  | 98 => ⟨S32x32, .f32⟩
  | 99 => ⟨S1920x32x14x14, .f32⟩
  | 100 => ⟨S32x1920x14x14, .f32⟩
  | 101 => ⟨S32x1920x14x14, .f32⟩
  | 102 => ⟨S32x32x1x1, .f32⟩
  | 103 => ⟨S32x32, .f32⟩
  | 104 => ⟨S1920x32x14x14, .f32⟩
  | 105 => ⟨S32x1920x14x14, .f32⟩
  | 106 => ⟨S32x1920x14x14, .f32⟩
  | 107 => ⟨S32x32x1x1, .f32⟩
  | 108 => ⟨S32x32, .f32⟩
  | 109 => ⟨S1920x32x14x14, .f32⟩
  | 110 => ⟨S32x1920x14x14, .f32⟩
  | 111 => ⟨S32x1920x14x14, .f32⟩
  | 112 => ⟨S32x32x1x1, .f32⟩
  | 113 => ⟨S32x32, .f32⟩
  | 114 => ⟨S1920x32x14x14, .f32⟩
  | 115 => ⟨S32x1920x14x14, .f32⟩
  | 116 => ⟨S32x1920x14x14, .f32⟩
  | 117 => ⟨S32x32x1x1, .f32⟩
  | 118 => ⟨S32x32, .f32⟩
  | 119 => ⟨S1920x32x14x14, .f32⟩
  | 120 => ⟨S32x1920x14x14, .f32⟩
  | 121 => ⟨S32x1920x14x14, .f32⟩
  | 122 => ⟨S32x32x1x1, .f32⟩
  | 123 => ⟨S32x32, .f32⟩
  | 124 => ⟨S1920x32x14x14, .f32⟩
  | 125 => ⟨S32x1920x14x14, .f32⟩
  | 126 => ⟨S32x1920x14x14, .f32⟩
  | 127 => ⟨S32x32x1x1, .f32⟩
  | _ => ⟨S8x30x64x64, .f32⟩

abbrev hbmTy0_7 (i : Nat) : BufTy := match i % 128 with
  | 0 => ⟨S32x32, .f32⟩
  | 1 => ⟨S1920x32x14x14, .f32⟩
  | 2 => ⟨S32x1920x14x14, .f32⟩
  | 3 => ⟨S32x1920x14x14, .f32⟩
  | 4 => ⟨S32x32x1x1, .f32⟩
  | 5 => ⟨S32x32, .f32⟩
  | 6 => ⟨S1920x32x14x14, .f32⟩
  | 7 => ⟨S32x1920x14x14, .f32⟩
  | 8 => ⟨S32x1920x14x14, .f32⟩
  | 9 => ⟨S1920x32x14x14, .f32⟩
  | 10 => ⟨S_, .f32⟩
  | 11 => ⟨S1920x32x14x14, .f32⟩
  | 12 => ⟨S1920x32x14x14, .i1⟩
  | 13 => ⟨S_, .f32⟩
  | 14 => ⟨S1920x32x14x14, .f32⟩
  | 15 => ⟨S1920x32x14x14, .f32⟩
  | 16 => ⟨S1920x32x14x14, .f32⟩
  | 17 => ⟨S_, .f32⟩
  | 18 => ⟨S_, .f32⟩
  | 19 => ⟨S1920x32x7x7, .f32⟩
  | 20 => ⟨S_, .i32⟩
  | 21 => ⟨S_, .f32⟩
  | 22 => ⟨S1920x32x9x9, .f32⟩
  | 23 => ⟨S64x32x1x1, .f32⟩
  | 24 => ⟨S64x32, .f32⟩
  | 25 => ⟨S1920x32x7x7, .f32⟩
  | 26 => ⟨S64x1920x7x7, .f32⟩
  | 27 => ⟨S64x32x1x1, .f32⟩
  | 28 => ⟨S64x32, .f32⟩
  | 29 => ⟨S1920x32x7x7, .f32⟩
  | 30 => ⟨S64x1920x7x7, .f32⟩
  | 31 => ⟨S64x1920x7x7, .f32⟩
  | 32 => ⟨S64x32x1x1, .f32⟩
  | 33 => ⟨S64x32, .f32⟩
  | 34 => ⟨S1920x32x7x7, .f32⟩
  | 35 => ⟨S64x1920x7x7, .f32⟩
  | 36 => ⟨S64x1920x7x7, .f32⟩
  | 37 => ⟨S64x32x1x1, .f32⟩
  | 38 => ⟨S64x32, .f32⟩
  | 39 => ⟨S1920x32x7x7, .f32⟩
  | 40 => ⟨S64x1920x7x7, .f32⟩
  | 41 => ⟨S64x1920x7x7, .f32⟩
  | 42 => ⟨S64x32x1x1, .f32⟩
  | 43 => ⟨S64x32, .f32⟩
  | 44 => ⟨S1920x32x7x7, .f32⟩
  | 45 => ⟨S64x1920x7x7, .f32⟩
  | 46 => ⟨S64x1920x7x7, .f32⟩
  | 47 => ⟨S64x32x1x1, .f32⟩
  | 48 => ⟨S64x32, .f32⟩
  | 49 => ⟨S1920x32x7x7, .f32⟩
  | 50 => ⟨S64x1920x7x7, .f32⟩
  | 51 => ⟨S64x1920x7x7, .f32⟩
  | 52 => ⟨S64x32x1x1, .f32⟩
  | 53 => ⟨S64x32, .f32⟩
  | 54 => ⟨S1920x32x7x7, .f32⟩
  | 55 => ⟨S64x1920x7x7, .f32⟩
  | 56 => ⟨S64x1920x7x7, .f32⟩
  | 57 => ⟨S64x32x1x1, .f32⟩
  | 58 => ⟨S64x32, .f32⟩
  | 59 => ⟨S1920x32x7x7, .f32⟩
  | 60 => ⟨S64x1920x7x7, .f32⟩
  | 61 => ⟨S64x1920x7x7, .f32⟩
  | 62 => ⟨S64x32x1x1, .f32⟩
  | 63 => ⟨S64x32, .f32⟩
  | 64 => ⟨S1920x32x7x7, .f32⟩
  | 65 => ⟨S64x1920x7x7, .f32⟩
  | 66 => ⟨S64x1920x7x7, .f32⟩
  | 67 => ⟨S1920x64x7x7, .f32⟩
  | 68 => ⟨S_, .f32⟩
  | 69 => ⟨S1920x64x7x7, .f32⟩
  | 70 => ⟨S1920x64x7x7, .i1⟩
  | 71 => ⟨S_, .f32⟩
  | 72 => ⟨S1920x64x7x7, .f32⟩
  | 73 => ⟨S1920x64x7x7, .f32⟩
  | 74 => ⟨S1920x64x7x7, .f32⟩
  | 75 => ⟨S_, .i32⟩
  | 76 => ⟨S_, .f32⟩
  | 77 => ⟨S1920x64x9x9, .f32⟩
  | 78 => ⟨S64x64x1x1, .f32⟩
  | 79 => ⟨S64x64, .f32⟩
  | 80 => ⟨S1920x64x7x7, .f32⟩
  | 81 => ⟨S64x1920x7x7, .f32⟩
  | 82 => ⟨S64x64x1x1, .f32⟩
  | 83 => ⟨S64x64, .f32⟩
  | 84 => ⟨S1920x64x7x7, .f32⟩
  | 85 => ⟨S64x1920x7x7, .f32⟩
  | 86 => ⟨S64x1920x7x7, .f32⟩
  | 87 => ⟨S64x64x1x1, .f32⟩
  | 88 => ⟨S64x64, .f32⟩
  | 89 => ⟨S1920x64x7x7, .f32⟩
  | 90 => ⟨S64x1920x7x7, .f32⟩
  | 91 => ⟨S64x1920x7x7, .f32⟩
  | 92 => ⟨S64x64x1x1, .f32⟩
  | 93 => ⟨S64x64, .f32⟩
  | 94 => ⟨S1920x64x7x7, .f32⟩
  | 95 => ⟨S64x1920x7x7, .f32⟩
  | 96 => ⟨S64x1920x7x7, .f32⟩
  | 97 => ⟨S64x64x1x1, .f32⟩
  | 98 => ⟨S64x64, .f32⟩
  | 99 => ⟨S1920x64x7x7, .f32⟩
  | 100 => ⟨S64x1920x7x7, .f32⟩
  | 101 => ⟨S64x1920x7x7, .f32⟩
  | 102 => ⟨S64x64x1x1, .f32⟩
  | 103 => ⟨S64x64, .f32⟩
  | 104 => ⟨S1920x64x7x7, .f32⟩
  | 105 => ⟨S64x1920x7x7, .f32⟩
  | 106 => ⟨S64x1920x7x7, .f32⟩
  | 107 => ⟨S64x64x1x1, .f32⟩
  | 108 => ⟨S64x64, .f32⟩
  | 109 => ⟨S1920x64x7x7, .f32⟩
  | 110 => ⟨S64x1920x7x7, .f32⟩
  | 111 => ⟨S64x1920x7x7, .f32⟩
  | 112 => ⟨S64x64x1x1, .f32⟩
  | 113 => ⟨S64x64, .f32⟩
  | 114 => ⟨S1920x64x7x7, .f32⟩
  | 115 => ⟨S64x1920x7x7, .f32⟩
  | 116 => ⟨S64x1920x7x7, .f32⟩
  | 117 => ⟨S64x64x1x1, .f32⟩
  | 118 => ⟨S64x64, .f32⟩
  | 119 => ⟨S1920x64x7x7, .f32⟩
  | 120 => ⟨S64x1920x7x7, .f32⟩
  | 121 => ⟨S64x1920x7x7, .f32⟩
  | 122 => ⟨S1920x64x7x7, .f32⟩
  | 123 => ⟨S_, .f32⟩
  | 124 => ⟨S1920x64x7x7, .f32⟩
  | 125 => ⟨S1920x64x7x7, .i1⟩
  | 126 => ⟨S_, .f32⟩
  | 127 => ⟨S1920x64x7x7, .f32⟩
  | _ => ⟨S8x30x64x64, .f32⟩

abbrev hbmTy0_8 (i : Nat) : BufTy := match i % 128 with
  | 0 => ⟨S1920x64x7x7, .f32⟩
  | 1 => ⟨S1920x64x7x7, .f32⟩
  | 2 => ⟨S_, .f32⟩
  | 3 => ⟨S_, .f32⟩
  | 4 => ⟨S1920x64x3x3, .f32⟩
  | 5 => ⟨S_, .i32⟩
  | 6 => ⟨S_, .f32⟩
  | 7 => ⟨S1920x64x5x5, .f32⟩
  | 8 => ⟨S128x64x1x1, .f32⟩
  | 9 => ⟨S128x64, .f32⟩
  | 10 => ⟨S1920x64x3x3, .f32⟩
  | 11 => ⟨S128x1920x3x3, .f32⟩
  | 12 => ⟨S128x64x1x1, .f32⟩
  | 13 => ⟨S128x64, .f32⟩
  | 14 => ⟨S1920x64x3x3, .f32⟩
  | 15 => ⟨S128x1920x3x3, .f32⟩
  | 16 => ⟨S128x1920x3x3, .f32⟩
  | 17 => ⟨S128x64x1x1, .f32⟩
  | 18 => ⟨S128x64, .f32⟩
  | 19 => ⟨S1920x64x3x3, .f32⟩
  | 20 => ⟨S128x1920x3x3, .f32⟩
  | 21 => ⟨S128x1920x3x3, .f32⟩
  | 22 => ⟨S128x64x1x1, .f32⟩
  | 23 => ⟨S128x64, .f32⟩
  | 24 => ⟨S1920x64x3x3, .f32⟩
  | 25 => ⟨S128x1920x3x3, .f32⟩
  | 26 => ⟨S128x1920x3x3, .f32⟩
  | 27 => ⟨S128x64x1x1, .f32⟩
  | 28 => ⟨S128x64, .f32⟩
  | 29 => ⟨S1920x64x3x3, .f32⟩
  | 30 => ⟨S128x1920x3x3, .f32⟩
  | 31 => ⟨S128x1920x3x3, .f32⟩
  | 32 => ⟨S128x64x1x1, .f32⟩
  | 33 => ⟨S128x64, .f32⟩
  | 34 => ⟨S1920x64x3x3, .f32⟩
  | 35 => ⟨S128x1920x3x3, .f32⟩
  | 36 => ⟨S128x1920x3x3, .f32⟩
  | 37 => ⟨S128x64x1x1, .f32⟩
  | 38 => ⟨S128x64, .f32⟩
  | 39 => ⟨S1920x64x3x3, .f32⟩
  | 40 => ⟨S128x1920x3x3, .f32⟩
  | 41 => ⟨S128x1920x3x3, .f32⟩
  | 42 => ⟨S128x64x1x1, .f32⟩
  | 43 => ⟨S128x64, .f32⟩
  | 44 => ⟨S1920x64x3x3, .f32⟩
  | 45 => ⟨S128x1920x3x3, .f32⟩
  | 46 => ⟨S128x1920x3x3, .f32⟩
  | 47 => ⟨S128x64x1x1, .f32⟩
  | 48 => ⟨S128x64, .f32⟩
  | 49 => ⟨S1920x64x3x3, .f32⟩
  | 50 => ⟨S128x1920x3x3, .f32⟩
  | 51 => ⟨S128x1920x3x3, .f32⟩
  | 52 => ⟨S1920x128x3x3, .f32⟩
  | 53 => ⟨S_, .f32⟩
  | 54 => ⟨S1920x128x3x3, .f32⟩
  | 55 => ⟨S1920x128x3x3, .i1⟩
  | 56 => ⟨S_, .f32⟩
  | 57 => ⟨S1920x128x3x3, .f32⟩
  | 58 => ⟨S1920x128x3x3, .f32⟩
  | 59 => ⟨S1920x128x3x3, .f32⟩
  | 60 => ⟨S_, .i32⟩
  | 61 => ⟨S_, .f32⟩
  | 62 => ⟨S1920x128x5x5, .f32⟩
  | 63 => ⟨S128x128x1x1, .f32⟩
  | 64 => ⟨S128x128, .f32⟩
  | 65 => ⟨S1920x128x3x3, .f32⟩
  | 66 => ⟨S128x1920x3x3, .f32⟩
  | 67 => ⟨S128x128x1x1, .f32⟩
  | 68 => ⟨S128x128, .f32⟩
  | 69 => ⟨S1920x128x3x3, .f32⟩
  | 70 => ⟨S128x1920x3x3, .f32⟩
  | 71 => ⟨S128x1920x3x3, .f32⟩
  | 72 => ⟨S128x128x1x1, .f32⟩
  | 73 => ⟨S128x128, .f32⟩
  | 74 => ⟨S1920x128x3x3, .f32⟩
  | 75 => ⟨S128x1920x3x3, .f32⟩
  | 76 => ⟨S128x1920x3x3, .f32⟩
  | 77 => ⟨S128x128x1x1, .f32⟩
  | 78 => ⟨S128x128, .f32⟩
  | 79 => ⟨S1920x128x3x3, .f32⟩
  | 80 => ⟨S128x1920x3x3, .f32⟩
  | 81 => ⟨S128x1920x3x3, .f32⟩
  | 82 => ⟨S128x128x1x1, .f32⟩
  | 83 => ⟨S128x128, .f32⟩
  | 84 => ⟨S1920x128x3x3, .f32⟩
  | 85 => ⟨S128x1920x3x3, .f32⟩
  | 86 => ⟨S128x1920x3x3, .f32⟩
  | 87 => ⟨S128x128x1x1, .f32⟩
  | 88 => ⟨S128x128, .f32⟩
  | 89 => ⟨S1920x128x3x3, .f32⟩
  | 90 => ⟨S128x1920x3x3, .f32⟩
  | 91 => ⟨S128x1920x3x3, .f32⟩
  | 92 => ⟨S128x128x1x1, .f32⟩
  | 93 => ⟨S128x128, .f32⟩
  | 94 => ⟨S1920x128x3x3, .f32⟩
  | 95 => ⟨S128x1920x3x3, .f32⟩
  | 96 => ⟨S128x1920x3x3, .f32⟩
  | 97 => ⟨S128x128x1x1, .f32⟩
  | 98 => ⟨S128x128, .f32⟩
  | 99 => ⟨S1920x128x3x3, .f32⟩
  | 100 => ⟨S128x1920x3x3, .f32⟩
  | 101 => ⟨S128x1920x3x3, .f32⟩
  | 102 => ⟨S128x128x1x1, .f32⟩
  | 103 => ⟨S128x128, .f32⟩
  | 104 => ⟨S1920x128x3x3, .f32⟩
  | 105 => ⟨S128x1920x3x3, .f32⟩
  | 106 => ⟨S128x1920x3x3, .f32⟩
  | 107 => ⟨S1920x128x3x3, .f32⟩
  | 108 => ⟨S_, .f32⟩
  | 109 => ⟨S1920x128x3x3, .f32⟩
  | 110 => ⟨S1920x128x3x3, .i1⟩
  | 111 => ⟨S_, .f32⟩
  | 112 => ⟨S1920x128x3x3, .f32⟩
  | 113 => ⟨S1920x128x3x3, .f32⟩
  | 114 => ⟨S1920x128x3x3, .f32⟩
  | 115 => ⟨S1920x1152, .f32⟩
  | 116 => ⟨S1152x256, .f32⟩
  | 117 => ⟨S1920x256, .f32⟩
  | 118 => ⟨S1x256, .f32⟩
  | 119 => ⟨S1920x256, .f32⟩
  | 120 => ⟨S1920x256, .f32⟩
  | 121 => ⟨S8x240x256, .f32⟩
  | 122 => ⟨S240, .i32⟩
  | 123 => ⟨S_, .i32⟩
  | 124 => ⟨S_, .i32⟩
  | 125 => ⟨S240, .i32⟩
  | 126 => ⟨S240, .i32⟩
  | 127 => ⟨S240, .i32⟩
  | _ => ⟨S8x30x64x64, .f32⟩

abbrev hbmTy0_9 (i : Nat) : BufTy := match i % 128 with
  | 0 => ⟨S_, .i32⟩
  | 1 => ⟨S240, .i32⟩
  | 2 => ⟨S240, .i1⟩
  | 3 => ⟨S240, .i32⟩
  | 4 => ⟨S240, .i32⟩
  | 5 => ⟨S_, .i32⟩
  | 6 => ⟨S240, .i32⟩
  | 7 => ⟨S240, .i1⟩
  | 8 => ⟨S240, .i1⟩
  | 9 => ⟨S_, .i32⟩
  | 10 => ⟨S240, .i32⟩
  | 11 => ⟨S240, .i32⟩
  | 12 => ⟨S240, .i32⟩
  | 13 => ⟨S240, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S240, .i32⟩
  | 21 => ⟨S240, .i32⟩
  | 22 => ⟨S_, .i32⟩
  | 23 => ⟨S240, .i32⟩
  | 24 => ⟨S240, .i1⟩
  | 25 => ⟨S_, .i32⟩
  | 26 => ⟨S240, .i32⟩
  | 27 => ⟨S240, .i1⟩
  | 28 => ⟨S_, .i32⟩
  | 29 => ⟨S_, .i1⟩
  | 30 => ⟨S240, .i1⟩
  | 31 => ⟨S240, .i1⟩
  | 32 => ⟨S240, .i1⟩
  | 33 => ⟨S240, .i32⟩
  | 34 => ⟨S240, .i32⟩
  | 35 => ⟨S240, .i32⟩
  | 36 => ⟨S240x1, .i32⟩
  | 37 => ⟨S1x240, .i32⟩
  | 38 => ⟨S240x240, .i32⟩
  | 39 => ⟨S240x240, .i32⟩
  | 40 => ⟨S240x240, .i1⟩
  | 41 => ⟨S240x1, .i32⟩
  | 42 => ⟨S1x240, .i32⟩
  | 43 => ⟨S240x240, .i32⟩
  | 44 => ⟨S240x240, .i32⟩
  | 45 => ⟨S240x240, .i1⟩
  | 46 => ⟨S240x1, .i32⟩
  | 47 => ⟨S1x240, .i32⟩
  | 48 => ⟨S240x240, .i32⟩
  | 49 => ⟨S240x240, .i32⟩
  | 50 => ⟨S240x240, .i32⟩
  | 51 => ⟨S240x240, .i32⟩
  | 52 => ⟨S_, .i32⟩
  | 53 => ⟨S240x240, .i32⟩
  | 54 => ⟨S240x240, .i1⟩
  | 55 => ⟨S240x240, .i1⟩
  | 56 => ⟨S240x240, .i1⟩
  | 57 => ⟨S8x240x8, .f32⟩
  | 58 => ⟨S8x240x1, .f32⟩
  | 59 => ⟨S8x240x1, .f32⟩
  | 60 => ⟨S8x1x240, .f32⟩
  | 61 => ⟨S8x240x240, .f32⟩
  | 62 => ⟨S8x240x240, .f32⟩
  | 63 => ⟨S8x240x240, .f32⟩
  | 64 => ⟨S_, .f32⟩
  | 65 => ⟨S_, .f32⟩
  | 66 => ⟨S8x240x240, .f32⟩
  | 67 => ⟨S8x240x240, .i1⟩
  | 68 => ⟨S_, .f32⟩
  | 69 => ⟨S8x240x240, .f32⟩
  | 70 => ⟨S8x240x240, .f32⟩
  | 71 => ⟨S8x240x240, .f32⟩
  | 72 => ⟨S1x240x240, .i1⟩
  | 73 => ⟨S_, .f32⟩
  | 74 => ⟨S_, .f32⟩
  | 75 => ⟨S8x240x240, .i1⟩
  | 76 => ⟨S8x240x240, .f32⟩
  | 77 => ⟨S8x240x240, .f32⟩
  | 78 => ⟨S_, .f32⟩
  | 79 => ⟨S8x240, .f32⟩
  | 80 => ⟨S_, .f32⟩
  | 81 => ⟨S8x240, .f32⟩
  | 82 => ⟨S8x240, .f32⟩
  | 83 => ⟨S8x240x1, .f32⟩
  | 84 => ⟨S8x240x240, .f32⟩
  | 85 => ⟨S8x240x240, .f32⟩
  | 86 => ⟨S8x240x240, .f32⟩
  | 87 => ⟨S_, .f32⟩
  | 88 => ⟨S8x240, .f32⟩
  | 89 => ⟨S8x240x1, .f32⟩
  | 90 => ⟨S8x240x240, .f32⟩
  | 91 => ⟨S8x240x240, .f32⟩
  | 92 => ⟨S8x240x8, .f32⟩
  | 93 => ⟨S8x240x16, .f32⟩
  | 94 => ⟨S8x240x1, .f32⟩
  | 95 => ⟨S8x240x1, .f32⟩
  | 96 => ⟨S8x1x240, .f32⟩
  | 97 => ⟨S8x240x240, .f32⟩
  | 98 => ⟨S8x240x240, .f32⟩
  | 99 => ⟨S8x240x240, .f32⟩
  | 100 => ⟨S_, .f32⟩
  | 101 => ⟨S_, .f32⟩
  | 102 => ⟨S8x240x240, .f32⟩
  | 103 => ⟨S8x240x240, .i1⟩
  | 104 => ⟨S_, .f32⟩
  | 105 => ⟨S8x240x240, .f32⟩
  | 106 => ⟨S8x240x240, .f32⟩
  | 107 => ⟨S8x240x240, .f32⟩
  | 108 => ⟨S1x240x240, .i1⟩
  | 109 => ⟨S_, .f32⟩
  | 110 => ⟨S_, .f32⟩
  | 111 => ⟨S8x240x240, .i1⟩
  | 112 => ⟨S8x240x240, .f32⟩
  | 113 => ⟨S8x240x240, .f32⟩
  | 114 => ⟨S_, .f32⟩
  | 115 => ⟨S8x240, .f32⟩
  | 116 => ⟨S_, .f32⟩
  | 117 => ⟨S8x240, .f32⟩
  | 118 => ⟨S8x240, .f32⟩
  | 119 => ⟨S8x240x1, .f32⟩
  | 120 => ⟨S8x240x240, .f32⟩
  | 121 => ⟨S8x240x240, .f32⟩
  | 122 => ⟨S8x240x240, .f32⟩
  | 123 => ⟨S_, .f32⟩
  | 124 => ⟨S8x240, .f32⟩
  | 125 => ⟨S8x240x1, .f32⟩
  | 126 => ⟨S8x240x240, .f32⟩
  | 127 => ⟨S8x240x240, .f32⟩
  | _ => ⟨S8x30x64x64, .f32⟩

abbrev hbmTy0_10 (i : Nat) : BufTy := match i % 128 with
  | 0 => ⟨S8x240x16, .f32⟩
  | 1 => ⟨S_, .f32⟩
  | 2 => ⟨S8x240x16, .f32⟩
  | 3 => ⟨S8x240x16, .i1⟩
  | 4 => ⟨S_, .f32⟩
  | 5 => ⟨S8x240x16, .f32⟩
  | 6 => ⟨S8x240x16, .i1⟩
  | 7 => ⟨S_, .f32⟩
  | 8 => ⟨S_, .f32⟩
  | 9 => ⟨S8x240x16, .f32⟩
  | 10 => ⟨S8x240x16, .f32⟩
  | 11 => ⟨S8x240x16, .f32⟩
  | 12 => ⟨S_, .f32⟩
  | 13 => ⟨S8x240x16, .f32⟩
  | 14 => ⟨S8x240x16, .f32⟩
  | 15 => ⟨S8x240x16, .f32⟩
  | 16 => ⟨S_, .f32⟩
  | 17 => ⟨S8x240, .f32⟩
  | 18 => ⟨S_, .f32⟩
  | 19 => ⟨S8x240, .f32⟩
  | 20 => ⟨S8x240, .f32⟩
  | 21 => ⟨S8x240x1, .f32⟩
  | 22 => ⟨S8x240x16, .f32⟩
  | 23 => ⟨S8x240x16, .f32⟩
  | 24 => ⟨S8x240x16, .f32⟩
  | 25 => ⟨S_, .f32⟩
  | 26 => ⟨S8x240, .f32⟩
  | 27 => ⟨S8x240x1, .f32⟩
  | 28 => ⟨S8x240x1, .f32⟩
  | 29 => ⟨S8x240x16, .f32⟩
  | 30 => ⟨S8x240x16, .f32⟩
  | 31 => ⟨S8x240x272, .f32⟩
  | 32 => ⟨S_, .f32⟩
  | 33 => ⟨S8x272, .f32⟩
  | 34 => ⟨S_, .f32⟩
  | 35 => ⟨S8x272, .f32⟩
  | 36 => ⟨S8x272, .f32⟩
  | 37 => ⟨S8x528, .f32⟩
  | 38 => ⟨S8x1x528, .f32⟩
  | 39 => ⟨S_, .f32⟩
  | 40 => ⟨S8x528, .f32⟩
  | 41 => ⟨S_, .f32⟩
  | 42 => ⟨S8x528, .f32⟩
  | 43 => ⟨S8x528, .f32⟩
  | 44 => ⟨S_, .f32⟩
  | 45 => ⟨S8x528, .f32⟩
  | 46 => ⟨S8x528, .f32⟩
  | 47 => ⟨S8x2x264, .f32⟩
  | 48 => ⟨S_, .f32⟩
  | 49 => ⟨S8x264, .f32⟩
  | 50 => ⟨S_, .f32⟩
  | 51 => ⟨S8x264, .f32⟩
  | 52 => ⟨S8x264, .f32⟩
  | 53 => ⟨S_, .f32⟩
  | 54 => ⟨S8x264, .f32⟩
  | 55 => ⟨S8x264, .f32⟩
  | 56 => ⟨S8x4x132, .f32⟩
  | 57 => ⟨S_, .f32⟩
  | 58 => ⟨S8x132, .f32⟩
  | 59 => ⟨S_, .f32⟩
  | 60 => ⟨S8x132, .f32⟩
  | 61 => ⟨S8x132, .f32⟩
  | 62 => ⟨S_, .f32⟩
  | 63 => ⟨S8x132, .f32⟩
  | 64 => ⟨S8x132, .f32⟩
  | 65 => ⟨S8x8x66, .f32⟩
  | 66 => ⟨S_, .f32⟩
  | 67 => ⟨S8x66, .f32⟩
  | 68 => ⟨S_, .f32⟩
  | 69 => ⟨S8x66, .f32⟩
  | 70 => ⟨S8x66, .f32⟩
  | 71 => ⟨S_, .f32⟩
  | 72 => ⟨S8x66, .f32⟩
  | 73 => ⟨S8x66, .f32⟩
  | 74 => ⟨S8x16x33, .f32⟩
  | 75 => ⟨S_, .f32⟩
  | 76 => ⟨S8x33, .f32⟩
  | 77 => ⟨S_, .f32⟩
  | 78 => ⟨S8x33, .f32⟩
  | 79 => ⟨S8x33, .f32⟩
  | 80 => ⟨S_, .f32⟩
  | 81 => ⟨S8x33, .f32⟩
  | 82 => ⟨S8x33, .f32⟩
  | 83 => ⟨S8x1023, .f32⟩
  | 84 => ⟨S8x1x1023, .f32⟩
  | _ => ⟨S8x30x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S8x30x64x64, .f32⟩

abbrev bufTy : (tb : Table) → Fin (tcTables nBuf tb) → BufTy
  | .hbm, ⟨i, _⟩ => hbmTy i
  | _, _ => ⟨S8x30x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_call1_cst : Ref sig .tc := ⟨.hbm, 147, rfl⟩
abbrev main_call1_v0 : Ref sig .tc := ⟨.hbm, 148, rfl⟩
abbrev main_call1_v1 : Ref sig .tc := ⟨.hbm, 149, rfl⟩
abbrev main_call1_cst_0 : Ref sig .tc := ⟨.hbm, 150, rfl⟩
abbrev main_call1_v2 : Ref sig .tc := ⟨.hbm, 151, rfl⟩
abbrev main_call1_v3 : Ref sig .tc := ⟨.hbm, 152, rfl⟩
abbrev main_v127 : Ref sig .tc := ⟨.hbm, 153, rfl⟩
abbrev main_c_0 : Ref sig .tc := ⟨.hbm, 154, rfl⟩
abbrev main_call2_v0 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_call3_cst : Ref sig .tc := ⟨.hbm, 202, rfl⟩
abbrev main_call3_v0 : Ref sig .tc := ⟨.hbm, 203, rfl⟩
abbrev main_call3_v1 : Ref sig .tc := ⟨.hbm, 204, rfl⟩
abbrev main_call3_cst_0 : Ref sig .tc := ⟨.hbm, 205, rfl⟩
abbrev main_call3_v2 : Ref sig .tc := ⟨.hbm, 206, rfl⟩
abbrev main_call3_v3 : Ref sig .tc := ⟨.hbm, 207, rfl⟩
abbrev main_v174 : Ref sig .tc := ⟨.hbm, 208, rfl⟩
abbrev main_cst : Ref sig .tc := ⟨.hbm, 209, rfl⟩
abbrev main_v175 : Ref sig .tc := ⟨.hbm, 210, rfl⟩
abbrev main_v176 : Ref sig .tc := ⟨.hbm, 211, rfl⟩
abbrev main_c_1 : Ref sig .tc := ⟨.hbm, 212, rfl⟩
abbrev main_call4_v0 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_call5_cst : Ref sig .tc := ⟨.hbm, 260, rfl⟩
abbrev main_call5_v0 : Ref sig .tc := ⟨.hbm, 261, rfl⟩
abbrev main_call5_v1 : Ref sig .tc := ⟨.hbm, 262, rfl⟩
abbrev main_call5_cst_0 : Ref sig .tc := ⟨.hbm, 263, rfl⟩
abbrev main_call5_v2 : Ref sig .tc := ⟨.hbm, 264, rfl⟩
abbrev main_call5_v3 : Ref sig .tc := ⟨.hbm, 265, rfl⟩
abbrev main_v223 : Ref sig .tc := ⟨.hbm, 266, rfl⟩
abbrev main_c_2 : Ref sig .tc := ⟨.hbm, 267, rfl⟩
abbrev main_call6_v0 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_call7_cst : Ref sig .tc := ⟨.hbm, 315, rfl⟩
abbrev main_call7_v0 : Ref sig .tc := ⟨.hbm, 316, rfl⟩
abbrev main_call7_v1 : Ref sig .tc := ⟨.hbm, 317, rfl⟩
abbrev main_call7_cst_0 : Ref sig .tc := ⟨.hbm, 318, rfl⟩
abbrev main_call7_v2 : Ref sig .tc := ⟨.hbm, 319, rfl⟩
abbrev main_call7_v3 : Ref sig .tc := ⟨.hbm, 320, rfl⟩
abbrev main_v270 : Ref sig .tc := ⟨.hbm, 321, rfl⟩
abbrev main_cst_3 : Ref sig .tc := ⟨.hbm, 322, rfl⟩
abbrev main_v271 : Ref sig .tc := ⟨.hbm, 323, rfl⟩
abbrev main_v272 : Ref sig .tc := ⟨.hbm, 324, rfl⟩
abbrev main_c_4 : Ref sig .tc := ⟨.hbm, 325, rfl⟩
abbrev main_call8_v0 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_call9_cst : Ref sig .tc := ⟨.hbm, 373, rfl⟩
abbrev main_call9_v0 : Ref sig .tc := ⟨.hbm, 374, rfl⟩
abbrev main_call9_v1 : Ref sig .tc := ⟨.hbm, 375, rfl⟩
abbrev main_call9_cst_0 : Ref sig .tc := ⟨.hbm, 376, rfl⟩
abbrev main_call9_v2 : Ref sig .tc := ⟨.hbm, 377, rfl⟩
abbrev main_call9_v3 : Ref sig .tc := ⟨.hbm, 378, rfl⟩
abbrev main_v319 : Ref sig .tc := ⟨.hbm, 379, rfl⟩
abbrev main_c_5 : Ref sig .tc := ⟨.hbm, 380, rfl⟩
abbrev main_call10_v0 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_v364 : Ref sig .tc := ⟨.hbm, 426, rfl⟩
abbrev main_v365 : Ref sig .tc := ⟨.hbm, 427, rfl⟩
abbrev main_call11_cst : Ref sig .tc := ⟨.hbm, 428, rfl⟩
abbrev main_call11_v0 : Ref sig .tc := ⟨.hbm, 429, rfl⟩
abbrev main_call11_v1 : Ref sig .tc := ⟨.hbm, 430, rfl⟩
abbrev main_call11_cst_0 : Ref sig .tc := ⟨.hbm, 431, rfl⟩
abbrev main_call11_v2 : Ref sig .tc := ⟨.hbm, 432, rfl⟩
abbrev main_call11_v3 : Ref sig .tc := ⟨.hbm, 433, rfl⟩
abbrev main_v366 : Ref sig .tc := ⟨.hbm, 434, rfl⟩
abbrev main_v367 : Ref sig .tc := ⟨.hbm, 435, rfl⟩
abbrev main_cst_6 : Ref sig .tc := ⟨.hbm, 436, rfl⟩
abbrev main_v368 : Ref sig .tc := ⟨.hbm, 437, rfl⟩
abbrev main_v369 : Ref sig .tc := ⟨.hbm, 438, rfl⟩
abbrev main_v370 : Ref sig .tc := ⟨.hbm, 439, rfl⟩
abbrev main_v371 : Ref sig .tc := ⟨.hbm, 440, rfl⟩
abbrev main_v372 : Ref sig .tc := ⟨.hbm, 441, rfl⟩
abbrev main_v373 : Ref sig .tc := ⟨.hbm, 442, rfl⟩
abbrev main_v374 : Ref sig .tc := ⟨.hbm, 443, rfl⟩
abbrev main_v375 : Ref sig .tc := ⟨.hbm, 444, rfl⟩
abbrev main_v376 : Ref sig .tc := ⟨.hbm, 445, rfl⟩
abbrev main_v377 : Ref sig .tc := ⟨.hbm, 446, rfl⟩
abbrev main_cst_7 : Ref sig .tc := ⟨.hbm, 447, rfl⟩
abbrev main_v378 : Ref sig .tc := ⟨.hbm, 448, rfl⟩
abbrev main_v379 : Ref sig .tc := ⟨.hbm, 449, rfl⟩
abbrev main_cst_8 : Ref sig .tc := ⟨.hbm, 450, rfl⟩
abbrev main_cst_9 : Ref sig .tc := ⟨.hbm, 451, rfl⟩
abbrev main_call12_v0 : Ref sig .tc := ⟨.hbm, 452, rfl⟩
abbrev main_call12_v1 : Ref sig .tc := ⟨.hbm, 453, rfl⟩
abbrev main_call12_v2 : Ref sig .tc := ⟨.hbm, 454, rfl⟩
abbrev main_call12_v3 : Ref sig .tc := ⟨.hbm, 455, rfl⟩
abbrev main_call12_v4 : Ref sig .tc := ⟨.hbm, 456, rfl⟩
abbrev main_v380 : Ref sig .tc := ⟨.hbm, 457, rfl⟩
abbrev main_v381 : Ref sig .tc := ⟨.hbm, 458, rfl⟩
abbrev main_cst_10 : Ref sig .tc := ⟨.hbm, 459, rfl⟩
abbrev main_v382 : Ref sig .tc := ⟨.hbm, 460, rfl⟩
abbrev main_v383 : Ref sig .tc := ⟨.hbm, 461, rfl⟩
abbrev main_cst_11 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_cst_12 : Ref sig .tc := ⟨.hbm, 466, rfl⟩
abbrev main_v387 : Ref sig .tc := ⟨.hbm, 467, rfl⟩
abbrev main_v388 : Ref sig .tc := ⟨.hbm, 468, rfl⟩
abbrev main_cst_13 : Ref sig .tc := ⟨.hbm, 469, rfl⟩
abbrev main_cst_14 : Ref sig .tc := ⟨.hbm, 470, rfl⟩
abbrev main_call13_v0 : Ref sig .tc := ⟨.hbm, 471, rfl⟩
abbrev main_call13_v1 : Ref sig .tc := ⟨.hbm, 472, rfl⟩
abbrev main_call13_v2 : Ref sig .tc := ⟨.hbm, 473, rfl⟩
abbrev main_call13_v3 : Ref sig .tc := ⟨.hbm, 474, rfl⟩
abbrev main_call13_v4 : Ref sig .tc := ⟨.hbm, 475, rfl⟩
abbrev main_v389 : Ref sig .tc := ⟨.hbm, 476, rfl⟩
abbrev main_v390 : Ref sig .tc := ⟨.hbm, 477, rfl⟩
abbrev main_cst_15 : Ref sig .tc := ⟨.hbm, 478, rfl⟩
abbrev main_v391 : Ref sig .tc := ⟨.hbm, 479, rfl⟩
abbrev main_v392 : Ref sig .tc := ⟨.hbm, 480, rfl⟩
abbrev main_cst_16 : Ref sig .tc := ⟨.hbm, 481, rfl⟩
abbrev main_v393 : Ref sig .tc := ⟨.hbm, 482, rfl⟩
abbrev main_v394 : Ref sig .tc := ⟨.hbm, 483, rfl⟩
abbrev main_v395 : Ref sig .tc := ⟨.hbm, 484, rfl⟩
abbrev main_v396 : Ref sig .tc := ⟨.hbm, 485, rfl⟩
abbrev main_cst_17 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_cst_18 : Ref sig .tc := ⟨.hbm, 496, rfl⟩
abbrev main_v406 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_cst_19 : Ref sig .tc := ⟨.hbm, 501, rfl⟩
abbrev main_v410 : Ref sig .tc := ⟨.hbm, 502, rfl⟩
abbrev main_v411 : Ref sig .tc := ⟨.hbm, 503, rfl⟩
abbrev main_v412 : Ref sig .tc := ⟨.hbm, 504, rfl⟩
abbrev main_v413 : Ref sig .tc := ⟨.hbm, 505, rfl⟩
abbrev main_cst_20 : Ref sig .tc := ⟨.hbm, 506, rfl⟩
abbrev main_v414 : Ref sig .tc := ⟨.hbm, 507, rfl⟩
abbrev main_v415 : Ref sig .tc := ⟨.hbm, 508, rfl⟩
abbrev main_call14_v0 : Ref sig .tc := ⟨.hbm, 509, rfl⟩
abbrev main_call14_v1 : Ref sig .tc := ⟨.hbm, 510, rfl⟩
abbrev main_call14_v2 : Ref sig .tc := ⟨.hbm, 511, rfl⟩
abbrev main_v416 : Ref sig .tc := ⟨.hbm, 512, rfl⟩
abbrev main_v417 : Ref sig .tc := ⟨.hbm, 513, rfl⟩
abbrev main_v418 : Ref sig .tc := ⟨.hbm, 514, rfl⟩
abbrev main_v419 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_cst_21 : Ref sig .tc := ⟨.hbm, 520, rfl⟩
abbrev main_v424 : Ref sig .tc := ⟨.hbm, 521, rfl⟩
abbrev main_v425 : Ref sig .tc := ⟨.hbm, 522, rfl⟩
abbrev main_v426 : Ref sig .tc := ⟨.hbm, 523, rfl⟩
abbrev main_v427 : Ref sig .tc := ⟨.hbm, 524, rfl⟩
abbrev main_cst_22 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_cst_23 : Ref sig .tc := ⟨.hbm, 530, rfl⟩
abbrev main_v432 : Ref sig .tc := ⟨.hbm, 531, rfl⟩
abbrev main_v433 : Ref sig .tc := ⟨.hbm, 532, rfl⟩
abbrev main_call15_v0 : Ref sig .tc := ⟨.hbm, 533, rfl⟩
abbrev main_call15_v1 : Ref sig .tc := ⟨.hbm, 534, rfl⟩
abbrev main_call15_v2 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_cst_24 : Ref sig .tc := ⟨.hbm, 542, rfl⟩
abbrev main_v440 : Ref sig .tc := ⟨.hbm, 543, rfl⟩
abbrev main_v441 : Ref sig .tc := ⟨.hbm, 544, rfl⟩
abbrev main_v442 : Ref sig .tc := ⟨.hbm, 545, rfl⟩
abbrev main_cst_25 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_v447 : Ref sig .tc := ⟨.hbm, 551, rfl⟩
abbrev main_v448 : Ref sig .tc := ⟨.hbm, 552, rfl⟩
abbrev main_cst_26 : Ref sig .tc := ⟨.hbm, 553, rfl⟩
abbrev main_v449 : Ref sig .tc := ⟨.hbm, 554, rfl⟩
abbrev main_v450 : Ref sig .tc := ⟨.hbm, 555, rfl⟩
abbrev main_v451 : Ref sig .tc := ⟨.hbm, 556, rfl⟩
abbrev main_cst_27 : Ref sig .tc := ⟨.hbm, 557, rfl⟩
abbrev main_v452 : Ref sig .tc := ⟨.hbm, 558, rfl⟩
abbrev main_v453 : Ref sig .tc := ⟨.hbm, 559, rfl⟩
abbrev main_v454 : Ref sig .tc := ⟨.hbm, 560, rfl⟩
abbrev main_v455 : Ref sig .tc := ⟨.hbm, 561, rfl⟩
abbrev main_v456 : Ref sig .tc := ⟨.hbm, 562, rfl⟩
abbrev main_v457 : Ref sig .tc := ⟨.hbm, 563, rfl⟩
abbrev main_v458 : Ref sig .tc := ⟨.hbm, 564, rfl⟩
abbrev main_v459 : Ref sig .tc := ⟨.hbm, 565, rfl⟩
abbrev main_v460 : Ref sig .tc := ⟨.hbm, 566, rfl⟩
abbrev main_v461 : Ref sig .tc := ⟨.hbm, 567, rfl⟩
abbrev main_v462 : Ref sig .tc := ⟨.hbm, 568, rfl⟩
abbrev main_v463 : Ref sig .tc := ⟨.hbm, 569, rfl⟩
abbrev main_v464 : Ref sig .tc := ⟨.hbm, 570, rfl⟩
abbrev main_v465 : Ref sig .tc := ⟨.hbm, 571, rfl⟩
abbrev main_v466 : Ref sig .tc := ⟨.hbm, 572, rfl⟩
abbrev main_v467 : Ref sig .tc := ⟨.hbm, 573, rfl⟩
abbrev main_cst_28 : Ref sig .tc := ⟨.hbm, 574, rfl⟩
abbrev main_v468 : Ref sig .tc := ⟨.hbm, 575, rfl⟩
abbrev main_v469 : Ref sig .tc := ⟨.hbm, 576, rfl⟩
abbrev main_v470 : Ref sig .tc := ⟨.hbm, 577, rfl⟩
abbrev main_v471 : Ref sig .tc := ⟨.hbm, 578, rfl⟩
abbrev main_c_29 : Ref sig .tc := ⟨.hbm, 579, rfl⟩
abbrev main_v472 : Ref sig .tc := ⟨.hbm, 580, rfl⟩
abbrev main_v473 : Ref sig .tc := ⟨.hbm, 581, rfl⟩
abbrev main_c_30 : Ref sig .tc := ⟨.hbm, 582, rfl⟩
abbrev main_v474 : Ref sig .tc := ⟨.hbm, 583, rfl⟩
abbrev main_v475 : Ref sig .tc := ⟨.hbm, 584, rfl⟩
abbrev main_v476 : Ref sig .tc := ⟨.hbm, 585, rfl⟩
abbrev main_c_31 : Ref sig .tc := ⟨.hbm, 586, rfl⟩
abbrev main_v477 : Ref sig .tc := ⟨.hbm, 587, rfl⟩
abbrev main_v478 : Ref sig .tc := ⟨.hbm, 588, rfl⟩
abbrev main_c_32 : Ref sig .tc := ⟨.hbm, 589, rfl⟩
abbrev main_v479 : Ref sig .tc := ⟨.hbm, 590, rfl⟩
abbrev main_v480 : Ref sig .tc := ⟨.hbm, 591, rfl⟩
abbrev main_v481 : Ref sig .tc := ⟨.hbm, 592, rfl⟩
abbrev main_c_33 : Ref sig .tc := ⟨.hbm, 593, rfl⟩
abbrev main_v482 : Ref sig .tc := ⟨.hbm, 594, rfl⟩
abbrev main_v483 : Ref sig .tc := ⟨.hbm, 595, rfl⟩
abbrev main_c_34 : Ref sig .tc := ⟨.hbm, 596, rfl⟩
abbrev main_v484 : Ref sig .tc := ⟨.hbm, 597, rfl⟩
abbrev main_v485 : Ref sig .tc := ⟨.hbm, 598, rfl⟩
abbrev main_v486 : Ref sig .tc := ⟨.hbm, 599, rfl⟩
abbrev main_v487 : Ref sig .tc := ⟨.hbm, 600, rfl⟩
abbrev main_v488 : Ref sig .tc := ⟨.hbm, 601, rfl⟩
abbrev main_v489 : Ref sig .tc := ⟨.hbm, 602, rfl⟩
abbrev main_v490 : Ref sig .tc := ⟨.hbm, 603, rfl⟩
abbrev main_v491 : Ref sig .tc := ⟨.hbm, 604, rfl⟩
abbrev main_v492 : Ref sig .tc := ⟨.hbm, 605, rfl⟩
abbrev main_v493 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_c_35 : Ref sig .tc := ⟨.hbm, 612, rfl⟩
abbrev main_v499 : Ref sig .tc := ⟨.hbm, 613, rfl⟩
abbrev main_v500 : Ref sig .tc := ⟨.hbm, 614, rfl⟩
abbrev main_c_36 : Ref sig .tc := ⟨.hbm, 615, rfl⟩
abbrev main_v501 : Ref sig .tc := ⟨.hbm, 616, rfl⟩
abbrev main_v502 : Ref sig .tc := ⟨.hbm, 617, rfl⟩
abbrev main_v503 : Ref sig .tc := ⟨.hbm, 618, rfl⟩
abbrev main_c_37 : Ref sig .tc := ⟨.hbm, 619, rfl⟩
abbrev main_v504 : Ref sig .tc := ⟨.hbm, 620, rfl⟩
abbrev main_v505 : Ref sig .tc := ⟨.hbm, 621, rfl⟩
abbrev main_c_38 : Ref sig .tc := ⟨.hbm, 622, rfl⟩
abbrev main_v506 : Ref sig .tc := ⟨.hbm, 623, rfl⟩
abbrev main_v507 : Ref sig .tc := ⟨.hbm, 624, rfl⟩
abbrev main_v508 : Ref sig .tc := ⟨.hbm, 625, rfl⟩
abbrev main_c_39 : Ref sig .tc := ⟨.hbm, 626, rfl⟩
abbrev main_v509 : Ref sig .tc := ⟨.hbm, 627, rfl⟩
abbrev main_v510 : Ref sig .tc := ⟨.hbm, 628, rfl⟩
abbrev main_c_40 : Ref sig .tc := ⟨.hbm, 629, rfl⟩
abbrev main_v511 : Ref sig .tc := ⟨.hbm, 630, rfl⟩
abbrev main_v512 : Ref sig .tc := ⟨.hbm, 631, rfl⟩
abbrev main_v513 : Ref sig .tc := ⟨.hbm, 632, rfl⟩
abbrev main_v514 : Ref sig .tc := ⟨.hbm, 633, rfl⟩
abbrev main_v515 : Ref sig .tc := ⟨.hbm, 634, rfl⟩
abbrev main_v516 : Ref sig .tc := ⟨.hbm, 635, rfl⟩
abbrev main_v517 : Ref sig .tc := ⟨.hbm, 636, rfl⟩
abbrev main_v518 : Ref sig .tc := ⟨.hbm, 637, rfl⟩
abbrev main_v519 : Ref sig .tc := ⟨.hbm, 638, rfl⟩
abbrev main_v520 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_cst_41 : Ref sig .tc := ⟨.hbm, 644, rfl⟩
abbrev main_v525 : Ref sig .tc := ⟨.hbm, 645, rfl⟩
abbrev main_v526 : Ref sig .tc := ⟨.hbm, 646, rfl⟩
abbrev main_v527 : Ref sig .tc := ⟨.hbm, 647, rfl⟩
abbrev main_v528 : Ref sig .tc := ⟨.hbm, 648, rfl⟩
abbrev main_c_42 : Ref sig .tc := ⟨.hbm, 649, rfl⟩
abbrev main_v529 : Ref sig .tc := ⟨.hbm, 650, rfl⟩
abbrev main_v530 : Ref sig .tc := ⟨.hbm, 651, rfl⟩
abbrev main_c_43 : Ref sig .tc := ⟨.hbm, 652, rfl⟩
abbrev main_v531 : Ref sig .tc := ⟨.hbm, 653, rfl⟩
abbrev main_v532 : Ref sig .tc := ⟨.hbm, 654, rfl⟩
abbrev main_v533 : Ref sig .tc := ⟨.hbm, 655, rfl⟩
abbrev main_c_44 : Ref sig .tc := ⟨.hbm, 656, rfl⟩
abbrev main_v534 : Ref sig .tc := ⟨.hbm, 657, rfl⟩
abbrev main_v535 : Ref sig .tc := ⟨.hbm, 658, rfl⟩
abbrev main_c_45 : Ref sig .tc := ⟨.hbm, 659, rfl⟩
abbrev main_v536 : Ref sig .tc := ⟨.hbm, 660, rfl⟩
abbrev main_v537 : Ref sig .tc := ⟨.hbm, 661, rfl⟩
abbrev main_v538 : Ref sig .tc := ⟨.hbm, 662, rfl⟩
abbrev main_c_46 : Ref sig .tc := ⟨.hbm, 663, rfl⟩
abbrev main_v539 : Ref sig .tc := ⟨.hbm, 664, rfl⟩
abbrev main_v540 : Ref sig .tc := ⟨.hbm, 665, rfl⟩
abbrev main_c_47 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_v555 : Ref sig .tc := ⟨.hbm, 681, rfl⟩
abbrev main_c_48 : Ref sig .tc := ⟨.hbm, 682, rfl⟩
abbrev main_v556 : Ref sig .tc := ⟨.hbm, 683, rfl⟩
abbrev main_v557 : Ref sig .tc := ⟨.hbm, 684, rfl⟩
abbrev main_c_49 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_c_50 : Ref sig .tc := ⟨.hbm, 689, rfl⟩
abbrev main_v561 : Ref sig .tc := ⟨.hbm, 690, rfl⟩
abbrev main_v562 : Ref sig .tc := ⟨.hbm, 691, rfl⟩
abbrev main_c_51 : Ref sig .tc := ⟨.hbm, 692, rfl⟩
abbrev main_v563 : Ref sig .tc := ⟨.hbm, 693, rfl⟩
abbrev main_v564 : Ref sig .tc := ⟨.hbm, 694, rfl⟩
abbrev main_v565 : Ref sig .tc := ⟨.hbm, 695, rfl⟩
abbrev main_c_52 : Ref sig .tc := ⟨.hbm, 696, rfl⟩
abbrev main_v566 : Ref sig .tc := ⟨.hbm, 697, rfl⟩
abbrev main_v567 : Ref sig .tc := ⟨.hbm, 698, rfl⟩
abbrev main_c_53 : Ref sig .tc := ⟨.hbm, 699, rfl⟩
abbrev main_v568 : Ref sig .tc := ⟨.hbm, 700, rfl⟩
abbrev main_v569 : Ref sig .tc := ⟨.hbm, 701, rfl⟩
abbrev main_v570 : Ref sig .tc := ⟨.hbm, 702, rfl⟩
abbrev main_v571 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_cst_54 : Ref sig .tc := ⟨.hbm, 714, rfl⟩
abbrev main_v582 : Ref sig .tc := ⟨.hbm, 715, rfl⟩
abbrev main_v583 : Ref sig .tc := ⟨.hbm, 716, rfl⟩
abbrev main_v584 : Ref sig .tc := ⟨.hbm, 717, rfl⟩
abbrev main_v585 : Ref sig .tc := ⟨.hbm, 718, rfl⟩
abbrev main_v586 : Ref sig .tc := ⟨.hbm, 719, rfl⟩
abbrev main_v587 : Ref sig .tc := ⟨.hbm, 720, rfl⟩
abbrev main_v588 : Ref sig .tc := ⟨.hbm, 721, rfl⟩
abbrev main_v589 : Ref sig .tc := ⟨.hbm, 722, rfl⟩
abbrev main_c_55 : Ref sig .tc := ⟨.hbm, 723, rfl⟩
abbrev main_call16_v0 : Ref sig .tc := ⟨.hbm, 724, rfl⟩
abbrev main_v590 : Ref sig .tc := ⟨.hbm, 725, rfl⟩
abbrev main_v591 : Ref sig .tc := ⟨.hbm, 726, rfl⟩
abbrev main_v592 : Ref sig .tc := ⟨.hbm, 727, rfl⟩
abbrev main_v593 : Ref sig .tc := ⟨.hbm, 728, rfl⟩
abbrev main_v594 : Ref sig .tc := ⟨.hbm, 729, rfl⟩
abbrev main_v595 : Ref sig .tc := ⟨.hbm, 730, rfl⟩
abbrev main_v596 : Ref sig .tc := ⟨.hbm, 731, rfl⟩
abbrev main_v597 : Ref sig .tc := ⟨.hbm, 732, rfl⟩
abbrev main_v598 : Ref sig .tc := ⟨.hbm, 733, rfl⟩
abbrev main_v599 : Ref sig .tc := ⟨.hbm, 734, rfl⟩
abbrev main_v600 : Ref sig .tc := ⟨.hbm, 735, rfl⟩
abbrev main_v601 : Ref sig .tc := ⟨.hbm, 736, rfl⟩
abbrev main_v602 : Ref sig .tc := ⟨.hbm, 737, rfl⟩
abbrev main_v603 : Ref sig .tc := ⟨.hbm, 738, rfl⟩
abbrev main_v604 : Ref sig .tc := ⟨.hbm, 739, rfl⟩
abbrev main_v605 : Ref sig .tc := ⟨.hbm, 740, rfl⟩
abbrev main_v606 : Ref sig .tc := ⟨.hbm, 741, rfl⟩
abbrev main_v607 : Ref sig .tc := ⟨.hbm, 742, rfl⟩
abbrev main_v608 : Ref sig .tc := ⟨.hbm, 743, rfl⟩
abbrev main_v609 : Ref sig .tc := ⟨.hbm, 744, rfl⟩
abbrev main_v610 : Ref sig .tc := ⟨.hbm, 745, rfl⟩
abbrev main_v611 : Ref sig .tc := ⟨.hbm, 746, rfl⟩
abbrev main_v612 : Ref sig .tc := ⟨.hbm, 747, rfl⟩
abbrev main_v613 : Ref sig .tc := ⟨.hbm, 748, rfl⟩
abbrev main_v614 : Ref sig .tc := ⟨.hbm, 749, rfl⟩
abbrev main_v615 : Ref sig .tc := ⟨.hbm, 750, rfl⟩
abbrev main_v616 : Ref sig .tc := ⟨.hbm, 751, rfl⟩
abbrev main_v617 : Ref sig .tc := ⟨.hbm, 752, rfl⟩
abbrev main_v618 : Ref sig .tc := ⟨.hbm, 753, rfl⟩
abbrev main_v619 : Ref sig .tc := ⟨.hbm, 754, rfl⟩
abbrev main_v620 : Ref sig .tc := ⟨.hbm, 755, rfl⟩
abbrev main_v621 : Ref sig .tc := ⟨.hbm, 756, rfl⟩
abbrev main_v622 : Ref sig .tc := ⟨.hbm, 757, rfl⟩
abbrev main_v623 : Ref sig .tc := ⟨.hbm, 758, rfl⟩
abbrev main_v624 : Ref sig .tc := ⟨.hbm, 759, rfl⟩
abbrev main_v625 : Ref sig .tc := ⟨.hbm, 760, rfl⟩
abbrev main_v626 : Ref sig .tc := ⟨.hbm, 761, rfl⟩
abbrev main_v627 : Ref sig .tc := ⟨.hbm, 762, rfl⟩
abbrev main_v628 : Ref sig .tc := ⟨.hbm, 763, rfl⟩
abbrev main_v629 : Ref sig .tc := ⟨.hbm, 764, rfl⟩
abbrev main_v630 : Ref sig .tc := ⟨.hbm, 765, rfl⟩
abbrev main_v631 : Ref sig .tc := ⟨.hbm, 766, rfl⟩
abbrev main_v632 : Ref sig .tc := ⟨.hbm, 767, rfl⟩
abbrev main_v633 : Ref sig .tc := ⟨.hbm, 768, rfl⟩
abbrev main_v634 : Ref sig .tc := ⟨.hbm, 769, rfl⟩
abbrev main_v635 : Ref sig .tc := ⟨.hbm, 770, rfl⟩
abbrev main_v636 : Ref sig .tc := ⟨.hbm, 771, rfl⟩
abbrev main_v637 : Ref sig .tc := ⟨.hbm, 772, rfl⟩
abbrev main_v638 : Ref sig .tc := ⟨.hbm, 773, rfl⟩
abbrev main_v639 : Ref sig .tc := ⟨.hbm, 774, rfl⟩
abbrev main_v640 : Ref sig .tc := ⟨.hbm, 775, rfl⟩
abbrev main_v641 : Ref sig .tc := ⟨.hbm, 776, rfl⟩
abbrev main_v642 : Ref sig .tc := ⟨.hbm, 777, rfl⟩
abbrev main_v643 : Ref sig .tc := ⟨.hbm, 778, rfl⟩
abbrev main_v644 : Ref sig .tc := ⟨.hbm, 779, rfl⟩
abbrev main_v645 : Ref sig .tc := ⟨.hbm, 780, rfl⟩
abbrev main_v646 : Ref sig .tc := ⟨.hbm, 781, rfl⟩
abbrev main_v647 : Ref sig .tc := ⟨.hbm, 782, rfl⟩
abbrev main_v648 : Ref sig .tc := ⟨.hbm, 783, rfl⟩
abbrev main_v649 : Ref sig .tc := ⟨.hbm, 784, rfl⟩
abbrev main_v650 : Ref sig .tc := ⟨.hbm, 785, rfl⟩
abbrev main_v651 : Ref sig .tc := ⟨.hbm, 786, rfl⟩
abbrev main_v652 : Ref sig .tc := ⟨.hbm, 787, rfl⟩
abbrev main_v653 : Ref sig .tc := ⟨.hbm, 788, rfl⟩
abbrev main_v654 : Ref sig .tc := ⟨.hbm, 789, rfl⟩
abbrev main_v655 : Ref sig .tc := ⟨.hbm, 790, rfl⟩
abbrev main_v656 : Ref sig .tc := ⟨.hbm, 791, rfl⟩
abbrev main_v657 : Ref sig .tc := ⟨.hbm, 792, rfl⟩
abbrev main_v658 : Ref sig .tc := ⟨.hbm, 793, rfl⟩
abbrev main_v659 : Ref sig .tc := ⟨.hbm, 794, rfl⟩
abbrev main_v660 : Ref sig .tc := ⟨.hbm, 795, rfl⟩
abbrev main_v661 : Ref sig .tc := ⟨.hbm, 796, rfl⟩
abbrev main_v662 : Ref sig .tc := ⟨.hbm, 797, rfl⟩
abbrev main_v663 : Ref sig .tc := ⟨.hbm, 798, rfl⟩
abbrev main_v664 : Ref sig .tc := ⟨.hbm, 799, rfl⟩
abbrev main_v665 : Ref sig .tc := ⟨.hbm, 800, rfl⟩
abbrev main_v666 : Ref sig .tc := ⟨.hbm, 801, rfl⟩
abbrev main_v667 : Ref sig .tc := ⟨.hbm, 802, rfl⟩
abbrev main_v668 : Ref sig .tc := ⟨.hbm, 803, rfl⟩
abbrev main_v669 : Ref sig .tc := ⟨.hbm, 804, rfl⟩
abbrev main_v670 : Ref sig .tc := ⟨.hbm, 805, rfl⟩
abbrev main_v671 : Ref sig .tc := ⟨.hbm, 806, rfl⟩
abbrev main_v672 : Ref sig .tc := ⟨.hbm, 807, rfl⟩
abbrev main_v673 : Ref sig .tc := ⟨.hbm, 808, rfl⟩
abbrev main_v674 : Ref sig .tc := ⟨.hbm, 809, rfl⟩
abbrev main_v675 : Ref sig .tc := ⟨.hbm, 810, rfl⟩
abbrev main_v676 : Ref sig .tc := ⟨.hbm, 811, rfl⟩
abbrev main_v677 : Ref sig .tc := ⟨.hbm, 812, rfl⟩
abbrev main_v678 : Ref sig .tc := ⟨.hbm, 813, rfl⟩
abbrev main_v679 : Ref sig .tc := ⟨.hbm, 814, rfl⟩
abbrev main_v680 : Ref sig .tc := ⟨.hbm, 815, rfl⟩
abbrev main_v681 : Ref sig .tc := ⟨.hbm, 816, rfl⟩
abbrev main_v682 : Ref sig .tc := ⟨.hbm, 817, rfl⟩
abbrev main_v683 : Ref sig .tc := ⟨.hbm, 818, rfl⟩
abbrev main_v684 : Ref sig .tc := ⟨.hbm, 819, rfl⟩
abbrev main_v685 : Ref sig .tc := ⟨.hbm, 820, rfl⟩
abbrev main_v686 : Ref sig .tc := ⟨.hbm, 821, rfl⟩
abbrev main_v687 : Ref sig .tc := ⟨.hbm, 822, rfl⟩
abbrev main_v688 : Ref sig .tc := ⟨.hbm, 823, rfl⟩
abbrev main_v689 : Ref sig .tc := ⟨.hbm, 824, rfl⟩
abbrev main_v690 : Ref sig .tc := ⟨.hbm, 825, rfl⟩
abbrev main_v691 : Ref sig .tc := ⟨.hbm, 826, rfl⟩
abbrev main_v692 : Ref sig .tc := ⟨.hbm, 827, rfl⟩
abbrev main_v693 : Ref sig .tc := ⟨.hbm, 828, rfl⟩
abbrev main_v694 : Ref sig .tc := ⟨.hbm, 829, rfl⟩
abbrev main_v695 : Ref sig .tc := ⟨.hbm, 830, rfl⟩
abbrev main_v696 : Ref sig .tc := ⟨.hbm, 831, rfl⟩
abbrev main_v697 : Ref sig .tc := ⟨.hbm, 832, rfl⟩
abbrev main_v698 : Ref sig .tc := ⟨.hbm, 833, rfl⟩
abbrev main_v699 : Ref sig .tc := ⟨.hbm, 834, rfl⟩
abbrev main_v700 : Ref sig .tc := ⟨.hbm, 835, rfl⟩
abbrev main_v701 : Ref sig .tc := ⟨.hbm, 836, rfl⟩
abbrev main_v702 : Ref sig .tc := ⟨.hbm, 837, rfl⟩
abbrev main_v703 : Ref sig .tc := ⟨.hbm, 838, rfl⟩
abbrev main_v704 : Ref sig .tc := ⟨.hbm, 839, rfl⟩
abbrev main_v705 : Ref sig .tc := ⟨.hbm, 840, rfl⟩
abbrev main_v706 : Ref sig .tc := ⟨.hbm, 841, rfl⟩
abbrev main_v707 : Ref sig .tc := ⟨.hbm, 842, rfl⟩
abbrev main_v708 : Ref sig .tc := ⟨.hbm, 843, rfl⟩
abbrev main_v709 : Ref sig .tc := ⟨.hbm, 844, rfl⟩
abbrev main_v710 : Ref sig .tc := ⟨.hbm, 845, rfl⟩
abbrev main_v711 : Ref sig .tc := ⟨.hbm, 846, rfl⟩
abbrev main_v712 : Ref sig .tc := ⟨.hbm, 847, rfl⟩
abbrev main_v713 : Ref sig .tc := ⟨.hbm, 848, rfl⟩
abbrev main_v714 : Ref sig .tc := ⟨.hbm, 849, rfl⟩
abbrev main_v715 : Ref sig .tc := ⟨.hbm, 850, rfl⟩
abbrev main_call17_cst : Ref sig .tc := ⟨.hbm, 851, rfl⟩
abbrev main_call17_v0 : Ref sig .tc := ⟨.hbm, 852, rfl⟩
abbrev main_call17_v1 : Ref sig .tc := ⟨.hbm, 853, rfl⟩
abbrev main_call17_cst_0 : Ref sig .tc := ⟨.hbm, 854, rfl⟩
abbrev main_call17_v2 : Ref sig .tc := ⟨.hbm, 855, rfl⟩
abbrev main_call17_v3 : Ref sig .tc := ⟨.hbm, 856, rfl⟩
abbrev main_v716 : Ref sig .tc := ⟨.hbm, 857, rfl⟩
abbrev main_c_56 : Ref sig .tc := ⟨.hbm, 858, rfl⟩
abbrev main_call18_v0 : Ref sig .tc := ⟨.hbm, 859, rfl⟩
abbrev main_v717 : Ref sig .tc := ⟨.hbm, 860, rfl⟩
abbrev main_v718 : Ref sig .tc := ⟨.hbm, 861, rfl⟩
abbrev main_v719 : Ref sig .tc := ⟨.hbm, 862, rfl⟩
abbrev main_v720 : Ref sig .tc := ⟨.hbm, 863, rfl⟩
abbrev main_v721 : Ref sig .tc := ⟨.hbm, 864, rfl⟩
abbrev main_v722 : Ref sig .tc := ⟨.hbm, 865, rfl⟩
abbrev main_v723 : Ref sig .tc := ⟨.hbm, 866, rfl⟩
abbrev main_v724 : Ref sig .tc := ⟨.hbm, 867, rfl⟩
abbrev main_v725 : Ref sig .tc := ⟨.hbm, 868, rfl⟩
abbrev main_v726 : Ref sig .tc := ⟨.hbm, 869, rfl⟩
abbrev main_v727 : Ref sig .tc := ⟨.hbm, 870, rfl⟩
abbrev main_v728 : Ref sig .tc := ⟨.hbm, 871, rfl⟩
abbrev main_v729 : Ref sig .tc := ⟨.hbm, 872, rfl⟩
abbrev main_v730 : Ref sig .tc := ⟨.hbm, 873, rfl⟩
abbrev main_v731 : Ref sig .tc := ⟨.hbm, 874, rfl⟩
abbrev main_v732 : Ref sig .tc := ⟨.hbm, 875, rfl⟩
abbrev main_v733 : Ref sig .tc := ⟨.hbm, 876, rfl⟩
abbrev main_v734 : Ref sig .tc := ⟨.hbm, 877, rfl⟩
abbrev main_v735 : Ref sig .tc := ⟨.hbm, 878, rfl⟩
abbrev main_v736 : Ref sig .tc := ⟨.hbm, 879, rfl⟩
abbrev main_v737 : Ref sig .tc := ⟨.hbm, 880, rfl⟩
abbrev main_v738 : Ref sig .tc := ⟨.hbm, 881, rfl⟩
abbrev main_v739 : Ref sig .tc := ⟨.hbm, 882, rfl⟩
abbrev main_v740 : Ref sig .tc := ⟨.hbm, 883, rfl⟩
abbrev main_v741 : Ref sig .tc := ⟨.hbm, 884, rfl⟩
abbrev main_v742 : Ref sig .tc := ⟨.hbm, 885, rfl⟩
abbrev main_v743 : Ref sig .tc := ⟨.hbm, 886, rfl⟩
abbrev main_v744 : Ref sig .tc := ⟨.hbm, 887, rfl⟩
abbrev main_v745 : Ref sig .tc := ⟨.hbm, 888, rfl⟩
abbrev main_v746 : Ref sig .tc := ⟨.hbm, 889, rfl⟩
abbrev main_v747 : Ref sig .tc := ⟨.hbm, 890, rfl⟩
abbrev main_v748 : Ref sig .tc := ⟨.hbm, 891, rfl⟩
abbrev main_v749 : Ref sig .tc := ⟨.hbm, 892, rfl⟩
abbrev main_v750 : Ref sig .tc := ⟨.hbm, 893, rfl⟩
abbrev main_v751 : Ref sig .tc := ⟨.hbm, 894, rfl⟩
abbrev main_v752 : Ref sig .tc := ⟨.hbm, 895, rfl⟩
abbrev main_v753 : Ref sig .tc := ⟨.hbm, 896, rfl⟩
abbrev main_v754 : Ref sig .tc := ⟨.hbm, 897, rfl⟩
abbrev main_v755 : Ref sig .tc := ⟨.hbm, 898, rfl⟩
abbrev main_v756 : Ref sig .tc := ⟨.hbm, 899, rfl⟩
abbrev main_v757 : Ref sig .tc := ⟨.hbm, 900, rfl⟩
abbrev main_v758 : Ref sig .tc := ⟨.hbm, 901, rfl⟩
abbrev main_v759 : Ref sig .tc := ⟨.hbm, 902, rfl⟩
abbrev main_v760 : Ref sig .tc := ⟨.hbm, 903, rfl⟩
abbrev main_v761 : Ref sig .tc := ⟨.hbm, 904, rfl⟩
abbrev main_v762 : Ref sig .tc := ⟨.hbm, 905, rfl⟩
abbrev main_call19_cst : Ref sig .tc := ⟨.hbm, 906, rfl⟩
abbrev main_call19_v0 : Ref sig .tc := ⟨.hbm, 907, rfl⟩
abbrev main_call19_v1 : Ref sig .tc := ⟨.hbm, 908, rfl⟩
abbrev main_call19_cst_0 : Ref sig .tc := ⟨.hbm, 909, rfl⟩
abbrev main_call19_v2 : Ref sig .tc := ⟨.hbm, 910, rfl⟩
abbrev main_call19_v3 : Ref sig .tc := ⟨.hbm, 911, rfl⟩
abbrev main_v763 : Ref sig .tc := ⟨.hbm, 912, rfl⟩
abbrev main_cst_57 : Ref sig .tc := ⟨.hbm, 913, rfl⟩
abbrev main_v764 : Ref sig .tc := ⟨.hbm, 914, rfl⟩
abbrev main_v765 : Ref sig .tc := ⟨.hbm, 915, rfl⟩
abbrev main_c_58 : Ref sig .tc := ⟨.hbm, 916, rfl⟩
abbrev main_call20_v0 : Ref sig .tc := ⟨.hbm, 917, rfl⟩
abbrev main_v766 : Ref sig .tc := ⟨.hbm, 918, rfl⟩
abbrev main_v767 : Ref sig .tc := ⟨.hbm, 919, rfl⟩
abbrev main_v768 : Ref sig .tc := ⟨.hbm, 920, rfl⟩
abbrev main_v769 : Ref sig .tc := ⟨.hbm, 921, rfl⟩
abbrev main_v770 : Ref sig .tc := ⟨.hbm, 922, rfl⟩
abbrev main_v771 : Ref sig .tc := ⟨.hbm, 923, rfl⟩
abbrev main_v772 : Ref sig .tc := ⟨.hbm, 924, rfl⟩
abbrev main_v773 : Ref sig .tc := ⟨.hbm, 925, rfl⟩
abbrev main_v774 : Ref sig .tc := ⟨.hbm, 926, rfl⟩
abbrev main_v775 : Ref sig .tc := ⟨.hbm, 927, rfl⟩
abbrev main_v776 : Ref sig .tc := ⟨.hbm, 928, rfl⟩
abbrev main_v777 : Ref sig .tc := ⟨.hbm, 929, rfl⟩
abbrev main_v778 : Ref sig .tc := ⟨.hbm, 930, rfl⟩
abbrev main_v779 : Ref sig .tc := ⟨.hbm, 931, rfl⟩
abbrev main_v780 : Ref sig .tc := ⟨.hbm, 932, rfl⟩
abbrev main_v781 : Ref sig .tc := ⟨.hbm, 933, rfl⟩
abbrev main_v782 : Ref sig .tc := ⟨.hbm, 934, rfl⟩
abbrev main_v783 : Ref sig .tc := ⟨.hbm, 935, rfl⟩
abbrev main_v784 : Ref sig .tc := ⟨.hbm, 936, rfl⟩
abbrev main_v785 : Ref sig .tc := ⟨.hbm, 937, rfl⟩
abbrev main_v786 : Ref sig .tc := ⟨.hbm, 938, rfl⟩
abbrev main_v787 : Ref sig .tc := ⟨.hbm, 939, rfl⟩
abbrev main_v788 : Ref sig .tc := ⟨.hbm, 940, rfl⟩
abbrev main_v789 : Ref sig .tc := ⟨.hbm, 941, rfl⟩
abbrev main_v790 : Ref sig .tc := ⟨.hbm, 942, rfl⟩
abbrev main_v791 : Ref sig .tc := ⟨.hbm, 943, rfl⟩
abbrev main_v792 : Ref sig .tc := ⟨.hbm, 944, rfl⟩
abbrev main_v793 : Ref sig .tc := ⟨.hbm, 945, rfl⟩
abbrev main_v794 : Ref sig .tc := ⟨.hbm, 946, rfl⟩
abbrev main_v795 : Ref sig .tc := ⟨.hbm, 947, rfl⟩
abbrev main_v796 : Ref sig .tc := ⟨.hbm, 948, rfl⟩
abbrev main_v797 : Ref sig .tc := ⟨.hbm, 949, rfl⟩
abbrev main_v798 : Ref sig .tc := ⟨.hbm, 950, rfl⟩
abbrev main_v799 : Ref sig .tc := ⟨.hbm, 951, rfl⟩
abbrev main_v800 : Ref sig .tc := ⟨.hbm, 952, rfl⟩
abbrev main_v801 : Ref sig .tc := ⟨.hbm, 953, rfl⟩
abbrev main_v802 : Ref sig .tc := ⟨.hbm, 954, rfl⟩
abbrev main_v803 : Ref sig .tc := ⟨.hbm, 955, rfl⟩
abbrev main_v804 : Ref sig .tc := ⟨.hbm, 956, rfl⟩
abbrev main_v805 : Ref sig .tc := ⟨.hbm, 957, rfl⟩
abbrev main_v806 : Ref sig .tc := ⟨.hbm, 958, rfl⟩
abbrev main_v807 : Ref sig .tc := ⟨.hbm, 959, rfl⟩
abbrev main_v808 : Ref sig .tc := ⟨.hbm, 960, rfl⟩
abbrev main_v809 : Ref sig .tc := ⟨.hbm, 961, rfl⟩
abbrev main_v810 : Ref sig .tc := ⟨.hbm, 962, rfl⟩
abbrev main_v811 : Ref sig .tc := ⟨.hbm, 963, rfl⟩
abbrev main_call21_cst : Ref sig .tc := ⟨.hbm, 964, rfl⟩
abbrev main_call21_v0 : Ref sig .tc := ⟨.hbm, 965, rfl⟩
abbrev main_call21_v1 : Ref sig .tc := ⟨.hbm, 966, rfl⟩
abbrev main_call21_cst_0 : Ref sig .tc := ⟨.hbm, 967, rfl⟩
abbrev main_call21_v2 : Ref sig .tc := ⟨.hbm, 968, rfl⟩
abbrev main_call21_v3 : Ref sig .tc := ⟨.hbm, 969, rfl⟩
abbrev main_v812 : Ref sig .tc := ⟨.hbm, 970, rfl⟩
abbrev main_c_59 : Ref sig .tc := ⟨.hbm, 971, rfl⟩
abbrev main_call22_v0 : Ref sig .tc := ⟨.hbm, 972, rfl⟩
abbrev main_v813 : Ref sig .tc := ⟨.hbm, 973, rfl⟩
abbrev main_v814 : Ref sig .tc := ⟨.hbm, 974, rfl⟩
abbrev main_v815 : Ref sig .tc := ⟨.hbm, 975, rfl⟩
abbrev main_v816 : Ref sig .tc := ⟨.hbm, 976, rfl⟩
abbrev main_v817 : Ref sig .tc := ⟨.hbm, 977, rfl⟩
abbrev main_v818 : Ref sig .tc := ⟨.hbm, 978, rfl⟩
abbrev main_v819 : Ref sig .tc := ⟨.hbm, 979, rfl⟩
abbrev main_v820 : Ref sig .tc := ⟨.hbm, 980, rfl⟩
abbrev main_v821 : Ref sig .tc := ⟨.hbm, 981, rfl⟩
abbrev main_v822 : Ref sig .tc := ⟨.hbm, 982, rfl⟩
abbrev main_v823 : Ref sig .tc := ⟨.hbm, 983, rfl⟩
abbrev main_v824 : Ref sig .tc := ⟨.hbm, 984, rfl⟩
abbrev main_v825 : Ref sig .tc := ⟨.hbm, 985, rfl⟩
abbrev main_v826 : Ref sig .tc := ⟨.hbm, 986, rfl⟩
abbrev main_v827 : Ref sig .tc := ⟨.hbm, 987, rfl⟩
abbrev main_v828 : Ref sig .tc := ⟨.hbm, 988, rfl⟩
abbrev main_v829 : Ref sig .tc := ⟨.hbm, 989, rfl⟩
abbrev main_v830 : Ref sig .tc := ⟨.hbm, 990, rfl⟩
abbrev main_v831 : Ref sig .tc := ⟨.hbm, 991, rfl⟩
abbrev main_v832 : Ref sig .tc := ⟨.hbm, 992, rfl⟩
abbrev main_v833 : Ref sig .tc := ⟨.hbm, 993, rfl⟩
abbrev main_v834 : Ref sig .tc := ⟨.hbm, 994, rfl⟩
abbrev main_v835 : Ref sig .tc := ⟨.hbm, 995, rfl⟩
abbrev main_v836 : Ref sig .tc := ⟨.hbm, 996, rfl⟩
abbrev main_v837 : Ref sig .tc := ⟨.hbm, 997, rfl⟩
abbrev main_v838 : Ref sig .tc := ⟨.hbm, 998, rfl⟩
abbrev main_v839 : Ref sig .tc := ⟨.hbm, 999, rfl⟩
abbrev main_v840 : Ref sig .tc := ⟨.hbm, 1000, rfl⟩
abbrev main_v841 : Ref sig .tc := ⟨.hbm, 1001, rfl⟩
abbrev main_v842 : Ref sig .tc := ⟨.hbm, 1002, rfl⟩
abbrev main_v843 : Ref sig .tc := ⟨.hbm, 1003, rfl⟩
abbrev main_v844 : Ref sig .tc := ⟨.hbm, 1004, rfl⟩
abbrev main_v845 : Ref sig .tc := ⟨.hbm, 1005, rfl⟩
abbrev main_v846 : Ref sig .tc := ⟨.hbm, 1006, rfl⟩
abbrev main_v847 : Ref sig .tc := ⟨.hbm, 1007, rfl⟩
abbrev main_v848 : Ref sig .tc := ⟨.hbm, 1008, rfl⟩
abbrev main_v849 : Ref sig .tc := ⟨.hbm, 1009, rfl⟩
abbrev main_v850 : Ref sig .tc := ⟨.hbm, 1010, rfl⟩
abbrev main_v851 : Ref sig .tc := ⟨.hbm, 1011, rfl⟩
abbrev main_v852 : Ref sig .tc := ⟨.hbm, 1012, rfl⟩
abbrev main_v853 : Ref sig .tc := ⟨.hbm, 1013, rfl⟩
abbrev main_v854 : Ref sig .tc := ⟨.hbm, 1014, rfl⟩
abbrev main_v855 : Ref sig .tc := ⟨.hbm, 1015, rfl⟩
abbrev main_v856 : Ref sig .tc := ⟨.hbm, 1016, rfl⟩
abbrev main_v857 : Ref sig .tc := ⟨.hbm, 1017, rfl⟩
abbrev main_v858 : Ref sig .tc := ⟨.hbm, 1018, rfl⟩
abbrev main_call23_cst : Ref sig .tc := ⟨.hbm, 1019, rfl⟩
abbrev main_call23_v0 : Ref sig .tc := ⟨.hbm, 1020, rfl⟩
abbrev main_call23_v1 : Ref sig .tc := ⟨.hbm, 1021, rfl⟩
abbrev main_call23_cst_0 : Ref sig .tc := ⟨.hbm, 1022, rfl⟩
abbrev main_call23_v2 : Ref sig .tc := ⟨.hbm, 1023, rfl⟩
abbrev main_call23_v3 : Ref sig .tc := ⟨.hbm, 1024, rfl⟩
abbrev main_v859 : Ref sig .tc := ⟨.hbm, 1025, rfl⟩
abbrev main_cst_60 : Ref sig .tc := ⟨.hbm, 1026, rfl⟩
abbrev main_v860 : Ref sig .tc := ⟨.hbm, 1027, rfl⟩
abbrev main_v861 : Ref sig .tc := ⟨.hbm, 1028, rfl⟩
abbrev main_c_61 : Ref sig .tc := ⟨.hbm, 1029, rfl⟩
abbrev main_call24_v0 : Ref sig .tc := ⟨.hbm, 1030, rfl⟩
abbrev main_v862 : Ref sig .tc := ⟨.hbm, 1031, rfl⟩
abbrev main_v863 : Ref sig .tc := ⟨.hbm, 1032, rfl⟩
abbrev main_v864 : Ref sig .tc := ⟨.hbm, 1033, rfl⟩
abbrev main_v865 : Ref sig .tc := ⟨.hbm, 1034, rfl⟩
abbrev main_v866 : Ref sig .tc := ⟨.hbm, 1035, rfl⟩
abbrev main_v867 : Ref sig .tc := ⟨.hbm, 1036, rfl⟩
abbrev main_v868 : Ref sig .tc := ⟨.hbm, 1037, rfl⟩
abbrev main_v869 : Ref sig .tc := ⟨.hbm, 1038, rfl⟩
abbrev main_v870 : Ref sig .tc := ⟨.hbm, 1039, rfl⟩
abbrev main_v871 : Ref sig .tc := ⟨.hbm, 1040, rfl⟩
abbrev main_v872 : Ref sig .tc := ⟨.hbm, 1041, rfl⟩
abbrev main_v873 : Ref sig .tc := ⟨.hbm, 1042, rfl⟩
abbrev main_v874 : Ref sig .tc := ⟨.hbm, 1043, rfl⟩
abbrev main_v875 : Ref sig .tc := ⟨.hbm, 1044, rfl⟩
abbrev main_v876 : Ref sig .tc := ⟨.hbm, 1045, rfl⟩
abbrev main_v877 : Ref sig .tc := ⟨.hbm, 1046, rfl⟩
abbrev main_v878 : Ref sig .tc := ⟨.hbm, 1047, rfl⟩
abbrev main_v879 : Ref sig .tc := ⟨.hbm, 1048, rfl⟩
abbrev main_v880 : Ref sig .tc := ⟨.hbm, 1049, rfl⟩
abbrev main_v881 : Ref sig .tc := ⟨.hbm, 1050, rfl⟩
abbrev main_v882 : Ref sig .tc := ⟨.hbm, 1051, rfl⟩
abbrev main_v883 : Ref sig .tc := ⟨.hbm, 1052, rfl⟩
abbrev main_v884 : Ref sig .tc := ⟨.hbm, 1053, rfl⟩
abbrev main_v885 : Ref sig .tc := ⟨.hbm, 1054, rfl⟩
abbrev main_v886 : Ref sig .tc := ⟨.hbm, 1055, rfl⟩
abbrev main_v887 : Ref sig .tc := ⟨.hbm, 1056, rfl⟩
abbrev main_v888 : Ref sig .tc := ⟨.hbm, 1057, rfl⟩
abbrev main_v889 : Ref sig .tc := ⟨.hbm, 1058, rfl⟩
abbrev main_v890 : Ref sig .tc := ⟨.hbm, 1059, rfl⟩
abbrev main_v891 : Ref sig .tc := ⟨.hbm, 1060, rfl⟩
abbrev main_v892 : Ref sig .tc := ⟨.hbm, 1061, rfl⟩
abbrev main_v893 : Ref sig .tc := ⟨.hbm, 1062, rfl⟩
abbrev main_v894 : Ref sig .tc := ⟨.hbm, 1063, rfl⟩
abbrev main_v895 : Ref sig .tc := ⟨.hbm, 1064, rfl⟩
abbrev main_v896 : Ref sig .tc := ⟨.hbm, 1065, rfl⟩
abbrev main_v897 : Ref sig .tc := ⟨.hbm, 1066, rfl⟩
abbrev main_v898 : Ref sig .tc := ⟨.hbm, 1067, rfl⟩
abbrev main_v899 : Ref sig .tc := ⟨.hbm, 1068, rfl⟩
abbrev main_v900 : Ref sig .tc := ⟨.hbm, 1069, rfl⟩
abbrev main_v901 : Ref sig .tc := ⟨.hbm, 1070, rfl⟩
abbrev main_v902 : Ref sig .tc := ⟨.hbm, 1071, rfl⟩
abbrev main_v903 : Ref sig .tc := ⟨.hbm, 1072, rfl⟩
abbrev main_v904 : Ref sig .tc := ⟨.hbm, 1073, rfl⟩
abbrev main_v905 : Ref sig .tc := ⟨.hbm, 1074, rfl⟩
abbrev main_v906 : Ref sig .tc := ⟨.hbm, 1075, rfl⟩
abbrev main_v907 : Ref sig .tc := ⟨.hbm, 1076, rfl⟩
abbrev main_call25_cst : Ref sig .tc := ⟨.hbm, 1077, rfl⟩
abbrev main_call25_v0 : Ref sig .tc := ⟨.hbm, 1078, rfl⟩
abbrev main_call25_v1 : Ref sig .tc := ⟨.hbm, 1079, rfl⟩
abbrev main_call25_cst_0 : Ref sig .tc := ⟨.hbm, 1080, rfl⟩
abbrev main_call25_v2 : Ref sig .tc := ⟨.hbm, 1081, rfl⟩
abbrev main_call25_v3 : Ref sig .tc := ⟨.hbm, 1082, rfl⟩
abbrev main_v908 : Ref sig .tc := ⟨.hbm, 1083, rfl⟩
abbrev main_c_62 : Ref sig .tc := ⟨.hbm, 1084, rfl⟩
abbrev main_call26_v0 : Ref sig .tc := ⟨.hbm, 1085, rfl⟩
abbrev main_v909 : Ref sig .tc := ⟨.hbm, 1086, rfl⟩
abbrev main_v910 : Ref sig .tc := ⟨.hbm, 1087, rfl⟩
abbrev main_v911 : Ref sig .tc := ⟨.hbm, 1088, rfl⟩
abbrev main_v912 : Ref sig .tc := ⟨.hbm, 1089, rfl⟩
abbrev main_v913 : Ref sig .tc := ⟨.hbm, 1090, rfl⟩
abbrev main_v914 : Ref sig .tc := ⟨.hbm, 1091, rfl⟩
abbrev main_v915 : Ref sig .tc := ⟨.hbm, 1092, rfl⟩
abbrev main_v916 : Ref sig .tc := ⟨.hbm, 1093, rfl⟩
abbrev main_v917 : Ref sig .tc := ⟨.hbm, 1094, rfl⟩
abbrev main_v918 : Ref sig .tc := ⟨.hbm, 1095, rfl⟩
abbrev main_v919 : Ref sig .tc := ⟨.hbm, 1096, rfl⟩
abbrev main_v920 : Ref sig .tc := ⟨.hbm, 1097, rfl⟩
abbrev main_v921 : Ref sig .tc := ⟨.hbm, 1098, rfl⟩
abbrev main_v922 : Ref sig .tc := ⟨.hbm, 1099, rfl⟩
abbrev main_v923 : Ref sig .tc := ⟨.hbm, 1100, rfl⟩
abbrev main_v924 : Ref sig .tc := ⟨.hbm, 1101, rfl⟩
abbrev main_v925 : Ref sig .tc := ⟨.hbm, 1102, rfl⟩
abbrev main_v926 : Ref sig .tc := ⟨.hbm, 1103, rfl⟩
abbrev main_v927 : Ref sig .tc := ⟨.hbm, 1104, rfl⟩
abbrev main_v928 : Ref sig .tc := ⟨.hbm, 1105, rfl⟩
abbrev main_v929 : Ref sig .tc := ⟨.hbm, 1106, rfl⟩
abbrev main_v930 : Ref sig .tc := ⟨.hbm, 1107, rfl⟩
abbrev main_v931 : Ref sig .tc := ⟨.hbm, 1108, rfl⟩
abbrev main_v932 : Ref sig .tc := ⟨.hbm, 1109, rfl⟩
abbrev main_v933 : Ref sig .tc := ⟨.hbm, 1110, rfl⟩
abbrev main_v934 : Ref sig .tc := ⟨.hbm, 1111, rfl⟩
abbrev main_v935 : Ref sig .tc := ⟨.hbm, 1112, rfl⟩
abbrev main_v936 : Ref sig .tc := ⟨.hbm, 1113, rfl⟩
abbrev main_v937 : Ref sig .tc := ⟨.hbm, 1114, rfl⟩
abbrev main_v938 : Ref sig .tc := ⟨.hbm, 1115, rfl⟩
abbrev main_v939 : Ref sig .tc := ⟨.hbm, 1116, rfl⟩
abbrev main_v940 : Ref sig .tc := ⟨.hbm, 1117, rfl⟩
abbrev main_v941 : Ref sig .tc := ⟨.hbm, 1118, rfl⟩
abbrev main_v942 : Ref sig .tc := ⟨.hbm, 1119, rfl⟩
abbrev main_v943 : Ref sig .tc := ⟨.hbm, 1120, rfl⟩
abbrev main_v944 : Ref sig .tc := ⟨.hbm, 1121, rfl⟩
abbrev main_v945 : Ref sig .tc := ⟨.hbm, 1122, rfl⟩
abbrev main_v946 : Ref sig .tc := ⟨.hbm, 1123, rfl⟩
abbrev main_v947 : Ref sig .tc := ⟨.hbm, 1124, rfl⟩
abbrev main_v948 : Ref sig .tc := ⟨.hbm, 1125, rfl⟩
abbrev main_v949 : Ref sig .tc := ⟨.hbm, 1126, rfl⟩
abbrev main_v950 : Ref sig .tc := ⟨.hbm, 1127, rfl⟩
abbrev main_v951 : Ref sig .tc := ⟨.hbm, 1128, rfl⟩
abbrev main_v952 : Ref sig .tc := ⟨.hbm, 1129, rfl⟩
abbrev main_v953 : Ref sig .tc := ⟨.hbm, 1130, rfl⟩
abbrev main_v954 : Ref sig .tc := ⟨.hbm, 1131, rfl⟩
abbrev main_call27_cst : Ref sig .tc := ⟨.hbm, 1132, rfl⟩
abbrev main_call27_v0 : Ref sig .tc := ⟨.hbm, 1133, rfl⟩
abbrev main_call27_v1 : Ref sig .tc := ⟨.hbm, 1134, rfl⟩
abbrev main_call27_cst_0 : Ref sig .tc := ⟨.hbm, 1135, rfl⟩
abbrev main_call27_v2 : Ref sig .tc := ⟨.hbm, 1136, rfl⟩
abbrev main_call27_v3 : Ref sig .tc := ⟨.hbm, 1137, rfl⟩
abbrev main_v955 : Ref sig .tc := ⟨.hbm, 1138, rfl⟩
abbrev main_v956 : Ref sig .tc := ⟨.hbm, 1139, rfl⟩
abbrev main_v957 : Ref sig .tc := ⟨.hbm, 1140, rfl⟩
abbrev main_v958 : Ref sig .tc := ⟨.hbm, 1141, rfl⟩
abbrev main_v959 : Ref sig .tc := ⟨.hbm, 1142, rfl⟩
abbrev main_v960 : Ref sig .tc := ⟨.hbm, 1143, rfl⟩
abbrev main_v961 : Ref sig .tc := ⟨.hbm, 1144, rfl⟩
abbrev main_v962 : Ref sig .tc := ⟨.hbm, 1145, rfl⟩
abbrev main_v963 : Ref sig .tc := ⟨.hbm, 1146, rfl⟩
abbrev main_c_63 : Ref sig .tc := ⟨.hbm, 1147, rfl⟩
abbrev main_call28_v0 : Ref sig .tc := ⟨.hbm, 1148, rfl⟩
abbrev main_call28_v1 : Ref sig .tc := ⟨.hbm, 1149, rfl⟩
abbrev main_call28_v2 : Ref sig .tc := ⟨.hbm, 1150, rfl⟩
abbrev main_call28_v3 : Ref sig .tc := ⟨.hbm, 1151, rfl⟩
abbrev main_call28_v4 : Ref sig .tc := ⟨.hbm, 1152, rfl⟩
abbrev main_call28_v5 : Ref sig .tc := ⟨.hbm, 1153, rfl⟩
abbrev main_call28_v6 : Ref sig .tc := ⟨.hbm, 1154, rfl⟩
abbrev main_call28_v7 : Ref sig .tc := ⟨.hbm, 1155, rfl⟩
abbrev main_call28_v8 : Ref sig .tc := ⟨.hbm, 1156, rfl⟩
abbrev main_call28_c : Ref sig .tc := ⟨.hbm, 1157, rfl⟩
abbrev main_call28_v9 : Ref sig .tc := ⟨.hbm, 1158, rfl⟩
abbrev main_call28_v10 : Ref sig .tc := ⟨.hbm, 1159, rfl⟩
abbrev main_call28_v11 : Ref sig .tc := ⟨.hbm, 1160, rfl⟩
abbrev main_call28_c_0 : Ref sig .tc := ⟨.hbm, 1161, rfl⟩
abbrev main_call28_v12 : Ref sig .tc := ⟨.hbm, 1162, rfl⟩
abbrev main_call28_v13 : Ref sig .tc := ⟨.hbm, 1163, rfl⟩
abbrev main_v964 : Ref sig .tc := ⟨.hbm, 1164, rfl⟩
abbrev main_v965 : Ref sig .tc := ⟨.hbm, 1165, rfl⟩
abbrev main_c_64 : Ref sig .tc := ⟨.hbm, 1166, rfl⟩
abbrev main_call29_v0 : Ref sig .tc := ⟨.hbm, 1167, rfl⟩
abbrev main_call29_c : Ref sig .tc := ⟨.hbm, 1168, rfl⟩
abbrev main_call29_v1 : Ref sig .tc := ⟨.hbm, 1169, rfl⟩
abbrev main_call29_c_0 : Ref sig .tc := ⟨.hbm, 1170, rfl⟩
abbrev main_call29_v2 : Ref sig .tc := ⟨.hbm, 1171, rfl⟩
abbrev main_call29_v3 : Ref sig .tc := ⟨.hbm, 1172, rfl⟩
abbrev main_call29_v4 : Ref sig .tc := ⟨.hbm, 1173, rfl⟩
abbrev main_call29_c_1 : Ref sig .tc := ⟨.hbm, 1174, rfl⟩
abbrev main_call29_v5 : Ref sig .tc := ⟨.hbm, 1175, rfl⟩
abbrev main_call29_v6 : Ref sig .tc := ⟨.hbm, 1176, rfl⟩
abbrev main_call29_c_2 : Ref sig .tc := ⟨.hbm, 1177, rfl⟩
abbrev main_call29_v7 : Ref sig .tc := ⟨.hbm, 1178, rfl⟩
abbrev main_call29_v8 : Ref sig .tc := ⟨.hbm, 1179, rfl⟩
abbrev main_call29_c_3 : Ref sig .tc := ⟨.hbm, 1180, rfl⟩
abbrev main_call29_v9 : Ref sig .tc := ⟨.hbm, 1181, rfl⟩
abbrev main_call29_v10 : Ref sig .tc := ⟨.hbm, 1182, rfl⟩
abbrev main_call29_v11 : Ref sig .tc := ⟨.hbm, 1183, rfl⟩
abbrev main_call29_v12 : Ref sig .tc := ⟨.hbm, 1184, rfl⟩
abbrev main_call29_v13 : Ref sig .tc := ⟨.hbm, 1185, rfl⟩
abbrev main_call29_v14 : Ref sig .tc := ⟨.hbm, 1186, rfl⟩
abbrev main_v966 : Ref sig .tc := ⟨.hbm, 1187, rfl⟩
abbrev main_v967 : Ref sig .tc := ⟨.hbm, 1188, rfl⟩
abbrev main_v968 : Ref sig .tc := ⟨.hbm, 1189, rfl⟩
abbrev main_v969 : Ref sig .tc := ⟨.hbm, 1190, rfl⟩
abbrev main_v970 : Ref sig .tc := ⟨.hbm, 1191, rfl⟩
abbrev main_v971 : Ref sig .tc := ⟨.hbm, 1192, rfl⟩
abbrev main_v972 : Ref sig .tc := ⟨.hbm, 1193, rfl⟩
abbrev main_v973 : Ref sig .tc := ⟨.hbm, 1194, rfl⟩
abbrev main_v974 : Ref sig .tc := ⟨.hbm, 1195, rfl⟩
abbrev main_v975 : Ref sig .tc := ⟨.hbm, 1196, rfl⟩
abbrev main_v976 : Ref sig .tc := ⟨.hbm, 1197, rfl⟩
abbrev main_v977 : Ref sig .tc := ⟨.hbm, 1198, rfl⟩
abbrev main_v978 : Ref sig .tc := ⟨.hbm, 1199, rfl⟩
abbrev main_v979 : Ref sig .tc := ⟨.hbm, 1200, rfl⟩
abbrev main_v980 : Ref sig .tc := ⟨.hbm, 1201, rfl⟩
abbrev main_v981 : Ref sig .tc := ⟨.hbm, 1202, rfl⟩
abbrev main_v982 : Ref sig .tc := ⟨.hbm, 1203, rfl⟩
abbrev main_c_65 : Ref sig .tc := ⟨.hbm, 1204, rfl⟩
abbrev main_v983 : Ref sig .tc := ⟨.hbm, 1205, rfl⟩
abbrev main_v984 : Ref sig .tc := ⟨.hbm, 1206, rfl⟩
abbrev main_v985 : Ref sig .tc := ⟨.hbm, 1207, rfl⟩
abbrev main_v986 : Ref sig .tc := ⟨.hbm, 1208, rfl⟩
abbrev main_v987 : Ref sig .tc := ⟨.hbm, 1209, rfl⟩
abbrev main_v988 : Ref sig .tc := ⟨.hbm, 1210, rfl⟩
abbrev main_v989 : Ref sig .tc := ⟨.hbm, 1211, rfl⟩
abbrev main_v990 : Ref sig .tc := ⟨.hbm, 1212, rfl⟩
abbrev main_v991 : Ref sig .tc := ⟨.hbm, 1213, rfl⟩
abbrev main_v992 : Ref sig .tc := ⟨.hbm, 1214, rfl⟩
abbrev main_v993 : Ref sig .tc := ⟨.hbm, 1215, rfl⟩
abbrev main_cst_66 : Ref sig .tc := ⟨.hbm, 1216, rfl⟩
abbrev main_call30_cst : Ref sig .tc := ⟨.hbm, 1217, rfl⟩
abbrev main_call30_v0 : Ref sig .tc := ⟨.hbm, 1218, rfl⟩
abbrev main_call30_v1 : Ref sig .tc := ⟨.hbm, 1219, rfl⟩
abbrev main_call30_v2 : Ref sig .tc := ⟨.hbm, 1220, rfl⟩
abbrev main_call30_v3 : Ref sig .tc := ⟨.hbm, 1221, rfl⟩
abbrev main_call30_v4 : Ref sig .tc := ⟨.hbm, 1222, rfl⟩
abbrev main_v994 : Ref sig .tc := ⟨.hbm, 1223, rfl⟩
abbrev main_v995 : Ref sig .tc := ⟨.hbm, 1224, rfl⟩
abbrev main_cst_67 : Ref sig .tc := ⟨.hbm, 1225, rfl⟩
abbrev main_call31_v0 : Ref sig .tc := ⟨.hbm, 1226, rfl⟩
abbrev main_call31_v1 : Ref sig .tc := ⟨.hbm, 1227, rfl⟩
abbrev main_call31_v2 : Ref sig .tc := ⟨.hbm, 1228, rfl⟩
abbrev main_v996 : Ref sig .tc := ⟨.hbm, 1229, rfl⟩
abbrev main_cst_68 : Ref sig .tc := ⟨.hbm, 1230, rfl⟩
abbrev main_v997 : Ref sig .tc := ⟨.hbm, 1231, rfl⟩
abbrev main_cst_69 : Ref sig .tc := ⟨.hbm, 1232, rfl⟩
abbrev main_v998 : Ref sig .tc := ⟨.hbm, 1233, rfl⟩
abbrev main_v999 : Ref sig .tc := ⟨.hbm, 1234, rfl⟩
abbrev main_v1000 : Ref sig .tc := ⟨.hbm, 1235, rfl⟩
abbrev main_v1001 : Ref sig .tc := ⟨.hbm, 1236, rfl⟩
abbrev main_v1002 : Ref sig .tc := ⟨.hbm, 1237, rfl⟩
abbrev main_v1003 : Ref sig .tc := ⟨.hbm, 1238, rfl⟩
abbrev main_cst_70 : Ref sig .tc := ⟨.hbm, 1239, rfl⟩
abbrev main_v1004 : Ref sig .tc := ⟨.hbm, 1240, rfl⟩
abbrev main_v1005 : Ref sig .tc := ⟨.hbm, 1241, rfl⟩
abbrev main_v1006 : Ref sig .tc := ⟨.hbm, 1242, rfl⟩
abbrev main_v1007 : Ref sig .tc := ⟨.hbm, 1243, rfl⟩
abbrev main_v1008 : Ref sig .tc := ⟨.hbm, 1244, rfl⟩
abbrev main_v1009 : Ref sig .tc := ⟨.hbm, 1245, rfl⟩
abbrev main_v1010 : Ref sig .tc := ⟨.hbm, 1246, rfl⟩
abbrev main_v1011 : Ref sig .tc := ⟨.hbm, 1247, rfl⟩
abbrev main_v1012 : Ref sig .tc := ⟨.hbm, 1248, rfl⟩
abbrev main_v1013 : Ref sig .tc := ⟨.hbm, 1249, rfl⟩
abbrev main_v1014 : Ref sig .tc := ⟨.hbm, 1250, rfl⟩
abbrev main_v1015 : Ref sig .tc := ⟨.hbm, 1251, rfl⟩
abbrev main_cst_71 : Ref sig .tc := ⟨.hbm, 1252, rfl⟩
abbrev main_call32_cst : Ref sig .tc := ⟨.hbm, 1253, rfl⟩
abbrev main_call32_v0 : Ref sig .tc := ⟨.hbm, 1254, rfl⟩
abbrev main_call32_v1 : Ref sig .tc := ⟨.hbm, 1255, rfl⟩
abbrev main_call32_v2 : Ref sig .tc := ⟨.hbm, 1256, rfl⟩
abbrev main_call32_v3 : Ref sig .tc := ⟨.hbm, 1257, rfl⟩
abbrev main_call32_v4 : Ref sig .tc := ⟨.hbm, 1258, rfl⟩
abbrev main_v1016 : Ref sig .tc := ⟨.hbm, 1259, rfl⟩
abbrev main_v1017 : Ref sig .tc := ⟨.hbm, 1260, rfl⟩
abbrev main_cst_72 : Ref sig .tc := ⟨.hbm, 1261, rfl⟩
abbrev main_call33_v0 : Ref sig .tc := ⟨.hbm, 1262, rfl⟩
abbrev main_call33_v1 : Ref sig .tc := ⟨.hbm, 1263, rfl⟩
abbrev main_call33_v2 : Ref sig .tc := ⟨.hbm, 1264, rfl⟩
abbrev main_v1018 : Ref sig .tc := ⟨.hbm, 1265, rfl⟩
abbrev main_cst_73 : Ref sig .tc := ⟨.hbm, 1266, rfl⟩
abbrev main_v1019 : Ref sig .tc := ⟨.hbm, 1267, rfl⟩
abbrev main_cst_74 : Ref sig .tc := ⟨.hbm, 1268, rfl⟩
abbrev main_v1020 : Ref sig .tc := ⟨.hbm, 1269, rfl⟩
abbrev main_v1021 : Ref sig .tc := ⟨.hbm, 1270, rfl⟩
abbrev main_v1022 : Ref sig .tc := ⟨.hbm, 1271, rfl⟩
abbrev main_v1023 : Ref sig .tc := ⟨.hbm, 1272, rfl⟩
abbrev main_v1024 : Ref sig .tc := ⟨.hbm, 1273, rfl⟩
abbrev main_v1025 : Ref sig .tc := ⟨.hbm, 1274, rfl⟩
abbrev main_cst_75 : Ref sig .tc := ⟨.hbm, 1275, rfl⟩
abbrev main_v1026 : Ref sig .tc := ⟨.hbm, 1276, rfl⟩
abbrev main_v1027 : Ref sig .tc := ⟨.hbm, 1277, rfl⟩
abbrev main_v1028 : Ref sig .tc := ⟨.hbm, 1278, rfl⟩
abbrev main_v1029 : Ref sig .tc := ⟨.hbm, 1279, rfl⟩
abbrev main_v1030 : Ref sig .tc := ⟨.hbm, 1280, rfl⟩
abbrev main_call34_cst : Ref sig .tc := ⟨.hbm, 1281, rfl⟩
abbrev main_call34_v0 : Ref sig .tc := ⟨.hbm, 1282, rfl⟩
abbrev main_call34_v1 : Ref sig .tc := ⟨.hbm, 1283, rfl⟩
abbrev main_call34_cst_0 : Ref sig .tc := ⟨.hbm, 1284, rfl⟩
abbrev main_call34_v2 : Ref sig .tc := ⟨.hbm, 1285, rfl⟩
abbrev main_call34_v3 : Ref sig .tc := ⟨.hbm, 1286, rfl⟩
abbrev main_call34_cst_1 : Ref sig .tc := ⟨.hbm, 1287, rfl⟩
abbrev main_call34_call0_v0 : Ref sig .tc := ⟨.hbm, 1288, rfl⟩
abbrev main_call34_call0_v1 : Ref sig .tc := ⟨.hbm, 1289, rfl⟩
abbrev main_call34_v4 : Ref sig .tc := ⟨.hbm, 1290, rfl⟩
abbrev main_call34_v5 : Ref sig .tc := ⟨.hbm, 1291, rfl⟩
abbrev main_call34_cst_2 : Ref sig .tc := ⟨.hbm, 1292, rfl⟩
abbrev main_call34_v6 : Ref sig .tc := ⟨.hbm, 1293, rfl⟩
abbrev main_call34_v7 : Ref sig .tc := ⟨.hbm, 1294, rfl⟩
abbrev main_v1031 : Ref sig .tc := ⟨.hbm, 1295, rfl⟩
abbrev main_call35_cst : Ref sig .tc := ⟨.hbm, 1296, rfl⟩
abbrev main_call35_v0 : Ref sig .tc := ⟨.hbm, 1297, rfl⟩
abbrev main_call35_cst_0 : Ref sig .tc := ⟨.hbm, 1298, rfl⟩
abbrev main_call35_v1 : Ref sig .tc := ⟨.hbm, 1299, rfl⟩
abbrev main_call35_v2 : Ref sig .tc := ⟨.hbm, 1300, rfl⟩
abbrev main_call35_v3 : Ref sig .tc := ⟨.hbm, 1301, rfl⟩
abbrev main_call35_v4 : Ref sig .tc := ⟨.hbm, 1302, rfl⟩
abbrev main_call35_v5 : Ref sig .tc := ⟨.hbm, 1303, rfl⟩
abbrev main_call35_v6 : Ref sig .tc := ⟨.hbm, 1304, rfl⟩
abbrev main_call35_cst_1 : Ref sig .tc := ⟨.hbm, 1305, rfl⟩
abbrev main_call35_v7 : Ref sig .tc := ⟨.hbm, 1306, rfl⟩
abbrev main_call35_v8 : Ref sig .tc := ⟨.hbm, 1307, rfl⟩
abbrev main_call35_v9 : Ref sig .tc := ⟨.hbm, 1308, rfl⟩
abbrev main_call35_v10 : Ref sig .tc := ⟨.hbm, 1309, rfl⟩
abbrev main_v1032 : Ref sig .tc := ⟨.hbm, 1310, rfl⟩
abbrev main_v1033 : Ref sig .tc := ⟨.hbm, 1311, rfl⟩
abbrev main_cst_76 : Ref sig .tc := ⟨.hbm, 1312, rfl⟩
abbrev main_v1034 : Ref sig .tc := ⟨.hbm, 1313, rfl⟩
abbrev main_cst_77 : Ref sig .tc := ⟨.hbm, 1314, rfl⟩
abbrev main_v1035 : Ref sig .tc := ⟨.hbm, 1315, rfl⟩
abbrev main_v1036 : Ref sig .tc := ⟨.hbm, 1316, rfl⟩
abbrev main_v1037 : Ref sig .tc := ⟨.hbm, 1317, rfl⟩
abbrev main_v1038 : Ref sig .tc := ⟨.hbm, 1318, rfl⟩
abbrev main_cst_78 : Ref sig .tc := ⟨.hbm, 1319, rfl⟩
abbrev main_v1039 : Ref sig .tc := ⟨.hbm, 1320, rfl⟩
abbrev main_cst_79 : Ref sig .tc := ⟨.hbm, 1321, rfl⟩
abbrev main_v1040 : Ref sig .tc := ⟨.hbm, 1322, rfl⟩
abbrev main_v1041 : Ref sig .tc := ⟨.hbm, 1323, rfl⟩
abbrev main_cst_80 : Ref sig .tc := ⟨.hbm, 1324, rfl⟩
abbrev main_v1042 : Ref sig .tc := ⟨.hbm, 1325, rfl⟩
abbrev main_v1043 : Ref sig .tc := ⟨.hbm, 1326, rfl⟩
abbrev main_v1044 : Ref sig .tc := ⟨.hbm, 1327, rfl⟩
abbrev main_cst_81 : Ref sig .tc := ⟨.hbm, 1328, rfl⟩
abbrev main_v1045 : Ref sig .tc := ⟨.hbm, 1329, rfl⟩
abbrev main_cst_82 : Ref sig .tc := ⟨.hbm, 1330, rfl⟩
abbrev main_v1046 : Ref sig .tc := ⟨.hbm, 1331, rfl⟩
abbrev main_v1047 : Ref sig .tc := ⟨.hbm, 1332, rfl⟩
abbrev main_cst_83 : Ref sig .tc := ⟨.hbm, 1333, rfl⟩
abbrev main_v1048 : Ref sig .tc := ⟨.hbm, 1334, rfl⟩
abbrev main_v1049 : Ref sig .tc := ⟨.hbm, 1335, rfl⟩
abbrev main_v1050 : Ref sig .tc := ⟨.hbm, 1336, rfl⟩
abbrev main_cst_84 : Ref sig .tc := ⟨.hbm, 1337, rfl⟩
abbrev main_v1051 : Ref sig .tc := ⟨.hbm, 1338, rfl⟩
abbrev main_cst_85 : Ref sig .tc := ⟨.hbm, 1339, rfl⟩
abbrev main_v1052 : Ref sig .tc := ⟨.hbm, 1340, rfl⟩
abbrev main_v1053 : Ref sig .tc := ⟨.hbm, 1341, rfl⟩
abbrev main_cst_86 : Ref sig .tc := ⟨.hbm, 1342, rfl⟩
abbrev main_v1054 : Ref sig .tc := ⟨.hbm, 1343, rfl⟩
abbrev main_v1055 : Ref sig .tc := ⟨.hbm, 1344, rfl⟩
abbrev main_v1056 : Ref sig .tc := ⟨.hbm, 1345, rfl⟩
abbrev main_cst_87 : Ref sig .tc := ⟨.hbm, 1346, rfl⟩
abbrev main_v1057 : Ref sig .tc := ⟨.hbm, 1347, rfl⟩
abbrev main_cst_88 : Ref sig .tc := ⟨.hbm, 1348, rfl⟩
abbrev main_v1058 : Ref sig .tc := ⟨.hbm, 1349, rfl⟩
abbrev main_v1059 : Ref sig .tc := ⟨.hbm, 1350, rfl⟩
abbrev main_cst_89 : Ref sig .tc := ⟨.hbm, 1351, rfl⟩
abbrev main_v1060 : Ref sig .tc := ⟨.hbm, 1352, rfl⟩
abbrev main_v1061 : Ref sig .tc := ⟨.hbm, 1353, rfl⟩
abbrev main_v1062 : Ref sig .tc := ⟨.hbm, 1354, rfl⟩
abbrev main_cst_90 : Ref sig .tc := ⟨.hbm, 1355, rfl⟩
abbrev main_v1063 : Ref sig .tc := ⟨.hbm, 1356, rfl⟩
abbrev main_cst_91 : Ref sig .tc := ⟨.hbm, 1357, rfl⟩
abbrev main_v1064 : Ref sig .tc := ⟨.hbm, 1358, rfl⟩
abbrev main_v1065 : Ref sig .tc := ⟨.hbm, 1359, rfl⟩
abbrev main_cst_92 : Ref sig .tc := ⟨.hbm, 1360, rfl⟩
abbrev main_v1066 : Ref sig .tc := ⟨.hbm, 1361, rfl⟩
abbrev main_v1067 : Ref sig .tc := ⟨.hbm, 1362, rfl⟩
abbrev main_v1068 : Ref sig .tc := ⟨.hbm, 1363, rfl⟩
abbrev main_v1069 : Ref sig .tc := ⟨.hbm, 1364, rfl⟩

abbrev nD : Nat := 1
abbrev τ : Topo := Topo.v7x

variable {F : FTy → Type} [FloatOps F]
-- ==== Proof.KernelIdeal.Region0.lean ====
/- The first region of the program (the global branch): the triple of its body in the two cases of its conditionals,
   what its accumulated output holds point by point, and the obligation of its pipeline, at any contents on entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 30) — by arithmetic of the point. -/
theorem hcond0_0 : ∀ t : Fin cfg0.N, cond0_0 (grid0.coords t) ↔ t.val % 30 = 0 :=
  (fun t => by
    have ht : t.val < 240 := Nat.lt_of_lt_of_eq t.isLt N_0
    have e0 : (grid0.coords t 0).val = t.val / 30 % 8 := Pipeline.Grid.coords_val t 0 (by decide) rfl
    have e1 : (grid0.coords t 1).val = t.val / 1 % 30 := Pipeline.Grid.coords_val t 1 (by decide) rfl
    simp only [cond0_0, k0_cond1, e0, e1]
    word_cmp
   : ∀ t : Fin grid0.N, cond0_0 (grid0.coords t) ↔ t.val % 30 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 30 :=
  (fun t => by
    have ht : t.val < 240 := Nat.lt_of_lt_of_eq t.isLt N_0
    have e0 : (grid0.coords t 0).val = t.val / 30 % 8 := Pipeline.Grid.coords_val t 0 (by decide) rfl
    have e1 : (grid0.coords t 1).val = t.val / 1 % 30 := Pipeline.Grid.coords_val t 1 (by decide) rfl
    simp only [cond0_1, k0_cond2, e0, e1]
    word_cmp
   : ∀ t : Fin grid0.N, cond0_1 (grid0.coords t) ↔ 1 ≤ t.val % 30)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Whether output 7's buffer is FRESH at each position `1 ‥ N` — holds nothing the body stored since the region's entry or the
    last write-back (written back at the point before, or idle there and fresh before it) —, as a bitmask:
    bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x800000020000000800000020000000800000020000000800000020000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → cond0_1 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 7, through which its contents are stated (`View.read_writes_of_cover`: the
    choice does not matter). -/
abbrev VO0_7 : View sig .tc .vmem S1x256x128 .f32 := (Memref.whole cc0_stg7_0 : Memref sig .tc .vmem S1x256x128 .f32).view
/-- Each window's current staging memref at point `t`, spelled as the pipeline passes it (`bodyAt0`), and its wholeness. -/
abbrev ms0_0 (t : Fin cfg0.N) : Memref sig .tc .vmem S1x1x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S25x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S576x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S576x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256x128 .f32 := win0_7.stage (cfg0.slots t 7)
abbrev hs0_7 (t : Fin cfg0.N) : (ms0_7 t).IsWhole := hstage0_7 ((cfg0.slots t 7).cast nbuf0_7)

-- (the run is a long proof)
set_option maxHeartbeats 1000000 in
/-- What the body's stores leave in each output's staging memref, as pieces (last first) IN CASE A (`scf.if` 0 taken, `scf.if` 1 not taken: points 0, 30, … 210: 8 of 240), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : cond0_0 i) (hc1 : ¬cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) :
    { L7 : List (View.Piece (Elt F) S1x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_rgp_global i arg2 harg2 arg3 harg3 arg4 harg4 arg5 harg5 arg6 harg6 arg7 harg7 arg8 harg8 arg9 harg9) K } := by
  refine ⟨?_, fun E K => ?run⟩
  case run =>
    simp only [cc0_rgp_global_eq_skeleton]; unfold cc0_rgp_global_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

-- (the run is a long proof)
set_option maxHeartbeats 1000000 in
/-- What the body's stores leave in each output's staging memref, as pieces (last first) IN CASE B (`scf.if` 0 not taken, `scf.if` 1 taken: points 1, 2, … 239: 232 of 240), WITH the
    proof that on whole staging memrefs — the inputs' at their contents, the outputs it reads before covering (7) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : ¬cond0_0 i) (hc1 : cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) (xo7 : Vec F S1x256x128 .f32) :
    { L7 : List (View.Piece (Elt F) S1x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_rgp_global i arg2 harg2 arg3 harg3 arg4 harg4 arg5 harg5 arg6 harg6 arg7 harg7 arg8 harg8 arg9 harg9) K } := by
  refine ⟨?_, fun E K => ?run⟩
  case run =>
    simp only [cc0_rgp_global_eq_skeleton]; unfold cc0_rgp_global_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

-- the buffer contents with which a region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Case A's pieces for output 7 tile its block (1 store of `S1x256x128`, checked by the kernel's evaluation: Lib/Ring.lean `Piece.tiledL`, linear in the pieces, through a loop's `@[irreducible]` trip theorem too), so they cover it. -/
theorem cover0_A_7 (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : cond0_0 i) (hc1 : ¬cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) (y : S1x256x128.Idx) :
    ∃ pc ∈ (kernelRun0_A c i arg2 harg2 arg3 harg3 arg4 harg4 arg5 harg5 arg6 harg6 arg7 harg7 arg8 harg8 arg9 harg9 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5 x6).1 S1x256x128.size (by sl_kernel_rfl) y

/-- What case A leaves in output 7's staging buffer: its pieces read back over junk. -/
def out0_A_7 (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : cond0_0 i) (hc1 : ¬cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) : Vec F S1x256x128 .f32 :=
  VO0_7.read (Elt F) (VO0_7.writes (Elt F) VO0_7.junk (kernelRun0_A c i arg2 harg2 arg3 harg3 arg4 harg4 arg5 harg5 arg6 harg6 arg7 harg7 arg8 harg8 arg9 harg9 hc0 hc1 x0 x1 x2 x3 x4 x5 x6).1)

/-- Case B's pieces for output 7 tile its block (1 store of `S1x256x128`, checked by the kernel's evaluation: Lib/Ring.lean `Piece.tiledL`, linear in the pieces, through a loop's `@[irreducible]` trip theorem too), so they cover it. -/
theorem cover0_B_7 (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : ¬cond0_0 i) (hc1 : cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) (xo7 : Vec F S1x256x128 .f32) (y : S1x256x128.Idx) :
    ∃ pc ∈ (kernelRun0_B c i arg2 harg2 arg3 harg3 arg4 harg4 arg5 harg5 arg6 harg6 arg7 harg7 arg8 harg8 arg9 harg9 hc0 hc1 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 x6 xo7).1 S1x256x128.size (by sl_kernel_rfl) y

/-- What case B leaves in output 7's staging buffer: its pieces read back over junk. -/
def out0_B_7 (c : Dev nD) (i : grid0.Coords) (arg2 : Memref sig .tc .vmem S1x1x64x64 .f32) (harg2 : arg2.IsWhole) (arg3 : Memref sig .tc .vmem S25x32 .f32) (harg3 : arg3.IsWhole) (arg4 : Memref sig .tc .vmem S288x32 .f32) (harg4 : arg4.IsWhole) (arg5 : Memref sig .tc .vmem S288x64 .f32) (harg5 : arg5.IsWhole) (arg6 : Memref sig .tc .vmem S576x64 .f32) (harg6 : arg6.IsWhole) (arg7 : Memref sig .tc .vmem S576x128 .f32) (harg7 : arg7.IsWhole) (arg8 : Memref sig .tc .vmem S1152x128 .f32) (harg8 : arg8.IsWhole) (arg9 : Memref sig .tc .vmem S1x256x128 .f32) (harg9 : arg9.IsWhole) (hc0 : ¬cond0_0 i) (hc1 : cond0_1 i)
    (x0 : Vec F S1x1x64x64 .f32) (x1 : Vec F S25x32 .f32) (x2 : Vec F S288x32 .f32) (x3 : Vec F S288x64 .f32) (x4 : Vec F S576x64 .f32) (x5 : Vec F S576x128 .f32) (x6 : Vec F S1152x128 .f32) (xo7 : Vec F S1x256x128 .f32) : Vec F S1x256x128 .f32 :=
  VO0_7.read (Elt F) (VO0_7.writes (Elt F) VO0_7.junk (kernelRun0_B c i arg2 harg2 arg3 harg3 arg4 harg4 arg5 harg5 arg6 harg6 arg7 harg7 arg8 harg8 arg9 harg9 hc0 hc1 x0 x1 x2 x3 x4 x5 x6 xo7).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x256x128 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)
  | n + 1, hn =>
    if h0 : (n + 1) % 30 = 0 then
      if h1 : 1 ≤ (n + 1) % 30 then
        False.elim (by have hN : n + 1 < 240 := lt_of_lt_of_eq hn (show cfg0.N = 240 from N_0); omega)
      else
        out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩)
    else
      if h1 : 1 ≤ (n + 1) % 30 then
        out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn))
      else
        False.elim (by have hN : n + 1 < 240 := lt_of_lt_of_eq hn (show cfg0.N = 240 from N_0); omega)

/-- `outsAt0` at a point of case A: that case's contents. -/
theorem outsAt0_A (c : Dev nD) (t : Fin cfg0.N) (h0 : t.val % 30 = 0) (h1 : ¬1 ≤ t.val % 30) :
    outsAt0 V c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 30 = 0) (h1 : 1 ≤ t.val % 30) :
    outsAt0 V c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dat0 V c).after 7 t = (dat0 V c).after 7 ⟨t.val - 1, by omega⟩ := by
  intro t _ hi _
  have hN : t.val < 240 := lt_of_lt_of_eq t.isLt (show cfg0.N = 240 from N_0)
  rw [after0_7, after0_7]
  by_cases h0 : t.val % 30 = 0
  · by_cases h1 : 1 ≤ t.val % 30
    · exfalso; omega
    · rw [liveAt0_7_A t ((hcond0_0 t).mpr h0) (fun h => h1 ((hcond0_1 t).mp h))] at hi
      exact absurd hi Bool.false_ne_true
  · by_cases h1 : 1 ≤ t.val % 30
    · rw [liveAt0_7_B t (fun h => h0 ((hcond0_0 t).mp h)) ((hcond0_1 t).mpr h1)] at hi
      exact absurd hi Bool.false_ne_true
    · exfalso; omega
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 30 = 0) (h1 : 1 ≤ t.val % 30) (d) :
    (dat0 V c).before 7 t d = (outsAt0 V c (t.val - 1) (Nat.lt_of_le_of_lt (Nat.sub_le _ _) t.isLt)) := by
  rw [Dat.before_out_traj _ 7 rfl (fun _ _ => rfl) (hcarry0_7 V c) t.val t rfl d,
    if_neg (by rw [notFresh0_7_B t (fun h => h0 ((hcond0_0 t).mp h)) ((hcond0_1 t).mpr h1)]; exact Bool.false_ne_true)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl]
  have hN : t.val < 240 := lt_of_lt_of_eq t.isLt (show cfg0.N = 240 from N_0)
  by_cases h0 : t.val % 30 = 0
  · by_cases h1 : 1 ≤ t.val % 30
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_A t ((hcond0_0 t).mpr h0) (fun h => h1 ((hcond0_1 t).mp h))], after0_7]
      rw [outsAt0_A V c t h0 h1]
      unfold out0_A_7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases h1 : 1 ≤ t.val % 30
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7_B t (fun h => h0 ((hcond0_0 t).mp h)) ((hcond0_1 t).mpr h1)], after0_7]
      rw [outsAt0_B V c t h0 h1]
      simp only [before0_7_B V c t h0 h1]
      unfold out0_B_7
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Regions.lean ====
/- The dense, the local and the graph regions of the program: the triple of each body and the obligation of each pipeline,
   at any contents on entry. -/
module

public import proofs.«01_k».proof.Proof.KernelIdeal.Region0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents with which a region is entered
variable (V : (c : Dev nD) → (b : Ref sig .tc) → Buf (Elt F) ((c : Thread nD τ).loc b))

/-! # REGION 1 of @main: custom_call 1, `cc1_rgp_fcg` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-! ## The kernel body on any staging memrefs: a subtype the run finds -/

/-- One staging buffer of output window 3, through which its contents are stated (`View.read_writes_of_cover`: the
    choice does not matter). -/
abbrev VO1_3 : View sig .tc .vmem S8x256 .f32 := (Memref.whole cc1_stg3_0 : Memref sig .tc .vmem S8x256 .f32).view
/-- Each window's current staging memref at point `t`, spelled as the pipeline passes it (`bodyAt1`), and its wholeness. -/
abbrev ms1_0 (t : Fin cfg1.N) : Memref sig .tc .vmem S8x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256 .f32 := win1_3.stage (cfg1.slots t 3)
abbrev hs1_3 (t : Fin cfg1.N) : (ms1_3 t).IsWhole := hstage1_3 ((cfg1.slots t 3).cast nbuf1_3)

-- (the run is a long proof)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : cond1_0 i)
    (x0 : Vec F S8x2048 .f32) (x1 : Vec F S2048x256 .f32) (x2 : Vec F S1x256 .f32) :
    { L3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_rgp_fcg i arg1 harg1 arg2 harg2 arg3 harg3 arg4 harg4) K } := by
  refine ⟨?_, fun E K => ?run⟩
  case run =>
    simp only [cc1_rgp_fcg_eq_skeleton]; unfold cc1_rgp_fcg_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Case A's pieces for output 3 tile its block (2 stores of `S8x256`, checked by the kernel's evaluation: Lib/Ring.lean `Piece.tiledL`, linear in the pieces, through a loop's `@[irreducible]` trip theorem too), so they cover it. -/
theorem cover1_A_3 (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : cond1_0 i)
    (x0 : Vec F S8x2048 .f32) (x1 : Vec F S2048x256 .f32) (x2 : Vec F S1x256 .f32) (y : S8x256.Idx) :
    ∃ pc ∈ (kernelRun1_A c i arg1 harg1 arg2 harg2 arg3 harg3 arg4 harg4 hc0 x0 x1 x2).1, y ∈ pc.1.set :=
  View.cover_of_tiledL (kernelRun1_A c i arg1 harg1 arg2 harg2 arg3 harg3 arg4 harg4 hc0 x0 x1 x2).1 S8x256.size (by sl_kernel_rfl) y

/-- What case A leaves in output 3's staging buffer: its pieces read back over junk. -/
def out1_A_3 (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : cond1_0 i)
    (x0 : Vec F S8x2048 .f32) (x1 : Vec F S2048x256 .f32) (x2 : Vec F S1x256 .f32) : Vec F S8x256 .f32 :=
  VO1_3.read (Elt F) (VO1_3.writes (Elt F) VO1_3.junk (kernelRun1_A c i arg1 harg1 arg2 harg2 arg3 harg3 arg4 harg4 hc0 x0 x1 x2).1)

-- (the run is a long proof)
set_option maxHeartbeats 1000000 in
/-- What the body's stores leave in each output's staging memref, as pieces (last first) IN CASE B (`scf.if` 0 not taken: points 1, 2, … 15: 15 of 16), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : ¬cond1_0 i)
    (x0 : Vec F S8x2048 .f32) (x1 : Vec F S2048x256 .f32) (x2 : Vec F S1x256 .f32) (xo3 : Vec F S8x256 .f32) :
    { L3 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc1_rgp_fcg i arg1 harg1 arg2 harg2 arg3 harg3 arg4 harg4) K } := by
  refine ⟨?_, fun E K => ?run⟩
  case run =>
    simp only [cc1_rgp_fcg_eq_skeleton]; unfold cc1_rgp_fcg_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- Case B's pieces for output 3 tile its block (1 store of `S8x256`, checked by the kernel's evaluation: Lib/Ring.lean `Piece.tiledL`, linear in the pieces, through a loop's `@[irreducible]` trip theorem too), so they cover it. -/
theorem cover1_B_3 (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : ¬cond1_0 i)
    (x0 : Vec F S8x2048 .f32) (x1 : Vec F S2048x256 .f32) (x2 : Vec F S1x256 .f32) (xo3 : Vec F S8x256 .f32) (y : S8x256.Idx) :
    ∃ pc ∈ (kernelRun1_B c i arg1 harg1 arg2 harg2 arg3 harg3 arg4 harg4 hc0 x0 x1 x2 xo3).1, y ∈ pc.1.set :=
  View.cover_of_tiledL (kernelRun1_B c i arg1 harg1 arg2 harg2 arg3 harg3 arg4 harg4 hc0 x0 x1 x2 xo3).1 S8x256.size (by sl_kernel_rfl) y

/-- What case B leaves in output 3's staging buffer: its pieces read back over junk. -/
def out1_B_3 (c : Dev nD) (i : grid1.Coords) (arg1 : Memref sig .tc .vmem S8x2048 .f32) (harg1 : arg1.IsWhole) (arg2 : Memref sig .tc .vmem S2048x256 .f32) (harg2 : arg2.IsWhole) (arg3 : Memref sig .tc .vmem S1x256 .f32) (harg3 : arg3.IsWhole) (arg4 : Memref sig .tc .vmem S8x256 .f32) (harg4 : arg4.IsWhole) (hc0 : ¬cond1_0 i)
    (x0 : Vec F S8x2048 .f32) (x1 : Vec F S2048x256 .f32) (x2 : Vec F S1x256 .f32) (xo3 : Vec F S8x256 .f32) : Vec F S8x256 .f32 :=
  VO1_3.read (Elt F) (VO1_3.writes (Elt F) VO1_3.junk (kernelRun1_B c i arg1 harg1 arg2 harg2 arg3 harg3 arg4 harg4 hc0 x0 x1 x2 xo3).1)

/-! ## What the outputs hold after each point -/

/-- THE ACCUMULATION. What the outputs' staging buffers hold after the body at position `n`:
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S8x256 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩) (iblk1 V c 2 ⟨0, hn⟩)
  | n + 1, hn =>
    if h0 : (n + 1) % 16 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) ((hcond1_0 ⟨n + 1, hn⟩).mpr h0) (iblk1 V c 0 ⟨n + 1, hn⟩) (iblk1 V c 1 ⟨n + 1, hn⟩) (iblk1 V c 2 ⟨n + 1, hn⟩)
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn))

/-- `outsAt1` at a point of case A: that case's contents. -/
theorem outsAt1_A (c : Dev nD) (t : Fin cfg1.N) (h0 : t.val % 16 = 0) :
    outsAt1 V c t.val t.isLt = out1_A_3 c (grid1.coords t) (ms1_0 t) (hs1_0 t) (ms1_1 t) (hs1_1 t) (ms1_2 t) (hs1_2 t) (ms1_3 t) (hs1_3 t) ((hcond1_0 t).mpr h0) (iblk1 V c 0 t) (iblk1 V c 1 t) (iblk1 V c 2 t) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt = out1_B_3 c (grid1.coords t) (ms1_0 t) (hs1_0 t) (ms1_1 t) (hs1_1 t) (ms1_2 t) (hs1_2 t) (ms1_3 t) (hs1_3 t) (fun h => h0 ((hcond1_0 t).mp h)) (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 3's current staging buffer holds what the body left at the point before: the point is
    not the first, the buffer was not written back between (`flush1_3`), the window is live and uncut (Lib/Pipeline/Frame.lean
    `Dat.before_out_kept`). -/
theorem before1_3_B (c : Dev nD) (t : Fin cfg1.N) (h0 : ¬t.val % 16 = 0) (d) :
    (dat1 V c).before 3 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 16 := lt_of_lt_of_eq t.isLt (show cfg1.N = 16 from N_1)
  by_cases h0 : t.val % 16 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 c _ _ _ _ _ _ _ _ _ _ _ _ _)
  · rw [outsAt1_B V c t h0]
    simp only [before1_3_B V c t h0]
    unfold out1_B_3
    iintro ⟨HΦ, Ho, ⟨%d0, H0⟩, ⟨%d1, H1⟩, ⟨%d2, H2⟩, ⟨%d3, H3⟩⟩
    iapply ((kernelRun1_B c (grid1.coords t) _ _ _ _ _ _ _ _ (fun h => h0 ((hcond1_0 t).mp h)) (iblk1 V c 0 t) (iblk1 V c 1 t) (iblk1 V c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_rgp_local` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x1x64x64 := Rect.unit (s := S1x1x64x64) ![0, 0, 0, 0] S1x1x64x64.size inb_S1x1x64x64_S1x1x64x64_0_0_0_0
abbrev r2_1 : Rect S1x1x8x2 := Rect.unit (s := S1x1x8x2) ![0, 0, 0, 0] S1x1x8x2.size inb_S1x1x8x2_S1x1x8x2_0_0_0_0
abbrev r2_2 : Rect S25x32 := Rect.unit (s := S25x32) ![0, 0] S25x32.size inb_S25x32_S25x32_0_0
abbrev r2_3 : Rect S288x32 := Rect.unit (s := S288x32) ![0, 0] S288x32.size inb_S288x32_S288x32_0_0
abbrev r2_4 : Rect S288x64 := Rect.unit (s := S288x64) ![0, 0] S288x64.size inb_S288x64_S288x64_0_0
abbrev r2_5 : Rect S576x64 := Rect.unit (s := S576x64) ![0, 0] S576x64.size inb_S576x64_S576x64_0_0
abbrev r2_6 : Rect S576x128 := Rect.unit (s := S576x128) ![0, 0] S576x128.size inb_S576x128_S576x128_0_0
abbrev r2_7 : Rect S1152x128 := Rect.unit (s := S1152x128) ![0, 0] S1152x128.size inb_S1152x128_S1152x128_0_0
abbrev r2_8 : Rect S1x256 := Rect.unit (s := S1x256) ![0, 0] S1x256.size inb_S1x256_S1x256_0_0
abbrev r2_9 : Rect S3x3x128x256 := Rect.unit (s := S3x3x128x256) ![0, 0, 0, 0] S1x1x128x256.size inb_S3x3x128x256_S1x1x128x256_0_0_0_0
abbrev r2_10 : Rect S3x3x128x256 := Rect.unit (s := S3x3x128x256) ![0, 1, 0, 0] S1x1x128x256.size inb_S3x3x128x256_S1x1x128x256_0_1_0_0
abbrev r2_11 : Rect S3x3x128x256 := Rect.unit (s := S3x3x128x256) ![0, 2, 0, 0] S1x1x128x256.size inb_S3x3x128x256_S1x1x128x256_0_2_0_0
abbrev r2_12 : Rect S3x3x128x256 := Rect.unit (s := S3x3x128x256) ![1, 0, 0, 0] S1x1x128x256.size inb_S3x3x128x256_S1x1x128x256_1_0_0_0
abbrev r2_13 : Rect S3x3x128x256 := Rect.unit (s := S3x3x128x256) ![1, 1, 0, 0] S1x1x128x256.size inb_S3x3x128x256_S1x1x128x256_1_1_0_0
abbrev r2_14 : Rect S3x3x128x256 := Rect.unit (s := S3x3x128x256) ![1, 2, 0, 0] S1x1x128x256.size inb_S3x3x128x256_S1x1x128x256_1_2_0_0
abbrev r2_15 : Rect S3x3x128x256 := Rect.unit (s := S3x3x128x256) ![2, 0, 0, 0] S1x1x128x256.size inb_S3x3x128x256_S1x1x128x256_2_0_0_0
abbrev r2_16 : Rect S3x3x128x256 := Rect.unit (s := S3x3x128x256) ![2, 1, 0, 0] S1x1x128x256.size inb_S3x3x128x256_S1x1x128x256_2_1_0_0
abbrev r2_17 : Rect S3x3x128x256 := Rect.unit (s := S3x3x128x256) ![2, 2, 0, 0] S1x1x128x256.size inb_S3x3x128x256_S1x1x128x256_2_2_0_0
abbrev r2_18 : Rect S1x1x8x256 := Rect.unit (s := S1x1x8x256) ![0, 0, 0, 0] S1x1x8x256.size inb_S1x1x8x256_S1x1x8x256_0_0_0_0

/-! ## What the body leaves in each output window's buffer -/

/-! ### Values of the body that the stores' payloads, spelt out, would write more than once

    Each is a vector the body binds (often a part call's result), stated over the input windows' blocks and
    numbered on from the skeleton's payload functions (`k2_pay51` …, after `k2_pay50`), so that
    `out2_W` and the values after it name it instead of spelling it out (`unfold_out out2_W` opens a canon
    with them, `unfold_payloads` opens them with the payloads); the comment after each is the printed function's
    name for the value (a count appended where that name is bound again). -/

def k2_pay51 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x1 .f32 :=
  k2_pay6 (View.ld x1 r2_1) -- `v12`
def k2_pay52 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x1 .f32 :=
  k2_pay7 (View.ld x1 r2_1) -- `v17`
def k2_pay53 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x1 .f32 :=
  k2_pay8 (View.ld x1 r2_1) -- `v24`
def k2_pay54 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x1 .f32 :=
  k2_pay9 (View.ld x1 r2_1) -- `v29`
def k2_pay55 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14 .f32 :=
  k2_pay10 (F := F) -- `v33`
def k2_pay56 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14 .f32 :=
  k2_pay11 (View.ld x1 r2_1) -- `v36`
def k2_pay57 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14 .f32 :=
  k2_pay12 (F := F) -- `v37`
def k2_pay58 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14x14 .f32 :=
  k2_pay24 (k2_pay2 (View.ld x0 r2_0)) (k2_pay16 (k2_pay51 x0 x1 x2 x3 x4 x5 x6 x7 x8 x9) (k2_pay52 x0 x1 x2 x3 x4 x5 x6 x7 x8 x9) (k2_pay56 x0 x1 x2 x3 x4 x5 x6 x7 x8 x9) (k2_pay57 x0 x1 x2 x3 x4 x5 x6 x7 x8 x9)) (k2_pay17 (k2_pay51 x0 x1 x2 x3 x4 x5 x6 x7 x8 x9) (k2_pay52 x0 x1 x2 x3 x4 x5 x6 x7 x8 x9) (k2_pay56 x0 x1 x2 x3 x4 x5 x6 x7 x8 x9) (k2_pay57 x0 x1 x2 x3 x4 x5 x6 x7 x8 x9)) (k2_pay18 (k2_pay53 x0 x1 x2 x3 x4 x5 x6 x7 x8 x9) (k2_pay54 x0 x1 x2 x3 x4 x5 x6 x7 x8 x9) (k2_pay55 x0 x1 x2 x3 x4 x5 x6 x7 x8 x9)) (k2_pay19 (k2_pay53 x0 x1 x2 x3 x4 x5 x6 x7 x8 x9) (k2_pay54 x0 x1 x2 x3 x4 x5 x6 x7 x8 x9) (k2_pay55 x0 x1 x2 x3 x4 x5 x6 x7 x8 x9)) (k2_pay20 (k2_pay53 x0 x1 x2 x3 x4 x5 x6 x7 x8 x9) (k2_pay54 x0 x1 x2 x3 x4 x5 x6 x7 x8 x9) (k2_pay55 x0 x1 x2 x3 x4 x5 x6 x7 x8 x9)) (k2_pay21 (F := F)) (k2_pay22 (k2_pay51 x0 x1 x2 x3 x4 x5 x6 x7 x8 x9) (k2_pay52 x0 x1 x2 x3 x4 x5 x6 x7 x8 x9) (k2_pay56 x0 x1 x2 x3 x4 x5 x6 x7 x8 x9) (k2_pay57 x0 x1 x2 x3 x4 x5 x6 x7 x8 x9)) (k2_pay23 (k2_pay51 x0 x1 x2 x3 x4 x5 x6 x7 x8 x9) (k2_pay52 x0 x1 x2 x3 x4 x5 x6 x7 x8 x9) (k2_pay56 x0 x1 x2 x3 x4 x5 x6 x7 x8 x9) (k2_pay57 x0 x1 x2 x3 x4 x5 x6 x7 x8 x9)) -- `v140`
def k2_pay59 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S25x32 .f32 :=
  k2_pay25 (View.ld x2 r2_2) -- `v142`
def k2_pay60 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S288x32 .f32 :=
  k2_pay26 (View.ld x3 r2_3) -- `v144`
def k2_pay61 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S576x128 .f32 :=
  k2_pay29 (View.ld x6 r2_6) -- `v150`
def k2_pay62 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S1152x128 .f32 :=
  k2_pay30 (View.ld x7 r2_7) -- `v152`
def k2_pay63 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x18x18 .f32 :=
  k2_pay31 (k2_pay58 x0 x1 x2 x3 x4 x5 x6 x7 x8 x9) -- `v156`
def k2_pay64 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14x14x32 .f32 :=
  k2_pay39 (k2_pay59 x0 x1 x2 x3 x4 x5 x6 x7 x8 x9) (k2_pay63 x0 x1 x2 x3 x4 x5 x6 x7 x8 x9) (k2_pay37 (k2_pay59 x0 x1 x2 x3 x4 x5 x6 x7 x8 x9) (k2_pay63 x0 x1 x2 x3 x4 x5 x6 x7 x8 x9) (k2_pay35 (k2_pay59 x0 x1 x2 x3 x4 x5 x6 x7 x8 x9) (k2_pay63 x0 x1 x2 x3 x4 x5 x6 x7 x8 x9) (k2_pay32 (k2_pay58 x0 x1 x2 x3 x4 x5 x6 x7 x8 x9) (k2_pay59 x0 x1 x2 x3 x4 x5 x6 x7 x8 x9)) (k2_pay33 (k2_pay58 x0 x1 x2 x3 x4 x5 x6 x7 x8 x9)) (k2_pay34 (k2_pay59 x0 x1 x2 x3 x4 x5 x6 x7 x8 x9))) (k2_pay36 (k2_pay63 x0 x1 x2 x3 x4 x5 x6 x7 x8 x9))) (k2_pay38 (k2_pay59 x0 x1 x2 x3 x4 x5 x6 x7 x8 x9) (k2_pay63 x0 x1 x2 x3 x4 x5 x6 x7 x8 x9)) -- `v364`
def k2_pay65 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x14x14x1 .f32 :=
  k2_pay40 (k2_pay63 x0 x1 x2 x3 x4 x5 x6 x7 x8 x9) -- `v366`
def k2_pay66 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S1x1x1x32 .f32 :=
  k2_pay41 (k2_pay59 x0 x1 x2 x3 x4 x5 x6 x7 x8 x9) -- `v369`
def k2_pay67 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x5x5x64 .f32 :=
  k2_pay44 (k2_pay27 (View.ld x4 r2_4)) (k2_pay28 (View.ld x5 r2_5)) (k2_pay42 (k2_pay59 x0 x1 x2 x3 x4 x5 x6 x7 x8 x9) (k2_pay60 x0 x1 x2 x3 x4 x5 x6 x7 x8 x9) (k2_pay63 x0 x1 x2 x3 x4 x5 x6 x7 x8 x9) (k2_pay64 x0 x1 x2 x3 x4 x5 x6 x7 x8 x9) (k2_pay65 x0 x1 x2 x3 x4 x5 x6 x7 x8 x9) (k2_pay66 x0 x1 x2 x3 x4 x5 x6 x7 x8 x9)) (k2_pay43 (k2_pay59 x0 x1 x2 x3 x4 x5 x6 x7 x8 x9) (k2_pay60 x0 x1 x2 x3 x4 x5 x6 x7 x8 x9) (k2_pay63 x0 x1 x2 x3 x4 x5 x6 x7 x8 x9) (k2_pay64 x0 x1 x2 x3 x4 x5 x6 x7 x8 x9) (k2_pay65 x0 x1 x2 x3 x4 x5 x6 x7 x8 x9) (k2_pay66 x0 x1 x2 x3 x4 x5 x6 x7 x8 x9)) -- `v466`
def k2_pay68 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : FVec F S8x3x3x128 .f32 :=
  k2_pay45 (k2_pay61 x0 x1 x2 x3 x4 x5 x6 x7 x8 x9) (k2_pay62 x0 x1 x2 x3 x4 x5 x6 x7 x8 x9) (k2_pay67 x0 x1 x2 x3 x4 x5 x6 x7 x8 x9) -- `v506`

/-- Window 10's staging buffer after the body, from the input windows' blocks: its 1 store as pieces, LAST
    FIRST (Lib/Pipeline/FrameBody.lean `View.canon`; the payloads are the skeleton's and the values stated above). -/
def out2_10 (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) : Vec F S1x1x8x256 .f32 :=
  View.canon [⟨r2_18, k2_pay1 (k2_pay68 x0 x1 x2 x3 x4 x5 x6 x7 x8 x9) (k2_pay48 (k2_pay68 x0 x1 x2 x3 x4 x5 x6 x7 x8 x9) (k2_pay46 (View.ld x9 r2_8)) (k2_pay47 (k2_pay61 x0 x1 x2 x3 x4 x5 x6 x7 x8 x9) (k2_pay62 x0 x1 x2 x3 x4 x5 x6 x7 x8 x9) (k2_pay67 x0 x1 x2 x3 x4 x5 x6 x7 x8 x9)) (View.ld x8 r2_9) (View.ld x8 r2_10) (View.ld x8 r2_11) (View.ld x8 r2_12) (View.ld x8 r2_13)) (k2_pay49 (k2_pay68 x0 x1 x2 x3 x4 x5 x6 x7 x8 x9)) (k2_pay50 (View.ld x8 r2_14)) (constant S8x256 .f32 0x00000000#32) (View.ld x8 r2_15) (View.ld x8 r2_16) (View.ld x8 r2_17)⟩]

/-- Its stores tile the buffer (checked by evaluation), so they cover it. -/
theorem cover2_10 (p0 : Vec F S1x1x8x256 .f32) (y : S1x1x8x256.Idx) :
    ∃ pc ∈ ([⟨r2_18, p0⟩] : List (View.Piece (Elt F) S1x1x8x256 .f32)), y ∈ pc.1.set :=
  View.cover_of_tiled [⟨r2_18, p0⟩] S1x1x8x256.size (by rfl) y

/-! ## The body's triple -/

set_option maxHeartbeats 3047500 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1x1x64x64 .f32) (harg2 : arg2.IsWhole) (arg3 : Memref sig .tc .vmem S1x1x8x2 .f32) (harg3 : arg3.IsWhole) (arg4 : Memref sig .tc .vmem S25x32 .f32) (harg4 : arg4.IsWhole) (arg5 : Memref sig .tc .vmem S288x32 .f32) (harg5 : arg5.IsWhole) (arg6 : Memref sig .tc .vmem S288x64 .f32) (harg6 : arg6.IsWhole) (arg7 : Memref sig .tc .vmem S576x64 .f32) (harg7 : arg7.IsWhole) (arg8 : Memref sig .tc .vmem S576x128 .f32) (harg8 : arg8.IsWhole) (arg9 : Memref sig .tc .vmem S1152x128 .f32) (harg9 : arg9.IsWhole) (arg10 : Memref sig .tc .vmem S3x3x128x256 .f32) (harg10 : arg10.IsWhole) (arg11 : Memref sig .tc .vmem S1x256 .f32) (harg11 : arg11.IsWhole) (arg12 : Memref sig .tc .vmem S1x1x8x256 .f32) (harg12 : arg12.IsWhole)
    (x0 : Vec F S1x1x64x64 .f32) (x1 : Vec F S1x1x8x2 .f32) (x2 : Vec F S25x32 .f32) (x3 : Vec F S288x32 .f32) (x4 : Vec F S288x64 .f32) (x5 : Vec F S576x64 .f32) (x6 : Vec F S576x128 .f32) (x7 : Vec F S1152x128 .f32) (x8 : Vec F S3x3x128x256 .f32) (x9 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out2_10 x0 x1 x2 x3 x4 x5 x6 x7 x8 x9)) -∗ K ⟨⟩))
      ⊢ wp frame (wpE (defs₀ (F := F)) Variants.none c none) E (cc2_rgp_local i arg2 harg2 arg3 harg3 arg4 harg4 arg5 harg5 arg6 harg6 arg7 harg7 arg8 harg8 arg9 harg9 arg10 harg10 arg11 harg11 arg12 harg12) K := by
  simp only [cc2_rgp_local_eq_skeleton]; unfold cc2_rgp_local_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover2_10 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3_rgp_gat` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x240x256 := Rect.unit (s := S1x240x256) ![0, 0, 0] S1x240x256.size inb_S1x240x256_S1x240x256_0_0_0
abbrev r3_1 : Rect S256x8 := Rect.unit (s := S256x8) ![0, 0] S256x8.size inb_S256x8_S256x8_0_0
abbrev r3_2 : Rect S8x1 := Rect.unit (s := S8x1) ![0, 0] S8x1.size inb_S8x1_S8x1_0_0
abbrev r3_3 : Rect S8x16 := Rect.unit (s := S8x16) ![0, 0] S8x16.size inb_S8x16_S8x16_0_0
abbrev r3_4 : Rect S16x1 := Rect.unit (s := S16x1) ![0, 0] S16x1.size inb_S16x1_S16x1_0_0
abbrev r3_5 : Rect S1x1x256 := Rect.unit (s := S1x1x256) ![0, 0, 0] S1x1x256.size inb_S1x1x256_S1x1x256_0_0_0
abbrev r3_6 : Rect S1x1x1023 := Rect.unit (s := S1x1x1023) ![0, 0, 0] S1x1x1023.size inb_S1x1x1023_S1x1x1023_0_0_0

/-! ## What the body leaves in each output window's buffer -/

/-! ### Values of the body that the stores' payloads, spelt out, would write more than once

    Each is a vector the body binds (often a part call's result), stated over the input windows' blocks and
    numbered on from the skeleton's payload functions (`k3_pay24` …, after `k3_pay23`), so that
    `out3_W` and the values after it name it instead of spelling it out (`unfold_out out3_W` opens a canon
    with them, `unfold_payloads` opens them with the payloads); the comment after each is the printed function's
    name for the value (a count appended where that name is bound again). -/

def k3_pay24 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 32 :=
  iota .tc S240x240 32 [1] iota_S240x240_d1_w32 -- `v3`
def k3_pay25 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : FVec F S240x256 .f32 :=
  k3_pay2 (View.ld x0 r3_0) -- `v1`
def k3_pay26 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 32 :=
  k3_pay3 -- `v27`
def k3_pay27 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 32 :=
  k3_pay4 -- `v29`
def k3_pay28 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 1 :=
  k3_pay5 -- `v43`
def k3_pay29 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 1 :=
  k3_pay7 (k3_pay24 x0 x1 x2 x3 x4 x5 x6 x7) (k3_pay26 x0 x1 x2 x3 x4 x5 x6 x7) 8#32 (k3_pay27 x0 x1 x2 x3 x4 x5 x6 x7) (k3_pay28 x0 x1 x2 x3 x4 x5 x6 x7) -- `v52`
def k3_pay30 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 1 :=
  k3_pay8 (iota .tc S240x240 32 [0] iota_S240x240_d0_w32) (k3_pay24 x0 x1 x2 x3 x4 x5 x6 x7) -- `v85`
def k3_pay31 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 32 :=
  k3_pay9 (k3_pay24 x0 x1 x2 x3 x4 x5 x6 x7) (k3_pay26 x0 x1 x2 x3 x4 x5 x6 x7) 8#32 (k3_pay27 x0 x1 x2 x3 x4 x5 x6 x7) (k3_pay28 x0 x1 x2 x3 x4 x5 x6 x7) -- `v87`
def k3_pay32 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : IVec S240x240 32 :=
  k3_pay10 -- `v88`
def k3_pay33 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : FVec F S256 .f32 :=
  k3_pay15 (k3_pay25 x0 x1 x2 x3 x4 x5 x6 x7) -- `v166`
def k3_pay34 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : FVec F S16 .f32 :=
  k3_pay16 (k3_pay11 (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7)) (k3_pay12 (k3_pay25 x0 x1 x2 x3 x4 x5 x6 x7) (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7) (View.ld x2 r3_1) (View.ld x3 r3_2) (View.ld x4 r3_2) (View.ld x5 r3_3)) (k3_pay13 (k3_pay25 x0 x1 x2 x3 x4 x5 x6 x7) (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7) (View.ld x2 r3_1) (View.ld x3 r3_2) (View.ld x4 r3_2) (View.ld x5 r3_3) (View.ld x6 r3_4)) (k3_pay14 (k3_pay25 x0 x1 x2 x3 x4 x5 x6 x7) (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7) (View.ld x2 r3_1) (View.ld x3 r3_2) (View.ld x4 r3_2) (View.ld x5 r3_3) (View.ld x7 r3_4)) -- `v169`

/-- Window 8's staging buffer after the body, from the input windows' blocks: its 1 store as pieces, LAST
    FIRST (Lib/Pipeline/FrameBody.lean `View.canon`; the payloads are the skeleton's and the values stated above). -/
def out3_8 (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) : Vec F S1x1x1023 .f32 :=
  View.canon [⟨r3_6, k3_pay1 (k3_pay23 (k3_pay17 (k3_pay33 x0 x1 x2 x3 x4 x5 x6 x7) (k3_pay34 x0 x1 x2 x3 x4 x5 x6 x7) (View.ld x1 r3_5)) (k3_pay18 (k3_pay33 x0 x1 x2 x3 x4 x5 x6 x7) (k3_pay34 x0 x1 x2 x3 x4 x5 x6 x7) (View.ld x1 r3_5)) (k3_pay19 (k3_pay33 x0 x1 x2 x3 x4 x5 x6 x7) (k3_pay34 x0 x1 x2 x3 x4 x5 x6 x7) (View.ld x1 r3_5)) (k3_pay20 (k3_pay33 x0 x1 x2 x3 x4 x5 x6 x7) (k3_pay34 x0 x1 x2 x3 x4 x5 x6 x7) (View.ld x1 r3_5)) (k3_pay21 (k3_pay33 x0 x1 x2 x3 x4 x5 x6 x7) (k3_pay34 x0 x1 x2 x3 x4 x5 x6 x7) (View.ld x1 r3_5)) (k3_pay22 (k3_pay33 x0 x1 x2 x3 x4 x5 x6 x7) (k3_pay34 x0 x1 x2 x3 x4 x5 x6 x7) (View.ld x1 r3_5)))⟩]

/-- Its stores tile the buffer (checked by evaluation), so they cover it. -/
theorem cover3_8 (p0 : Vec F S1x1x1023 .f32) (y : S1x1x1023.Idx) :
    ∃ pc ∈ ([⟨r3_6, p0⟩] : List (View.Piece (Elt F) S1x1x1023 .f32)), y ∈ pc.1.set :=
  View.cover_of_tiled [⟨r3_6, p0⟩] S1x1x1023.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S1x240x256 .f32) (harg1 : arg1.IsWhole) (arg2 : Memref sig .tc .vmem S1x1x256 .f32) (harg2 : arg2.IsWhole) (arg3 : Memref sig .tc .vmem S256x8 .f32) (harg3 : arg3.IsWhole) (arg4 : Memref sig .tc .vmem S8x1 .f32) (harg4 : arg4.IsWhole) (arg5 : Memref sig .tc .vmem S8x1 .f32) (harg5 : arg5.IsWhole) (arg6 : Memref sig .tc .vmem S8x16 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S1x1x1023 .f32) (harg9 : arg9.IsWhole)
    (x0 : Vec F S1x240x256 .f32) (x1 : Vec F S1x1x256 .f32) (x2 : Vec F S256x8 .f32) (x3 : Vec F S8x1 .f32) (x4 : Vec F S8x1 .f32) (x5 : Vec F S8x16 .f32) (x6 : Vec F S16x1 .f32) (x7 : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out3_8 x0 x1 x2 x3 x4 x5 x6 x7)) -∗ K ⟨⟩))
      ⊢ wp frame (wpE (defs₀ (F := F)) Variants.none c none) E (cc3_rgp_gat i arg1 harg1 arg2 harg2 arg3 harg3 arg4 harg4 arg5 harg5 arg6 harg6 arg7 harg7 arg8 harg8 arg9 harg9) K := by
  simp only [cc3_rgp_gat_eq_skeleton]; unfold cc3_rgp_gat_skel
  simp only [k3_part6_eq_skeleton, k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cover3_8 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 4 t) (iblk3 V c 5 t) (iblk3 V c 6 t) (iblk3 V c 7 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ (grid3.coords t) _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Gen

end
-- ==== Proof.KernelIdeal.Run.lean ====
/- The run of the whole program: the contents of the buffers at each boundary between a host stretch and a region,
   the regions as segments, the launch, and the frame. -/
module

public import proofs.«01_k».proof.Proof.KernelIdeal.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v13, main_v14, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v19, main_v20, main_v21]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v23, main_v24]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution of the program terminates, and at the end every buffer holds what the fold of
    the boundaries leaves there and every semaphore counter is zero. -/
theorem run_whole : θ_run defs (onTc (τ := τ) (main (F := F))) ⟨m, fun _ => 0, ρ⟩ (fun r => (∀ c : Dev nD,
      ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨(fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c),
       (h.1 c _ (mem_uc main_arg5 (by decide))).trans (W8_main_arg5 m ρ c),
       (h.1 c _ (mem_uc main_arg6 (by decide))).trans (W8_main_arg6 m ρ c),
       (h.1 c _ (mem_uc main_arg7 (by decide))).trans (W8_main_arg7 m ρ c),
       (h.1 c _ (mem_uc main_arg8 (by decide))).trans (W8_main_arg8 m ρ c),
       (h.1 c _ (mem_uc main_arg9 (by decide))).trans (W8_main_arg9 m ρ c),
       (h.1 c _ (mem_uc main_arg10 (by decide))).trans (W8_main_arg10 m ρ c),
       (h.1 c _ (mem_uc main_arg11 (by decide))).trans (W8_main_arg11 m ρ c),
       (h.1 c _ (mem_uc main_arg12 (by decide))).trans (W8_main_arg12 m ρ c),
       (h.1 c _ (mem_uc main_arg13 (by decide))).trans (W8_main_arg13 m ρ c),
       (h.1 c _ (mem_uc main_arg14 (by decide))).trans (W8_main_arg14 m ρ c),
       (h.1 c _ (mem_uc main_arg15 (by decide))).trans (W8_main_arg15 m ρ c),
       (h.1 c _ (mem_uc main_arg16 (by decide))).trans (W8_main_arg16 m ρ c),
       (h.1 c _ (mem_uc main_arg17 (by decide))).trans (W8_main_arg17 m ρ c)⟩), h.2⟩) (run_whole m ρ)

end Cert.KernelIdeal.Gen

end
-- ==== Proof.SameProgram.lean ====
/- The idealization rewrote nothing: the kernel and its idealization are one program text, so what is proved of one for every reading of the floats holds of the other. -/
module

public import proofs.«01_k».proof.Defs
public import proofs.«01_k».proof.Proof.Gen.Kernel
public import proofs.«01_k».proof.Proof.KernelIdeal.Run

@[expose] public section

set_option maxRecDepth 65536
set_option maxHeartbeats 4000000

noncomputable section

namespace Cert.Kernel.Value

open Idealize.ShloMosaic Idealize.SL.Sem

variable {F : FTy → Type} [FloatOps F]

/-- The two body tables are the same, call by call. -/
theorem bodies_same : Cert.Kernel.defs₀ (F := F) = Cert.KernelIdeal.defs₀ (F := F) := by
  funext p l x
  cases p with
  | tc =>
    obtain ⟨l, hl⟩ := l
    match l, hl, x with
    | 0, _, (t, s) => rfl
    | 1, _, (t, s) => rfl
    | 2, _, (t, s) => rfl
    | 3, _, (t, s) => rfl
  | scScalar _ => rfl
  | scVector _ _ => rfl

/-- With their pipelines, too. -/
theorem defs_same : Cert.Kernel.defs (F := F) = Cert.KernelIdeal.defs (F := F) :=
  congrArg (Pipeline.defs (Cert.Kernel.pcfgs (F := F))) bodies_same

/-- The kernel over machine words leaves its arguments as they were and every semaphore at zero. -/
theorem frame : Cert.quiescent_Kernel (hKernel := Cert.Kernel.Gen.facts) := by
  intro m ρ _
  rw [defs_same]
  exact Cert.KernelIdeal.Gen.frame (F := Bits) m ρ

end Cert.Kernel.Value

end
-- ==== Proof.Spec.lean ====
/- The layers of the two programs as plain functions of channel, row and column, with no tiling and no layout. -/
module

public import Idealize.ShloMosaic.Lib.Pointwise

@[expose] public section

noncomputable section

namespace Cert.Net

open Idealize.ShloMosaic

/-- An image: its value at a channel, a row and a column. -/
abbrev Img := ℕ → ℕ → ℕ → EReal

/-- A bank of filters: the weight at output channel, input channel, row and column. -/
abbrev Bank := ℕ → ℕ → ℕ → ℕ → EReal

/-- The image of `h` by `w` with a border of `p` zeros, its corner moved to the origin. -/
def padded (p h w : ℕ) (f : Img) : Img := fun c i j =>
  if p ≤ i ∧ i < h + p ∧ p ≤ j ∧ j < w + p then f c (i - p) (j - p) else 0

/-- One tap of a convolution: the image moved by `dy` rows and `dx` columns, its channels mixed by that tap's weights. -/
def tap (cin : ℕ) (W : Bank) (dy dx : ℕ) (g : Img) : Img := fun o i j =>
  ∑ c : Fin cin, W o c dy dx * g c (i + dy) (j + dx)

/-- A `k` by `k` convolution of an image that already carries its border, over `cin` channels. -/
def conv (k cin : ℕ) (W : Bank) (g : Img) : Img := fun o i j =>
  ∑ t : Fin (k * k), tap cin W (t / k) (t % k) g o i j

/-- A three by three convolution is the sum of its nine taps. -/
theorem conv_three (cin : ℕ) (W : Bank) (g : Img) : conv 3 cin W g
    = tap cin W 0 0 g + tap cin W 0 1 g + tap cin W 0 2 g + tap cin W 1 0 g + tap cin W 1 1 g + tap cin W 1 2 g
      + tap cin W 2 0 g + tap cin W 2 1 g + tap cin W 2 2 g := by
  funext o i j
  show ∑ t : Fin 9, tap cin W (t.val / 3) (t.val % 3) g o i j = _
  simp only [Fin.sum_univ_castSucc, Fin.sum_univ_zero, zero_add]
  rfl

/-- A five by five convolution is the sum of its twenty-five taps. -/
theorem conv_five (cin : ℕ) (W : Bank) (g : Img) : conv 5 cin W g
    = tap cin W 0 0 g + tap cin W 0 1 g + tap cin W 0 2 g + tap cin W 0 3 g + tap cin W 0 4 g
      + tap cin W 1 0 g + tap cin W 1 1 g + tap cin W 1 2 g + tap cin W 1 3 g + tap cin W 1 4 g
      + tap cin W 2 0 g + tap cin W 2 1 g + tap cin W 2 2 g + tap cin W 2 3 g + tap cin W 2 4 g
      + tap cin W 3 0 g + tap cin W 3 1 g + tap cin W 3 2 g + tap cin W 3 3 g + tap cin W 3 4 g
      + tap cin W 4 0 g + tap cin W 4 1 g + tap cin W 4 2 g + tap cin W 4 3 g + tap cin W 4 4 g := by
  funext o i j
  show ∑ t : Fin 25, tap cin W (t.val / 5) (t.val % 5) g o i j = _
  simp only [Fin.sum_univ_castSucc, Fin.sum_univ_zero, zero_add]
  rfl

/-- The leaky rectifier with slope one hundredth (as the 32-bit constant). -/
def leaky (x : EReal) : EReal :=
  Scalar.select (FloatOps.cmpf (F := Ideal) (φ := .f32) .oge x (FloatOps.ofBits .f32 0x00000000#32)) x
    (FloatOps.mulf (F := Ideal) (φ := .f32) (FloatOps.ofBits .f32 0x3C23D70A#32) x)

/-- The leaky rectifier on every value of an image. -/
def relu (f : Img) : Img := fun c i j => leaky (f c i j)

/-- The maximum of each two by two square. -/
def pool (f : Img) : Img := fun c i j =>
  max (max (f c (2 * i) (2 * j)) (f c (2 * i + 1) (2 * j))) (max (f c (2 * i) (2 * j + 1)) (f c (2 * i + 1) (2 * j + 1)))

/-- A bordered three by three convolution followed by the rectifier. -/
def block (h w cin : ℕ) (W : Bank) (f : Img) : Img := relu (conv 3 cin W (padded 1 h w f))

/-- The convolutional stack on a one-channel image of `h` by `w`: six convolutions, with a pooling after the second and the fourth. -/
def base (h w : ℕ) (W₁ W₂ W₃ W₄ W₅ W₆ : Bank) (f : Img) : Img :=
  block (h / 2 / 2) (w / 2 / 2) 128 W₆ (block (h / 2 / 2) (w / 2 / 2) 64 W₅ (pool
    (block (h / 2) (w / 2) 64 W₄ (block (h / 2) (w / 2) 32 W₃ (pool
      (block h w 32 W₂ (relu (conv 5 1 W₁ (padded 2 h w f)))))))))

/-- A weight array of four axes as a bank, zero outside. -/
def bank {o c k l : ℕ} (A : FVec Ideal ⟨4, ![o, c, k, l]⟩ .f32) : Bank := fun a b x y =>
  if h : a < o ∧ b < c ∧ x < k ∧ y < l then A (ix4 ⟨a, h.1⟩ ⟨b, h.2.1⟩ ⟨x, h.2.2.1⟩ ⟨y, h.2.2.2⟩) else 0

/-- The bank at indices inside the array is the array's entry. -/
theorem bank_apply {o c k l : ℕ} (A : FVec Ideal ⟨4, ![o, c, k, l]⟩ .f32) (a : Fin o) (b : Fin c) (x : Fin k) (y : Fin l) :
    bank A a b x y = A (ix4 a b x y) := by
  unfold bank
  rw [dif_pos ⟨a.isLt, b.isLt, x.isLt, y.isLt⟩]

/-- The frame `n` of a stack of videos of thirty frames, as a one-channel image. -/
def still {b h w : ℕ} (X : FVec Ideal ⟨4, ![b, 30, h, w]⟩ .f32) (n : ℕ) : Img := fun _ i j => bank X (n / 30) (n % 30) i j

/-- The features of frame `n`: the convolutional stack with the weights of the six arrays. -/
def features (X : FVec Ideal ⟨4, ![8, 30, 64, 64]⟩ .f32) (A₁ : FVec Ideal ⟨4, ![32, 1, 5, 5]⟩ .f32)
    (A₂ : FVec Ideal ⟨4, ![32, 32, 3, 3]⟩ .f32) (A₃ : FVec Ideal ⟨4, ![64, 32, 3, 3]⟩ .f32) (A₄ : FVec Ideal ⟨4, ![64, 64, 3, 3]⟩ .f32)
    (A₅ : FVec Ideal ⟨4, ![128, 64, 3, 3]⟩ .f32) (A₆ : FVec Ideal ⟨4, ![128, 128, 3, 3]⟩ .f32) (n : ℕ) : Img :=
  base 64 64 (bank A₁) (bank A₂) (bank A₃) (bank A₄) (bank A₅) (bank A₆) (still X n)

/-- The largest of the first values of a sequence. -/
def runMax (g : ℕ → EReal) : ℕ → EReal
  | 0 => g 0
  | n + 1 => max (runMax g n) (g (n + 1))

/-- The array `v`, laid out as image, row, column, channel, holds the image `f` at `i`. -/
def Rows {n h w c : ℕ} (v : FVec Ideal ⟨4, ![n, h, w, c]⟩ .f32) (i : Fin n) (f : Img) : Prop :=
  ∀ (j : Fin h) (k : Fin w) (l : Fin c), v (ix4 i j k l) = f l j k

/-- The array `v`, laid out as image, channel, row, column, holds the image `f` at `i`. -/
def Planes {n h w c : ℕ} (v : FVec Ideal ⟨4, ![n, c, h, w]⟩ .f32) (i : Fin n) (f : Img) : Prop :=
  ∀ (l : Fin c) (j : Fin h) (k : Fin w), v (ix4 i l j k) = f l j k

/-- The matrix `wk` has in row `t * c + r` the weights of tap `t` and input channel `r` of the bank `W`. -/
def Flat {K o : ℕ} (wk : FVec Ideal ⟨2, ![K, o]⟩ .f32) (W : Bank) (k c : ℕ) : Prop :=
  ∀ (t : Fin (k * k)) (r : Fin c) (l : Fin o) (h : t.val * c + r.val < K),
    wk (ix2 ⟨t.val * c + r.val, h⟩ l) = W l r (t / k) (t % k)

end Cert.Net

end
-- ==== Proof.KernelLayers.lean ====
/- The layers as the kernels compute them on vectors laid out by image, row, column, channel, at any extents. -/
module

public import proofs.«01_k».proof.Proof.Spec
public import Idealize.ShloMosaic.Lib.Pipeline.ValueKit
public import Idealize.ShloMosaic.Lib.MatmulPlain
public import Idealize.ShloMosaic.Lib.StackMember

@[expose] public section

noncomputable section

namespace Cert.Net

open Idealize.ShloMosaic

/-- Three pieces laid side by side along the columns, the outer two zero: the middle one with zero columns beside it. -/
theorem pad_cols {n h w c p w2 : ℕ} (v : FVec Ideal ⟨4, ![n, h, w, c]⟩ .f32) (b : FVec Ideal ⟨4, ![n, h, p, c]⟩ .f32)
    (e : ∀ j, b j = 0) (hw : w2 = w + 2 * p)
    (hc : Shape.Concatenates [⟨4, ![n, h, p, c]⟩, ⟨4, ![n, h, w, c]⟩, ⟨4, ![n, h, p, c]⟩] ⟨4, ![n, h, w2, c]⟩ 2)
    (i : Fin n) (j : Fin h) (k : Fin w2) (l : Fin c) :
    concatenate ⟨4, ![n, h, w2, c]⟩ 2 [⟨⟨4, ![n, h, p, c]⟩, b⟩, ⟨⟨4, ![n, h, w, c]⟩, v⟩, ⟨⟨4, ![n, h, p, c]⟩, b⟩] hc (ix4 i j k l)
      = if hk : p ≤ k.val ∧ k.val < w + p then v (ix4 i j ⟨k.val - p, by omega⟩ l) else 0 := by
  split
  · next hk =>
    exact concatenate_apply_piece (t := ⟨4, ![n, h, w2, c]⟩) (2 : Fin 4) [⟨_, b⟩, ⟨_, v⟩, ⟨_, b⟩] hc (ix4 i j k l) 1 (by simp) ⟨4, ![n, h, w, c]⟩ v rfl rfl p rfl (ix4 i j ⟨k.val - p, by omega⟩ l)
      (by intro a ha; fin_cases a <;> first | rfl | exact absurd rfl ha) (show p + (k.val - p) = k.val by omega)
  · next hk =>
    by_cases h0 : k.val < p
    · exact (concatenate_apply_piece (t := ⟨4, ![n, h, w2, c]⟩) (2 : Fin 4) [⟨_, b⟩, ⟨_, v⟩, ⟨_, b⟩] hc (ix4 i j k l) 0 (by simp) ⟨4, ![n, h, p, c]⟩ b rfl rfl 0 rfl (ix4 i j ⟨k.val, h0⟩ l)
        (by intro a ha; fin_cases a <;> first | rfl | exact absurd rfl ha) (show 0 + k.val = k.val by omega)).trans (e _)
    · have := k.isLt
      exact (concatenate_apply_piece (t := ⟨4, ![n, h, w2, c]⟩) (2 : Fin 4) [⟨_, b⟩, ⟨_, v⟩, ⟨_, b⟩] hc (ix4 i j k l) 2 (by simp) ⟨4, ![n, h, p, c]⟩ b rfl rfl (p + w) rfl
        (ix4 i j ⟨k.val - (p + w), by omega⟩ l)
        (by intro a ha; fin_cases a <;> first | rfl | exact absurd rfl ha)
        (show p + w + (k.val - (p + w)) = k.val by omega)).trans (e _)

/-- The same along the rows. -/
theorem pad_lines {n h w c p h2 : ℕ} (v : FVec Ideal ⟨4, ![n, h, w, c]⟩ .f32) (b : FVec Ideal ⟨4, ![n, p, w, c]⟩ .f32)
    (e : ∀ j, b j = 0) (hh : h2 = h + 2 * p)
    (hc : Shape.Concatenates [⟨4, ![n, p, w, c]⟩, ⟨4, ![n, h, w, c]⟩, ⟨4, ![n, p, w, c]⟩] ⟨4, ![n, h2, w, c]⟩ 1)
    (i : Fin n) (j : Fin h2) (k : Fin w) (l : Fin c) :
    concatenate ⟨4, ![n, h2, w, c]⟩ 1 [⟨⟨4, ![n, p, w, c]⟩, b⟩, ⟨⟨4, ![n, h, w, c]⟩, v⟩, ⟨⟨4, ![n, p, w, c]⟩, b⟩] hc (ix4 i j k l)
      = if hj : p ≤ j.val ∧ j.val < h + p then v (ix4 i ⟨j.val - p, by omega⟩ k l) else 0 := by
  split
  · next hj =>
    exact concatenate_apply_piece (t := ⟨4, ![n, h2, w, c]⟩) (1 : Fin 4) [⟨_, b⟩, ⟨_, v⟩, ⟨_, b⟩] hc (ix4 i j k l) 1 (by simp) ⟨4, ![n, h, w, c]⟩ v rfl rfl p rfl (ix4 i ⟨j.val - p, by omega⟩ k l)
      (by intro a ha; fin_cases a <;> first | rfl | exact absurd rfl ha) (show p + (j.val - p) = j.val by omega)
  · next hj =>
    by_cases h0 : j.val < p
    · exact (concatenate_apply_piece (t := ⟨4, ![n, h2, w, c]⟩) (1 : Fin 4) [⟨_, b⟩, ⟨_, v⟩, ⟨_, b⟩] hc (ix4 i j k l) 0 (by simp) ⟨4, ![n, p, w, c]⟩ b rfl rfl 0 rfl (ix4 i ⟨j.val, h0⟩ k l)
        (by intro a ha; fin_cases a <;> first | rfl | exact absurd rfl ha) (show 0 + j.val = j.val by omega)).trans (e _)
    · have := j.isLt
      exact (concatenate_apply_piece (t := ⟨4, ![n, h2, w, c]⟩) (1 : Fin 4) [⟨_, b⟩, ⟨_, v⟩, ⟨_, b⟩] hc (ix4 i j k l) 2 (by simp) ⟨4, ![n, p, w, c]⟩ b rfl rfl (p + h) rfl
        (ix4 i ⟨j.val - (p + h), by omega⟩ k l)
        (by intro a ha; fin_cases a <;> first | rfl | exact absurd rfl ha)
        (show p + h + (j.val - (p + h)) = j.val by omega)).trans (e _)

/-- The kernel's border: zero columns, then zero rows, around an image it holds. -/
theorem pad_rows {n h w c p h2 w2 : ℕ} {v : FVec Ideal ⟨4, ![n, h, w, c]⟩ .f32} {i : Fin n} {f : Img} (hv : Rows v i f)
    (hh : h2 = h + 2 * p) (hw : w2 = w + 2 * p)
    (b₁ : FVec Ideal ⟨4, ![n, h, p, c]⟩ .f32) (b₂ : FVec Ideal ⟨4, ![n, p, w2, c]⟩ .f32)
    (e₁ : ∀ j, b₁ j = 0) (e₂ : ∀ j, b₂ j = 0)
    (h₁ : Shape.Concatenates [⟨4, ![n, h, p, c]⟩, ⟨4, ![n, h, w, c]⟩, ⟨4, ![n, h, p, c]⟩] ⟨4, ![n, h, w2, c]⟩ 2)
    (h₂ : Shape.Concatenates [⟨4, ![n, p, w2, c]⟩, ⟨4, ![n, h, w2, c]⟩, ⟨4, ![n, p, w2, c]⟩] ⟨4, ![n, h2, w2, c]⟩ 1) :
    Rows (concatenate ⟨4, ![n, h2, w2, c]⟩ 1 [⟨⟨4, ![n, p, w2, c]⟩, b₂⟩, ⟨⟨4, ![n, h, w2, c]⟩,
      concatenate ⟨4, ![n, h, w2, c]⟩ 2 [⟨⟨4, ![n, h, p, c]⟩, b₁⟩, ⟨⟨4, ![n, h, w, c]⟩, v⟩, ⟨⟨4, ![n, h, p, c]⟩, b₁⟩] h₁⟩,
      ⟨⟨4, ![n, p, w2, c]⟩, b₂⟩] h₂) i (padded p h w f) := by
  intro j k l
  rw [pad_lines _ b₂ e₂ hh h₂]
  unfold padded
  by_cases hj : p ≤ j.val ∧ j.val < h + p
  · rw [dif_pos hj, pad_cols v b₁ e₁ hw h₁]
    by_cases hk : p ≤ k.val ∧ k.val < w + p
    · rw [dif_pos hk, if_pos ⟨hj.1, hj.2, hk.1, hk.2⟩, hv]
    · rw [dif_neg hk, if_neg (fun hh => hk hh.2.2)]
  · rw [dif_neg hj, if_neg (fun hh => hj ⟨hh.1, hh.2.1⟩)]

/-- The border around one-channel images: zero columns, then zero rows. -/
theorem pad_image {n h w p h2 w2 : ℕ} {v : FVec Ideal ⟨3, ![n, h, w]⟩ .f32} {i : Fin n} {f : Img}
    (hv : ∀ (j : Fin h) (k : Fin w), v (ix3 i j k) = f 0 j k) (hh : h2 = h + 2 * p) (hw : w2 = w + 2 * p)
    (b₁ : FVec Ideal ⟨3, ![n, h, p]⟩ .f32) (b₂ : FVec Ideal ⟨3, ![n, p, w2]⟩ .f32)
    (e₁ : ∀ j, b₁ j = 0) (e₂ : ∀ j, b₂ j = 0)
    (h₁ : Shape.Concatenates [⟨3, ![n, h, p]⟩, ⟨3, ![n, h, w]⟩, ⟨3, ![n, h, p]⟩] ⟨3, ![n, h, w2]⟩ 2)
    (h₂ : Shape.Concatenates [⟨3, ![n, p, w2]⟩, ⟨3, ![n, h, w2]⟩, ⟨3, ![n, p, w2]⟩] ⟨3, ![n, h2, w2]⟩ 1)
    (j : Fin h2) (k : Fin w2) :
    concatenate ⟨3, ![n, h2, w2]⟩ 1 [⟨⟨3, ![n, p, w2]⟩, b₂⟩, ⟨⟨3, ![n, h, w2]⟩,
      concatenate ⟨3, ![n, h, w2]⟩ 2 [⟨⟨3, ![n, h, p]⟩, b₁⟩, ⟨⟨3, ![n, h, w]⟩, v⟩, ⟨⟨3, ![n, h, p]⟩, b₁⟩] h₁⟩,
      ⟨⟨3, ![n, p, w2]⟩, b₂⟩] h₂ (ix3 i j k) = padded p h w f 0 j k := by
  have hj := j.isLt
  have hk := k.isLt
  unfold padded
  by_cases hin : p ≤ j.val ∧ j.val < h + p
  · refine (concatenate_apply_piece (t := ⟨3, ![n, h2, w2]⟩) (1 : Fin 3) [⟨_, b₂⟩, ⟨_, concatenate ⟨3, ![n, h, w2]⟩ 2
        [⟨_, b₁⟩, ⟨_, v⟩, ⟨_, b₁⟩] h₁⟩, ⟨_, b₂⟩] h₂ (ix3 i j k) 1 (by simp) ⟨3, ![n, h, w2]⟩ _ rfl rfl p rfl
        (ix3 i ⟨j.val - p, by omega⟩ k) (by intro a ha; fin_cases a <;> first | rfl | exact absurd rfl ha)
        (show p + (j.val - p) = j.val by omega)).trans ?_
    by_cases hkn : p ≤ k.val ∧ k.val < w + p
    · rw [if_pos ⟨hin.1, hin.2, hkn.1, hkn.2⟩]
      exact (concatenate_apply_piece (t := ⟨3, ![n, h, w2]⟩) (2 : Fin 3) [⟨_, b₁⟩, ⟨_, v⟩, ⟨_, b₁⟩] h₁ (ix3 i ⟨j.val - p, by omega⟩ k) 1 (by simp)
        ⟨3, ![n, h, w]⟩ v rfl rfl p rfl (ix3 i ⟨j.val - p, by omega⟩ ⟨k.val - p, by omega⟩)
        (by intro a ha; fin_cases a <;> first | rfl | exact absurd rfl ha) (show p + (k.val - p) = k.val by omega)).trans (hv _ _)
    · rw [if_neg (fun hall => hkn hall.2.2)]
      by_cases h0 : k.val < p
      · exact (concatenate_apply_piece (t := ⟨3, ![n, h, w2]⟩) (2 : Fin 3) [⟨_, b₁⟩, ⟨_, v⟩, ⟨_, b₁⟩] h₁ (ix3 i ⟨j.val - p, by omega⟩ k) 0 (by simp)
          ⟨3, ![n, h, p]⟩ b₁ rfl rfl 0 rfl (ix3 i ⟨j.val - p, by omega⟩ ⟨k.val, h0⟩)
          (by intro a ha; fin_cases a <;> first | rfl | exact absurd rfl ha) (show 0 + k.val = k.val by omega)).trans (e₁ _)
      · exact (concatenate_apply_piece (t := ⟨3, ![n, h, w2]⟩) (2 : Fin 3) [⟨_, b₁⟩, ⟨_, v⟩, ⟨_, b₁⟩] h₁ (ix3 i ⟨j.val - p, by omega⟩ k) 2 (by simp)
          ⟨3, ![n, h, p]⟩ b₁ rfl rfl (p + w) rfl (ix3 i ⟨j.val - p, by omega⟩ ⟨k.val - (p + w), by omega⟩)
          (by intro a ha; fin_cases a <;> first | rfl | exact absurd rfl ha)
          (show p + w + (k.val - (p + w)) = k.val by omega)).trans (e₁ _)
  · rw [if_neg (fun hall => hin ⟨hall.1, hall.2.1⟩)]
    by_cases h0 : j.val < p
    · exact (concatenate_apply_piece (t := ⟨3, ![n, h2, w2]⟩) (1 : Fin 3) [⟨_, b₂⟩, ⟨⟨3, ![n, h, w2]⟩, _⟩, ⟨_, b₂⟩] h₂ (ix3 i j k) 0
        (by simp) ⟨3, ![n, p, w2]⟩ b₂ rfl rfl 0 rfl (ix3 i ⟨j.val, h0⟩ k)
        (by intro a ha; fin_cases a <;> first | rfl | exact absurd rfl ha) (show 0 + j.val = j.val by omega)).trans (e₂ _)
    · exact (concatenate_apply_piece (t := ⟨3, ![n, h2, w2]⟩) (1 : Fin 3) [⟨_, b₂⟩, ⟨⟨3, ![n, h, w2]⟩, _⟩, ⟨_, b₂⟩] h₂ (ix3 i j k) 2
        (by simp) ⟨3, ![n, p, w2]⟩ b₂ rfl rfl (p + h) rfl (ix3 i ⟨j.val - (p + h), by omega⟩ k)
        (by intro a ha; fin_cases a <;> first | rfl | exact absurd rfl ha)
        (show p + h + (j.val - (p + h)) = j.val by omega)).trans (e₂ _)

/-- The kernel's leaky rectifier. -/
theorem relu_rows {n h w c : ℕ} {v : FVec Ideal ⟨4, ![n, h, w, c]⟩ .f32} {i : Fin n} {f : Img} (hv : Rows v i f) :
    Rows (select (cmpf .oge v (broadcast _ (Scalar.ofBits .f32 0x00000000#32))) v
      (mulf (broadcast _ (Scalar.ofBits .f32 0x3C23D70A#32)) v)) i (relu f) := by
  intro j k l
  unfold relu
  rw [← hv j k l]
  rfl

/-- The pattern of minus infinity denotes the least value. -/
theorem ofBits_low : Ideal.ofBits .f32 0xFF800000#32 = ⊥ := by simp [Ideal.ofBits, Ideal.ieee]

/-- The maximum of two values folded from the least one. -/
theorem fold_two (g : Fin 2 → EReal) : Finset.univ.fold max ⊥ g = max (g 0) (g 1) := by
  rw [show (Finset.univ : Finset (Fin 2)) = {0, 1} by decide, Finset.fold_insert (by decide), Finset.fold_singleton,
    max_eq_left bot_le]

/-- The kernel's two by two maximum: over pairs of rows, then over pairs of columns. -/
theorem pool_rows {n h w c h2 w2 : ℕ} {v : FVec Ideal ⟨4, ![n, h, w, c]⟩ .f32} {i : Fin n} {f : Img} (hv : Rows v i f)
    (hh : h = h2 * 2) (hw : w = w2 * 2)
    (s₁ : (⟨4, ![n, h, w, c]⟩ : Shape).ShapeCasts ⟨5, ![n, h2, 2, w, c]⟩)
    (r₁ : (⟨5, ![n, h2, 2, w, c]⟩ : Shape).Reduces [2] ⟨4, ![n, h2, w, c]⟩)
    (s₂ : (⟨4, ![n, h2, w, c]⟩ : Shape).ShapeCasts ⟨5, ![n, h2, w2, 2, c]⟩)
    (r₂ : (⟨5, ![n, h2, w2, 2, c]⟩ : Shape).Reduces [3] ⟨4, ![n, h2, w2, c]⟩) :
    Rows (multiReduction .maximumf [3] _ (shapeCast _ (multiReduction .maximumf [2] _ (shapeCast _ v s₁) 0xFF800000#32 r₁ (.inl rfl) rfl) s₂)
      0xFF800000#32 r₂ (.inl rfl) rfl) i (pool f) := by
  intro j k l
  have e₂ : ∀ y : Fin 2, Shape.reshapeEquiv s₂ (ix5 i j k y l) = ix4 i j ⟨2 * k.val + y.val, by omega⟩ l := fun y =>
    Shape.reshapeEquiv_eq_of_rowMajor s₂ (by
      rw [Shape.rowMajor_val_four, Shape.rowMajor_val_five]
      show ((i.val * h2 + j.val) * w + (2 * k.val + y.val)) * c + l.val
        = (((i.val * h2 + j.val) * w2 + k.val) * 2 + y.val) * c + l.val
      rw [hw]; ring)
  have e₁ : ∀ (x y : Fin 2), Shape.reshapeEquiv s₁ (ix5 i j x (⟨2 * k.val + y.val, by omega⟩ : Fin w) l)
      = ix4 i ⟨2 * j.val + x.val, by omega⟩ ⟨2 * k.val + y.val, by omega⟩ l := fun x y =>
    Shape.reshapeEquiv_eq_of_rowMajor s₁ (by
      rw [Shape.rowMajor_val_four, Shape.rowMajor_val_five]
      show ((i.val * h + (2 * j.val + x.val)) * w + (2 * k.val + y.val)) * c + l.val
        = (((i.val * h2 + j.val) * 2 + x.val) * w + (2 * k.val + y.val)) * c + l.val
      rw [hh]; ring)
  simp only [pointwise, e₂, e₁]
  simp only [ofBits_low, fold_two, hv _ _ _]
  rfl

/-- Three by three taps side by side along the channels, read at channel `t * c + r`: tap `t`, channel `r`. -/
theorem taps_apply {n h w c h2 w2 K : ℕ} (P : FVec Ideal ⟨4, ![n, h2, w2, c]⟩ .f32) (hh : h2 = h + 2) (hw : w2 = w + 2)
    (s00 : (⟨4, ![n, h2, w2, c]⟩ : Shape).Slices ![0, 0, 0, 0] ⟨4, ![n, h, w, c]⟩)
    (s01 : (⟨4, ![n, h2, w2, c]⟩ : Shape).Slices ![0, 0, 1, 0] ⟨4, ![n, h, w, c]⟩)
    (s02 : (⟨4, ![n, h2, w2, c]⟩ : Shape).Slices ![0, 0, 2, 0] ⟨4, ![n, h, w, c]⟩)
    (s10 : (⟨4, ![n, h2, w2, c]⟩ : Shape).Slices ![0, 1, 0, 0] ⟨4, ![n, h, w, c]⟩)
    (s11 : (⟨4, ![n, h2, w2, c]⟩ : Shape).Slices ![0, 1, 1, 0] ⟨4, ![n, h, w, c]⟩)
    (s12 : (⟨4, ![n, h2, w2, c]⟩ : Shape).Slices ![0, 1, 2, 0] ⟨4, ![n, h, w, c]⟩)
    (s20 : (⟨4, ![n, h2, w2, c]⟩ : Shape).Slices ![0, 2, 0, 0] ⟨4, ![n, h, w, c]⟩)
    (s21 : (⟨4, ![n, h2, w2, c]⟩ : Shape).Slices ![0, 2, 1, 0] ⟨4, ![n, h, w, c]⟩)
    (s22 : (⟨4, ![n, h2, w2, c]⟩ : Shape).Slices ![0, 2, 2, 0] ⟨4, ![n, h, w, c]⟩)
    (hc : Shape.Concatenates (List.replicate 9 ⟨4, ![n, h, w, c]⟩) ⟨4, ![n, h, w, K]⟩ 3)
    (i : Fin n) (j : Fin h) (k : Fin w) (q : Fin K) (t : Fin 9) (r : Fin c) (hq : q.val = t.val * c + r.val) :
    concatenate ⟨4, ![n, h, w, K]⟩ 3 [⟨⟨4, ![n, h, w, c]⟩, extractStridedSlice ⟨4, ![n, h, w, c]⟩ ![0, 0, 0, 0] P s00⟩,
        ⟨⟨4, ![n, h, w, c]⟩, extractStridedSlice ⟨4, ![n, h, w, c]⟩ ![0, 0, 1, 0] P s01⟩,
        ⟨⟨4, ![n, h, w, c]⟩, extractStridedSlice ⟨4, ![n, h, w, c]⟩ ![0, 0, 2, 0] P s02⟩,
        ⟨⟨4, ![n, h, w, c]⟩, extractStridedSlice ⟨4, ![n, h, w, c]⟩ ![0, 1, 0, 0] P s10⟩,
        ⟨⟨4, ![n, h, w, c]⟩, extractStridedSlice ⟨4, ![n, h, w, c]⟩ ![0, 1, 1, 0] P s11⟩,
        ⟨⟨4, ![n, h, w, c]⟩, extractStridedSlice ⟨4, ![n, h, w, c]⟩ ![0, 1, 2, 0] P s12⟩,
        ⟨⟨4, ![n, h, w, c]⟩, extractStridedSlice ⟨4, ![n, h, w, c]⟩ ![0, 2, 0, 0] P s20⟩,
        ⟨⟨4, ![n, h, w, c]⟩, extractStridedSlice ⟨4, ![n, h, w, c]⟩ ![0, 2, 1, 0] P s21⟩,
        ⟨⟨4, ![n, h, w, c]⟩, extractStridedSlice ⟨4, ![n, h, w, c]⟩ ![0, 2, 2, 0] P s22⟩] hc (ix4 i j k q)
      = P (ix4 i ⟨j.val + t.val / 3, by omega⟩ ⟨k.val + t.val % 3, by omega⟩ r) := by
  have hs : ∀ t : Fin 9, (⟨4, ![n, h2, w2, c]⟩ : Shape).Slices ![0, t.val / 3, t.val % 3, 0] ⟨4, ![n, h, w, c]⟩ := by
    intro t
    fin_cases t <;> assumption
  have hr : r.val < c := r.isLt
  refine (concatenate_ofFn_apply (t := ⟨4, ![n, h, w, K]⟩) (3 : Fin 4) (fun t : Fin 9 =>
    extractStridedSlice ⟨4, ![n, h, w, c]⟩ ![0, t.val / 3, t.val % 3, 0] P (hs t)) hc rfl c rfl (ix4 i j k q) t ?_
    (ix4 i j k r) ?_ ?_).trans ?_
  · show q.val / c = t.val
    rw [hq, Nat.mul_comm, Nat.mul_add_div (by omega), Nat.div_eq_of_lt hr, Nat.add_zero]
  · show r.val = q.val % c
    rw [hq, Nat.mul_comm, Nat.mul_add_mod, Nat.mod_eq_of_lt hr]
  · intro b hb
    fin_cases b <;> first | rfl | exact absurd rfl hb
  · refine extractStridedSlice_apply _ P (hs t) _ _ ?_
    intro a
    fin_cases a
    · exact (Nat.zero_add _).symm
    · exact Nat.add_comm _ _
    · exact Nat.add_comm _ _
    · exact (Nat.zero_add _).symm

/-- A row of a matrix product over nine groups of `c` is the sum over the groups of the sums over `c`. -/
theorem sum_nine {c K : ℕ} (hK : K = 9 * c) (g : Fin K → EReal) :
    ∑ q : Fin K, g q = ∑ t : Fin 9, ∑ r : Fin c, g ⟨t.val * c + r.val, by
      have := t.isLt; have := r.isLt
      calc t.val * c + r.val < t.val * c + c := by omega
        _ = (t.val + 1) * c := by ring
        _ ≤ 9 * c := Nat.mul_le_mul_right c (by omega)
        _ = K := hK.symm⟩ := by
  subst hK
  rw [← finProdFinEquiv.sum_comp, Fintype.sum_prod_type]
  refine Finset.sum_congr rfl fun t _ => Finset.sum_congr rfl fun r _ => congrArg g (Fin.ext ?_)
  show r.val + c * t.val = t.val * c + r.val
  ring

/-- A matrix product at an entry. -/
theorem product_apply {M K N : ℕ} (A : FVec Ideal ⟨2, ![M, K]⟩ .f32) (B : FVec Ideal ⟨2, ![K, N]⟩ .f32)
    (acc : FVec Ideal ⟨2, ![M, N]⟩ .f32) (i : Fin M) (j : Fin N) :
    matmul (DotDims.plain M K N) none A B acc (ix2 i j) = acc (ix2 i j) + ∑ k : Fin K, A (ix2 i k) * B (ix2 k j) := by
  refine (Ideal.matmul_apply _ _ A B acc _).trans (congrArg (acc (ix2 i j) + ·) ?_)
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 i j) ((ValueIdx.contrEquiv1 (DotDims.plain M K N) K rfl rfl).symm k) = ix2 i k := by
    funext a; apply Fin.ext
    match a with
    | ⟨0, _⟩ => rfl
    | ⟨1, _⟩ => exact hk
  have er : (DotDims.plain M K N).rhsIdx (ix2 i j) ((ValueIdx.contrEquiv1 (DotDims.plain M K N) K rfl rfl).symm k) = ix2 k j := by
    funext a; apply Fin.ext
    match a with
    | ⟨0, _⟩ => exact hk
    | ⟨1, _⟩ => rfl
  rw [el, er]

/-- The kernel's three by three convolution of an image with its border: the nine taps side by side, one matrix product. -/
theorem conv_rows {n h w c o h2 w2 K M : ℕ} {P : FVec Ideal ⟨4, ![n, h2, w2, c]⟩ .f32} {i : Fin n} {g : Img} (hP : Rows P i g)
    {wk : FVec Ideal ⟨2, ![K, o]⟩ .f32} {W : Bank} (hW : Flat wk W 3 c)
    (hh : h2 = h + 2) (hw : w2 = w + 2) (hK : K = 9 * c) (hM : M = n * h * w)
    (s00 : (⟨4, ![n, h2, w2, c]⟩ : Shape).Slices ![0, 0, 0, 0] ⟨4, ![n, h, w, c]⟩)
    (s01 : (⟨4, ![n, h2, w2, c]⟩ : Shape).Slices ![0, 0, 1, 0] ⟨4, ![n, h, w, c]⟩)
    (s02 : (⟨4, ![n, h2, w2, c]⟩ : Shape).Slices ![0, 0, 2, 0] ⟨4, ![n, h, w, c]⟩)
    (s10 : (⟨4, ![n, h2, w2, c]⟩ : Shape).Slices ![0, 1, 0, 0] ⟨4, ![n, h, w, c]⟩)
    (s11 : (⟨4, ![n, h2, w2, c]⟩ : Shape).Slices ![0, 1, 1, 0] ⟨4, ![n, h, w, c]⟩)
    (s12 : (⟨4, ![n, h2, w2, c]⟩ : Shape).Slices ![0, 1, 2, 0] ⟨4, ![n, h, w, c]⟩)
    (s20 : (⟨4, ![n, h2, w2, c]⟩ : Shape).Slices ![0, 2, 0, 0] ⟨4, ![n, h, w, c]⟩)
    (s21 : (⟨4, ![n, h2, w2, c]⟩ : Shape).Slices ![0, 2, 1, 0] ⟨4, ![n, h, w, c]⟩)
    (s22 : (⟨4, ![n, h2, w2, c]⟩ : Shape).Slices ![0, 2, 2, 0] ⟨4, ![n, h, w, c]⟩)
    (hc : Shape.Concatenates (List.replicate 9 ⟨4, ![n, h, w, c]⟩) ⟨4, ![n, h, w, K]⟩ 3)
    (hin : (⟨4, ![n, h, w, K]⟩ : Shape).ShapeCasts ⟨2, ![M, K]⟩)
    (hout : (⟨2, ![M, o]⟩ : Shape).ShapeCasts ⟨4, ![n, h, w, o]⟩) :
    Rows (shapeCast ⟨4, ![n, h, w, o]⟩ (matmul (DotDims.plain M K o) none (shapeCast ⟨2, ![M, K]⟩
      (concatenate ⟨4, ![n, h, w, K]⟩ 3 [⟨⟨4, ![n, h, w, c]⟩, extractStridedSlice ⟨4, ![n, h, w, c]⟩ ![0, 0, 0, 0] P s00⟩,
        ⟨⟨4, ![n, h, w, c]⟩, extractStridedSlice ⟨4, ![n, h, w, c]⟩ ![0, 0, 1, 0] P s01⟩,
        ⟨⟨4, ![n, h, w, c]⟩, extractStridedSlice ⟨4, ![n, h, w, c]⟩ ![0, 0, 2, 0] P s02⟩,
        ⟨⟨4, ![n, h, w, c]⟩, extractStridedSlice ⟨4, ![n, h, w, c]⟩ ![0, 1, 0, 0] P s10⟩,
        ⟨⟨4, ![n, h, w, c]⟩, extractStridedSlice ⟨4, ![n, h, w, c]⟩ ![0, 1, 1, 0] P s11⟩,
        ⟨⟨4, ![n, h, w, c]⟩, extractStridedSlice ⟨4, ![n, h, w, c]⟩ ![0, 1, 2, 0] P s12⟩,
        ⟨⟨4, ![n, h, w, c]⟩, extractStridedSlice ⟨4, ![n, h, w, c]⟩ ![0, 2, 0, 0] P s20⟩,
        ⟨⟨4, ![n, h, w, c]⟩, extractStridedSlice ⟨4, ![n, h, w, c]⟩ ![0, 2, 1, 0] P s21⟩,
        ⟨⟨4, ![n, h, w, c]⟩, extractStridedSlice ⟨4, ![n, h, w, c]⟩ ![0, 2, 2, 0] P s22⟩] hc) hin)
      wk (constant ⟨2, ![M, o]⟩ .f32 0x00000000#32)) hout) i (conv 3 c W g) := by
  intro j k l
  have hm : (i.val * h + j.val) * w + k.val < M := by
    have hi := i.isLt; have hj := j.isLt; have hk := k.isLt
    calc (i.val * h + j.val) * w + k.val < (i.val * h + j.val) * w + w := by omega
      _ = (i.val * h + j.val + 1) * w := by ring
      _ ≤ (n * h) * w := Nat.mul_le_mul_right w (by
          calc i.val * h + j.val + 1 ≤ i.val * h + h := by omega
            _ = (i.val + 1) * h := by ring
            _ ≤ n * h := Nat.mul_le_mul_right h (by omega))
      _ = M := hM.symm
  rw [shapeCast_apply _ hout _ (ix2 ⟨(i.val * h + j.val) * w + k.val, hm⟩ l) (by
    rw [Shape.rowMajor_val_four, Shape.rowMajor_val_two]; rfl)]
  rw [product_apply, show constant (F := Ideal) ⟨2, ![M, o]⟩ .f32 0x00000000#32 _ = 0 from Ideal.ofBits_zero_f32,
    zero_add, sum_nine hK]
  unfold conv
  refine Finset.sum_congr rfl fun t _ => Finset.sum_congr rfl fun r _ => ?_
  rw [hW t r l, mul_comm, shapeCast_apply _ hin _ (ix4 i j k _) (by
      rw [Shape.rowMajor_val_four, Shape.rowMajor_val_two]; rfl),
    taps_apply P hh hw s00 s01 s02 s10 s11 s12 s20 s21 s22 hc i j k _ t r rfl, hP]

/-- Sums of rows hold sums of images. -/
theorem add_rows {n h w c : ℕ} {u v : FVec Ideal ⟨4, ![n, h, w, c]⟩ .f32} {i : Fin n} {f g : Img} (hu : Rows u i f) (hv : Rows v i g) :
    Rows (addf u v) i (f + g) := fun j k l => congrArg₂ (· + ·) (hu j k l) (hv j k l)

/-- One tap of the kernel's first convolution: a shifted one-channel image times one row of the weights. -/
theorem tap_rows {n h w o h2 w2 K : ℕ} {P : FVec Ideal ⟨3, ![n, h2, w2]⟩ .f32} {i : Fin n} {g : Img}
    (hP : ∀ (j : Fin h2) (k : Fin w2), P (ix3 i j k) = g 0 j k) {wk : FVec Ideal ⟨2, ![K, o]⟩ .f32} {W : Bank}
    (hW : Flat wk W 5 1) {q dy dx : ℕ} (hd : q < 25 ∧ q / 5 = dy ∧ q % 5 = dx)
    (hs : (⟨3, ![n, h2, w2]⟩ : Shape).Slices ![0, dy, dx] ⟨3, ![n, h, w]⟩)
    (h₁ : (⟨3, ![n, h, w]⟩ : Shape).ShapeCasts ⟨4, ![n, h, w, 1]⟩)
    (hq : (⟨2, ![K, o]⟩ : Shape).Slices ![q, 0] ⟨2, ![1, o]⟩)
    (h₂ : (⟨2, ![1, o]⟩ : Shape).ShapeCasts ⟨1, ![o]⟩) (h₃ : (⟨1, ![o]⟩ : Shape).ShapeCasts ⟨4, ![1, 1, 1, o]⟩)
    (b₁ : (⟨4, ![n, h, w, 1]⟩ : Shape).Broadcasts ⟨4, ![n, h, w, o]⟩)
    (b₂ : (⟨4, ![1, 1, 1, o]⟩ : Shape).Broadcasts ⟨4, ![n, h, w, o]⟩) :
    Rows (mulf (broadcastTo ⟨4, ![n, h, w, o]⟩ (shapeCast ⟨4, ![n, h, w, 1]⟩ (extractStridedSlice ⟨3, ![n, h, w]⟩ ![0, dy, dx] P hs) h₁) b₁)
      (broadcastTo ⟨4, ![n, h, w, o]⟩ (shapeCast ⟨4, ![1, 1, 1, o]⟩ (shapeCast ⟨1, ![o]⟩ (extractStridedSlice ⟨2, ![1, o]⟩ ![q, 0] wk hq) h₂) h₃) b₂))
      i (tap 1 W dy dx g) := by
  intro j k l
  have hjd : j.val + dy < h2 := by have := hs.2 1; have hj := j.isLt; change dy + h ≤ h2 at this; omega
  have hkd : k.val + dx < w2 := by have := hs.2 2; have hk := k.isLt; change dx + w ≤ w2 at this; omega
  have hqK : q < K := by have := hq.2 0; change q + 1 ≤ K at this; omega
  have hi := i.isLt
  have e₁ : broadcastTo ⟨4, ![n, h, w, o]⟩ (shapeCast ⟨4, ![n, h, w, 1]⟩ (extractStridedSlice ⟨3, ![n, h, w]⟩ ![0, dy, dx] P hs) h₁) b₁
      (ix4 i j k l) = g 0 (j + dy) (k + dx) := by
    rw [broadcastTo_apply _ b₁ _ (ix4 i j k (0 : Fin 1)) (by
        intro a
        fin_cases a
        · show i.val = if n = 1 then 0 else i.val
          split <;> omega
        · show j.val = if h = 1 then 0 else j.val
          split <;> omega
        · show k.val = if w = 1 then 0 else k.val
          split <;> omega
        · rfl),
      shapeCast_apply _ h₁ _ (ix3 i j k) (by
        rw [Shape.rowMajor_val_four, Shape.rowMajor_val_three]
        show (i.val * h + j.val) * w + k.val = ((i.val * h + j.val) * w + k.val) * 1 + 0
        omega),
      extractStridedSlice_apply _ P hs _ (ix3 i ⟨j.val + dy, hjd⟩ ⟨k.val + dx, hkd⟩) (by
        intro a
        fin_cases a
        · exact (Nat.zero_add _).symm
        · exact Nat.add_comm _ _
        · exact Nat.add_comm _ _)]
    exact hP _ _
  have e₂ : broadcastTo ⟨4, ![n, h, w, o]⟩ (shapeCast ⟨4, ![1, 1, 1, o]⟩ (shapeCast ⟨1, ![o]⟩ (extractStridedSlice ⟨2, ![1, o]⟩ ![q, 0] wk hq) h₂) h₃) b₂
      (ix4 i j k l) = wk (ix2 ⟨q, hqK⟩ l) := by
    rw [broadcastTo_apply _ b₂ _ (ix4 (0 : Fin 1) (0 : Fin 1) (0 : Fin 1) l) (by
        intro a
        fin_cases a
        · rfl
        · rfl
        · rfl
        · show l.val = if o = 1 then 0 else l.val
          have := l.isLt
          split <;> omega),
      shapeCast_apply _ h₃ _ (ix1 l) (by
        rw [Shape.rowMajor_val_four, Shape.rowMajor_val_one]
        show l.val = ((0 * 1 + 0) * 1 + 0) * o + l.val
        omega),
      shapeCast_apply _ h₂ _ (ix2 (0 : Fin 1) l) (by
        rw [Shape.rowMajor_val_two, Shape.rowMajor_val_one]
        show 0 * o + l.val = l.val
        omega),
      extractStridedSlice_apply _ wk hq _ (ix2 ⟨q, hqK⟩ l) (by
        intro a
        fin_cases a
        · rfl
        · exact (Nat.zero_add _).symm)]
  show _ * _ = _
  have e := hW ⟨q, hd.1⟩ (0 : Fin 1) l (by show q * 1 + 0 < K; omega)
  rw [e₁, e₂, mul_comm, show (⟨q, hqK⟩ : Fin K) = ⟨q * 1 + 0, by omega⟩ from Fin.ext (by show q = q * 1 + 0; omega)]
  unfold tap
  rw [Fin.sum_univ_one]
  refine congrArg (· * g 0 (j.val + dy) (k.val + dx)) (e.trans ?_)
  show W l 0 (q / 5) (q % 5) = W l 0 dy dx
  rw [hd.2.1, hd.2.2]

/-- A zero vector holds the zero image. -/
theorem zero_rows {n h w c : ℕ} (i : Fin n) : Rows (n := n) (h := h) (w := w) (c := c)
    (broadcast _ (Scalar.ofBits .f32 0x00000000#32)) i 0 := fun _ _ _ => Ideal.ofBits_zero_f32

end Cert.Net

end
-- ==== Proof.GlobalFrame.lean ====
/- One frame of the global branch: what the kernel computes at a grid point is the convolutional stack of that frame. -/
module

public import proofs.«01_k».proof.Proof.KernelLayers
public import proofs.«01_k».proof.Proof.Gen.KernelIdeal.Skeleton

@[expose] public section

set_option maxRecDepth 16384

noncomputable section

namespace Cert.KernelIdeal.Gen

open Idealize.ShloMosaic Cert.Net Cert.KernelIdeal

/-- The zero splat is zero at every index. -/
theorem zero_splat {s : Shape} (j : s.Idx) : (broadcast s (Scalar.ofBits (F := Ideal) .f32 0x00000000#32)) j = 0 := Ideal.ofBits_zero_f32

/-- The frame with its border. -/
theorem pay9_image (v0 : Vec Ideal S1x1x64x64 .f32) (f : Img) (hx : ∀ (j k : Fin 64), v0 (ix4 (0 : Fin 1) (0 : Fin 1) j k) = f 0 j k)
    (j k : Fin 68) : k0_pay9 v0 (ix3 (0 : Fin 1) j k) = padded 2 64 64 f 0 j k :=
  pad_image (n := 1) (h := 64) (w := 64) (p := 2) (h2 := 68) (w2 := 68) (fun j k => (shapeCast_apply _ _ _ (ix4 (0 : Fin 1) (0 : Fin 1) j k) (by
      rw [Shape.rowMajor_val_four, Shape.rowMajor_val_three]; rfl)).trans (hx j k)) rfl rfl _ _ zero_splat zero_splat
    concatenates_S1x64x2_S1x64x64_S1x64x2_S1x64x68_d2 concatenates_S1x2x68_S1x64x68_S1x2x68_S1x68x68_d1 j k

/-- The running sum of the first convolution before its last three taps, from the frame and the weights. -/
def sumK (v0 : Vec Ideal S1x1x64x64 .f32) (v2 : Vec Ideal S25x32 .f32) : FVec Ideal S1x64x64x32 .f32 :=
  k0_pay17 (k0_pay3 v2) (k0_pay9 v0)
    (k0_pay14 (k0_pay3 v2) (k0_pay9 v0) (k0_pay12 (k0_pay3 v2) (k0_pay9 v0) (k0_pay10 v0 v2) (k0_pay11 v0)) (k0_pay13 (k0_pay3 v2) (k0_pay9 v0)))
    (k0_pay15 (k0_pay9 v0)) (k0_pay16 (k0_pay3 v2))

/-- The running sum of the first convolution, up to its last three taps. -/
theorem sum_rows {v0 : Vec Ideal S1x1x64x64 .f32} {v2 : Vec Ideal S25x32 .f32} {W₁ : Bank} {g : Img}
    (hP : ∀ (j k : Fin 68), k0_pay9 v0 (ix3 (0 : Fin 1) j k) = g 0 j k) (h1 : Flat (k0_pay3 v2) W₁ 5 1) :
    Rows (n := 1) (h := 64) (w := 64) (c := 32) (sumK v0 v2) 0
      (0 + tap 1 W₁ 0 0 g + tap 1 W₁ 0 1 g + tap 1 W₁ 0 2 g + tap 1 W₁ 0 3 g + tap 1 W₁ 0 4 g
        + tap 1 W₁ 1 0 g + tap 1 W₁ 1 1 g + tap 1 W₁ 1 2 g + tap 1 W₁ 1 3 g + tap 1 W₁ 1 4 g
        + tap 1 W₁ 2 0 g + tap 1 W₁ 2 1 g + tap 1 W₁ 2 2 g + tap 1 W₁ 2 3 g + tap 1 W₁ 2 4 g
        + tap 1 W₁ 3 0 g + tap 1 W₁ 3 1 g + tap 1 W₁ 3 2 g + tap 1 W₁ 3 3 g + tap 1 W₁ 3 4 g
        + tap 1 W₁ 4 0 g + tap 1 W₁ 4 1 g) := by
  repeat' refine add_rows ?_ (tap_rows (n := 1) (h := 64) (w := 64) (o := 32) (h2 := 68) (w2 := 68) (K := 25) hP h1 (by decide) _ _ _ _ _ _ _)
  exact zero_rows 0

/-- The first two convolutions. -/
theorem pay19_rows {v0 : Vec Ideal S1x1x64x64 .f32} {v2 : Vec Ideal S25x32 .f32} {v5 : FVec Ideal S288x32 .f32} {W₁ W₂ : Bank} {g : Img}
    (hP : ∀ (j k : Fin 68), k0_pay9 v0 (ix3 (0 : Fin 1) j k) = g 0 j k) (h1 : Flat (k0_pay3 v2) W₁ 5 1) (h2 : Flat v5 W₂ 3 32) :
    ∃ u : FVec Ideal S1x64x64x32 .f32, Rows (n := 1) (h := 64) (w := 64) (c := 32) u 0 (block 64 64 32 W₂ (relu (conv 5 1 W₁ g)))
      ∧ k0_pay19 (k0_pay3 v2) v5 (k0_pay9 v0) (sumK v0 v2) (k0_pay18 (k0_pay9 v0)) = shapeCast S1x32x2x64x32 u shapeCasts_S1x64x64x32_S1x32x2x64x32 := by
  have hs := sum_rows hP h1
  rw [zero_add] at hs
  rw [conv_five]
  exact ⟨_, relu_rows (conv_rows (h2 := 66) (w2 := 66) (K := 288) (M := 4096) (pad_rows (p := 1) (h2 := 66) (w2 := 66)
      (relu_rows (add_rows (add_rows (add_rows hs
        (tap_rows (h := 64) (w := 64) hP h1 (q := 22) (by decide) slices_S1x68x68_o0_4_2_S1x64x64 shapeCasts_S1x64x64_S1x64x64x1 slices_S25x32_o22_0_S1x32 _ _ _ _))
        (tap_rows (h := 64) (w := 64) hP h1 (q := 23) (by decide) slices_S1x68x68_o0_4_3_S1x64x64 shapeCasts_S1x64x64_S1x64x64x1 slices_S25x32_o23_0_S1x32 _ _ _ _))
        (tap_rows (h := 64) (w := 64) hP h1 (q := 24) (by decide) slices_S1x68x68_o0_4_4_S1x64x64 shapeCasts_S1x64x64_S1x64x64x1 slices_S25x32_o24_0_S1x32 _ _ _ _)))
      rfl rfl _ _ zero_splat zero_splat _ _) h2 rfl rfl rfl rfl _ _ _ _ _ _ _ _ _ _ _ _), rfl⟩

/-- The middle two convolutions, after the first maximum. -/
theorem pay20_rows {v7 : FVec Ideal S288x64 .f32} {v9 : FVec Ideal S576x64 .f32} {v : FVec Ideal S1x64x64x32 .f32} {W₃ W₄ : Bank} {f : Img}
    (h3 : Flat v7 W₃ 3 32) (h4 : Flat v9 W₄ 3 64) (hv : Rows (n := 1) (h := 64) (w := 64) (c := 32) v 0 f) (hs) :
    ∃ u : FVec Ideal S1x32x32x64 .f32, Rows (n := 1) (h := 32) (w := 32) (c := 64) u 0 (block 32 32 64 W₄ (block 32 32 32 W₃ (pool f)))
      ∧ k0_pay20 v7 v9 (shapeCast S1x32x2x64x32 v hs) = shapeCast S1x16x2x32x64 u shapeCasts_S1x32x32x64_S1x16x2x32x64 :=
  ⟨_, relu_rows (conv_rows (h2 := 34) (w2 := 34) (K := 576) (M := 1024) (pad_rows (p := 1) (h2 := 34) (w2 := 34)
      (relu_rows (conv_rows (h2 := 34) (w2 := 34) (K := 288) (M := 1024) (pad_rows (p := 1) (h2 := 34) (w2 := 34)
        (pool_rows (h2 := 32) (w2 := 32) hv rfl rfl _ _ _ _) rfl rfl _ _ zero_splat zero_splat _ _)
      h3 rfl rfl rfl rfl _ _ _ _ _ _ _ _ _ _ _ _)) rfl rfl _ _ zero_splat zero_splat _ _)
    h4 rfl rfl rfl rfl _ _ _ _ _ _ _ _ _ _ _ _), rfl⟩

/-- The last four layers. -/
theorem pay21_rows {v11 : FVec Ideal S576x128 .f32} {v13 : FVec Ideal S1152x128 .f32} {v : FVec Ideal S1x32x32x64 .f32} {W₅ W₆ : Bank} {f : Img}
    (h5 : Flat v11 W₅ 3 64) (h6 : Flat v13 W₆ 3 128) (hv : Rows (n := 1) (h := 32) (w := 32) (c := 64) v 0 f) (hs) :
    ∃ u : FVec Ideal S1x16x16x128 .f32, Rows (n := 1) (h := 16) (w := 16) (c := 128) u 0 (block 16 16 128 W₆ (block 16 16 64 W₅ (pool f)))
      ∧ k0_pay21 v11 v13 (shapeCast S1x16x2x32x64 v hs) = shapeCast S256x128 u shapeCasts_S1x16x16x128_S256x128 :=
  ⟨_, relu_rows (conv_rows (h2 := 18) (w2 := 18) (K := 1152) (M := 256) (pad_rows (p := 1) (h2 := 18) (w2 := 18)
      (relu_rows (conv_rows (h2 := 18) (w2 := 18) (K := 576) (M := 256) (pad_rows (p := 1) (h2 := 18) (w2 := 18)
        (pool_rows (h2 := 16) (w2 := 16) hv rfl rfl _ _ _ _) rfl rfl _ _ zero_splat zero_splat _ _)
      h5 rfl rfl rfl rfl _ _ _ _ _ _ _ _ _ _ _ _)) rfl rfl _ _ zero_splat zero_splat _ _)
    h6 rfl rfl rfl rfl _ _ _ _ _ _ _ _ _ _ _ _), rfl⟩

/-- What the body computes from a frame and the six banks. -/
def frameK (v0 : Vec Ideal S1x1x64x64 .f32) (v2 : Vec Ideal S25x32 .f32) (v4 : Vec Ideal S288x32 .f32) (v6 : Vec Ideal S288x64 .f32)
    (v8 : Vec Ideal S576x64 .f32) (v10 : Vec Ideal S576x128 .f32) (v12 : Vec Ideal S1152x128 .f32) : FVec Ideal S256x128 .f32 :=
  k0_pay21 (k0_pay7 v10) (k0_pay8 v12) (k0_pay20 (k0_pay5 v6) (k0_pay6 v8)
    (k0_pay19 (k0_pay3 v2) (k0_pay4 v4) (k0_pay9 v0) (sumK v0 v2) (k0_pay18 (k0_pay9 v0))))

/-- The body computes the convolutional stack of its frame. -/
theorem frame_rows {v0 : Vec Ideal S1x1x64x64 .f32} {v2 : Vec Ideal S25x32 .f32} {v4 : Vec Ideal S288x32 .f32} {v6 : Vec Ideal S288x64 .f32}
    {v8 : Vec Ideal S576x64 .f32} {v10 : Vec Ideal S576x128 .f32} {v12 : Vec Ideal S1152x128 .f32} {f : Img} {W₁ W₂ W₃ W₄ W₅ W₆ : Bank}
    (hx : ∀ (j k : Fin 64), v0 (ix4 (0 : Fin 1) (0 : Fin 1) j k) = f 0 j k)
    (h1 : Flat (k0_pay3 v2) W₁ 5 1) (h2 : Flat (k0_pay4 v4) W₂ 3 32) (h3 : Flat (k0_pay5 v6) W₃ 3 32) (h4 : Flat (k0_pay6 v8) W₄ 3 64)
    (h5 : Flat (k0_pay7 v10) W₅ 3 64) (h6 : Flat (k0_pay8 v12) W₆ 3 128) (r : Fin 256) (c : Fin 128) :
    frameK v0 v2 v4 v6 v8 v10 v12 (ix2 r c) = base 64 64 W₁ W₂ W₃ W₄ W₅ W₆ f c (r.val / 16) (r.val % 16) := by
  obtain ⟨u₁, k₁, e₁⟩ := pay19_rows (pay9_image v0 f hx) h1 h2
  obtain ⟨u₂, k₂, e₂⟩ := pay20_rows h3 h4 k₁ shapeCasts_S1x64x64x32_S1x32x2x64x32
  obtain ⟨u₃, k₃, e₃⟩ := pay21_rows h5 h6 k₂ shapeCasts_S1x32x32x64_S1x16x2x32x64
  unfold frameK
  rw [e₁, e₂, e₃, shapeCast_apply _ _ _ (ix4 (0 : Fin 1) ⟨r.val / 16, by omega⟩ ⟨r.val % 16, by omega⟩ c) (by
    rw [Shape.rowMajor_val_four, Shape.rowMajor_val_two]
    show ((0 * 16 + r.val / 16) * 16 + r.val % 16) * 128 + c.val = r.val * 128 + c.val
    omega)]
  exact k₃ _ _ _

end Cert.KernelIdeal.Gen

end
-- ==== Proof.Crop.lean ====
/- The crop around a position: where its samples lie, and a row of weights that picks two pixels. -/
module

public import proofs.«01_k».proof.Proof.Spec

@[expose] public section

noncomputable section

namespace Cert.Net

open Idealize.ShloMosaic

/-- The first pixel of the box along one axis around the position `p`. -/
def lo (p : EReal) : EReal :=
  Ideal.liftRound Int.floor (min (Ideal.ofBits .f32 0x427C0000#32) (max (Ideal.ofBits .f32 0x00000000#32) (p - Ideal.ofBits .f32 0x40E00000#32)))

/-- One past the last pixel of the box. -/
def hi (p : EReal) : EReal :=
  Ideal.liftRound Int.floor (min (p + Ideal.ofBits .f32 0x40E00000#32) (Ideal.ofBits .f32 0x42800000#32))

/-- Half past the sample's number. -/
def half (r : ℕ) : EReal := (((BitVec.ofNat 32 r).toInt : ℝ) : EReal) + Ideal.ofBits .f32 0x3F000000#32

/-- Where sample `r` of fourteen lies. -/
def place (p : EReal) (r : ℕ) : EReal :=
  min (hi p - Ideal.ofBits .f32 0x3F800000#32)
    (max (lo p) (lo p + Ideal.div (half r * (hi p - lo p)) (Ideal.ofBits .f32 0x41600000#32) - Ideal.ofBits .f32 0x3F000000#32))

/-- The pixel at or before the sample. -/
def first (p : EReal) (r : ℕ) : EReal := Ideal.liftRound Int.floor (place p r)

/-- The pixel after it, inside the box. -/
def second (p : EReal) (r : ℕ) : EReal := min (first p r + Ideal.ofBits .f32 0x3F800000#32) (hi p - Ideal.ofBits .f32 0x3F800000#32)

/-- How far the sample lies past the first pixel. -/
def part (p : EReal) (r : ℕ) : EReal := place p r - first p r

theorem bits_seven : Ideal.ofBits .f32 0x40E00000#32 = ((7 : ℝ) : EReal) := by
  simp [Ideal.ofBits, Ideal.ieee]; rw [← EReal.coe_mul]; norm_num

theorem bits_fourteen : Ideal.ofBits .f32 0x41600000#32 = ((14 : ℝ) : EReal) := by
  simp [Ideal.ofBits, Ideal.ieee]; rw [← EReal.coe_mul]; norm_num

theorem bits_sixtythree : Ideal.ofBits .f32 0x427C0000#32 = ((63 : ℝ) : EReal) := by
  simp [Ideal.ofBits, Ideal.ieee]; rw [← EReal.coe_mul]; norm_num

theorem bits_sixtyfour : Ideal.ofBits .f32 0x42800000#32 = ((64 : ℝ) : EReal) := by
  simp [Ideal.ofBits, Ideal.ieee]; rw [← EReal.coe_mul]; norm_num

theorem bits_half : Ideal.ofBits .f32 0x3F000000#32 = ((1 / 2 : ℝ) : EReal) := by
  simp [Ideal.ofBits, Ideal.ieee]; rw [← EReal.coe_mul]; norm_num

theorem bits_one : Ideal.ofBits .f32 0x3F800000#32 = ((1 : ℝ) : EReal) := by
  rw [Ideal.ofBits_one_f32, EReal.coe_one]

theorem bits_zero : Ideal.ofBits .f32 0x00000000#32 = ((0 : ℝ) : EReal) := Ideal.ofBits_zero_f32

/-- The smaller of two reals, as extended reals. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The larger of two reals, as extended reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The ends of the box are whole numbers of pixels, at least one pixel apart. -/
theorem ends {p : EReal} (hp : 0 ≤ p) : ∃ L H : ℤ, 0 ≤ L ∧ L + 1 ≤ H ∧ H ≤ 64 ∧ lo p = ((L : ℝ) : EReal) ∧ hi p = ((H : ℝ) : EReal) := by
  unfold lo hi
  rw [bits_seven, bits_sixtythree, bits_sixtyfour, bits_zero]
  induction p with
  | bot => exact absurd hp (by simp)
  | top =>
    refine ⟨63, 64, by norm_num, by norm_num, by norm_num, ?_, ?_⟩
    · rw [EReal.top_sub_coe, max_eq_right le_top, min_eq_left le_top]
      show (((⌊(63 : ℝ)⌋ : ℤ) : ℝ) : EReal) = _
      rw [show ⌊(63 : ℝ)⌋ = 63 by norm_num]
    · rw [EReal.top_add_coe, min_eq_right le_top]
      show (((⌊(64 : ℝ)⌋ : ℤ) : ℝ) : EReal) = _
      rw [show ⌊(64 : ℝ)⌋ = 64 by norm_num]
  | coe x =>
    have hx : (0 : ℝ) ≤ x := by exact_mod_cast hp
    refine ⟨⌊min 63 (max 0 (x - 7))⌋, ⌊min (x + 7) 64⌋, ?_, ?_, ?_, ?_, ?_⟩
    · exact Int.floor_nonneg.mpr (le_min (by norm_num) (le_max_left _ _))
    · rw [← Int.floor_add_one]
      refine Int.floor_le_floor (le_min ?_ ?_)
      · rcases max_cases (0 : ℝ) (x - 7) with ⟨h, _⟩ | ⟨h, _⟩
        · rw [h]; have := min_le_right (63 : ℝ) 0; linarith
        · rw [h]; have := min_le_right (63 : ℝ) (x - 7); linarith
      · have := min_le_left (63 : ℝ) (max 0 (x - 7)); linarith
    · have h : ⌊min (x + 7) 64⌋ ≤ ⌊(64 : ℝ)⌋ := Int.floor_le_floor (min_le_right _ _)
      rwa [show ⌊(64 : ℝ)⌋ = 64 by norm_num] at h
    · rw [← EReal.coe_sub, coe_max, coe_min]
      rfl
    · rw [← EReal.coe_add, coe_min]
      rfl

/-- The two pixels of a sample are pixels of the frame, and its part is between zero and one. -/
theorem sample {p : EReal} (hp : 0 ≤ p) (r : ℕ) : ∃ (a b : Fin 64) (w : ℝ), 0 ≤ w ∧ w ≤ 1
    ∧ first p r = ((a.val : ℝ) : EReal) ∧ second p r = ((b.val : ℝ) : EReal) ∧ part p r = (w : EReal) := by
  obtain ⟨L, H, h0, h1, h2, eL, eH⟩ := ends hp
  have hLH : (L : ℝ) + 1 ≤ H := by exact_mod_cast h1
  obtain ⟨q, hq1, hq2, eq⟩ : ∃ q : ℝ, (L : ℝ) ≤ q ∧ q ≤ H - 1 ∧ place p r = (q : EReal) := by
    unfold place half
    rw [eL, eH, bits_one, bits_half, bits_fourteen]
    unfold Ideal.div
    rw [if_neg (by exact_mod_cast (by norm_num : (14 : ℝ) ≠ 0)), ← EReal.coe_sub, ← EReal.coe_sub, ← EReal.coe_add, ← EReal.coe_mul,
      ← EReal.coe_inv, ← EReal.coe_mul, ← EReal.coe_add, ← EReal.coe_sub, coe_max, coe_min]
    exact ⟨_, le_min (by linarith) (le_max_left _ _), min_le_left _ _, rfl⟩
  have hf1 : L ≤ ⌊q⌋ := Int.le_floor.mpr hq1
  have hf2 : ⌊q⌋ ≤ H - 1 := by
    have := (Int.floor_le q).trans hq2
    have h : ((⌊q⌋ : ℤ) : ℝ) ≤ ((H - 1 : ℤ) : ℝ) := by push_cast; exact this
    exact_mod_cast h
  have e1 : first p r = ((⌊q⌋ : ℝ) : EReal) := by unfold first; rw [eq]; rfl
  have e2 : second p r = (((min (⌊q⌋ + 1) (H - 1) : ℤ) : ℝ) : EReal) := by
    unfold second
    rw [e1, eH, bits_one, ← EReal.coe_add, ← EReal.coe_sub, coe_min]
    push_cast
    rfl
  have e3 : part p r = ((q - ⌊q⌋ : ℝ) : EReal) := by unfold part; rw [e1, eq, ← EReal.coe_sub]
  refine ⟨⟨⌊q⌋.toNat, by omega⟩, ⟨(min (⌊q⌋ + 1) (H - 1)).toNat, by omega⟩, q - ⌊q⌋, ?_, ?_, ?_, ?_, e3⟩
  · have := Int.floor_le q; linarith
  · have := Int.lt_floor_add_one q; linarith
  · rw [e1]
    have h : ((⌊q⌋.toNat : ℤ)) = ⌊q⌋ := Int.toNat_of_nonneg (by omega)
    rw [show ((⌊q⌋.toNat : ℝ)) = ((⌊q⌋.toNat : ℤ) : ℝ) by push_cast; rfl, h]
  · rw [e2]
    have h : (((min (⌊q⌋ + 1) (H - 1)).toNat : ℤ)) = min (⌊q⌋ + 1) (H - 1) := Int.toNat_of_nonneg (by omega)
    rw [show (((min (⌊q⌋ + 1) (H - 1)).toNat : ℝ)) = (((min (⌊q⌋ + 1) (H - 1)).toNat : ℤ) : ℝ) by push_cast; rfl, h]

/-- Whether lane `l` is the pixel `x`, as a number. -/
def hot (x : EReal) (l : ℕ) : EReal :=
  ((((Ideal.cmp .oeq (((BitVec.ofNat 32 l).toInt : ℝ) : EReal) x).setWidth 32).toInt : ℝ) : EReal)

/-- A small natural number read back from its word. -/
theorem toInt_small {l : ℕ} (hl : l < 2 ^ 31) : (BitVec.ofNat 32 l).toInt = l := by
  rw [BitVec.toInt_eq_toNat_cond, BitVec.toNat_ofNat, Nat.mod_eq_of_lt (by omega), if_pos (by omega)]

/-- The indicator of a pixel. -/
theorem hot_eq (a l : Fin 64) : hot ((a.val : ℝ) : EReal) l.val = if l = a then ((1 : ℝ) : EReal) else ((0 : ℝ) : EReal) := by
  unfold hot
  rw [toInt_small (by have := l.isLt; omega)]
  show ((((BitVec.ofBool (decide ((((l.val : ℤ) : ℝ) : EReal) = ((a.val : ℝ) : EReal)))).setWidth 32).toInt : ℝ) : EReal) = _
  have h : ((((l.val : ℤ) : ℝ) : EReal) = ((a.val : ℝ) : EReal)) ↔ l = a := by
    rw [EReal.coe_eq_coe_iff, Int.cast_natCast, Nat.cast_inj, Fin.val_inj]
  by_cases e : l = a
  · rw [if_pos e, decide_eq_true (h.mpr e)]
    rw [show ((BitVec.ofBool true).setWidth 32).toInt = 1 by decide]; norm_num
  · rw [if_neg e, decide_eq_false (fun k => e (h.mp k))]
    rw [show ((BitVec.ofBool false).setWidth 32).toInt = 0 by decide]; norm_num

/-- A row of weights: the first pixel's indicator times one less the part, and the second's times the part. -/
def weight (p : EReal) (r l : ℕ) : EReal :=
  hot (first p r) l * (Ideal.ofBits .f32 0x3F800000#32 - part p r) + hot (second p r) l * part p r

/-- The mixture of two values by the part of a sample. -/
def mix (w x y : EReal) : EReal := (Ideal.ofBits .f32 0x3F800000#32 - w) * x + w * y

/-- The sum against a row of weights is the mixture of the two pixels. -/
theorem sum_weight {p : EReal} {r : ℕ} {a b : Fin 64} {w : ℝ} (h0 : 0 ≤ w) (h1 : w ≤ 1) (e1 : first p r = ((a.val : ℝ) : EReal))
    (e2 : second p r = ((b.val : ℝ) : EReal)) (e3 : part p r = (w : EReal)) (f : Fin 64 → EReal) :
    ∑ l : Fin 64, weight p r l.val * f l = mix (part p r) (f a) (f b) := by
  unfold weight mix
  rw [e1, e2, e3, bits_one, ← EReal.coe_sub]
  have hk : ∀ l : Fin 64, (hot ((a.val : ℝ) : EReal) l.val * ((1 - w : ℝ) : EReal) + hot ((b.val : ℝ) : EReal) l.val * (w : EReal)) * f l
      = (if l = a then ((1 - w : ℝ) : EReal) * f l else 0) + (if l = b then (w : EReal) * f l else 0) := by
    intro l
    rw [hot_eq, hot_eq, EReal.right_distrib_of_nonneg]
    · congr 1
      · split
        · rw [← EReal.coe_mul, one_mul]
        · rw [← EReal.coe_mul, zero_mul, EReal.coe_zero, zero_mul]
      · split
        · rw [← EReal.coe_mul, one_mul]
        · rw [← EReal.coe_mul, zero_mul, EReal.coe_zero, zero_mul]
    · split <;> rw [← EReal.coe_mul] <;> norm_cast
      · linarith
      · simp
    · split <;> rw [← EReal.coe_mul] <;> norm_cast
      · linarith
      · simp
  rw [Finset.sum_congr rfl fun l _ => hk l, Finset.sum_add_distrib, Finset.sum_ite_eq' Finset.univ a, Finset.sum_ite_eq' Finset.univ b,
    if_pos (Finset.mem_univ _), if_pos (Finset.mem_univ _)]

/-- A nonnegative real distributes over any sum. -/
theorem coe_mul_add {c : ℝ} (hc : 0 ≤ c) (x y : EReal) : (c : EReal) * (x + y) = c * x + c * y :=
  EReal.left_distrib_of_nonneg_of_ne_top (by exact_mod_cast hc) (EReal.coe_ne_top c) x y

/-- Mixing along the rows and then the columns is mixing along the columns and then the rows. -/
theorem mix_mix {u w : ℝ} (hu : 0 ≤ u ∧ u ≤ 1) (hw : 0 ≤ w ∧ w ≤ 1) (x00 x01 x10 x11 : EReal) :
    mix w (mix u x00 x10) (mix u x01 x11) = mix u (mix w x00 x01) (mix w x10 x11) := by
  unfold mix
  rw [bits_one, ← EReal.coe_sub, ← EReal.coe_sub]
  have hu' : (0 : ℝ) ≤ 1 - u := by linarith [hu.2]
  have hw' : (0 : ℝ) ≤ 1 - w := by linarith [hw.2]
  rw [coe_mul_add hw', coe_mul_add hw.1, coe_mul_add hu', coe_mul_add hu.1]
  simp only [← mul_assoc, ← EReal.coe_mul]
  rw [mul_comm (1 - w) (1 - u), mul_comm (1 - w) u, mul_comm w (1 - u), mul_comm w u]
  abel

/-- The pixel number of an extended real. -/
def pixel (x : EReal) : ℕ := ⌊x.toReal⌋₊

/-- The crop of an image around the position with column `px` and row `py`: each sample mixed of four pixels. -/
def crop (px py : EReal) (f : Img) : Img := fun _ i j =>
  mix (part py i) (mix (part px j) (f 0 (pixel (first py i)) (pixel (first px j))) (f 0 (pixel (first py i)) (pixel (second px j))))
    (mix (part px j) (f 0 (pixel (second py i)) (pixel (first px j))) (f 0 (pixel (second py i)) (pixel (second px j))))

/-- The pixel number of a natural number. -/
theorem pixel_coe (n : ℕ) : pixel ((n : ℝ) : EReal) = n := by
  unfold pixel
  rw [EReal.toReal_coe, Nat.floor_natCast]

/-- The crop by two products with rows of weights. -/
theorem crop_weights {px py : EReal} (hx : 0 ≤ px) (hy : 0 ≤ py) (f : Img) (i j : ℕ) :
    ∑ k : Fin 64, (∑ l : Fin 64, weight py i l.val * f 0 l.val k.val) * weight px j k.val = crop px py f 0 i j := by
  obtain ⟨a, b, u, u0, u1, ea, eb, eu⟩ := sample hy i
  obtain ⟨c, d, w, w0, w1, ec, ed, ew⟩ := sample hx j
  unfold crop
  simp only [sum_weight u0 u1 ea eb eu (fun l => f 0 l.val _)]
  simp only [mul_comm _ (weight px j _)]
  rw [sum_weight w0 w1 ec ed ew (fun k => mix (part py i) (f 0 a.val k.val) (f 0 b.val k.val)), ea, eb, ec, ed, pixel_coe, pixel_coe, pixel_coe,
    pixel_coe, eu, ew]
  exact mix_mix ⟨u0, u1⟩ ⟨w0, w1⟩ _ _ _ _

/-- A pixel number as a word, read as an index into the frame, is the pixel. -/
theorem word_pixel (a : Fin 64) : Ideal.fptosi 32 ((a.val : ℝ) : EReal) = BitVec.ofNat 32 a.val := by
  show BitVec.ofInt 32 (max (-(2 ^ 31 : ℕ)) (min ((2 ^ 31 : ℕ) - 1) (if (0 : ℝ) ≤ (a.val : ℝ) then ⌊(a.val : ℝ)⌋ else ⌈(a.val : ℝ)⌉))) = _
  rw [if_pos (Nat.cast_nonneg _), Int.floor_natCast, min_eq_right (by have := a.isLt; push_cast; omega), max_eq_right (by push_cast; omega)]
  exact BitVec.ofInt_natCast ..

end Cert.Net

end
-- ==== Proof.HostLayers.lean ====
/- The layers as the reference computes them on arrays laid out by image, channel, row, column, at any extents. -/
module

public import proofs.«01_k».proof.Proof.KernelLayers

@[expose] public section

noncomputable section

namespace Cert.Net

open Idealize.ShloMosaic

/-- The reference's border of zeros. -/
theorem pad_planes {n h w c p h2 w2 : ℕ} {v : FVec Ideal ⟨4, ![n, c, h, w]⟩ .f32} {i : Fin n} {f : Img} (hv : Planes v i f)
    {u : Shape} (z : FVec Ideal u .f32) (hu : 0 < u.numel) (hz : z (Shape.Idx.first hu) = 0)
    (hp : (⟨4, ![n, c, h, w]⟩ : Shape).Pads ![0, 0, p, p] ![0, 0, p, p] ![0, 0, 0, 0] ⟨4, ![n, c, h2, w2]⟩) :
    Planes (pad ⟨4, ![n, c, h2, w2]⟩ ![0, 0, p, p] ![0, 0, p, p] ![0, 0, 0, 0] v z hp hu) i (padded p h w f) := by
  intro l j k
  rw [pad_apply]
  unfold padded
  by_cases hin : p ≤ j.val ∧ j.val < h + p ∧ p ≤ k.val ∧ k.val < w + p
  · have hall : ∀ a : Fin 4, (![0, 0, p, p] : Fin 4 → ℕ) a ≤ (ix4 i l j k a).val
        ∧ ((ix4 i l j k a).val - (![0, 0, p, p] : Fin 4 → ℕ) a) % ((![0, 0, 0, 0] : Fin 4 → ℕ) a + 1) = 0
        ∧ ((ix4 i l j k a).val - (![0, 0, p, p] : Fin 4 → ℕ) a) / ((![0, 0, 0, 0] : Fin 4 → ℕ) a + 1) < (![n, c, h, w] : Fin 4 → ℕ) a := by
      intro a
      fin_cases a
      · show 0 ≤ i.val ∧ (i.val - 0) % (0 + 1) = 0 ∧ (i.val - 0) / (0 + 1) < n
        have := i.isLt
        rw [Nat.zero_add, Nat.mod_one, Nat.div_one]; omega
      · show 0 ≤ l.val ∧ (l.val - 0) % (0 + 1) = 0 ∧ (l.val - 0) / (0 + 1) < c
        have := l.isLt
        rw [Nat.zero_add, Nat.mod_one, Nat.div_one]; omega
      · show p ≤ j.val ∧ (j.val - p) % (0 + 1) = 0 ∧ (j.val - p) / (0 + 1) < h
        rw [Nat.zero_add, Nat.mod_one, Nat.div_one]; omega
      · show p ≤ k.val ∧ (k.val - p) % (0 + 1) = 0 ∧ (k.val - p) / (0 + 1) < w
        rw [Nat.zero_add, Nat.mod_one, Nat.div_one]; omega
    rw [if_pos hin]
    refine (dif_pos hall).trans (Eq.trans ?_ (hv l ⟨j.val - p, by omega⟩ ⟨k.val - p, by omega⟩))
    refine congrArg v (funext fun a => Fin.ext ?_)
    fin_cases a
    · show (i.val - 0) / (0 + 1) = i.val
      rw [Nat.zero_add, Nat.div_one, Nat.sub_zero]
    · show (l.val - 0) / (0 + 1) = l.val
      rw [Nat.zero_add, Nat.div_one, Nat.sub_zero]
    · show (j.val - p) / (0 + 1) = j.val - p
      rw [Nat.zero_add, Nat.div_one]
    · show (k.val - p) / (0 + 1) = k.val - p
      rw [Nat.zero_add, Nat.div_one]
  · rw [if_neg hin]
    refine (dif_neg fun hall => hin ?_).trans hz
    have a2 := hall (2 : Fin 4)
    have a3 := hall (3 : Fin 4)
    change p ≤ j.val ∧ (j.val - p) % (0 + 1) = 0 ∧ (j.val - p) / (0 + 1) < h at a2
    change p ≤ k.val ∧ (k.val - p) % (0 + 1) = 0 ∧ (k.val - p) / (0 + 1) < w at a3
    rw [Nat.zero_add, Nat.div_one] at a2 a3
    omega

/-- The reference's leaky rectifier. -/
theorem relu_planes {n h w c : ℕ} {v : FVec Ideal ⟨4, ![n, c, h, w]⟩ .f32} {i : Fin n} {f : Img} (hv : Planes v i f)
    (hb : (⟨0, ![]⟩ : Shape).BroadcastsInDim ⟨4, ![n, c, h, w]⟩ ![]) :
    Planes (select (cmpf .oge v (broadcastInDim ⟨4, ![n, c, h, w]⟩ ![] hb (constant ⟨0, ![]⟩ .f32 0x00000000#32))) v
      (mulf (broadcastInDim ⟨4, ![n, c, h, w]⟩ ![] hb (constant ⟨0, ![]⟩ .f32 0x3C23D70A#32)) v)) i (relu f) := by
  intro l j k
  unfold relu
  rw [← hv l j k]
  rfl

/-- A two by two window has four positions. -/
theorem window_numel : (⟨4, ![1, 1, 2, 2]⟩ : Shape).numel = 4 := by decide

/-- The maximum folded over four positions from the least value. -/
theorem foldl_four {N : ℕ} (hN : N = 4) (F : EReal → Fin N → EReal) (g : ℕ → EReal) (hF : ∀ r m, F r m = max r (g m.val)) :
    (List.finRange N).foldl F ⊥ = max (max (g 0) (g 2)) (max (g 1) (g 3)) := by
  subst hN
  simp only [List.finRange_succ, List.finRange_zero, List.map_cons, List.map_nil, List.foldl_cons, List.foldl_nil, hF]
  show max (max (max (max ⊥ (g 0)) (g 1)) (g 2)) (g 3) = _
  rw [max_eq_right (bot_le : ⊥ ≤ g 0), max_assoc (max (g 0) (g 1)), max_max_max_comm]

/-- The four positions of a two by two window, in row-major order. -/
theorem window_coords (m : Fin (⟨4, ![1, 1, 2, 2]⟩ : Shape).numel) (hm : m.val < 4) : (⟨4, ![1, 1, 2, 2]⟩ : Shape).rowMajor.symm m
    = ix4 (0 : Fin 1) (0 : Fin 1) (⟨m.val / 2, by omega⟩ : Fin 2) (⟨m.val % 2, by omega⟩ : Fin 2) := by
  rw [Equiv.symm_apply_eq]
  apply Fin.ext
  rw [Shape.rowMajor_val_four]
  show m.val = ((0 * 1 + 0) * 2 + m.val / 2) * 2 + m.val % 2
  omega

/-- The reference's two by two maximum. -/
theorem pool_planes {n h w c h2 w2 : ℕ} {v : FVec Ideal ⟨4, ![n, c, h, w]⟩ .f32} {i : Fin n} {f : Img} (hv : Planes v i f)
    (hh : h2 * 2 ≤ h) (hw : w2 * 2 ≤ w)
    {u : Shape} (z : FVec Ideal u .f32) (hu : 0 < u.numel) (hz : z (Shape.Idx.first hu) = ⊥)
    (hr : (⟨4, ![n, c, h, w]⟩ : Shape).ReduceWindows ![1, 1, 2, 2] ![1, 1, 2, 2] ![0, 0, 0, 0] ![0, 0, 0, 0] ⟨4, ![n, c, h2, w2]⟩) :
    Planes (Host.reduceWindow FloatOps.maximumf ![1, 1, 2, 2] ![1, 1, 2, 2] ![0, 0, 0, 0] ![0, 0, 0, 0] v z hr hu) i (pool f) := by
  intro l j k
  have key : ∀ m : Fin (⟨4, ![1, 1, 2, 2]⟩ : Shape).numel, (if hin : ∀ a : Fin 4, (![0, 0, 0, 0] : Fin 4 → ℕ) a
          ≤ (ix4 i l j k a).val * (![1, 1, 2, 2] : Fin 4 → ℕ) a + ((⟨4, ![1, 1, 2, 2]⟩ : Shape).rowMajor.symm m a).val
        ∧ (ix4 i l j k a).val * (![1, 1, 2, 2] : Fin 4 → ℕ) a + ((⟨4, ![1, 1, 2, 2]⟩ : Shape).rowMajor.symm m a).val
          - (![0, 0, 0, 0] : Fin 4 → ℕ) a < (![n, c, h, w] : Fin 4 → ℕ) a
      then v (fun a => ⟨(ix4 i l j k a).val * (![1, 1, 2, 2] : Fin 4 → ℕ) a + ((⟨4, ![1, 1, 2, 2]⟩ : Shape).rowMajor.symm m a).val
          - (![0, 0, 0, 0] : Fin 4 → ℕ) a, (hin a).2⟩) else z (Shape.Idx.first hu))
      = f l (2 * j + m.val / 2) (2 * k + m.val % 2) := by
    intro m
    have hj := j.isLt
    have hk := k.isLt
    have hm : m.val < 4 := lt_of_lt_of_eq m.isLt window_numel
    rw [window_coords m hm]
    rw [dif_pos (by
      intro a
      fin_cases a
      · show 0 ≤ i.val * 1 + 0 ∧ i.val * 1 + 0 - 0 < n
        omega
      · show 0 ≤ l.val * 1 + 0 ∧ l.val * 1 + 0 - 0 < c
        omega
      · show 0 ≤ j.val * 2 + m.val / 2 ∧ j.val * 2 + m.val / 2 - 0 < h
        omega
      · show 0 ≤ k.val * 2 + m.val % 2 ∧ k.val * 2 + m.val % 2 - 0 < w
        omega)]
    refine Eq.trans ?_ (hv l ⟨2 * j.val + m.val / 2, by omega⟩ ⟨2 * k.val + m.val % 2, by omega⟩)
    refine congrArg v (funext fun a => Fin.ext ?_)
    fin_cases a
    · show i.val * 1 + 0 - 0 = i.val
      omega
    · show l.val * 1 + 0 - 0 = l.val
      omega
    · show j.val * 2 + m.val / 2 - 0 = 2 * j.val + m.val / 2
      omega
    · show k.val * 2 + m.val % 2 - 0 = 2 * k.val + m.val % 2
      omega
  unfold Host.reduceWindow
  simp only [hz] at key ⊢
  refine (foldl_four (N := (⟨4, ![1, 1, 2, 2]⟩ : Shape).numel) window_numel _ (fun m => f l (2 * j + m / 2) (2 * k + m % 2))
    fun r m => congrArg (max r) (key m)).trans ?_
  rfl

/-- The product of a weight matrix with an image's channels: `[o, c]` by `[n, c, h, w]` to `[o, n, h, w]`. -/
def mixDims (o c n h w : ℕ) : DotDims ⟨2, ![o, c]⟩ ⟨4, ![n, c, h, w]⟩ ⟨4, ![o, n, h, w]⟩ where
  lhsContracting := [1]
  rhsContracting := [1]
  lhsNonContracting := [0]
  rhsNonContracting := [0, 2, 3]
  lhsBatch := []
  rhsBatch := []
  wf := ⟨rfl, by simp, rfl, by simp, by simp, by simp, by simp [List.finRange],
    (by decide : ([0, 2, 3, 1] : List (Fin 4)).Perm (List.finRange 4)),
    rfl, (by decide : 0 < 4), fun b => by fin_cases b <;> rfl⟩

/-- That product at an entry. -/
theorem mix_apply {o c n h w : ℕ} (A : FVec Ideal ⟨2, ![o, c]⟩ .f32) (v : FVec Ideal ⟨4, ![n, c, h, w]⟩ .f32)
    (l : Fin o) (i : Fin n) (j : Fin h) (k : Fin w) :
    Host.dotGeneral (mixDims o c n h w) none A v (ix4 l i j k) = ∑ r : Fin c, A (ix2 l r) * v (ix4 i r j k) := by
  refine (Ideal.dotGeneral_apply _ _ _ A v _).trans ?_
  rw [← Equiv.sum_comp (ValueIdx.contrEquiv1 (mixDims o c n h w) c rfl rfl).symm]
  refine Finset.sum_congr rfl fun r _ => ?_
  have hk := ValueIdx.contrEquiv1_symm_val (mixDims o c n h w) c rfl rfl r
  have el : (mixDims o c n h w).lhsIdx (ix4 l i j k) ((ValueIdx.contrEquiv1 (mixDims o c n h w) c rfl rfl).symm r) = ix2 l r := by
    funext a; apply Fin.ext
    match a with
    | ⟨0, _⟩ => rfl
    | ⟨1, _⟩ => exact hk
  have er : (mixDims o c n h w).rhsIdx (ix4 l i j k) ((ValueIdx.contrEquiv1 (mixDims o c n h w) c rfl rfl).symm r) = ix4 i r j k := by
    funext a; apply Fin.ext
    match a with
    | ⟨0, _⟩ => rfl
    | ⟨1, _⟩ => exact hk
    | ⟨2, _⟩ => rfl
    | ⟨3, _⟩ => rfl
  rw [el, er]

/-- The array `v`, laid out as channel, image, row, column, holds the image `f` at `i`. -/
def Stacks {n h w o : ℕ} (v : FVec Ideal ⟨4, ![o, n, h, w]⟩ .f32) (i : Fin n) (f : Img) : Prop :=
  ∀ (l : Fin o) (j : Fin h) (k : Fin w), v (ix4 l i j k) = f l j k

/-- Sums of stacks hold sums of images. -/
theorem add_stacks {n h w o : ℕ} {u v : FVec Ideal ⟨4, ![o, n, h, w]⟩ .f32} {i : Fin n} {f g : Img} (hu : Stacks u i f)
    (hv : Stacks v i g) : Stacks (addf u v) i (f + g) := fun l j k => congrArg₂ (· + ·) (hu l j k) (hv l j k)

/-- One tap of the reference's convolution: one position's weights times the image moved to that position. -/
theorem tap_stacks {n h w c o h2 w2 kh kw dy dx : ℕ} {P : FVec Ideal ⟨4, ![n, c, h2, w2]⟩ .f32} {i : Fin n} {g : Img}
    (hP : Planes P i g) (A : FVec Ideal ⟨4, ![o, c, kh, kw]⟩ .f32)
    (ha : (⟨4, ![o, c, kh, kw]⟩ : Shape).Slices ![0, 0, dy, dx] ⟨4, ![o, c, 1, 1]⟩)
    (hr : (⟨4, ![o, c, 1, 1]⟩ : Shape).ShapeCasts ⟨2, ![o, c]⟩)
    (hs : (⟨4, ![n, c, h2, w2]⟩ : Shape).Slices ![0, 0, dy, dx] ⟨4, ![n, c, h, w]⟩) :
    Stacks (Host.dotGeneral (mixDims o c n h w) none (shapeCast ⟨2, ![o, c]⟩ (extractStridedSlice ⟨4, ![o, c, 1, 1]⟩ ![0, 0, dy, dx] A ha) hr)
      (extractStridedSlice ⟨4, ![n, c, h, w]⟩ ![0, 0, dy, dx] P hs)) i (tap c (bank A) dy dx g) := by
  intro l j k
  have hy : dy < kh := by have := ha.2 2; change dy + 1 ≤ kh at this; omega
  have hx : dx < kw := by have := ha.2 3; change dx + 1 ≤ kw at this; omega
  have hj : j.val + dy < h2 := by have := hs.2 2; have hj := j.isLt; change dy + h ≤ h2 at this; omega
  have hk : k.val + dx < w2 := by have := hs.2 3; have hk := k.isLt; change dx + w ≤ w2 at this; omega
  rw [mix_apply]
  unfold tap
  refine Finset.sum_congr rfl fun r _ => ?_
  rw [shapeCast_apply _ hr _ (ix4 l r (0 : Fin 1) (0 : Fin 1)) (by
      rw [Shape.rowMajor_val_four, Shape.rowMajor_val_two]
      show ((l.val * c + r.val) * 1 + 0) * 1 + 0 = l.val * c + r.val
      omega),
    extractStridedSlice_apply _ A ha _ (ix4 l r ⟨dy, hy⟩ ⟨dx, hx⟩) (by
      intro a
      fin_cases a
      · exact (Nat.zero_add _).symm
      · exact (Nat.zero_add _).symm
      · rfl
      · rfl),
    extractStridedSlice_apply _ P hs _ (ix4 i r ⟨j.val + dy, hj⟩ ⟨k.val + dx, hk⟩) (by
      intro a
      fin_cases a
      · exact (Nat.zero_add _).symm
      · exact (Nat.zero_add _).symm
      · exact Nat.add_comm _ _
      · exact Nat.add_comm _ _),
    ← bank_apply A l r ⟨dy, hy⟩ ⟨dx, hx⟩, hP]

/-- The channel axis moved behind the image axis. -/
theorem swap_planes {n h w o : ℕ} {v : FVec Ideal ⟨4, ![o, n, h, w]⟩ .f32} {i : Fin n} {f : Img} (hv : Stacks v i f)
    (ht : (⟨4, ![o, n, h, w]⟩ : Shape).Transposes [1, 0, 2, 3] ⟨4, ![n, o, h, w]⟩) :
    Planes (transpose ⟨4, ![n, o, h, w]⟩ [1, 0, 2, 3] v ht) i f := fun l j k =>
  (transpose_apply _ v ht _ (ix4 l i j k) (by intro b; fin_cases b <;> rfl)).trans (hv l j k)

/-- The reference's three by three convolution: the nine taps added up, the image index brought back to the front. -/
theorem conv_planes {n h w c o h2 w2 : ℕ} {P : FVec Ideal ⟨4, ![n, c, h2, w2]⟩ .f32} {i : Fin n} {g : Img}
    (hP : Planes P i g) (A : FVec Ideal ⟨4, ![o, c, 3, 3]⟩ .f32)
    (a00 : (⟨4, ![o, c, 3, 3]⟩ : Shape).Slices ![0, 0, 0, 0] ⟨4, ![o, c, 1, 1]⟩)
    (a01 : (⟨4, ![o, c, 3, 3]⟩ : Shape).Slices ![0, 0, 0, 1] ⟨4, ![o, c, 1, 1]⟩)
    (a02 : (⟨4, ![o, c, 3, 3]⟩ : Shape).Slices ![0, 0, 0, 2] ⟨4, ![o, c, 1, 1]⟩)
    (a10 : (⟨4, ![o, c, 3, 3]⟩ : Shape).Slices ![0, 0, 1, 0] ⟨4, ![o, c, 1, 1]⟩)
    (a11 : (⟨4, ![o, c, 3, 3]⟩ : Shape).Slices ![0, 0, 1, 1] ⟨4, ![o, c, 1, 1]⟩)
    (a12 : (⟨4, ![o, c, 3, 3]⟩ : Shape).Slices ![0, 0, 1, 2] ⟨4, ![o, c, 1, 1]⟩)
    (a20 : (⟨4, ![o, c, 3, 3]⟩ : Shape).Slices ![0, 0, 2, 0] ⟨4, ![o, c, 1, 1]⟩)
    (a21 : (⟨4, ![o, c, 3, 3]⟩ : Shape).Slices ![0, 0, 2, 1] ⟨4, ![o, c, 1, 1]⟩)
    (a22 : (⟨4, ![o, c, 3, 3]⟩ : Shape).Slices ![0, 0, 2, 2] ⟨4, ![o, c, 1, 1]⟩)
    (hr : (⟨4, ![o, c, 1, 1]⟩ : Shape).ShapeCasts ⟨2, ![o, c]⟩)
    (s00 : (⟨4, ![n, c, h2, w2]⟩ : Shape).Slices ![0, 0, 0, 0] ⟨4, ![n, c, h, w]⟩)
    (s01 : (⟨4, ![n, c, h2, w2]⟩ : Shape).Slices ![0, 0, 0, 1] ⟨4, ![n, c, h, w]⟩)
    (s02 : (⟨4, ![n, c, h2, w2]⟩ : Shape).Slices ![0, 0, 0, 2] ⟨4, ![n, c, h, w]⟩)
    (s10 : (⟨4, ![n, c, h2, w2]⟩ : Shape).Slices ![0, 0, 1, 0] ⟨4, ![n, c, h, w]⟩)
    (s11 : (⟨4, ![n, c, h2, w2]⟩ : Shape).Slices ![0, 0, 1, 1] ⟨4, ![n, c, h, w]⟩)
    (s12 : (⟨4, ![n, c, h2, w2]⟩ : Shape).Slices ![0, 0, 1, 2] ⟨4, ![n, c, h, w]⟩)
    (s20 : (⟨4, ![n, c, h2, w2]⟩ : Shape).Slices ![0, 0, 2, 0] ⟨4, ![n, c, h, w]⟩)
    (s21 : (⟨4, ![n, c, h2, w2]⟩ : Shape).Slices ![0, 0, 2, 1] ⟨4, ![n, c, h, w]⟩)
    (s22 : (⟨4, ![n, c, h2, w2]⟩ : Shape).Slices ![0, 0, 2, 2] ⟨4, ![n, c, h, w]⟩)
    (ht : (⟨4, ![o, n, h, w]⟩ : Shape).Transposes [1, 0, 2, 3] ⟨4, ![n, o, h, w]⟩) :
    Planes (transpose ⟨4, ![n, o, h, w]⟩ [1, 0, 2, 3] (addf (addf (addf (addf (addf (addf (addf (addf (Host.dotGeneral (mixDims o c n h w) none (shapeCast ⟨2, ![o, c]⟩ (extractStridedSlice ⟨4, ![o, c, 1, 1]⟩ ![0, 0, 0, 0] A a00) hr)
        (extractStridedSlice ⟨4, ![n, c, h, w]⟩ ![0, 0, 0, 0] P s00))
      (Host.dotGeneral (mixDims o c n h w) none (shapeCast ⟨2, ![o, c]⟩ (extractStridedSlice ⟨4, ![o, c, 1, 1]⟩ ![0, 0, 0, 1] A a01) hr)
        (extractStridedSlice ⟨4, ![n, c, h, w]⟩ ![0, 0, 0, 1] P s01)))
      (Host.dotGeneral (mixDims o c n h w) none (shapeCast ⟨2, ![o, c]⟩ (extractStridedSlice ⟨4, ![o, c, 1, 1]⟩ ![0, 0, 0, 2] A a02) hr)
        (extractStridedSlice ⟨4, ![n, c, h, w]⟩ ![0, 0, 0, 2] P s02)))
      (Host.dotGeneral (mixDims o c n h w) none (shapeCast ⟨2, ![o, c]⟩ (extractStridedSlice ⟨4, ![o, c, 1, 1]⟩ ![0, 0, 1, 0] A a10) hr)
        (extractStridedSlice ⟨4, ![n, c, h, w]⟩ ![0, 0, 1, 0] P s10)))
      (Host.dotGeneral (mixDims o c n h w) none (shapeCast ⟨2, ![o, c]⟩ (extractStridedSlice ⟨4, ![o, c, 1, 1]⟩ ![0, 0, 1, 1] A a11) hr)
        (extractStridedSlice ⟨4, ![n, c, h, w]⟩ ![0, 0, 1, 1] P s11)))
      (Host.dotGeneral (mixDims o c n h w) none (shapeCast ⟨2, ![o, c]⟩ (extractStridedSlice ⟨4, ![o, c, 1, 1]⟩ ![0, 0, 1, 2] A a12) hr)
        (extractStridedSlice ⟨4, ![n, c, h, w]⟩ ![0, 0, 1, 2] P s12)))
      (Host.dotGeneral (mixDims o c n h w) none (shapeCast ⟨2, ![o, c]⟩ (extractStridedSlice ⟨4, ![o, c, 1, 1]⟩ ![0, 0, 2, 0] A a20) hr)
        (extractStridedSlice ⟨4, ![n, c, h, w]⟩ ![0, 0, 2, 0] P s20)))
      (Host.dotGeneral (mixDims o c n h w) none (shapeCast ⟨2, ![o, c]⟩ (extractStridedSlice ⟨4, ![o, c, 1, 1]⟩ ![0, 0, 2, 1] A a21) hr)
        (extractStridedSlice ⟨4, ![n, c, h, w]⟩ ![0, 0, 2, 1] P s21)))
      (Host.dotGeneral (mixDims o c n h w) none (shapeCast ⟨2, ![o, c]⟩ (extractStridedSlice ⟨4, ![o, c, 1, 1]⟩ ![0, 0, 2, 2] A a22) hr)
        (extractStridedSlice ⟨4, ![n, c, h, w]⟩ ![0, 0, 2, 2] P s22))) ht) i (conv 3 c (bank A) g) := by
  rw [conv_three]
  exact swap_planes (add_stacks (add_stacks (add_stacks (add_stacks (add_stacks (add_stacks (add_stacks (add_stacks (tap_stacks hP A a00 hr s00) (tap_stacks hP A a01 hr s01)) (tap_stacks hP A a02 hr s02)) (tap_stacks hP A a10 hr s10)) (tap_stacks hP A a11 hr s11)) (tap_stacks hP A a12 hr s12)) (tap_stacks hP A a20 hr s20)) (tap_stacks hP A a21 hr s21)) (tap_stacks hP A a22 hr s22)) ht

/-- The running maximum is the maximum over all the values. -/
theorem runMax_fold (g : ℕ → EReal) (n : ℕ) : Finset.fold max ⊥ (fun s : Fin (n + 1) => g s) Finset.univ = runMax g n := by
  induction n with
  | zero => simp [runMax]
  | succ n ih =>
    rw [Fin.univ_castSuccEmb, Finset.fold_cons, Finset.fold_map]
    unfold runMax
    rw [← ih, max_comm]
    rfl

end Cert.Net

end
-- ==== Proof.Gat.lean ====
/- The attention layers over the regions of one video as plain functions of row and column, and the operations of the two
   programs that compute them, at any extents. -/
module

public import proofs.«01_k».proof.Proof.HostLayers

@[expose] public section

noncomputable section

namespace Cert.Net

open Idealize.ShloMosaic

/-- A table: its value at a row and a column. -/
abbrev Tab := ℕ → ℕ → EReal

/-- The product of two tables over `m` inner positions. -/
def prod (m : ℕ) (f g : Tab) : Tab := fun i k => ∑ r : Fin m, f i r * g r k

/-- Whether regions `i` and `j` are neighbours, as a one-bit word: the same frame, or the same place in frames next to each other. -/
def near (i j : ℕ) : BitVec 1 :=
  IntOp.ori (IntOp.cmpi .eq (BitVec.ofNat 32 (i / 8)) (BitVec.ofNat 32 (j / 8)))
    (IntOp.andi (IntOp.cmpi .eq (BitVec.ofNat 32 (i % 8)) (BitVec.ofNat 32 (j % 8)))
      (IntOp.cmpi .eq (IntOp.absi (IntOp.subi (BitVec.ofNat 32 (i / 8)) (BitVec.ofNat 32 (j / 8)))) 1#32))

/-- A score after the attention's own rectifier, and a very low value where the two regions are not neighbours. -/
def gate (b : BitVec 1) (x : EReal) : EReal :=
  Scalar.select b
    (Scalar.select (FloatOps.cmpf (F := Ideal) (φ := .f32) .oge x (FloatOps.ofBits .f32 0x00000000#32)) x
      (FloatOps.mulf (F := Ideal) (φ := .f32) (FloatOps.ofBits .f32 0x3E4CCCCD#32) x))
    (FloatOps.ofBits (F := Ideal) .f32 0xD9FFCB9E#32)

/-- The score of regions `i` and `j`: one number of each added, then gated. -/
def scores (p q : Tab) : Tab := fun i j => gate (near i j) (p i 0 + q j 0)

/-- A table less the largest of its first `m` columns in each row. -/
def centred (m : ℕ) (f : Tab) : Tab := fun i j => f i j - Finset.univ.fold max ⊥ (fun l : Fin m => f i l)

/-- The exponentials of a table. -/
def grown (f : Tab) : Tab := fun i j => Ideal.exp (f i j)

/-- The sum of a row's first `m` columns. -/
def total (m : ℕ) (f : Tab) : ℕ → EReal := fun i => ∑ l : Fin m, f i l

/-- Each row's exponentials as shares of their sum. -/
def share (m : ℕ) (f : Tab) : Tab := fun i j =>
  Ideal.div (grown (centred m f) i j) (total m (grown (centred m f)) i)

/-- One attention layer over `n` regions whose features, `c` of them, have already been mixed. -/
def attend (n c : ℕ) (h a b : Tab) : Tab := prod n (share n (scores (prod c h a) (prod c h b))) h

/-- The exponential linear unit. -/
def elu (x : EReal) : EReal :=
  Scalar.select (FloatOps.cmpf (F := Ideal) (φ := .f32) .ogt x (FloatOps.ofBits .f32 0x00000000#32)) x (Ideal.exp x - 1)

/-- The logarithms of each row's shares. -/
def logShare (m : ℕ) (f : Tab) : Tab := fun i j => centred m f i j - Ideal.log (total m (grown (centred m f)) i)

/-- The mean over the rows of a video. -/
def mean (n : ℕ) (f : Tab) (k : ℕ) : EReal := Ideal.div (∑ r : Fin n, f r k) (FloatOps.ofBits (F := Ideal) .f32 0x43700000#32)

/-- The kernel's table: its entry at row `i`, column `j`. -/
def Table {n m : ℕ} (v : FVec Ideal ⟨2, ![n, m]⟩ .f32) (f : Tab) : Prop := ∀ (i : Fin n) (j : Fin m), v (ix2 i j) = f i j

/-- The reference's table of video `b`. -/
def Tables {q n m : ℕ} (v : FVec Ideal ⟨3, ![q, n, m]⟩ .f32) (b : Fin q) (f : Tab) : Prop :=
  ∀ (i : Fin n) (j : Fin m), v (ix3 b i j) = f i j

/-- The kernel's product of two tables. -/
theorem product_table {n k m : ℕ} {A : FVec Ideal ⟨2, ![n, k]⟩ .f32} {B : FVec Ideal ⟨2, ![k, m]⟩ .f32} {f g : Tab}
    (hA : Table A f) (hB : Table B g) :
    Table (matmul (DotDims.plain n k m) none A B (constant ⟨2, ![n, m]⟩ .f32 0x00000000#32)) (prod k f g) := by
  intro i j
  rw [product_apply]
  refine (congrArg (· + _) Ideal.ofBits_zero_f32).trans ((zero_add _).trans ?_)
  exact Finset.sum_congr rfl fun r _ => congrArg₂ (· * ·) (hA i r) (hB r j)

/-- A column repeated along the rows, read at an entry. -/
theorem column_apply {n m : ℕ} (v : FVec Ideal ⟨2, ![n, 1]⟩ .f32) (h : (⟨2, ![n, 1]⟩ : Shape).Broadcasts ⟨2, ![n, m]⟩)
    (i : Fin n) (j : Fin m) : broadcastTo ⟨2, ![n, m]⟩ v h (ix2 i j) = v (ix2 i 0) := by
  refine broadcastTo_apply _ h _ (ix2 i 0) fun a => ?_
  fin_cases a
  · show i.val = if n = 1 then 0 else i.val
    split <;> omega
  · rfl

/-- A row repeated along the columns, read at an entry. -/
theorem row_apply {n m : ℕ} (v : FVec Ideal ⟨2, ![1, m]⟩ .f32) (h : (⟨2, ![1, m]⟩ : Shape).Broadcasts ⟨2, ![n, m]⟩)
    (i : Fin n) (j : Fin m) : broadcastTo ⟨2, ![n, m]⟩ v h (ix2 i j) = v (ix2 0 j) := by
  refine broadcastTo_apply _ h _ (ix2 0 j) fun a => ?_
  fin_cases a
  · rfl
  · show j.val = if m = 1 then 0 else j.val
    split <;> omega

/-- A vector turned into a column, read at an entry. -/
theorem upright_apply {n : ℕ} (v : FVec Ideal ⟨1, ![n]⟩ .f32) (h : (⟨1, ![n]⟩ : Shape).ShapeCasts ⟨2, ![n, 1]⟩) (i : Fin n) :
    shapeCast ⟨2, ![n, 1]⟩ v h (ix2 i 0) = v (ix1 i) :=
  shapeCast_apply _ h _ (ix1 i) (by rw [Shape.rowMajor_val_two, Shape.rowMajor_val_one]; show i.val = i.val * 1 + 0; omega)

/-- The kernel's sum of one column along the rows and another along the columns. -/
theorem pairs_table {n : ℕ} {p q : FVec Ideal ⟨2, ![n, 1]⟩ .f32} {f g : Tab} (hp : Table p f) (hq : Table q g)
    (ht : (⟨2, ![n, 1]⟩ : Shape).Transposes [1, 0] ⟨2, ![1, n]⟩)
    (h₁ : (⟨2, ![n, 1]⟩ : Shape).Broadcasts ⟨2, ![n, n]⟩) (h₂ : (⟨2, ![1, n]⟩ : Shape).Broadcasts ⟨2, ![n, n]⟩) :
    Table (addf (broadcastTo ⟨2, ![n, n]⟩ p h₁) (broadcastTo ⟨2, ![n, n]⟩ (transpose ⟨2, ![1, n]⟩ [1, 0] q ht) h₂))
      (fun i j => f i 0 + g j 0) := by
  intro i j
  refine congrArg₂ (· + ·) ?_ ?_
  · exact (column_apply p h₁ i j).trans (hp i 0)
  · exact (row_apply _ h₂ i j).trans
      ((transpose_apply _ _ _ _ (ix2 j 0) (by intro a; fin_cases a <;> rfl)).trans (hq j 0))

/-- The kernel's rectified and masked scores. -/
theorem gate_table {n : ℕ} {v : FVec Ideal ⟨2, ![n, n]⟩ .f32} {w : IVec ⟨2, ![n, n]⟩ 1} {p q : Tab}
    (hv : Table v (fun i j => p i 0 + q j 0)) (hw : ∀ i j : Fin n, w (ix2 i j) = near i j) :
    Table (select w (select (cmpf .oge v (broadcast _ (Scalar.ofBits .f32 0x00000000#32))) v
      (mulf (broadcast _ (Scalar.ofBits .f32 0x3E4CCCCD#32)) v)) (broadcast _ (Scalar.ofBits .f32 0xD9FFCB9E#32))) (scores p q) := by
  intro i j
  refine Eq.trans ?_ (congrArg₂ gate (hw i j) (hv i j))
  rfl

/-- The kernel's table less each row's largest value. -/
theorem centred_table {n m : ℕ} {v : FVec Ideal ⟨2, ![n, m]⟩ .f32} {f : Tab} (hv : Table v f)
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩) :
    Table (subf v (broadcastTo ⟨2, ![n, m]⟩ (shapeCast ⟨2, ![n, 1]⟩
      (multiReduction .maximumf [1] ⟨1, ![n]⟩ v 0xFF800000#32 hr (.inl rfl) rfl) hc) hb)) (centred m f) := by
  intro i j
  refine congrArg₂ (· - ·) (hv i j) ?_
  rw [column_apply, upright_apply]
  pointwise
  simp only [ofBits_low]
  exact congrArg (fun g => Finset.fold max ⊥ g Finset.univ) (funext fun s => hv i s)

/-- The kernel's sums of the rows. -/
theorem total_column {n m : ℕ} {v : FVec Ideal ⟨2, ![n, m]⟩ .f32} {f : Tab} (hv : Table v f)
    (hr : (⟨2, ![n, m]⟩ : Shape).Reduces [1] ⟨1, ![n]⟩) (hc : (⟨1, ![n]⟩ : Shape).ShapeCasts ⟨2, ![n, 1]⟩) (i : Fin n) :
    shapeCast ⟨2, ![n, 1]⟩ (multiReduction .add [1] ⟨1, ![n]⟩ v 0x00000000#32 hr (.inl rfl) rfl) hc (ix2 i 0) = total m f i := by
  rw [upright_apply]
  pointwise
  exact Finset.sum_congr rfl fun s _ => hv i s

/-- The kernel's sums of the columns, over the number of rows. -/
theorem mean_table {n m : ℕ} {v : FVec Ideal ⟨2, ![n, m]⟩ .f32} {f : Tab} (hv : Table v f)
    (hr : (⟨2, ![n, m]⟩ : Shape).Reduces [0] ⟨1, ![m]⟩) (k : Fin m) :
    divf (multiReduction .add [0] ⟨1, ![m]⟩ v 0x00000000#32 hr (.inl rfl) rfl)
      (broadcast ⟨1, ![m]⟩ (Scalar.ofBits (F := Ideal) .f32 0x43700000#32)) (ix1 k) = mean n f k := by
  refine congrArg (fun x => Ideal.div x _) ?_
  pointwise
  exact Finset.sum_congr rfl fun s _ => hv s k

/-- The kernel's shares. -/
theorem share_table {n m : ℕ} {v w : FVec Ideal ⟨2, ![n, m]⟩ .f32} {f : Tab} (hv : Table v (centred m f))
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩) :
    Table (divf (exp v) (broadcastTo ⟨2, ![n, m]⟩ (shapeCast ⟨2, ![n, 1]⟩
      (multiReduction .add [1] ⟨1, ![n]⟩ (exp v) 0x00000000#32 hr (.inl rfl) rfl) hc) hb)) (share m f) := by
  intro i j
  have he : Table (exp v) (grown (centred m f)) := fun a b => congrArg Ideal.exp (hv a b)
  exact congrArg₂ Ideal.div (he i j) ((column_apply _ hb i j).trans (total_column he hr hc i))

/-- The kernel's logarithms of the shares. -/
theorem logShare_table {n m : ℕ} {v w : FVec Ideal ⟨2, ![n, m]⟩ .f32} {f : Tab} (hv : Table v (centred m f))
    (hr : (⟨2, ![n, m]⟩ : Shape).Reduces [1] ⟨1, ![n]⟩)
    (hc : (⟨1, ![n]⟩ : Shape).ShapeCasts ⟨2, ![n, 1]⟩) (hb : (⟨2, ![n, 1]⟩ : Shape).Broadcasts ⟨2, ![n, m]⟩) :
    Table (subf v (broadcastTo ⟨2, ![n, m]⟩ (log (shapeCast ⟨2, ![n, 1]⟩
      (multiReduction .add [1] ⟨1, ![n]⟩ (exp v) 0x00000000#32 hr (.inl rfl) rfl) hc)) hb)) (logShare m f) := by
  intro i j
  have he : Table (exp v) (grown (centred m f)) := fun a b => congrArg Ideal.exp (hv a b)
  exact congrArg₂ (· - ·) (hv i j) ((column_apply _ hb i j).trans (congrArg Ideal.log (total_column he hr hc i)))

/-- The kernel's exponential linear unit. -/
theorem elu_table {n m : ℕ} {v : FVec Ideal ⟨2, ![n, m]⟩ .f32} {f : Tab} (hv : Table v f) :
    Table (select (cmpf .ogt v (broadcast _ (Scalar.ofBits .f32 0x00000000#32))) v
      (subf (exp v) (broadcast _ (Scalar.ofBits .f32 0x3F800000#32)))) (fun i j => elu (f i j)) := by
  intro i j
  refine Eq.trans ?_ (congrArg elu (hv i j))
  unfold elu
  rw [← Ideal.ofBits_one_f32]
  rfl

/-- The product of a table of every video by one table. -/
def spreadDims (q n k m : ℕ) : DotDims ⟨3, ![q, n, k]⟩ ⟨2, ![k, m]⟩ ⟨3, ![q, n, m]⟩ where
  lhsContracting := [2]
  rhsContracting := [0]
  lhsNonContracting := [0, 1]
  rhsNonContracting := [1]
  lhsBatch := []
  rhsBatch := []
  wf := ⟨rfl, by simp, rfl, by simp, by simp, by simp, (by decide : ([0, 1, 2] : List (Fin 3)).Perm (List.finRange 3)),
    (by decide : ([1, 0] : List (Fin 2)).Perm (List.finRange 2)), rfl, (by decide : 0 < 3), fun b => by fin_cases b <;> rfl⟩

/-- The product of two tables of each of eight videos. -/
def eachDims (n k m : ℕ) : DotDims ⟨3, ![8, n, k]⟩ ⟨3, ![8, k, m]⟩ ⟨3, ![8, n, m]⟩ where
  lhsContracting := [2]
  rhsContracting := [1]
  lhsNonContracting := [1]
  rhsNonContracting := [2]
  lhsBatch := [0]
  rhsBatch := [0]
  wf := ⟨rfl, by simp, rfl, by simp, by simp, by simp,
    (by decide : ([0, 1, 2] : List (Fin 3)).Perm (List.finRange 3)),
    (by decide : ([0, 2, 1] : List (Fin 3)).Perm (List.finRange 3)), rfl, (by decide : 0 < 3), fun b => by fin_cases b <;> rfl⟩

/-- The reference's product of a table of every video by one table. -/
theorem spread_tables {q n k m : ℕ} {A : FVec Ideal ⟨3, ![q, n, k]⟩ .f32} {B : FVec Ideal ⟨2, ![k, m]⟩ .f32} {b : Fin q} {f g : Tab}
    (hA : Tables A b f) (hB : Table B g) : Tables (Host.dotGeneral (spreadDims q n k m) none A B) b (prod k f g) := by
  intro i j
  refine (Ideal.dotGeneral_apply _ _ _ A B _).trans ?_
  rw [← Equiv.sum_comp (ValueIdx.contrEquiv1 (spreadDims q n k m) k rfl rfl).symm]
  refine Finset.sum_congr rfl fun r _ => ?_
  have hk := ValueIdx.contrEquiv1_symm_val (spreadDims q n k m) k rfl rfl r
  have el : (spreadDims q n k m).lhsIdx (ix3 b i j) ((ValueIdx.contrEquiv1 (spreadDims q n k m) k rfl rfl).symm r) = ix3 b i r := by
    funext a; apply Fin.ext
    match a with
    | ⟨0, _⟩ => rfl
    | ⟨1, _⟩ => rfl
    | ⟨2, _⟩ => exact hk
  have er : (spreadDims q n k m).rhsIdx (ix3 b i j) ((ValueIdx.contrEquiv1 (spreadDims q n k m) k rfl rfl).symm r) = ix2 r j := by
    funext a; apply Fin.ext
    match a with
    | ⟨0, _⟩ => exact hk
    | ⟨1, _⟩ => rfl
  rw [el, er, hA i r, hB r j]

/-- The reference's product of two tables of each video. -/
theorem each_tables {n k m : ℕ} {A : FVec Ideal ⟨3, ![8, n, k]⟩ .f32} {B : FVec Ideal ⟨3, ![8, k, m]⟩ .f32} {b : Fin 8} {f g : Tab}
    (hA : Tables A b f) (hB : Tables B b g) : Tables (Host.dotGeneral (eachDims n k m) none A B) b (prod k f g) := by
  intro i j
  refine (Ideal.dotGeneral_apply _ _ _ A B _).trans ?_
  rw [← Equiv.sum_comp (ValueIdx.contrEquiv1 (eachDims n k m) k rfl rfl).symm]
  refine Finset.sum_congr rfl fun r _ => ?_
  have hk := ValueIdx.contrEquiv1_symm_val (eachDims n k m) k rfl rfl r
  have el : (eachDims n k m).lhsIdx (ix3 b i j) ((ValueIdx.contrEquiv1 (eachDims n k m) k rfl rfl).symm r) = ix3 b i r := by
    funext a; apply Fin.ext
    match a with
    | ⟨0, _⟩ => rfl
    | ⟨1, _⟩ => rfl
    | ⟨2, _⟩ => exact hk
  have er : (eachDims n k m).rhsIdx (ix3 b i j) ((ValueIdx.contrEquiv1 (eachDims n k m) k rfl rfl).symm r) = ix3 b r j := by
    funext a; apply Fin.ext
    match a with
    | ⟨0, _⟩ => rfl
    | ⟨1, _⟩ => exact hk
    | ⟨2, _⟩ => rfl
  rw [el, er, hA i r, hB r j]

/-- A column of every video repeated along the rows, read at an entry. -/
theorem columns_apply {q n m : ℕ} (v : FVec Ideal ⟨3, ![q, n, 1]⟩ .f32)
    (h : (⟨3, ![q, n, 1]⟩ : Shape).BroadcastsInDim ⟨3, ![q, n, m]⟩ ![0, 1, 2])
    (b : Fin q) (i : Fin n) (j : Fin m) : broadcastInDim ⟨3, ![q, n, m]⟩ ![0, 1, 2] h v (ix3 b i j) = v (ix3 b i 0) := by
  refine broadcastInDim_apply _ h _ _ (ix3 b i 0) fun a => ?_
  fin_cases a
  · show b.val = if q = 1 then 0 else b.val
    split <;> omega
  · show i.val = if n = 1 then 0 else i.val
    split <;> omega
  · rfl

/-- A row of every video repeated along the columns, read at an entry. -/
theorem rows_apply {q n m : ℕ} (v : FVec Ideal ⟨3, ![q, 1, m]⟩ .f32)
    (h : (⟨3, ![q, 1, m]⟩ : Shape).BroadcastsInDim ⟨3, ![q, n, m]⟩ ![0, 1, 2])
    (b : Fin q) (i : Fin n) (j : Fin m) : broadcastInDim ⟨3, ![q, n, m]⟩ ![0, 1, 2] h v (ix3 b i j) = v (ix3 b 0 j) := by
  refine broadcastInDim_apply _ h _ _ (ix3 b 0 j) fun a => ?_
  fin_cases a
  · show b.val = if q = 1 then 0 else b.val
    split <;> omega
  · rfl
  · show j.val = if m = 1 then 0 else j.val
    split <;> omega

/-- A vector of every video turned into a column, read at an entry. -/
theorem uprights_apply {q n : ℕ} (v : FVec Ideal ⟨2, ![q, n]⟩ .f32)
    (h : (⟨2, ![q, n]⟩ : Shape).BroadcastsInDim ⟨3, ![q, n, 1]⟩ ![0, 1])
    (b : Fin q) (i : Fin n) : broadcastInDim ⟨3, ![q, n, 1]⟩ ![0, 1] h v (ix3 b i 0) = v (ix2 b i) := by
  refine broadcastInDim_apply _ h _ _ (ix2 b i) fun a => ?_
  fin_cases a
  · show b.val = if q = 1 then 0 else b.val
    split <;> omega
  · show i.val = if n = 1 then 0 else i.val
    split <;> omega

/-- The reference's sum of one column along the rows and another along the columns. -/
theorem pairs_tables {q n : ℕ} {u v : FVec Ideal ⟨3, ![q, n, 1]⟩ .f32} {b : Fin q} {f g : Tab} (hu : Tables u b f) (hv : Tables v b g)
    (ht : (⟨3, ![q, n, 1]⟩ : Shape).Transposes [0, 2, 1] ⟨3, ![q, 1, n]⟩)
    (h₁ : (⟨3, ![q, n, 1]⟩ : Shape).BroadcastsInDim ⟨3, ![q, n, n]⟩ ![0, 1, 2])
    (h₂ : (⟨3, ![q, 1, n]⟩ : Shape).BroadcastsInDim ⟨3, ![q, n, n]⟩ ![0, 1, 2]) :
    Tables (addf (broadcastInDim ⟨3, ![q, n, n]⟩ ![0, 1, 2] h₁ u)
      (broadcastInDim ⟨3, ![q, n, n]⟩ ![0, 1, 2] h₂ (transpose ⟨3, ![q, 1, n]⟩ [0, 2, 1] v ht))) b (fun i j => f i 0 + g j 0) := by
  intro i j
  refine congrArg₂ (· + ·) ?_ ?_
  · exact (columns_apply u h₁ b i j).trans (hu i 0)
  · exact (rows_apply _ h₂ b i j).trans
      ((transpose_apply _ _ _ _ (ix3 b j 0) (by intro a; fin_cases a <;> rfl)).trans (hv j 0))

/-- The reference's rectified and masked scores. -/
theorem gate_tables {q n : ℕ} {v : FVec Ideal ⟨3, ![q, n, n]⟩ .f32} {w : IVec ⟨3, ![q, n, n]⟩ 1} {b : Fin q} {f g : Tab}
    (hv : Tables v b (fun i j => f i 0 + g j 0)) (hw : ∀ i j : Fin n, w (ix3 b i j) = near i j)
    (hb : (⟨0, ![]⟩ : Shape).BroadcastsInDim ⟨3, ![q, n, n]⟩ ![]) :
    Tables (select w (select (cmpf .oge v (broadcastInDim ⟨3, ![q, n, n]⟩ ![] hb (constant ⟨0, ![]⟩ .f32 0x00000000#32))) v
      (mulf (broadcastInDim ⟨3, ![q, n, n]⟩ ![] hb (constant ⟨0, ![]⟩ .f32 0x3E4CCCCD#32)) v))
      (broadcastInDim ⟨3, ![q, n, n]⟩ ![] hb (constant ⟨0, ![]⟩ .f32 0xD9FFCB9E#32))) b (scores f g) := by
  intro i j
  refine Eq.trans ?_ (congrArg₂ gate (hw i j) (hv i j))
  rfl

/-- The reference's table less each row's largest value. -/
theorem centred_tables {q n m : ℕ} {v : FVec Ideal ⟨3, ![q, n, m]⟩ .f32} {b : Fin q} {f : Tab} (hv : Tables v b f)
    (hr : (⟨3, ![q, n, m]⟩ : Shape).ReducesTo [2] ⟨2, ![q, n]⟩) (hu : 0 < (⟨0, ![]⟩ : Shape).numel)
    (h₀ : (⟨0, ![]⟩ : Shape).BroadcastsInDim ⟨2, ![q, n]⟩ ![])
    (h₁ : (⟨2, ![q, n]⟩ : Shape).BroadcastsInDim ⟨3, ![q, n, 1]⟩ ![0, 1])
    (h₂ : (⟨3, ![q, n, 1]⟩ : Shape).BroadcastsInDim ⟨3, ![q, n, m]⟩ ![0, 1, 2]) :
    Tables (subf v (broadcastInDim ⟨3, ![q, n, m]⟩ ![0, 1, 2] h₂ (broadcastInDim ⟨3, ![q, n, 1]⟩ ![0, 1] h₁
      (maximumf (broadcastInDim ⟨2, ![q, n]⟩ ![] h₀ (constant ⟨0, ![]⟩ .f32 0xFF800000#32))
        (Host.reduce FloatOps.maximumf v (constant ⟨0, ![]⟩ .f32 0xFF800000#32) hr hu))))) b (centred m f) := by
  intro i j
  refine congrArg₂ (· - ·) (hv i j) ?_
  rw [columns_apply, uprights_apply]
  pointwise
  simp only [ofBits_low]
  refine (max_eq_right bot_le).trans ?_
  exact congrArg (fun g => Finset.fold max ⊥ g Finset.univ) (funext fun s => hv i s)

/-- The reference's sums of the rows. -/
theorem total_columns {q n m : ℕ} {v : FVec Ideal ⟨3, ![q, n, m]⟩ .f32} {b : Fin q} {f : Tab} (hv : Tables v b f)
    (hr : (⟨3, ![q, n, m]⟩ : Shape).ReducesTo [2] ⟨2, ![q, n]⟩) (hu : 0 < (⟨0, ![]⟩ : Shape).numel)
    (h₁ : (⟨2, ![q, n]⟩ : Shape).BroadcastsInDim ⟨3, ![q, n, 1]⟩ ![0, 1]) (i : Fin n) :
    broadcastInDim ⟨3, ![q, n, 1]⟩ ![0, 1] h₁ (Host.reduceAdd v (constant ⟨0, ![]⟩ .f32 0x00000000#32) hr hu) (ix3 b i 0)
      = total m f i := by
  rw [uprights_apply]
  pointwise
  exact Finset.sum_congr rfl fun s _ => hv i s

/-- The reference's means over the rows. -/
theorem mean_tables {q n m : ℕ} {v : FVec Ideal ⟨3, ![q, n, m]⟩ .f32} {b : Fin q} {f : Tab} (hv : Tables v b f)
    (hr : (⟨3, ![q, n, m]⟩ : Shape).ReducesTo [1] ⟨2, ![q, m]⟩) (hu : 0 < (⟨0, ![]⟩ : Shape).numel)
    (h₀ : (⟨0, ![]⟩ : Shape).BroadcastsInDim ⟨2, ![q, m]⟩ ![]) (k : Fin m) :
    Host.divf (Host.reduceAdd v (constant ⟨0, ![]⟩ .f32 0x00000000#32) hr hu)
      (broadcastInDim ⟨2, ![q, m]⟩ ![] h₀ (constant ⟨0, ![]⟩ .f32 0x43700000#32)) (ix2 b k) = mean n f k := by
  refine congrArg (fun x => Ideal.div x _) ?_
  pointwise
  exact Finset.sum_congr rfl fun s _ => hv s k

/-- The reference's shares. -/
theorem share_tables {q n m : ℕ} {v : FVec Ideal ⟨3, ![q, n, m]⟩ .f32} {b : Fin q} {f : Tab} (hv : Tables v b (grown (centred m f)))
    (hr : (⟨3, ![q, n, m]⟩ : Shape).ReducesTo [2] ⟨2, ![q, n]⟩) (hu : 0 < (⟨0, ![]⟩ : Shape).numel)
    (h₁ : (⟨2, ![q, n]⟩ : Shape).BroadcastsInDim ⟨3, ![q, n, 1]⟩ ![0, 1])
    (h₂ : (⟨3, ![q, n, 1]⟩ : Shape).BroadcastsInDim ⟨3, ![q, n, m]⟩ ![0, 1, 2]) :
    Tables (Host.divf v (broadcastInDim ⟨3, ![q, n, m]⟩ ![0, 1, 2] h₂ (broadcastInDim ⟨3, ![q, n, 1]⟩ ![0, 1] h₁
      (Host.reduceAdd v (constant ⟨0, ![]⟩ .f32 0x00000000#32) hr hu)))) b (share m f) := by
  intro i j
  exact congrArg₂ Ideal.div (hv i j) ((columns_apply _ h₂ b i j).trans (total_columns hv hr hu h₁ i))

/-- The reference's logarithms of the shares. -/
theorem logShare_tables {q n m : ℕ} {v : FVec Ideal ⟨3, ![q, n, m]⟩ .f32} {b : Fin q} {f : Tab} (hv : Tables v b (centred m f))
    (hr : (⟨3, ![q, n, m]⟩ : Shape).ReducesTo [2] ⟨2, ![q, n]⟩) (hu : 0 < (⟨0, ![]⟩ : Shape).numel)
    (h₁ : (⟨2, ![q, n]⟩ : Shape).BroadcastsInDim ⟨3, ![q, n, 1]⟩ ![0, 1])
    (h₂ : (⟨3, ![q, n, 1]⟩ : Shape).BroadcastsInDim ⟨3, ![q, n, m]⟩ ![0, 1, 2]) :
    Tables (subf v (broadcastInDim ⟨3, ![q, n, m]⟩ ![0, 1, 2] h₂ (Host.log (broadcastInDim ⟨3, ![q, n, 1]⟩ ![0, 1] h₁
      (Host.reduceAdd (Host.exp v) (constant ⟨0, ![]⟩ .f32 0x00000000#32) hr hu))))) b (logShare m f) := by
  intro i j
  have he : Tables (Host.exp v) b (grown (centred m f)) := fun a c => congrArg Ideal.exp (hv a c)
  exact congrArg₂ (· - ·) (hv i j) ((columns_apply _ h₂ b i j).trans (congrArg Ideal.log (total_columns he hr hu h₁ i)))

/-- The reference's exponential linear unit. -/
theorem elu_tables {q n m : ℕ} {v : FVec Ideal ⟨3, ![q, n, m]⟩ .f32} {b : Fin q} {f : Tab} (hv : Tables v b f)
    (hb : (⟨0, ![]⟩ : Shape).BroadcastsInDim ⟨3, ![q, n, m]⟩ ![]) :
    Tables (select (cmpf .ogt v (broadcastInDim ⟨3, ![q, n, m]⟩ ![] hb (constant ⟨0, ![]⟩ .f32 0x00000000#32))) v
      (mulf (broadcastInDim ⟨3, ![q, n, m]⟩ ![] hb (constant ⟨0, ![]⟩ .f32 0x3F800000#32))
        (Host.expm1 (select (cmpf .ogt v (broadcastInDim ⟨3, ![q, n, m]⟩ ![] hb (constant ⟨0, ![]⟩ .f32 0x00000000#32)))
          (broadcastInDim ⟨3, ![q, n, m]⟩ ![] hb (constant ⟨0, ![]⟩ .f32 0x00000000#32)) v)))) b (fun i j => elu (f i j)) := by
  intro i j
  refine Eq.trans ?_ (congrArg elu (hv i j))
  show Scalar.select (FloatOps.cmpf (F := Ideal) (φ := .f32) .ogt (v (ix3 b i j)) (FloatOps.ofBits .f32 0x00000000#32)) (v (ix3 b i j))
    (Ideal.ofBits .f32 0x3F800000#32 * (Ideal.exp (Scalar.select (FloatOps.cmpf (F := Ideal) (φ := .f32) .ogt (v (ix3 b i j))
      (FloatOps.ofBits .f32 0x00000000#32)) (Ideal.ofBits .f32 0x00000000#32) (v (ix3 b i j))) - 1)) = elu (v (ix3 b i j))
  rw [Ideal.ofBits_one_f32, one_mul]
  unfold elu Scalar.select
  split <;> rfl

end Cert.Net

end
-- ==== Proof.Levels.lean ====
/- The last step of both programs as a plain function: a video's vector, cut into equal pieces, gives for each cut the mean of the
   pieces plus the largest of them. -/
module

public import proofs.«01_k».proof.Proof.Gat

@[expose] public section

noncomputable section

namespace Cert.Net

open Idealize.ShloMosaic

/-- The vector cut into `k + 1` pieces of `s`: at each place the sum of the pieces over the number that `w` denotes, plus the largest. -/
def level (k : ℕ) (w : BitVec 32) (s : ℕ) (g : ℕ → EReal) (d : ℕ) : EReal :=
  Ideal.div (∑ t : Fin (k + 1), g (t * s + d)) (FloatOps.ofBits (F := Ideal) .f32 w) + runMax (fun t => g (t * s + d)) k

/-- The five cuts one after the other. -/
def pyramid (g : ℕ → EReal) (k : ℕ) : EReal :=
  if k < 528 then level 0 0x3F800000#32 528 g k
  else if k < 792 then level 1 0x40000000#32 264 g (k - 528)
  else if k < 924 then level 3 0x40800000#32 132 g (k - 792)
  else if k < 990 then level 7 0x41000000#32 66 g (k - 924)
  else level 15 0x41800000#32 33 g (k - 990)

/-- The first layer, already mixed by the second layer's weights. -/
def layer (F W₁ A₁ B₁ W₂ : Tab) : Tab := prod 8 (attend 240 8 (prod 256 F W₁) A₁ B₁) W₂

/-- Both attention layers, the exponential unit and the logarithms of the shares. -/
def attention (F W₁ A₁ B₁ W₂ A₂ B₂ : Tab) : Tab :=
  logShare 16 (fun i j => elu (attend 240 16 (layer F W₁ A₁ B₁ W₂) A₂ B₂ i j))

/-- A video's vector: its global features, the means of its regions' features, the means of their attention features. -/
def joined (a : ℕ → EReal) (f h : Tab) (k : ℕ) : EReal :=
  if k < 256 then a k else if k < 512 then mean 240 f (k - 256) else mean 240 h (k - 512)

/-- Dividing by a number that is not zero multiplies by its inverse. -/
theorem div_real (x : EReal) {r : ℝ} (hr : r ≠ 0) : Ideal.div x ((r : ℝ) : EReal) = x * ((r⁻¹ : ℝ) : EReal) := by
  unfold Ideal.div
  rw [if_neg (by exact_mod_cast hr), EReal.coe_inv]

theorem bits_two : Ideal.ofBits .f32 0x40000000#32 = ((2 : ℝ) : EReal) := by
  simp [Ideal.ofBits, Ideal.ieee]; rw [← EReal.coe_mul]; norm_num
theorem bits_four : Ideal.ofBits .f32 0x40800000#32 = ((4 : ℝ) : EReal) := by
  simp [Ideal.ofBits, Ideal.ieee]; rw [← EReal.coe_mul]; norm_num
theorem bits_eight : Ideal.ofBits .f32 0x41000000#32 = ((8 : ℝ) : EReal) := by
  simp [Ideal.ofBits, Ideal.ieee]; rw [← EReal.coe_mul]; norm_num
theorem bits_sixteen : Ideal.ofBits .f32 0x41800000#32 = ((16 : ℝ) : EReal) := by
  simp [Ideal.ofBits, Ideal.ieee]; rw [← EReal.coe_mul]; norm_num
theorem bits_second : Ideal.ofBits .f32 0x3F000000#32 = (((2 : ℝ)⁻¹ : ℝ) : EReal) := by
  simp [Ideal.ofBits, Ideal.ieee]; rw [← EReal.coe_mul]; norm_num
theorem bits_fourth : Ideal.ofBits .f32 0x3E800000#32 = (((4 : ℝ)⁻¹ : ℝ) : EReal) := by
  simp [Ideal.ofBits, Ideal.ieee]; rw [← EReal.coe_mul]; norm_num
theorem bits_eighth : Ideal.ofBits .f32 0x3E000000#32 = (((8 : ℝ)⁻¹ : ℝ) : EReal) := by
  simp [Ideal.ofBits, Ideal.ieee]; rw [← EReal.coe_mul]; norm_num
theorem bits_sixteenth : Ideal.ofBits .f32 0x3D800000#32 = (((16 : ℝ)⁻¹ : ℝ) : EReal) := by
  simp [Ideal.ofBits, Ideal.ieee]; rw [← EReal.coe_mul]; norm_num

/-- Twice a value is the value added to itself. -/
theorem twice (x : EReal) : x * ((2 : ℝ) : EReal) = x + x := by
  induction x with
  | bot => rw [EReal.bot_mul_coe_of_pos (by norm_num)]; rfl
  | top => rw [EReal.top_mul_coe_of_pos (by norm_num)]; rfl
  | coe r => rw [← EReal.coe_mul, ← EReal.coe_add, mul_two]

/-- The whole vector taken once: its mean and its largest are both itself. -/
theorem level_once (g : ℕ → EReal) (d : ℕ) : level 0 0x3F800000#32 528 g d = g d * Ideal.ofBits .f32 0x40000000#32 := by
  unfold level
  show Ideal.div (∑ t : Fin 1, g (t * 528 + d)) (Ideal.ofBits .f32 0x3F800000#32) + g (0 * 528 + d) = _
  rw [Fin.sum_univ_one, Ideal.ofBits_one_f32, bits_two, twice]
  refine congrArg₂ (· + ·) ?_ (by rw [Nat.zero_mul, Nat.zero_add])
  show Ideal.div (g (0 * 528 + d)) 1 = _
  rw [Nat.zero_mul, Nat.zero_add, show (1 : EReal) = ((1 : ℝ) : EReal) from rfl, div_real _ one_ne_zero, inv_one]
  exact mul_one _

/-- A cut written with the inverse of the number of pieces. -/
theorem level_scaled {k : ℕ} {w v : BitVec 32} {r : ℝ} (hr : r ≠ 0) (hw : Ideal.ofBits .f32 w = ((r : ℝ) : EReal))
    (hv : Ideal.ofBits .f32 v = ((r⁻¹ : ℝ) : EReal)) (s : ℕ) (g : ℕ → EReal) (d : ℕ) :
    level k w s g d = (∑ t : Fin (k + 1), g (t * s + d)) * Ideal.ofBits .f32 v + runMax (fun t => g (t * s + d)) k := by
  unfold level
  refine congrArg (· + _) ?_
  show Ideal.div _ (Ideal.ofBits .f32 w) = _
  rw [hw, hv, div_real _ hr]

end Cert.Net

end
-- ==== Proof.Whole.lean ====
/- What the program computes from its arguments, as a plain function: the global features, the features of the regions around the
   given positions, the attention over the regions and the five cuts. -/
module

public import proofs.«01_k».proof.Proof.Crop
public import proofs.«01_k».proof.Proof.Levels

@[expose] public section

noncomputable section

namespace Cert.Net

open Idealize.ShloMosaic

/-- An array of two axes as a table, zero outside. -/
def tab {n m : ℕ} (v : FVec Ideal ⟨2, ![n, m]⟩ .f32) : Tab := fun i j => if h : i < n ∧ j < m then v (ix2 ⟨i, h.1⟩ ⟨j, h.2⟩) else 0

/-- Inside the array the table is its entry. -/
theorem tab_table {n m : ℕ} (v : FVec Ideal ⟨2, ![n, m]⟩ .f32) : Table v (tab v) := by
  intro i j
  unfold tab
  rw [dif_pos ⟨i.isLt, j.isLt⟩]

/-- An array of one axis as a sequence, zero outside. -/
def line {n : ℕ} (v : FVec Ideal ⟨1, ![n]⟩ .f32) (i : ℕ) : EReal := if h : i < n then v (ix1 ⟨i, h⟩) else 0

/-- Inside the array the sequence is its entry. -/
theorem line_apply {n : ℕ} (v : FVec Ideal ⟨1, ![n]⟩ .f32) (i : Fin n) : line v i = v (ix1 i) := by
  unfold line
  rw [dif_pos i.isLt]

/-- The patch of frame `n / 8` around its position `n % 8`. -/
def patch (X : FVec Ideal ⟨4, ![8, 30, 64, 64]⟩ .f32) (P : FVec Ideal ⟨4, ![8, 30, 8, 2]⟩ .f32) (n : ℕ) : Img :=
  crop (bank P (n / 8 / 30) (n / 8 % 30) (n % 8) 0) (bank P (n / 8 / 30) (n / 8 % 30) (n % 8) 1) (still X (n / 8))

/-- The program's arguments: the videos, the positions, the filters, the two dense layers and the attention's weights. -/
structure Args where
  x : FVec Ideal ⟨4, ![8, 30, 64, 64]⟩ .f32
  px : FVec Ideal ⟨4, ![8, 30, 8, 2]⟩ .f32
  c₁ : FVec Ideal ⟨4, ![32, 1, 5, 5]⟩ .f32
  c₂ : FVec Ideal ⟨4, ![32, 32, 3, 3]⟩ .f32
  c₃ : FVec Ideal ⟨4, ![64, 32, 3, 3]⟩ .f32
  c₄ : FVec Ideal ⟨4, ![64, 64, 3, 3]⟩ .f32
  c₅ : FVec Ideal ⟨4, ![128, 64, 3, 3]⟩ .f32
  c₆ : FVec Ideal ⟨4, ![128, 128, 3, 3]⟩ .f32
  gw : FVec Ideal ⟨2, ![256, 32768]⟩ .f32
  gb : FVec Ideal ⟨1, ![256]⟩ .f32
  lw : FVec Ideal ⟨2, ![256, 1152]⟩ .f32
  lb : FVec Ideal ⟨1, ![256]⟩ .f32
  w₁ : FVec Ideal ⟨2, ![256, 8]⟩ .f32
  a₁ : FVec Ideal ⟨2, ![8, 1]⟩ .f32
  b₁ : FVec Ideal ⟨2, ![8, 1]⟩ .f32
  w₂ : FVec Ideal ⟨2, ![8, 16]⟩ .f32
  a₂ : FVec Ideal ⟨2, ![16, 1]⟩ .f32
  b₂ : FVec Ideal ⟨2, ![16, 1]⟩ .f32

namespace Args

variable (A : Args)

/-- The largest of the stack over the frames of video `b`. -/
def peak (b : ℕ) : Img := fun c i j => runMax (fun s => features A.x A.c₁ A.c₂ A.c₃ A.c₄ A.c₅ A.c₆ (b * 30 + s) c i j) 29

/-- The global features of video `b`: the first dense layer on its largest values, by channel, row and column. -/
def globals (b k : ℕ) : EReal := (∑ r : Fin 32768, A.peak b (r / 256) (r % 256 / 16) (r % 16) * tab A.gw k r) + line A.gb k

/-- The stack on patch `n`. -/
def local_ (n : ℕ) : Img := base 14 14 (bank A.c₁) (bank A.c₂) (bank A.c₃) (bank A.c₄) (bank A.c₅) (bank A.c₆) (patch A.x A.px n)

/-- The features of region `i` of video `b`: the second dense layer on its patch. -/
def regions (b : ℕ) : Tab := fun i k =>
  (∑ r : Fin 1152, A.local_ (b * 240 + i) (r / 9) (r % 9 / 3) (r % 3) * tab A.lw k r) + line A.lb k

/-- The vector of video `b`. -/
def vector (b : ℕ) : ℕ → EReal :=
  joined (A.globals b) (A.regions b) (attention (A.regions b) (tab A.w₁) (tab A.a₁) (tab A.b₁) (tab A.w₂) (tab A.a₂) (tab A.b₂))

/-- The result. -/
def result : FVec Ideal ⟨3, ![8, 1, 1023]⟩ .f32 := fun i => pyramid (A.vector (i 0).val) (i 2).val

end Args

end Cert.Net

end
-- ==== Proof.GlobalValue.lean ====
/- The result array of the global region: at each video, place and channel the largest value of the stack over the thirty frames,
   from what the region's arrays hold on entry. -/
module

public import proofs.«01_k».proof.Proof.GlobalFrame
public import proofs.«01_k».proof.Proof.KernelIdeal.Run
public import proofs.«01_k».proof.Proof.Whole
public import Idealize.ShloMosaic.Lib.Pipeline.ValueKit

@[expose] public section

set_option maxRecDepth 16384

noncomputable section

namespace Cert.KernelIdeal.Value

open Idealize.ShloMosaic Idealize.ShloMosaic.TcCoe Idealize.SL.Sem Cert.Net Cert.KernelIdeal Cert.KernelIdeal.Gen
open Idealize.ShloMosaic.Pipeline (Dat)

variable (V : (c : Dev nD) → (b : Ref sig .tc) → Buf (Elt Ideal) ((c : Thread nD τ).loc b))

/-- The region's arrays hold the videos and the flattened filters. -/
structure Banks (c : Dev nD) (A : Args) : Prop where
  x : (V c main_arg0 : FVec Ideal S8x30x64x64 .f32) = A.x
  c₁ : Flat (k := 5) (c := 1) (V c main_v1 : FVec Ideal S25x32 .f32) (bank A.c₁)
  c₂ : Flat (k := 3) (c := 32) (V c main_v3 : FVec Ideal S288x32 .f32) (bank A.c₂)
  c₃ : Flat (k := 3) (c := 32) (V c main_v5 : FVec Ideal S288x64 .f32) (bank A.c₃)
  c₄ : Flat (k := 3) (c := 64) (V c main_v7 : FVec Ideal S576x64 .f32) (bank A.c₄)
  c₅ : Flat (k := 3) (c := 64) (V c main_v9 : FVec Ideal S576x128 .f32) (bank A.c₅)
  c₆ : Flat (k := 3) (c := 128) (V c main_v11 : FVec Ideal S1152x128 .f32) (bank A.c₆)

/-- The block each window is on at each grid point. -/
theorem idx : ∀ t : Fin cfg0.N, win0_0.index t = ![t.val / 30, t.val % 30, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 30, 0, 0] ∧ t.val < 240 :=
  (by decide +kernel : ∀ t : Fin grid0.N, _)

/-- A weight array, its taps brought to the front and flattened, is its bank row by row. -/
theorem flat_bank {o c k K : ℕ} (A : FVec Ideal ⟨4, ![o, c, k, k]⟩ .f32) (hK : K = k * k * c)
    (ht : (⟨4, ![o, c, k, k]⟩ : Shape).Transposes [2, 3, 1, 0] ⟨4, ![k, k, c, o]⟩) (hs : (⟨4, ![k, k, c, o]⟩ : Shape).ShapeCasts ⟨2, ![K, o]⟩) :
    Flat (shapeCast ⟨2, ![K, o]⟩ (transpose ⟨4, ![k, k, c, o]⟩ [2, 3, 1, 0] A ht) hs) (bank A) k c := by
  intro t r l h
  have hk : 0 < k := by
    rcases Nat.eq_zero_or_pos k with e | e
    · subst e; exact absurd t.isLt (by simp)
    · exact e
  have h1 : t.val / k < k := Nat.div_lt_of_lt_mul t.isLt
  have h2 : t.val % k < k := Nat.mod_lt _ hk
  rw [shapeCast_apply _ _ _ (ix4 ⟨t.val / k, h1⟩ ⟨t.val % k, h2⟩ r l) (by
    rw [Shape.rowMajor_val_four, Shape.rowMajor_val_two]
    show ((t.val / k * k + t.val % k) * c + r.val) * o + l.val = (t.val * c + r.val) * o + l.val
    rw [Nat.div_add_mod'])]
  rw [transpose_apply _ _ _ _ (ix4 l r ⟨t.val / k, h1⟩ ⟨t.val % k, h2⟩) (by intro b; fin_cases b <;> rfl)]
  exact (bank_apply A l r ⟨_, h1⟩ ⟨_, h2⟩).symm

/-- Reading a flattened bank through a cast to its own shape changes nothing. -/
theorem flat_cast {K o k c : ℕ} {v : FVec Ideal ⟨2, ![K, o]⟩ .f32} {W : Bank} (hv : Flat v W k c)
    (h : (⟨2, ![K, o]⟩ : Shape).ShapeCasts ⟨2, ![K, o]⟩) : Flat (shapeCast ⟨2, ![K, o]⟩ v h) W k c := by
  rw [shapeCast_self]
  exact hv

theorem whole1 (c : Dev nD) (t : Fin cfg0.N) : iblk0 V c 1 t = V c main_v1 := by blk_ext! [iblk0, idx t]
theorem whole2 (c : Dev nD) (t : Fin cfg0.N) : iblk0 V c 2 t = V c main_v3 := by blk_ext! [iblk0, idx t]
theorem whole3 (c : Dev nD) (t : Fin cfg0.N) : iblk0 V c 3 t = V c main_v5 := by blk_ext! [iblk0, idx t]
theorem whole4 (c : Dev nD) (t : Fin cfg0.N) : iblk0 V c 4 t = V c main_v7 := by blk_ext! [iblk0, idx t]
theorem whole5 (c : Dev nD) (t : Fin cfg0.N) : iblk0 V c 5 t = V c main_v9 := by blk_ext! [iblk0, idx t]
theorem whole6 (c : Dev nD) (t : Fin cfg0.N) : iblk0 V c 6 t = V c main_v11 := by blk_ext! [iblk0, idx t]

variable {V} {c : Dev nD} {A : Args}

/-- The body at point `t` computes the stack of frame `t`. -/
theorem point (hb : Banks V c A) (t : Fin cfg0.N) (r : Fin 256) (l : Fin 128) :
    frameK (iblk0 V c 0 t) (iblk0 V c 1 t) (iblk0 V c 2 t) (iblk0 V c 3 t) (iblk0 V c 4 t) (iblk0 V c 5 t) (iblk0 V c 6 t) (ix2 r l)
      = features A.x A.c₁ A.c₂ A.c₃ A.c₄ A.c₅ A.c₆ t.val l (r.val / 16) (r.val % 16) := by
  have ht := (idx t).2.2.2.2.2.2.2.2
  refine frame_rows ?_ ?_ ?_ ?_ ?_ ?_ ?_ r l
  · intro j k
    refine Eq.trans ?_ (bank_apply A.x ⟨t.val / 30, by omega⟩ ⟨t.val % 30, by omega⟩ j k).symm
    rw [← hb.x]
    blk_ext [iblk0, idx t]
  · rw [whole1]; exact flat_cast hb.c₁ _
  · rw [whole2]; exact flat_cast hb.c₂ _
  · rw [whole3]; exact flat_cast hb.c₃ _
  · rw [whole4]; exact flat_cast hb.c₄ _
  · rw [whole5]; exact flat_cast hb.c₅ _
  · rw [whole6]; exact flat_cast hb.c₆ _

/-- At the first frame of a video the buffer takes the stack of that frame. -/
theorem outs_first (hb : Banks V c A) (t : Fin cfg0.N) (h : t.val % 30 = 0) (r : Fin 256) (l : Fin 128) :
    outsAt0 V c t.val t.isLt (ix3 (0 : Fin 1) r l) = features A.x A.c₁ A.c₂ A.c₃ A.c₄ A.c₅ A.c₆ t.val l (r.val / 16) (r.val % 16) := by
  rw [outsAt0_A V c t h (by omega)]
  frame_out
  refine Eq.trans ?_ (point hb t r l)
  unfold k0_pay1
  exact shapeCast_apply _ _ _ (ix2 r l) (by rw [Shape.rowMajor_val_three, Shape.rowMajor_val_two]; show r.val * 128 + l.val = (0 * 256 + r.val) * 128 + l.val; omega)

/-- At a later frame it takes the larger of what it held and the stack of that frame. -/
theorem outs_next (hb : Banks V c A) (t : Fin cfg0.N) (h : ¬ t.val % 30 = 0) (r : Fin 256) (l : Fin 128) :
    outsAt0 V c t.val t.isLt (ix3 (0 : Fin 1) r l)
      = max (outsAt0 V c (t.val - 1) (Nat.lt_of_le_of_lt (Nat.sub_le _ _) t.isLt) (ix3 (0 : Fin 1) r l)) (features A.x A.c₁ A.c₂ A.c₃ A.c₄ A.c₅ A.c₆ t.val l (r.val / 16) (r.val % 16)) := by
  rw [outsAt0_B V c t h (by omega)]
  frame_out
  rw [← point hb t r l]
  unfold k0_pay2
  rw [shapeCast_apply _ _ _ (ix2 r l) (by rw [Shape.rowMajor_val_three, Shape.rowMajor_val_two]; show r.val * 128 + l.val = (0 * 256 + r.val) * 128 + l.val; omega)]
  refine congrArg₂ max ?_ rfl
  exact shapeCast_apply _ _ _ (ix3 (0 : Fin 1) r l) (by rw [Shape.rowMajor_val_three, Shape.rowMajor_val_two]; show (0 * 256 + r.val) * 128 + l.val = r.val * 128 + l.val; omega)

/-- What the buffer holds after point `n`: the largest value over the frames of its video up to that point. -/
theorem outs (hb : Banks V c A) (r : Fin 256) (l : Fin 128) (n : ℕ) : ∀ h : n < cfg0.N, outsAt0 V c n h (ix3 (0 : Fin 1) r l)
    = runMax (fun s => features A.x A.c₁ A.c₂ A.c₃ A.c₄ A.c₅ A.c₆ (n / 30 * 30 + s) l (r.val / 16) (r.val % 16)) (n % 30) := by
  induction n with
  | zero => exact fun h => outs_first hb ⟨0, h⟩ rfl r l
  | succ n ih =>
    intro h
    by_cases h0 : (n + 1) % 30 = 0
    · refine (outs_first hb ⟨n + 1, h⟩ h0 r l).trans ?_
      rw [h0]
      show _ = features A.x A.c₁ A.c₂ A.c₃ A.c₄ A.c₅ A.c₆ ((n + 1) / 30 * 30 + 0) _ _ _
      rw [show (n + 1) / 30 * 30 + 0 = n + 1 by omega]
    · refine (outs_next hb ⟨n + 1, h⟩ h0 r l).trans ?_
      rw [show (n + 1) % 30 = n % 30 + 1 by omega, show (n + 1) / 30 = n / 30 by omega]
      refine congrArg₂ max (ih (by omega)) ?_
      show features A.x A.c₁ A.c₂ A.c₃ A.c₄ A.c₅ A.c₆ (n + 1) _ _ _ = features A.x A.c₁ A.c₂ A.c₃ A.c₄ A.c₅ A.c₆ (n / 30 * 30 + (n % 30 + 1)) _ _ _
      rw [show n / 30 * 30 + (n % 30 + 1) = n + 1 by omega]

/-- The result: the largest value over the thirty frames of each video. -/
def peaks (A : Args) : FVec Ideal S8x256x128 .f32 := fun i => A.peak (i 0).val (i 2).val ((i 1).val / 16) ((i 1).val % 16)

/-- The result array after the region. -/
theorem final (hb : Banks V c A) : (dat0 V c).arrAt 7 cfg0.N = peaks A := by
  refine (dat0 V c).arrAt_eq_of_covers 7 _ (by decide +kernel) fun t hf y => ?_
  have h29 := (flush0_7 t).mp hf
  blk_simp
  rw [after0_7]
  have hy : y = ix3 (0 : Fin 1) (show Fin 256 from y 1) (show Fin 128 from y 2) := by
    funext a
    fin_cases a
    · exact Fin.ext (by have h : (y 0).val < 1 := (y 0).isLt; show (y 0).val = 0; omega)
    · rfl
    · rfl
  have e0 : (((win0_7.blk t).view.emb y) 0).val = t.val / 30 := by blk_simp [idx t]
  have e1 : (((win0_7.blk t).view.emb y) 1).val = (y 1).val := by blk_simp [idx t]
  have e2 : (((win0_7.blk t).view.emb y) 2).val = (y 2).val := by blk_simp [idx t]
  unfold peaks Args.peak
  rw [e0, e1, e2, ← h29]
  refine Eq.trans ?_ (outs hb (y 1) (y 2) t.val t.isLt)
  exact congrArg _ hy

end Cert.KernelIdeal.Value

end
-- ==== Proof.KernelCrop.lean ====
/- The kernel's crop: two products with rows of weights over eight positions at once, of which the diagonal squares are kept. -/
module

public import proofs.«01_k».proof.Proof.Crop
public import proofs.«01_k».proof.Proof.KernelLayers
public import proofs.«01_k».proof.Proof.Gen.KernelIdeal.Skeleton
public import Idealize.ShloMosaic.Lib.Pipeline.Value

@[expose] public section

set_option maxRecDepth 16384

noncomputable section

namespace Cert.KernelIdeal.Crop

open Idealize.ShloMosaic Cert.Net Cert.KernelIdeal Cert.KernelIdeal.Gen

/-- A column repeated along the rows. -/
theorem spread (v : FVec Ideal S8x1 .f32) (h : S8x1.Broadcasts S8x14) (r : Fin 8) (i : Fin 14) :
    broadcastTo S8x14 v h (ix2 r i) = v (ix2 r (0 : Fin 1)) :=
  broadcastTo_apply _ h _ _ (by intro a; fin_cases a <;> rfl)

/-- A matrix repeated along a new last axis. -/
theorem line (v : FVec Ideal S8x14 .f32) (h₁ : S8x14.ShapeCasts S8x14x1) (h₂ : S8x14x1.Broadcasts S8x14x64) (r : Fin 8) (i : Fin 14) (l : Fin 64) :
    broadcastTo S8x14x64 (shapeCast S8x14x1 v h₁) h₂ (ix3 r i l) = v (ix2 r i) := by
  rw [broadcastTo_apply _ h₂ _ (ix3 r i (0 : Fin 1)) (by intro a; fin_cases a <;> rfl),
    shapeCast_apply _ h₁ _ (ix2 r i) (by
      rw [Shape.rowMajor_val_three, Shape.rowMajor_val_two]
      show r.val * 14 + i.val = (r.val * 14 + i.val) * 1 + 0
      omega)]

/-- The coordinate `a` of position `r` in the block of positions. -/
theorem coordinate (v : FVec Ideal S1x1x8x2 .f32) (a : ℕ) (ha : a < 2) (h : S8x2.Slices ![0, a] S8x1) (r : Fin 8) :
    extractStridedSlice S8x1 ![0, a] (k2_pay3 (F := Ideal) v) h (ix2 r (0 : Fin 1)) = v (ix4 (0 : Fin 1) (0 : Fin 1) r ⟨a, ha⟩) := by
  refine (extractStridedSlice_apply _ (k2_pay3 (F := Ideal) v) h _ (ix2 r (⟨a, ha⟩ : Fin 2)) (by
    intro b
    fin_cases b
    · exact (Nat.zero_add _).symm
    · rfl)).trans ?_
  exact shapeCast_apply _ _ _ _ (by
    rw [Shape.rowMajor_val_four, Shape.rowMajor_val_two]
    show ((0 * 1 + 0) * 8 + r.val) * 2 + a = r.val * 2 + a
    omega)

/-- The column of position `r`. -/
theorem coord_x (v : FVec Ideal S1x1x8x2 .f32) (r : Fin 8) : k2_pay4 (F := Ideal) v (ix2 r (0 : Fin 1)) = v (ix4 (0 : Fin 1) (0 : Fin 1) r (0 : Fin 2)) :=
  coordinate v 0 (by omega) slices_S8x2_o0_0_S8x1 r

/-- The row of position `r`. -/
theorem coord_y (v : FVec Ideal S1x1x8x2 .f32) (r : Fin 8) : k2_pay5 (F := Ideal) v (ix2 r (0 : Fin 1)) = v (ix4 (0 : Fin 1) (0 : Fin 1) r (1 : Fin 2)) :=
  coordinate v 1 (by omega) slices_S8x2_o0_1_S8x1 r

theorem lo_x (v : FVec Ideal S1x1x8x2 .f32) (r : Fin 8) : k2_pay6 (F := Ideal) v (ix2 r (0 : Fin 1)) = lo (v (ix4 (0 : Fin 1) (0 : Fin 1) r (0 : Fin 2))) := by
  rw [← coord_x v r]; rfl

theorem hi_x (v : FVec Ideal S1x1x8x2 .f32) (r : Fin 8) : k2_pay7 (F := Ideal) v (ix2 r (0 : Fin 1)) = hi (v (ix4 (0 : Fin 1) (0 : Fin 1) r (0 : Fin 2))) := by
  rw [← coord_x v r]; rfl

theorem lo_y (v : FVec Ideal S1x1x8x2 .f32) (r : Fin 8) : k2_pay8 (F := Ideal) v (ix2 r (0 : Fin 1)) = lo (v (ix4 (0 : Fin 1) (0 : Fin 1) r (1 : Fin 2))) := by
  rw [← coord_y v r]; rfl

theorem hi_y (v : FVec Ideal S1x1x8x2 .f32) (r : Fin 8) : k2_pay9 (F := Ideal) v (ix2 r (0 : Fin 1)) = hi (v (ix4 (0 : Fin 1) (0 : Fin 1) r (1 : Fin 2))) := by
  rw [← coord_y v r]; rfl

/-- Half past the number of each sample. -/
theorem halves (r : Fin 8) (i : Fin 14) : k2_pay10 (F := Ideal) (ix2 r i) = half i.val := by
  have e : k2_pay10 (F := Ideal) (ix2 r i) = half (0 * 14 + i.val) := rfl
  rw [e, show 0 * 14 + i.val = i.val by omega]

/-- The samples' columns. -/
theorem place_x (v : FVec Ideal S1x1x8x2 .f32) (r : Fin 8) (i : Fin 14) :
    k2_pay13 (F := Ideal) (k2_pay6 (F := Ideal) v) (k2_pay7 (F := Ideal) v) (k2_pay11 (F := Ideal) v) (k2_pay12 (F := Ideal)) (ix2 r i) = place (v (ix4 (0 : Fin 1) (0 : Fin 1) r (0 : Fin 2))) i.val := by
  unfold place
  rw [← halves r i, ← lo_x v r, ← hi_x v r]
  have a := spread (k2_pay6 (F := Ideal) v) broadcasts_S8x1_S8x14 r i
  have b := spread (subf (k2_pay7 (F := Ideal) v) (broadcast S8x1 (Scalar.ofBits .f32 0x3F800000#32))) broadcasts_S8x1_S8x14 r i
  have c := spread (subf (k2_pay7 (F := Ideal) v) (k2_pay6 (F := Ideal) v)) broadcasts_S8x1_S8x14 r i
  show min _ (max _ (_ + Ideal.div (_ * _) _ - _)) = _
  rw [a, b, c]
  rfl

/-- The samples' rows. -/
theorem place_y (v : FVec Ideal S1x1x8x2 .f32) (r : Fin 8) (i : Fin 14) :
    k2_pay14 (F := Ideal) (k2_pay8 (F := Ideal) v) (k2_pay9 (F := Ideal) v) (k2_pay10 (F := Ideal)) (ix2 r i) = place (v (ix4 (0 : Fin 1) (0 : Fin 1) r (1 : Fin 2))) i.val := by
  unfold place
  rw [← halves r i, ← lo_y v r, ← hi_y v r]
  have a := spread (k2_pay8 (F := Ideal) v) broadcasts_S8x1_S8x14 r i
  have b := spread (subf (k2_pay9 (F := Ideal) v) (broadcast S8x1 (Scalar.ofBits .f32 0x3F800000#32))) broadcasts_S8x1_S8x14 r i
  have c := spread (subf (k2_pay9 (F := Ideal) v) (k2_pay8 (F := Ideal) v)) broadcasts_S8x1_S8x14 r i
  show min _ (max _ (_ + Ideal.div (_ * _) _ - _)) = _
  rw [a, b, c]
  rfl

theorem first_x (v : FVec Ideal S1x1x8x2 .f32) (r : Fin 8) (i : Fin 14) :
    k2_pay15 (F := Ideal) (k2_pay6 (F := Ideal) v) (k2_pay7 (F := Ideal) v) (k2_pay11 (F := Ideal) v) (k2_pay12 (F := Ideal)) (ix2 r i) = first (v (ix4 (0 : Fin 1) (0 : Fin 1) r (0 : Fin 2))) i.val := by
  unfold first
  rw [← place_x]; rfl

theorem first_y (v : FVec Ideal S1x1x8x2 .f32) (r : Fin 8) (i : Fin 14) :
    k2_pay18 (F := Ideal) (k2_pay8 (F := Ideal) v) (k2_pay9 (F := Ideal) v) (k2_pay10 (F := Ideal)) (ix2 r i) = first (v (ix4 (0 : Fin 1) (0 : Fin 1) r (1 : Fin 2))) i.val := by
  unfold first
  rw [← place_y]; rfl

theorem part_x (v : FVec Ideal S1x1x8x2 .f32) (r : Fin 8) (i : Fin 14) :
    k2_pay16 (F := Ideal) (k2_pay6 (F := Ideal) v) (k2_pay7 (F := Ideal) v) (k2_pay11 (F := Ideal) v) (k2_pay12 (F := Ideal)) (ix2 r i) = part (v (ix4 (0 : Fin 1) (0 : Fin 1) r (0 : Fin 2))) i.val := by
  unfold part
  rw [← first_x, ← place_x]; rfl

theorem part_y (v : FVec Ideal S1x1x8x2 .f32) (r : Fin 8) (i : Fin 14) :
    k2_pay19 (F := Ideal) (k2_pay8 (F := Ideal) v) (k2_pay9 (F := Ideal) v) (k2_pay10 (F := Ideal)) (ix2 r i) = part (v (ix4 (0 : Fin 1) (0 : Fin 1) r (1 : Fin 2))) i.val := by
  unfold part
  rw [← first_y, ← place_y]; rfl

theorem second_x (v : FVec Ideal S1x1x8x2 .f32) (r : Fin 8) (i : Fin 14) :
    k2_pay17 (F := Ideal) (k2_pay6 (F := Ideal) v) (k2_pay7 (F := Ideal) v) (k2_pay11 (F := Ideal) v) (k2_pay12 (F := Ideal)) (ix2 r i) = second (v (ix4 (0 : Fin 1) (0 : Fin 1) r (0 : Fin 2))) i.val := by
  unfold second
  rw [← first_x, ← hi_x v r]
  have b := spread (subf (k2_pay7 (F := Ideal) v) (broadcast S8x1 (Scalar.ofBits .f32 0x3F800000#32))) broadcasts_S8x1_S8x14 r i
  show min _ _ = _
  rw [b]
  rfl

theorem second_y (v : FVec Ideal S1x1x8x2 .f32) (r : Fin 8) (i : Fin 14) :
    k2_pay20 (F := Ideal) (k2_pay8 (F := Ideal) v) (k2_pay9 (F := Ideal) v) (k2_pay10 (F := Ideal)) (ix2 r i) = second (v (ix4 (0 : Fin 1) (0 : Fin 1) r (1 : Fin 2))) i.val := by
  unfold second
  rw [← first_y, ← hi_y v r]
  have b := spread (subf (k2_pay9 (F := Ideal) v) (broadcast S8x1 (Scalar.ofBits .f32 0x3F800000#32))) broadcasts_S8x1_S8x14 r i
  show min _ _ = _
  rw [b]
  rfl

/-- The indicator of a pixel along the lanes. -/
theorem indicator (f : FVec Ideal S8x14 .f32) (r : Fin 8) (i : Fin 14) (l : Fin 64) :
    sitofp (F := Ideal) .f32 (extui 32 (cmpf .oeq (k2_pay21 (F := Ideal))
      (broadcastTo S8x14x64 (shapeCast S8x14x1 f shapeCasts_S8x14_S8x14x1) broadcasts_S8x14x1_S8x14x64)) natLt_1_32) (ix3 r i l)
      = hot (f (ix2 r i)) l.val := by
  have e : k2_pay21 (F := Ideal) (ix3 r i l) = (((BitVec.ofNat 32 (0 * 64 + l.val)).toInt : ℝ) : EReal) := rfl
  rw [show 0 * 64 + l.val = l.val by omega] at e
  unfold hot
  rw [← e, ← line f shapeCasts_S8x14_S8x14x1 broadcasts_S8x14x1_S8x14x64 r i l]
  rfl

/-- A row of weights, as the kernel builds it. -/
theorem weights {f s q : FVec Ideal S8x14 .f32} {p : EReal} {r : Fin 8} {i : Fin 14} (hf : f (ix2 r i) = first p i.val)
    (hs : s (ix2 r i) = second p i.val) (hq : q (ix2 r i) = part p i.val) (l : Fin 64) :
    addf (mulf (sitofp (F := Ideal) .f32 (extui 32 (cmpf .oeq (k2_pay21 (F := Ideal))
        (broadcastTo S8x14x64 (shapeCast S8x14x1 f shapeCasts_S8x14_S8x14x1) broadcasts_S8x14x1_S8x14x64)) natLt_1_32))
      (broadcastTo S8x14x64 (shapeCast S8x14x1 (subf (broadcast S8x14 (Scalar.ofBits .f32 0x3F800000#32)) q) shapeCasts_S8x14_S8x14x1) broadcasts_S8x14x1_S8x14x64))
      (mulf (sitofp (F := Ideal) .f32 (extui 32 (cmpf .oeq (k2_pay21 (F := Ideal))
        (broadcastTo S8x14x64 (shapeCast S8x14x1 s shapeCasts_S8x14_S8x14x1) broadcasts_S8x14x1_S8x14x64)) natLt_1_32))
      (broadcastTo S8x14x64 (shapeCast S8x14x1 q shapeCasts_S8x14_S8x14x1) broadcasts_S8x14x1_S8x14x64)) (ix3 r i l) = weight p i.val l.val := by
  unfold weight
  rw [← hf, ← hs, ← hq, ← indicator f r i l, ← indicator s r i l]
  have a := line (subf (broadcast S8x14 (Scalar.ofBits .f32 0x3F800000#32)) q) shapeCasts_S8x14_S8x14x1 broadcasts_S8x14x1_S8x14x64 r i l
  have b := line q shapeCasts_S8x14_S8x14x1 broadcasts_S8x14x1_S8x14x64 r i l
  show _ * _ + _ * _ = _
  rw [a, b]
  rfl

/-- Rows of weights for eight positions, one below the other. -/
theorem stacked (v : FVec Ideal S8x14x64 .f32) (r : Fin 8) (i : Fin 14) (l : Fin 64) (h : r.val * 14 + i.val < 112) :
    shapeCast S112x64 v shapeCasts_S8x14x64_S112x64 (ix2 (⟨r.val * 14 + i.val, h⟩ : Fin 112) l) = v (ix3 r i l) :=
  shapeCast_apply _ _ _ _ (by
    rw [Shape.rowMajor_val_three, Shape.rowMajor_val_two]
    rfl)

/-- A matrix product along both second axes at an entry. -/
theorem pair_apply (A B : FVec Ideal S112x64 .f32) (acc : FVec Ideal S112x112 .f32) (i j : Fin 112) :
    matmul dot_S112x64_S112x64_S112x112_1_1_0_0_n_n none A B acc (ix2 i j) = acc (ix2 i j) + ∑ k : Fin 64, A (ix2 i k) * B (ix2 j k) := by
  refine (Ideal.matmul_apply _ _ A B acc _).trans (congrArg (acc (ix2 i j) + ·) ?_)
  rw [← Equiv.sum_comp (ValueIdx.contrEquiv1 dot_S112x64_S112x64_S112x112_1_1_0_0_n_n 64 rfl rfl).symm]
  refine Finset.sum_congr rfl fun k _ => ?_
  have hk := ValueIdx.contrEquiv1_symm_val dot_S112x64_S112x64_S112x112_1_1_0_0_n_n 64 rfl rfl k
  have el : dot_S112x64_S112x64_S112x112_1_1_0_0_n_n.lhsIdx (ix2 i j) ((ValueIdx.contrEquiv1 dot_S112x64_S112x64_S112x112_1_1_0_0_n_n 64 rfl rfl).symm k) = ix2 i k := by
    funext a; apply Fin.ext
    match a with
    | ⟨0, _⟩ => rfl
    | ⟨1, _⟩ => exact hk
  have er : dot_S112x64_S112x64_S112x112_1_1_0_0_n_n.rhsIdx (ix2 i j) ((ValueIdx.contrEquiv1 dot_S112x64_S112x64_S112x112_1_1_0_0_n_n 64 rfl rfl).symm k) = ix2 j k := by
    funext a; apply Fin.ext
    match a with
    | ⟨0, _⟩ => rfl
    | ⟨1, _⟩ => exact hk
  rw [el, er]

/-- A square of fourteen on the diagonal. -/
theorem square (v : FVec Ideal S112x112 .f32) (o : ℕ) (h : S112x112.Slices ![o, o] S14x14) (i j : Fin 14) (hi : o + i.val < 112) (hj : o + j.val < 112) :
    shapeCast S1x14x14 (extractStridedSlice S14x14 ![o, o] v h) shapeCasts_S14x14_S1x14x14 (ix3 (0 : Fin 1) i j) = v (ix2 ⟨o + i.val, hi⟩ ⟨o + j.val, hj⟩) := by
  rw [shapeCast_apply _ _ _ (ix2 i j) (by
    rw [Shape.rowMajor_val_three, Shape.rowMajor_val_two]
    show i.val * 14 + j.val = (0 * 14 + i.val) * 14 + j.val
    omega)]
  exact extractStridedSlice_apply _ v h _ _ (by intro a; fin_cases a <;> rfl)

/-- Eight squares one behind the other. -/
theorem squares (A : Fin 8 → FVec Ideal S1x14x14 .f32) (r : Fin 8) (i j : Fin 14) :
    concatenate S8x14x14 0 [⟨S1x14x14, A 0⟩, ⟨S1x14x14, A 1⟩, ⟨S1x14x14, A 2⟩, ⟨S1x14x14, A 3⟩, ⟨S1x14x14, A 4⟩, ⟨S1x14x14, A 5⟩, ⟨S1x14x14, A 6⟩, ⟨S1x14x14, A 7⟩]
      concatenates_S1x14x14_S1x14x14_S1x14x14_S1x14x14_S1x14x14_S1x14x14_S1x14x14_S1x14x14_S8x14x14_d0 (ix3 r i j) = A r (ix3 (0 : Fin 1) i j) :=
  concatenate_apply_piece (t := S8x14x14) (0 : Fin 3)
    [⟨S1x14x14, A 0⟩, ⟨S1x14x14, A 1⟩, ⟨S1x14x14, A 2⟩, ⟨S1x14x14, A 3⟩, ⟨S1x14x14, A 4⟩, ⟨S1x14x14, A 5⟩, ⟨S1x14x14, A 6⟩, ⟨S1x14x14, A 7⟩] _ (ix3 r i j) r.val r.isLt S1x14x14 (A r) (by fin_cases r <;> rfl) rfl r.val
    (by fin_cases r <;> rfl) (ix3 (0 : Fin 1) i j) (by intro a ha; fin_cases a <;> first | rfl | exact absurd rfl ha) (Nat.add_zero _)

/-- The kernel's crop of the frame around position `r`. -/
theorem crop_rows (img : FVec Ideal S64x64 .f32) (v : FVec Ideal S1x1x8x2 .f32) (g : Img) (hg : ∀ a b : Fin 64, img (ix2 a b) = g 0 a b)
    (hv : ∀ (r : Fin 8) (a : Fin 2), 0 ≤ v (ix4 (0 : Fin 1) (0 : Fin 1) r a)) (r : Fin 8) (i j : Fin 14) :
    k2_pay24 (F := Ideal) img (k2_pay16 (F := Ideal) (k2_pay6 (F := Ideal) v) (k2_pay7 (F := Ideal) v) (k2_pay11 (F := Ideal) v) (k2_pay12 (F := Ideal))) (k2_pay17 (F := Ideal) (k2_pay6 (F := Ideal) v) (k2_pay7 (F := Ideal) v) (k2_pay11 (F := Ideal) v) (k2_pay12 (F := Ideal)))
      (k2_pay18 (F := Ideal) (k2_pay8 (F := Ideal) v) (k2_pay9 (F := Ideal) v) (k2_pay10 (F := Ideal))) (k2_pay19 (F := Ideal) (k2_pay8 (F := Ideal) v) (k2_pay9 (F := Ideal) v) (k2_pay10 (F := Ideal))) (k2_pay20 (F := Ideal) (k2_pay8 (F := Ideal) v) (k2_pay9 (F := Ideal) v) (k2_pay10 (F := Ideal)))
      (k2_pay21 (F := Ideal)) (k2_pay22 (F := Ideal) (k2_pay6 (F := Ideal) v) (k2_pay7 (F := Ideal) v) (k2_pay11 (F := Ideal) v) (k2_pay12 (F := Ideal))) (k2_pay23 (F := Ideal) (k2_pay6 (F := Ideal) v) (k2_pay7 (F := Ideal) v) (k2_pay11 (F := Ideal) v) (k2_pay12 (F := Ideal))) (ix3 r i j)
      = crop (v (ix4 (0 : Fin 1) (0 : Fin 1) r (0 : Fin 2))) (v (ix4 (0 : Fin 1) (0 : Fin 1) r (1 : Fin 2))) g 0 i.val j.val := by
  have hr := r.isLt
  have hi := i.isLt
  have hj := j.isLt
  rw [← crop_weights (hv r 0) (hv r 1)]
  have hk : ∀ (w : FVec Ideal S112x112 .f32), concatenate S8x14x14 0 [⟨S1x14x14, shapeCast S1x14x14 (extractStridedSlice S14x14 ![0, 0] w slices_S112x112_o0_0_S14x14) shapeCasts_S14x14_S1x14x14⟩,
      ⟨S1x14x14, shapeCast S1x14x14 (extractStridedSlice S14x14 ![14, 14] w slices_S112x112_o14_14_S14x14) shapeCasts_S14x14_S1x14x14⟩,
      ⟨S1x14x14, shapeCast S1x14x14 (extractStridedSlice S14x14 ![28, 28] w slices_S112x112_o28_28_S14x14) shapeCasts_S14x14_S1x14x14⟩,
      ⟨S1x14x14, shapeCast S1x14x14 (extractStridedSlice S14x14 ![42, 42] w slices_S112x112_o42_42_S14x14) shapeCasts_S14x14_S1x14x14⟩,
      ⟨S1x14x14, shapeCast S1x14x14 (extractStridedSlice S14x14 ![56, 56] w slices_S112x112_o56_56_S14x14) shapeCasts_S14x14_S1x14x14⟩,
      ⟨S1x14x14, shapeCast S1x14x14 (extractStridedSlice S14x14 ![70, 70] w slices_S112x112_o70_70_S14x14) shapeCasts_S14x14_S1x14x14⟩,
      ⟨S1x14x14, shapeCast S1x14x14 (extractStridedSlice S14x14 ![84, 84] w slices_S112x112_o84_84_S14x14) shapeCasts_S14x14_S1x14x14⟩,
      ⟨S1x14x14, shapeCast S1x14x14 (extractStridedSlice S14x14 ![98, 98] w slices_S112x112_o98_98_S14x14) shapeCasts_S14x14_S1x14x14⟩]
      concatenates_S1x14x14_S1x14x14_S1x14x14_S1x14x14_S1x14x14_S1x14x14_S1x14x14_S1x14x14_S8x14x14_d0 (ix3 r i j)
      = w (ix2 (⟨r.val * 14 + i.val, by omega⟩ : Fin 112) (⟨r.val * 14 + j.val, by omega⟩ : Fin 112)) := by
    intro w
    have hs : ∀ r : Fin 8, S112x112.Slices ![r.val * 14, r.val * 14] S14x14 := by decide
    refine (squares (fun r => shapeCast S1x14x14 (extractStridedSlice S14x14 ![r.val * 14, r.val * 14] w (hs r)) shapeCasts_S14x14_S1x14x14) r i j).trans ?_
    exact square w (r.val * 14) (hs r) i j (by omega) (by omega)
  refine (hk _).trans ?_
  rw [pair_apply]
  refine (congrArg (· + _) Ideal.ofBits_zero_f32).trans ((zero_add _).trans ?_)
  refine Finset.sum_congr rfl fun k _ => congrArg₂ (· * ·) ?_ ?_
  · refine (product_apply (M := 112) (K := 64) (N := 64) _ _ _ _ k).trans ?_
    refine (congrArg (· + _) Ideal.ofBits_zero_f32).trans ((zero_add _).trans ?_)
    refine Finset.sum_congr rfl fun l _ => congrArg₂ (· * ·) ?_ (hg l k)
    exact (stacked _ r i l _).trans (weights (first_y v r i) (second_y v r i) (part_y v r i) l)
  · exact (stacked _ r j k _).trans (weights (first_x v r j) (second_x v r j) (part_x v r j) k)

end Cert.KernelIdeal.Crop

end
-- ==== Proof.LocalFrame.lean ====
/- The patches of one position block: the convolutional stack of each of its eight crops, and the dense layer over it. -/
module

public import proofs.«01_k».proof.Proof.KernelLayers
public import proofs.«01_k».proof.Proof.GlobalFrame
public import proofs.«01_k».proof.Proof.Gen.KernelIdeal.Skeleton

@[expose] public section

set_option maxRecDepth 16384

noncomputable section

namespace Cert.KernelIdeal.Local

open Idealize.ShloMosaic Cert.Net Cert.KernelIdeal Cert.KernelIdeal.Gen

/-- The crops with their border. -/
theorem border (v : FVec Ideal S8x14x14 .f32) (f : Img) (i : Fin 8) (hx : ∀ (j k : Fin 14), v (ix3 i j k) = f 0 j k)
    (j k : Fin 18) : k2_pay31 (F := Ideal) v (ix3 i j k) = padded 2 14 14 f 0 j k :=
  pad_image (n := 8) (h := 14) (w := 14) (p := 2) (h2 := 18) (w2 := 18) hx rfl rfl _ _ zero_splat zero_splat
    concatenates_S8x14x2_S8x14x14_S8x14x2_S8x14x18_d2 concatenates_S8x2x18_S8x14x18_S8x2x18_S8x18x18_d1 j k

/-- The running sum of the first convolution before its last two taps. -/
def sumL (v : FVec Ideal S8x14x14 .f32) (w : FVec Ideal S25x32 .f32) : FVec Ideal S8x14x14x32 .f32 :=
  k2_pay39 w (k2_pay31 v) (k2_pay37 w (k2_pay31 v) (k2_pay35 w (k2_pay31 v) (k2_pay32 v w) (k2_pay33 v) (k2_pay34 w)) (k2_pay36 (k2_pay31 v)))
    (k2_pay38 w (k2_pay31 v))

/-- What that running sum holds. -/
theorem sum_rows {v : FVec Ideal S8x14x14 .f32} {w : FVec Ideal S25x32 .f32} {W₁ : Bank} {g : Img} {i : Fin 8}
    (hP : ∀ (j k : Fin 18), k2_pay31 (F := Ideal) v (ix3 i j k) = g 0 j k) (h1 : Flat w W₁ 5 1) :
    Rows (n := 8) (h := 14) (w := 14) (c := 32) (sumL v w) i
      (0 + tap 1 W₁ 0 0 g + tap 1 W₁ 0 1 g + tap 1 W₁ 0 2 g + tap 1 W₁ 0 3 g + tap 1 W₁ 0 4 g
        + tap 1 W₁ 1 0 g + tap 1 W₁ 1 1 g + tap 1 W₁ 1 2 g + tap 1 W₁ 1 3 g + tap 1 W₁ 1 4 g
        + tap 1 W₁ 2 0 g + tap 1 W₁ 2 1 g + tap 1 W₁ 2 2 g + tap 1 W₁ 2 3 g + tap 1 W₁ 2 4 g
        + tap 1 W₁ 3 0 g + tap 1 W₁ 3 1 g + tap 1 W₁ 3 2 g + tap 1 W₁ 3 3 g + tap 1 W₁ 3 4 g
        + tap 1 W₁ 4 0 g + tap 1 W₁ 4 1 g + tap 1 W₁ 4 2 g) := by
  repeat' refine add_rows ?_ (tap_rows (n := 8) (h := 14) (w := 14) (o := 32) (h2 := 18) (w2 := 18) (K := 25) hP h1 (by decide) _ _ _ _ _ _ _)
  exact zero_rows i

/-- A corner of a stack of images. -/
theorem corner_rows {n h w c h2 w2 : ℕ} {v : FVec Ideal ⟨4, ![n, h, w, c]⟩ .f32} {i : Fin n} {f : Img} (hv : Rows v i f) (hh : h2 ≤ h) (hw : w2 ≤ w)
    (hs : (⟨4, ![n, h, w, c]⟩ : Shape).Slices ![0, 0, 0, 0] ⟨4, ![n, h2, w2, c]⟩) :
    Rows (extractStridedSlice ⟨4, ![n, h2, w2, c]⟩ ![0, 0, 0, 0] v hs) i f := by
  intro j k l
  rw [extractStridedSlice_apply _ v hs _ (ix4 i ⟨j.val, lt_of_lt_of_le j.isLt hh⟩ ⟨k.val, lt_of_lt_of_le k.isLt hw⟩ l) (by
    intro a; fin_cases a <;> exact (Nat.zero_add _).symm)]
  exact hv _ _ _

/-- The first two convolutions and the first maximum, with the border of the next. -/
theorem part_one {v : FVec Ideal S8x14x14 .f32} {w : FVec Ideal S25x32 .f32} {v144 : FVec Ideal S288x32 .f32} {W₁ W₂ : Bank} {g : Img} {i : Fin 8}
    (hP : ∀ (j k : Fin 18), k2_pay31 (F := Ideal) v (ix3 i j k) = g 0 j k) (h1 : Flat w W₁ 5 1) (h2 : Flat v144 W₂ 3 32) :
    Rows (n := 8) (h := 9) (w := 9) (c := 32) (k2_pay42 w v144 (k2_pay31 v) (sumL v w) (k2_pay40 (k2_pay31 v)) (k2_pay41 w)) i
      (padded 1 7 7 (pool (block 14 14 32 W₂ (relu (conv 5 1 W₁ g))))) := by
  have hs := sum_rows hP h1
  rw [zero_add] at hs
  rw [conv_five]
  exact pad_rows (p := 1) (h2 := 9) (w2 := 9) (pool_rows (h2 := 7) (w2 := 7)
    (relu_rows (conv_rows (h2 := 16) (w2 := 16) (K := 288) (M := 1568) (pad_rows (p := 1) (h2 := 16) (w2 := 16)
      (relu_rows (add_rows (add_rows hs
        (tap_rows (h := 14) (w := 14) hP h1 (q := 23) (by decide) slices_S8x18x18_o0_4_3_S8x14x14 shapeCasts_S8x14x14_S8x14x14x1 slices_S25x32_o23_0_S1x32 _ _ _ _))
        (tap_rows (h := 14) (w := 14) hP h1 (q := 24) (by decide) slices_S8x18x18_o0_4_4_S8x14x14 shapeCasts_S8x14x14_S8x14x14x1 slices_S25x32_o24_0_S1x32 _ _ _ _)))
      rfl rfl _ _ zero_splat zero_splat _ _) h2 rfl rfl rfl rfl _ _ _ _ _ _ _ _ _ _ _ _))
    rfl rfl _ _ _ _) rfl rfl _ _ zero_splat zero_splat concatenates_S8x7x1x32_S8x7x7x32_S8x7x1x32_S8x7x9x32_d2 concatenates_S8x1x9x32_S8x7x9x32_S8x1x9x32_S8x9x9x32_d1

/-- The middle two convolutions and the second maximum, with the border of the next. -/
theorem part_two {v146 : FVec Ideal S288x64 .f32} {v148 : FVec Ideal S576x64 .f32} {v : FVec Ideal S8x9x9x32 .f32} {W₃ W₄ : Bank} {f : Img} {i : Fin 8}
    (h3 : Flat v146 W₃ 3 32) (h4 : Flat v148 W₄ 3 64) (hv : Rows (n := 8) (h := 9) (w := 9) (c := 32) v i (padded 1 7 7 f)) :
    Rows (n := 8) (h := 5) (w := 5) (c := 64) (k2_pay44 v146 v148 v (extractStridedSlice S8x7x7x32 ![0, 0, 0, 0] v slices_S8x9x9x32_o0_0_0_0_S8x7x7x32)) i
      (padded 1 3 3 (pool (block 7 7 64 W₄ (block 7 7 32 W₃ f)))) :=
  pad_rows (p := 1) (h2 := 5) (w2 := 5) (pool_rows (h2 := 3) (w2 := 3) (corner_rows (h := 7) (w := 7) (h2 := 6) (w2 := 6)
    (relu_rows (conv_rows (h2 := 9) (w2 := 9) (K := 576) (M := 392) (pad_rows (p := 1) (h2 := 9) (w2 := 9)
      (relu_rows (conv_rows (h2 := 9) (w2 := 9) (K := 288) (M := 392) hv
      h3 rfl rfl rfl rfl _ _ _ _ _ _ _ _ _ _ _ _)) rfl rfl _ _ zero_splat zero_splat _ _)
    h4 rfl rfl rfl rfl _ _ _ _ _ _ _ _ _ _ _ _)) (by omega) (by omega) slices_S8x7x7x64_o0_0_0_0_S8x6x6x64) rfl rfl _ _ _ _) rfl rfl _ _ zero_splat zero_splat
    concatenates_S8x3x1x64_S8x3x3x64_S8x3x1x64_S8x3x5x64_d2 concatenates_S8x1x5x64_S8x3x5x64_S8x1x5x64_S8x5x5x64_d1

/-- The last two convolutions. -/
theorem part_three {v150 : FVec Ideal S576x128 .f32} {v152 : FVec Ideal S1152x128 .f32} {v : FVec Ideal S8x5x5x64 .f32} {W₅ W₆ : Bank} {f : Img} {i : Fin 8}
    (h5 : Flat v150 W₅ 3 64) (h6 : Flat v152 W₆ 3 128) (hv : Rows (n := 8) (h := 5) (w := 5) (c := 64) v i (padded 1 3 3 f)) :
    Rows (n := 8) (h := 3) (w := 3) (c := 128) (k2_pay45 v150 v152 v) i (block 3 3 128 W₆ (block 3 3 64 W₅ f)) :=
  relu_rows (conv_rows (h2 := 5) (w2 := 5) (K := 1152) (M := 72) (pad_rows (p := 1) (h2 := 5) (w2 := 5)
      (relu_rows (conv_rows (h2 := 5) (w2 := 5) (K := 576) (M := 72) hv
      h5 rfl rfl rfl rfl _ _ _ _ _ _ _ _ _ _ _ _)) rfl rfl _ _ zero_splat zero_splat _ _)
    h6 rfl rfl rfl rfl _ _ _ _ _ _ _ _ _ _ _ _)

/-- The stack of the crops. -/
def stackL (v : FVec Ideal S8x14x14 .f32) (v142 : FVec Ideal S25x32 .f32) (v144 : FVec Ideal S288x32 .f32) (v146 : FVec Ideal S288x64 .f32)
    (v148 : FVec Ideal S576x64 .f32) (v150 : FVec Ideal S576x128 .f32) (v152 : FVec Ideal S1152x128 .f32) : FVec Ideal S8x3x3x128 .f32 :=
  k2_pay45 v150 v152 (k2_pay44 v146 v148 (k2_pay42 v142 v144 (k2_pay31 v) (sumL v v142) (k2_pay40 (k2_pay31 v)) (k2_pay41 v142))
    (k2_pay43 v142 v144 (k2_pay31 v) (sumL v v142) (k2_pay40 (k2_pay31 v)) (k2_pay41 v142)))

/-- The stack of crop `i` is the convolutional stack of that crop. -/
theorem stack_rows {v : FVec Ideal S8x14x14 .f32} {v142 : FVec Ideal S25x32 .f32} {v144 : FVec Ideal S288x32 .f32} {v146 : FVec Ideal S288x64 .f32}
    {v148 : FVec Ideal S576x64 .f32} {v150 : FVec Ideal S576x128 .f32} {v152 : FVec Ideal S1152x128 .f32} {f : Img} {W₁ W₂ W₃ W₄ W₅ W₆ : Bank} {i : Fin 8}
    (hx : ∀ (j k : Fin 14), v (ix3 i j k) = f 0 j k) (h1 : Flat v142 W₁ 5 1) (h2 : Flat v144 W₂ 3 32) (h3 : Flat v146 W₃ 3 32)
    (h4 : Flat v148 W₄ 3 64) (h5 : Flat v150 W₅ 3 64) (h6 : Flat v152 W₆ 3 128) :
    Rows (n := 8) (h := 3) (w := 3) (c := 128) (stackL v v142 v144 v146 v148 v150 v152) i (base 14 14 W₁ W₂ W₃ W₄ W₅ W₆ f) :=
  part_three h5 h6 (part_two h3 h4 (part_one (border v f i hx) h1 h2))

/-- One tap of the dense layer: the channels at one place of every crop, times the weights of that place. -/
theorem dense_tap {v : FVec Ideal S8x3x3x128 .f32} {f : Img} {i : Fin 8} (hv : Rows (n := 8) (h := 3) (w := 3) (c := 128) v i f)
    {w : FVec Ideal S1x1x128x256 .f32} {a b : ℕ} {g : ℕ → ℕ → EReal} (hw : ∀ (c : Fin 128) (l : Fin 256), w (ix4 (0 : Fin 1) (0 : Fin 1) c l) = g l c)
    (ha : a < 3) (hb : b < 3) (hs : S8x3x3x128.Slices ![0, a, b, 0] S8x1x1x128) (l : Fin 256) :
    matmul dot_S8x128_S128x256_S8x256_1_0_0_1_n_n none (shapeCast S8x128 (extractStridedSlice S8x1x1x128 ![0, a, b, 0] v hs) shapeCasts_S8x1x1x128_S8x128)
      (shapeCast S128x256 w shapeCasts_S1x1x128x256_S128x256) (constant S8x256 .f32 0x00000000#32) (ix2 i l) = ∑ c : Fin 128, f c a b * g l c := by
  refine (product_apply (M := 8) (K := 128) (N := 256) _ _ _ i l).trans ?_
  refine (congrArg (· + _) Ideal.ofBits_zero_f32).trans ((zero_add _).trans ?_)
  refine Finset.sum_congr rfl fun c _ => congrArg₂ (· * ·) ?_ ?_
  · rw [shapeCast_apply _ _ _ (ix4 i (0 : Fin 1) (0 : Fin 1) c) (by
      rw [Shape.rowMajor_val_four, Shape.rowMajor_val_two]
      show ((i.val * 1 + 0) * 1 + 0) * 128 + c.val = i.val * 128 + c.val
      omega)]
    rw [extractStridedSlice_apply _ v hs _ (ix4 i (⟨a, ha⟩ : Fin 3) (⟨b, hb⟩ : Fin 3) c) (by
      intro k
      fin_cases k
      · exact (Nat.zero_add _).symm
      · rfl
      · rfl
      · exact (Nat.zero_add _).symm)]
    exact hv _ _ _
  · rw [shapeCast_apply _ _ _ (ix4 (0 : Fin 1) (0 : Fin 1) c l) (by
      rw [Shape.rowMajor_val_four, Shape.rowMajor_val_two]
      show ((0 * 1 + 0) * 128 + c.val) * 256 + l.val = c.val * 256 + l.val
      omega)]
    exact hw c l

/-- A sum over nine places. -/
theorem sum_places (F : Fin 9 → EReal) : ∑ t : Fin 9, F t = F 0 + F 1 + F 2 + F 3 + F 4 + F 5 + F 6 + F 7 + F 8 := by
  simp only [Fin.sum_univ_castSucc, Fin.sum_univ_zero, zero_add]
  rfl

/-- The dense layer over the crops' stacks. -/
def denseL (v : FVec Ideal S8x3x3x128 .f32) (b : Vec Ideal S1x256 .f32) (w₀ w₁ w₂ w₃ w₄ w₅ w₆ w₇ w₈ : Vec Ideal S1x1x128x256 .f32) : FVec Ideal S1x1x8x256 .f32 :=
  k2_pay1 v (k2_pay48 v (k2_pay46 b)
    (shapeCast S8x128 (extractStridedSlice S8x1x1x128 ![0, 0, 0, 0] v slices_S8x3x3x128_o0_0_0_0_S8x1x1x128) shapeCasts_S8x1x1x128_S8x128)
    w₀ w₁ w₂ w₃ w₄) (k2_pay49 v) (k2_pay50 w₅) (constant S8x256 .f32 0x00000000#32) w₆ w₇ w₈

/-- The dense layer at an entry: the bias and the nine places' sums over the channels. -/
theorem dense_rows {v : FVec Ideal S8x3x3x128 .f32} {f : Img} {i : Fin 8} (hv : Rows (n := 8) (h := 3) (w := 3) (c := 128) v i f)
    {b : Vec Ideal S1x256 .f32} {d : ℕ → EReal} (hb : ∀ l : Fin 256, b (ix2 (0 : Fin 1) l) = d l) {w₀ w₁ w₂ w₃ w₄ w₅ w₆ w₇ w₈ : Vec Ideal S1x1x128x256 .f32}
    {g : ℕ → ℕ → ℕ → EReal}
    (h₀ : ∀ (c : Fin 128) (l : Fin 256), w₀ (ix4 (0 : Fin 1) (0 : Fin 1) c l) = g 0 l c) (h₁ : ∀ (c : Fin 128) (l : Fin 256), w₁ (ix4 (0 : Fin 1) (0 : Fin 1) c l) = g 1 l c)
    (h₂ : ∀ (c : Fin 128) (l : Fin 256), w₂ (ix4 (0 : Fin 1) (0 : Fin 1) c l) = g 2 l c) (h₃ : ∀ (c : Fin 128) (l : Fin 256), w₃ (ix4 (0 : Fin 1) (0 : Fin 1) c l) = g 3 l c)
    (h₄ : ∀ (c : Fin 128) (l : Fin 256), w₄ (ix4 (0 : Fin 1) (0 : Fin 1) c l) = g 4 l c) (h₅ : ∀ (c : Fin 128) (l : Fin 256), w₅ (ix4 (0 : Fin 1) (0 : Fin 1) c l) = g 5 l c)
    (h₆ : ∀ (c : Fin 128) (l : Fin 256), w₆ (ix4 (0 : Fin 1) (0 : Fin 1) c l) = g 6 l c) (h₇ : ∀ (c : Fin 128) (l : Fin 256), w₇ (ix4 (0 : Fin 1) (0 : Fin 1) c l) = g 7 l c)
    (h₈ : ∀ (c : Fin 128) (l : Fin 256), w₈ (ix4 (0 : Fin 1) (0 : Fin 1) c l) = g 8 l c) (l : Fin 256) :
    denseL v b w₀ w₁ w₂ w₃ w₄ w₅ w₆ w₇ w₈ (ix4 (0 : Fin 1) (0 : Fin 1) i l)
      = d l + ∑ t : Fin 9, ∑ c : Fin 128, f c (t.val / 3) (t.val % 3) * g t l c := by
  have e : k2_pay46 (F := Ideal) b (ix2 i l) = d l := by
    show Ideal.ofBits .f32 0x00000000#32 + broadcastTo S8x256 (shapeCast S1x256 b shapeCasts_S1x256_S1x256) broadcasts_S1x256_S8x256 (ix2 i l) = d l
    rw [Ideal.ofBits_zero_f32, zero_add, broadcastTo_apply _ _ _ (ix2 (0 : Fin 1) l) (by intro a; fin_cases a <;> rfl), shapeCast_self]
    exact hb l
  unfold denseL k2_pay1
  rw [shapeCast_apply _ _ _ (ix2 i l) (by
    rw [Shape.rowMajor_val_four, Shape.rowMajor_val_two]
    show i.val * 256 + l.val = ((0 * 1 + 0) * 8 + i.val) * 256 + l.val
    omega)]
  rw [sum_places]
  simp only [← add_assoc]
  refine congrArg₂ (· + ·) (congrArg₂ (· + ·) (congrArg₂ (· + ·) (congrArg₂ (· + ·) ?_ (dense_tap hv h₅ (by omega) (by omega) slices_S8x3x3x128_o0_1_2_0_S8x1x1x128 l))
    (dense_tap hv h₆ (by omega) (by omega) slices_S8x3x3x128_o0_2_0_0_S8x1x1x128 l)) (dense_tap hv h₇ (by omega) (by omega) slices_S8x3x3x128_o0_2_1_0_S8x1x1x128 l))
    (dense_tap hv h₈ (by omega) (by omega) slices_S8x3x3x128_o0_2_2_0_S8x1x1x128 l)
  exact congrArg₂ (· + ·) (congrArg₂ (· + ·) (congrArg₂ (· + ·) (congrArg₂ (· + ·) (congrArg₂ (· + ·) e
    (dense_tap hv h₀ (by omega) (by omega) slices_S8x3x3x128_o0_0_0_0_S8x1x1x128 l))
    (dense_tap hv h₁ (by omega) (by omega) slices_S8x3x3x128_o0_0_1_0_S8x1x1x128 l)) (dense_tap hv h₂ (by omega) (by omega) slices_S8x3x3x128_o0_0_2_0_S8x1x1x128 l))
    (dense_tap hv h₃ (by omega) (by omega) slices_S8x3x3x128_o0_1_0_0_S8x1x1x128 l)) (dense_tap hv h₄ (by omega) (by omega) slices_S8x3x3x128_o0_1_1_0_S8x1x1x128 l)

end Cert.KernelIdeal.Local

end
-- ==== Proof.LocalValue.lean ====
/- The result array of the local region: the features of the eight patches of every frame, from what the region's arrays hold on entry. -/
module

public import proofs.«01_k».proof.Proof.GlobalValue
public import proofs.«01_k».proof.Proof.KernelCrop
public import proofs.«01_k».proof.Proof.LocalFrame

@[expose] public section

set_option maxRecDepth 16384

noncomputable section

namespace Cert.KernelIdeal.Local

open Idealize.ShloMosaic Idealize.ShloMosaic.TcCoe Idealize.SL.Sem Cert.Net Cert.KernelIdeal Cert.KernelIdeal.Gen Cert.KernelIdeal.Value

/-- One place's weights of the dense layer, loaded from the whole array. -/
theorem place_weights {x : Vec Ideal S3x3x128x256 .f32} {g : ℕ → ℕ → ℕ → EReal}
    (hx : ∀ (a b : Fin 3) (c : Fin 128) (l : Fin 256), x (ix4 a b c l) = g (a.val * 3 + b.val) l c) (a b : Fin 3)
    (h : ∀ q, (![a.val, b.val, 0, 0] : Fin 4 → ℕ) q + S1x1x128x256.size q ≤ S3x3x128x256.size q) (c : Fin 128) (l : Fin 256) :
    View.ld x (Rect.unit (s := S3x3x128x256) ![a.val, b.val, 0, 0] S1x1x128x256.size h) (ix4 (0 : Fin 1) (0 : Fin 1) c l) = g (a.val * 3 + b.val) l c := by
  refine Eq.trans ?_ (hx a b c l)
  refine congrArg x ?_
  funext q
  fin_cases q <;> exact Fin.ext (by simp)

/-- What the body leaves for position `i` of one frame. -/
theorem out_frame {x0 : Vec Ideal S1x1x64x64 .f32} {x1 : Vec Ideal S1x1x8x2 .f32} {x2 : Vec Ideal S25x32 .f32} {x3 : Vec Ideal S288x32 .f32}
    {x4 : Vec Ideal S288x64 .f32} {x5 : Vec Ideal S576x64 .f32} {x6 : Vec Ideal S576x128 .f32} {x7 : Vec Ideal S1152x128 .f32}
    {x8 : Vec Ideal S3x3x128x256 .f32} {x9 : Vec Ideal S1x256 .f32} {W₁ W₂ W₃ W₄ W₅ W₆ : Bank} {f : Img} {d : ℕ → EReal} {g : ℕ → ℕ → ℕ → EReal}
    (h0 : ∀ a b : Fin 64, x0 (ix4 (0 : Fin 1) (0 : Fin 1) a b) = f 0 a b)
    (hp : ∀ (r : Fin 8) (a : Fin 2), 0 ≤ x1 (ix4 (0 : Fin 1) (0 : Fin 1) r a))
    (h2 : Flat (k := 5) (c := 1) x2 W₁) (h3 : Flat (k := 3) (c := 32) x3 W₂) (h4 : Flat (k := 3) (c := 32) x4 W₃)
    (h5 : Flat (k := 3) (c := 64) x5 W₄) (h6 : Flat (k := 3) (c := 64) x6 W₅) (h7 : Flat (k := 3) (c := 128) x7 W₆)
    (h8 : ∀ (a b : Fin 3) (c : Fin 128) (l : Fin 256), x8 (ix4 a b c l) = g (a.val * 3 + b.val) l c)
    (h9 : ∀ l : Fin 256, x9 (ix2 (0 : Fin 1) l) = d l) (i : Fin 8) (l : Fin 256) :
    out2_10 (F := Ideal) x0 x1 x2 x3 x4 x5 x6 x7 x8 x9 (ix4 (0 : Fin 1) (0 : Fin 1) i l)
      = d l + ∑ t : Fin 9, ∑ c : Fin 128, base 14 14 W₁ W₂ W₃ W₄ W₅ W₆
          (crop (x1 (ix4 (0 : Fin 1) (0 : Fin 1) i (0 : Fin 2))) (x1 (ix4 (0 : Fin 1) (0 : Fin 1) i (1 : Fin 2))) f) c (t.val / 3) (t.val % 3) * g t.val l c := by
  have z4 : (![0, 0, 0, 0] : Fin 4 → ℕ) = fun _ => 0 := by funext a; fin_cases a <;> rfl
  have z2 : (![0, 0] : Fin 2 → ℕ) = fun _ => 0 := by funext a; fin_cases a <;> rfl
  have e0 : View.ld x0 r2_0 = x0 := View.ld_unit_zero (S := S1x1x64x64) z4 _ _
  have e1 : View.ld x1 r2_1 = x1 := View.ld_unit_zero (S := S1x1x8x2) z4 _ _
  have e2 : View.ld x2 r2_2 = x2 := View.ld_unit_zero (S := S25x32) z2 _ _
  have e3 : View.ld x3 r2_3 = x3 := View.ld_unit_zero (S := S288x32) z2 _ _
  have e4 : View.ld x4 r2_4 = x4 := View.ld_unit_zero (S := S288x64) z2 _ _
  have e5 : View.ld x5 r2_5 = x5 := View.ld_unit_zero (S := S576x64) z2 _ _
  have e6 : View.ld x6 r2_6 = x6 := View.ld_unit_zero (S := S576x128) z2 _ _
  have e7 : View.ld x7 r2_7 = x7 := View.ld_unit_zero (S := S1152x128) z2 _ _
  have e9 : View.ld x9 r2_8 = x9 := View.ld_unit_zero (S := S1x256) z2 _ _
  have hc : ∀ j k : Fin 14, k2_pay58 x0 x1 x2 x3 x4 x5 x6 x7 x8 x9 (ix3 i j k)
      = crop (x1 (ix4 (0 : Fin 1) (0 : Fin 1) i (0 : Fin 2))) (x1 (ix4 (0 : Fin 1) (0 : Fin 1) i (1 : Fin 2))) f 0 j k := by
    intro j k
    unfold k2_pay58 k2_pay51 k2_pay52 k2_pay53 k2_pay54 k2_pay55 k2_pay56 k2_pay57
    rw [e0, e1]
    refine Crop.crop_rows (k2_pay2 x0) x1 f (fun a b => ?_) hp i j k
    unfold k2_pay2
    refine (shapeCast_apply _ _ _ (ix4 (0 : Fin 1) (0 : Fin 1) a b) ?_).trans (h0 a b)
    rw [Shape.rowMajor_val_four, Shape.rowMajor_val_two]
    show ((0 * 1 + 0) * 64 + a.val) * 64 + b.val = a.val * 64 + b.val
    omega
  have hs : Rows (n := 8) (h := 3) (w := 3) (c := 128) (k2_pay68 x0 x1 x2 x3 x4 x5 x6 x7 x8 x9) i (base 14 14 W₁ W₂ W₃ W₄ W₅ W₆
      (crop (x1 (ix4 (0 : Fin 1) (0 : Fin 1) i (0 : Fin 2))) (x1 (ix4 (0 : Fin 1) (0 : Fin 1) i (1 : Fin 2))) f)) := by
    have hk : k2_pay68 x0 x1 x2 x3 x4 x5 x6 x7 x8 x9 = stackL (k2_pay58 x0 x1 x2 x3 x4 x5 x6 x7 x8 x9) (k2_pay25 x2) (k2_pay26 x3) (k2_pay27 x4) (k2_pay28 x5) (k2_pay29 x6) (k2_pay30 x7) := by
      unfold k2_pay68 k2_pay67 k2_pay66 k2_pay65 k2_pay64 k2_pay63 k2_pay62 k2_pay61 k2_pay60 k2_pay59 stackL
      rw [e2, e3, e4, e5, e6, e7]
      rfl
    rw [hk]
    exact stack_rows hc (flat_cast h2 _) (flat_cast h3 _) (flat_cast h4 _) (flat_cast h5 _) (flat_cast h6 _) (flat_cast h7 _)
  unfold out2_10
  rw [e9]
  frame_out
  show denseL (k2_pay68 x0 x1 x2 x3 x4 x5 x6 x7 x8 x9) x9 (View.ld x8 r2_9) (View.ld x8 r2_10) (View.ld x8 r2_11) (View.ld x8 r2_12) (View.ld x8 r2_13)
    (View.ld x8 r2_14) (View.ld x8 r2_15) (View.ld x8 r2_16) (View.ld x8 r2_17) (ix4 (0 : Fin 1) (0 : Fin 1) i l) = _
  exact dense_rows hs h9 (place_weights h8 0 0 _) (place_weights h8 0 1 _) (place_weights h8 0 2 _) (place_weights h8 1 0 _) (place_weights h8 1 1 _)
    (place_weights h8 1 2 _) (place_weights h8 2 0 _) (place_weights h8 2 1 _) (place_weights h8 2 2 _) l

/-- The block each window is on at each grid point. -/
theorem idx : ∀ t : Fin cfg2.N, win2_0.index t = ![t.val / 30, t.val % 30, 0, 0] ∧ win2_1.index t = ![t.val / 30, t.val % 30, 0, 0]
    ∧ win2_2.index t = ![0, 0] ∧ win2_3.index t = ![0, 0] ∧ win2_4.index t = ![0, 0] ∧ win2_5.index t = ![0, 0] ∧ win2_6.index t = ![0, 0]
    ∧ win2_7.index t = ![0, 0] ∧ win2_8.index t = ![0, 0, 0, 0] ∧ win2_9.index t = ![0, 0]
    ∧ win2_10.index t = ![t.val / 30, t.val % 30, 0, 0] ∧ t.val < 240 :=
  (by decide +kernel : ∀ t : Fin grid2.N, _)

variable (V : (c : Dev nD) → (b : Ref sig .tc) → Buf (Elt Ideal) ((c : Thread nD τ).loc b))

theorem whole2 (c : Dev nD) (t : Fin cfg2.N) : iblk2 V c 2 t = V c main_v1 := by blk_ext! [iblk2, idx t]
theorem whole3 (c : Dev nD) (t : Fin cfg2.N) : iblk2 V c 3 t = V c main_v3 := by blk_ext! [iblk2, idx t]
theorem whole4 (c : Dev nD) (t : Fin cfg2.N) : iblk2 V c 4 t = V c main_v5 := by blk_ext! [iblk2, idx t]
theorem whole5 (c : Dev nD) (t : Fin cfg2.N) : iblk2 V c 5 t = V c main_v7 := by blk_ext! [iblk2, idx t]
theorem whole6 (c : Dev nD) (t : Fin cfg2.N) : iblk2 V c 6 t = V c main_v9 := by blk_ext! [iblk2, idx t]
theorem whole7 (c : Dev nD) (t : Fin cfg2.N) : iblk2 V c 7 t = V c main_v11 := by blk_ext! [iblk2, idx t]
theorem whole8 (c : Dev nD) (t : Fin cfg2.N) : iblk2 V c 8 t = V c main_v20 := by blk_ext! [iblk2, idx t]
theorem whole9 (c : Dev nD) (t : Fin cfg2.N) : iblk2 V c 9 t = V c main_v21 := by blk_ext! [iblk2, idx t]

variable {V} {c : Dev nD} {A : Args}

/-- The image a point works on. -/
theorem image_block (hb : Banks V c A) (t : Fin cfg2.N) (a b : Fin 64) :
    (iblk2 V c 0 t : Vec Ideal S1x1x64x64 .f32) (ix4 (0 : Fin 1) (0 : Fin 1) a b) = still A.x t.val 0 a b := by
  have ht := (idx t).2.2.2.2.2.2.2.2.2.2.2
  refine Eq.trans ?_ (bank_apply A.x ⟨t.val / 30, by omega⟩ ⟨t.val % 30, by omega⟩ a b).symm
  rw [← hb.x]
  blk_ext [iblk2, idx t]

/-- The positions a point works on. -/
theorem position_block (hx : (V c main_arg1 : FVec Ideal S8x30x8x2 .f32) = A.px) (t : Fin cfg2.N) (r : Fin 8) (a : Fin 2) :
    (iblk2 V c 1 t : Vec Ideal S1x1x8x2 .f32) (ix4 (0 : Fin 1) (0 : Fin 1) r a) = bank A.px (t.val / 30) (t.val % 30) r a := by
  have ht := (idx t).2.2.2.2.2.2.2.2.2.2.2
  refine Eq.trans ?_ (bank_apply A.px ⟨t.val / 30, by omega⟩ ⟨t.val % 30, by omega⟩ r a).symm
  rw [← hx]
  blk_ext [iblk2, idx t]

/-- A sum over places and then channels, as one sum over channels and then places. -/
theorem sum_split {a b : ℕ} (F : ℕ → EReal) : ∑ t : Fin a, ∑ c : Fin b, F (c.val * a + t.val) = ∑ r : Fin (b * a), F r.val := by
  rw [← Equiv.sum_comp (finProdFinEquiv (m := b) (n := a)), Fintype.sum_prod_type, Finset.sum_comm]
  refine Finset.sum_congr rfl fun c _ => Finset.sum_congr rfl fun t _ => congrArg F ?_
  show c.val * a + t.val = t.val + a * c.val
  rw [Nat.mul_comm, Nat.add_comm]

/-- The region's result: the features of every patch. -/
def features3 (A : Args) : FVec Ideal S8x30x8x256 .f32 := fun i => A.regions (i 0).val ((i 1).val * 8 + (i 2).val) (i 3).val

/-- The features of one patch, in the kernel's order of summation. -/
theorem regions_places (A : Args) (b i l n : ℕ) (hn : b * 240 + i = n) :
    line A.lb l + ∑ t : Fin 9, ∑ c : Fin 128, A.local_ n c (t.val / 3) (t.val % 3) * tab A.lw l (c.val * 9 + t.val) = A.regions b i l := by
  subst hn
  unfold Args.regions
  rw [add_comm]
  refine congrArg (· + _) ?_
  refine Eq.trans ?_ (sum_split (a := 9) (b := 128) fun r => A.local_ (b * 240 + i) (r / 9) (r % 9 / 3) (r % 3) * tab A.lw l r)
  refine Finset.sum_congr rfl fun t _ => Finset.sum_congr rfl fun c _ => ?_
  have ht := t.isLt
  show _ = A.local_ (b * 240 + i) ((c.val * 9 + t.val) / 9) ((c.val * 9 + t.val) % 9 / 3) ((c.val * 9 + t.val) % 3) * tab A.lw l (c.val * 9 + t.val)
  rw [show (c.val * 9 + t.val) / 9 = c.val by omega, show (c.val * 9 + t.val) % 9 / 3 = t.val / 3 by omega, show (c.val * 9 + t.val) % 3 = t.val % 3 by omega]

section Point

variable (hb : Banks V c A) (hx : (V c main_arg1 : FVec Ideal S8x30x8x2 .f32) = A.px) (hp : ∀ i, 0 ≤ A.px i)
  (h8 : ∀ (a b : Fin 3) (k : Fin 128) (l : Fin 256), (V c main_v20 : FVec Ideal S3x3x128x256 .f32) (ix4 a b k l) = tab A.lw l (k.val * 9 + (a.val * 3 + b.val)))
  (h9 : ∀ l : Fin 256, (V c main_v21 : FVec Ideal S1x256 .f32) (ix2 (0 : Fin 1) l) = line A.lb l)

include hx hp in
/-- The positions a point works on are not negative. -/
theorem position_nonneg (t : Fin cfg2.N) (r : Fin 8) (a : Fin 2) :
    (0 : EReal) ≤ (iblk2 V c 1 t : FVec Ideal S1x1x8x2 .f32) (ix4 (0 : Fin 1) (0 : Fin 1) r a) :=
  have ht := (idx t).2.2.2.2.2.2.2.2.2.2.2
  ((hp (ix4 ⟨t.val / 30, by omega⟩ ⟨t.val % 30, by omega⟩ r a)).trans_eq (bank_apply A.px ⟨t.val / 30, by omega⟩ ⟨t.val % 30, by omega⟩ r a).symm).trans_eq
    (position_block hx t r a).symm

/-- The features from a position's crop are those of its patch. -/
theorem point_regions (t : ℕ) (i l : ℕ) (hi : i < 8) {p q : EReal} (e0 : p = bank A.px (t / 30) (t % 30) i 0) (e1 : q = bank A.px (t / 30) (t % 30) i 1) :
    line A.lb l + ∑ t₁ : Fin 9, ∑ k : Fin 128, base 14 14 (bank A.c₁) (bank A.c₂) (bank A.c₃) (bank A.c₄) (bank A.c₅) (bank A.c₆)
        (crop p q (still A.x t)) k (t₁.val / 3) (t₁.val % 3) * tab A.lw l (k.val * 9 + t₁.val)
      = A.regions (t / 30) (t % 30 * 8 + i) l := by
  subst e0 e1
  refine Eq.trans ?_ (regions_places A (t / 30) (t % 30 * 8 + i) l (t * 8 + i) (by omega))
  unfold Args.local_ patch
  rw [show (t * 8 + i) / 8 = t by omega, show (t * 8 + i) % 8 = i by omega]

include hb hx hp h8 h9 in
/-- What the body leaves for a position of the frame a point works on. -/
theorem point (t : Fin cfg2.N) (i : Fin 8) (l : Fin 256) :
    out2_10 (F := Ideal) (iblk2 V c 0 t) (iblk2 V c 1 t) (iblk2 V c 2 t) (iblk2 V c 3 t) (iblk2 V c 4 t) (iblk2 V c 5 t) (iblk2 V c 6 t) (iblk2 V c 7 t)
      (iblk2 V c 8 t) (iblk2 V c 9 t) (ix4 (0 : Fin 1) (0 : Fin 1) i l) = A.regions (t.val / 30) (t.val % 30 * 8 + i.val) l.val := by
  rw [whole2, whole3, whole4, whole5, whole6, whole7, whole8, whole9]
  exact (out_frame (image_block hb t) (position_nonneg hx hp t) hb.c₁ hb.c₂ hb.c₃ hb.c₄ hb.c₅ hb.c₆
    (g := fun q l k => tab A.lw l (k * 9 + q)) h8 h9 i l).trans (point_regions t.val i.val l.val i.isLt (position_block hx t i 0) (position_block hx t i 1))

include hb hx hp h8 h9 in
/-- The result array after the region. -/
theorem final : (dat2 V c).arrAt 10 cfg2.N = features3 A := by
  refine (dat2 V c).arrAt_eq_of_covers 10 _ (by decide +kernel) fun t hf y => ?_
  blk_simp
  rw [after2_10]
  have hy : y = ix4 (0 : Fin 1) (0 : Fin 1) (show Fin 8 from y 2) (show Fin 256 from y 3) := by
    funext a
    fin_cases a
    · exact Fin.ext (by have h : (y 0).val < 1 := (y 0).isLt; show (y 0).val = 0; omega)
    · exact Fin.ext (by have h : (y 1).val < 1 := (y 1).isLt; show (y 1).val = 0; omega)
    · rfl
    · rfl
  have e0 : (((win2_10.blk t).view.emb y) 0).val = t.val / 30 := by blk_simp [idx t]
  have e1 : (((win2_10.blk t).view.emb y) 1).val = t.val % 30 := by blk_simp [idx t]
  have e2 : (((win2_10.blk t).view.emb y) 2).val = (y 2).val := by blk_simp [idx t]
  have e3 : (((win2_10.blk t).view.emb y) 3).val = (y 3).val := by blk_simp [idx t]
  unfold features3
  rw [e0, e1, e2, e3]
  refine Eq.trans ?_ (point hb hx hp h8 h9 t (y 2) (y 3))
  exact congrArg _ hy

end Point

end Cert.KernelIdeal.Local

end
-- ==== Proof.FcgValue.lean ====
/- The result array of the dense region: the rows of its input against the weights, block by block, onto the offsets. -/
module

public import proofs.«01_k».proof.Proof.KernelIdeal.Run
public import proofs.«01_k».proof.Proof.Whole
public import Idealize.ShloMosaic.Lib.Pipeline.ValueKit

@[expose] public section

set_option maxRecDepth 16384

noncomputable section

namespace Cert.KernelIdeal.Dense

open Idealize.ShloMosaic Idealize.ShloMosaic.TcCoe Idealize.SL.Sem Cert.Net Cert.KernelIdeal Cert.KernelIdeal.Gen

/-- The block each window is on at each grid point. -/
theorem idx : ∀ t : Fin cfg1.N, win1_0.index t = ![0, t.val] ∧ win1_1.index t = ![t.val, 0] ∧ win1_2.index t = ![0, 0]
    ∧ win1_3.index t = ![0, 0] ∧ t.val < 16 :=
  (by decide +kernel : ∀ t : Fin grid1.N, _)

/-- The offsets repeated for every row. -/
theorem start_apply (v : FVec Ideal S1x256 .f32) (b : Fin 8) (q : Fin 256) : k1_pay1 (F := Ideal) v (ix2 b q) = v (ix2 (0 : Fin 1) q) := by
  unfold k1_pay1
  rw [shapeCast_self]
  refine (congrArg₂ (· + ·) Ideal.ofBits_zero_f32 (row_apply v _ b q)).trans (zero_add _)

/-- One block added. -/
theorem add_apply (a : FVec Ideal S8x256 .f32) (x : FVec Ideal S8x2048 .f32) (w : FVec Ideal S2048x256 .f32) (b : Fin 8) (q : Fin 256) :
    k1_pay2 (F := Ideal) a x w (ix2 b q) = a (ix2 b q) + ∑ r : Fin 2048, x (ix2 b r) * w (ix2 r q) := by
  unfold k1_pay2
  rw [shapeCast_self, shapeCast_self, shapeCast_self]
  refine congrArg (a (ix2 b q) + ·) ((product_apply x w _ b q).trans ?_)
  exact (congrArg (· + _) Ideal.ofBits_zero_f32).trans (zero_add _)

variable (V : (c : Dev nD) → (b : Ref sig .tc) → Buf (Elt Ideal) ((c : Thread nD τ).loc b))

theorem whole (c : Dev nD) (t : Fin cfg1.N) : iblk1 V c 2 t = V c main_v17 := by blk_ext! [iblk1, idx t]

variable {V} {c : Dev nD} {X W : Tab} {w : ℕ → EReal}

theorem left_block (h0 : Table (V c main_v16 : FVec Ideal S8x32768 .f32) X) (t : Fin cfg1.N) (b : Fin 8) (r : Fin 2048) :
    (iblk1 V c 0 t : Vec Ideal S8x2048 .f32) (ix2 b r) = X b (t.val * 2048 + r.val) := by
  have ht := (idx t).2.2.2.2
  refine Eq.trans ?_ (h0 b ⟨t.val * 2048 + r.val, by omega⟩)
  blk_ext [iblk1, idx t]

theorem right_block (h1 : Table (V c main_v15 : FVec Ideal S32768x256 .f32) W) (t : Fin cfg1.N) (r : Fin 2048) (q : Fin 256) :
    (iblk1 V c 1 t : Vec Ideal S2048x256 .f32) (ix2 r q) = W (t.val * 2048 + r.val) q := by
  have ht := (idx t).2.2.2.2
  refine Eq.trans ?_ (h1 ⟨t.val * 2048 + r.val, by omega⟩ q)
  blk_ext [iblk1, idx t]

/-- One block's share of the sum. -/
theorem share_block (x : FVec Ideal S8x2048 .f32) (w : FVec Ideal S2048x256 .f32) (o : ℕ) (b : Fin 8) (q : Fin 256)
    (hx : ∀ r : Fin 2048, x (ix2 b r) = X b (o + r.val)) (hw : ∀ r : Fin 2048, w (ix2 r q) = W (o + r.val) q) :
    ∑ r : Fin 2048, x (ix2 b r) * w (ix2 r q) = ∑ r ∈ Finset.range 2048, X b (o + r) * W (o + r) q := by
  rw [Finset.sum_range]
  exact Finset.sum_congr rfl fun r _ => congrArg₂ (· * ·) (hx r) (hw r)

/-- What the buffer holds after point `n`: the offsets and the terms of the blocks up to that point. -/
theorem outs (h0 : Table (V c main_v16 : FVec Ideal S8x32768 .f32) X) (h1 : Table (V c main_v15 : FVec Ideal S32768x256 .f32) W)
    (h2 : ∀ q : Fin 256, (V c main_v17 : FVec Ideal S1x256 .f32) (ix2 (0 : Fin 1) q) = w q) (b : Fin 8) (q : Fin 256) (n : ℕ) :
    ∀ h : n < cfg1.N, outsAt1 V c n h (ix2 b q) = w q + ∑ r ∈ Finset.range ((n + 1) * 2048), X b r * W r q := by
  induction n with
  | zero =>
    intro h
    have e := share_block (iblk1 V c 0 ⟨0, h⟩) (iblk1 V c 1 ⟨0, h⟩) _ b q (left_block h0 ⟨0, h⟩ b) fun r => right_block h1 ⟨0, h⟩ r q
    rw [outsAt1_A V c ⟨0, h⟩ rfl]
    frame_out
    rw [add_apply, start_apply, whole, h2, e]
    simp only [Nat.zero_mul, Nat.zero_add, Nat.one_mul]
  | succ n ih =>
    intro h
    have hn : n + 1 < 16 := (idx ⟨n + 1, h⟩).2.2.2.2
    have e := share_block (iblk1 V c 0 ⟨n + 1, h⟩) (iblk1 V c 1 ⟨n + 1, h⟩) _ b q (left_block h0 ⟨n + 1, h⟩ b) fun r => right_block h1 ⟨n + 1, h⟩ r q
    have hp := ih (by omega)
    rw [outsAt1_B V c ⟨n + 1, h⟩ (by show ¬ (n + 1) % 16 = 0; omega)]
    frame_out
    rw [add_apply, e]
    refine (congrArg (· + _) hp).trans ?_
    rw [add_assoc, Nat.succ_mul (n + 1) 2048, Finset.sum_range_add]

/-- The region's result. -/
def dense (X W : Tab) (w : ℕ → EReal) : FVec Ideal S8x256 .f32 := fun i =>
  w (i 1).val + ∑ r ∈ Finset.range 32768, X (i 0).val r * W r (i 1).val

/-- The result array after the region. -/
theorem final (h0 : Table (V c main_v16 : FVec Ideal S8x32768 .f32) X) (h1 : Table (V c main_v15 : FVec Ideal S32768x256 .f32) W)
    (h2 : ∀ q : Fin 256, (V c main_v17 : FVec Ideal S1x256 .f32) (ix2 (0 : Fin 1) q) = w q) :
    (dat1 V c).arrAt 3 cfg1.N = dense X W w := by
  refine (dat1 V c).arrAt_eq_of_covers 3 _ (by decide +kernel) fun t hf y => ?_
  have h15 := (flush1_3 t).mp hf
  have ht := (idx t).2.2.2.2
  blk_simp
  rw [after1_3]
  have hy : y = ix2 (show Fin 8 from y 0) (show Fin 256 from y 1) := by
    funext a
    fin_cases a <;> rfl
  have e0 : (((win1_3.blk t).view.emb y) 0).val = (y 0).val := by blk_simp [idx t]
  have e1 : (((win1_3.blk t).view.emb y) 1).val = (y 1).val := by blk_simp [idx t]
  unfold dense
  rw [e0, e1]
  have e := outs h0 h1 h2 (y 0) (y 1) t.val t.isLt
  rw [show (t.val + 1) * 2048 = 32768 by omega] at e
  refine Eq.trans ?_ e
  exact congrArg _ hy

end Cert.KernelIdeal.Dense

end
-- ==== Proof.KernelGat.lean ====
/- The attention region's body on one video: its neighbour mask, its two attention layers, and the cuts of the vector it joins. -/
module

public import proofs.«01_k».proof.Proof.Levels
public import proofs.«01_k».proof.Proof.Gen.KernelIdeal.Skeleton

@[expose] public section

set_option maxRecDepth 16384

noncomputable section

namespace Cert.KernelIdeal.Gat

open Idealize.ShloMosaic Cert.Net Cert.KernelIdeal Cert.KernelIdeal.Gen

/-- The frame of a region, as the body computes it from the region's number. -/
def frameWord (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 8#32 0#32)) (Scalar.extui (Scalar.cmpi .slt 8#32 0#32))))
    (IntOp.cmpi .ne (IntOp.remsi .vector x 8#32) 0#32)) (IntOp.subi (IntOp.divsi .vector x 8#32) 1#32) (IntOp.divsi .vector x 8#32)

/-- The place of a region in its frame, as the body computes it. -/
def placeWord (x : BitVec 32) : BitVec 32 :=
  let v : BitVec 32 := Scalar.select (Scalar.cmpi .eq 8#32 0#32) 1#32 8#32
  let r : BitVec 32 := IntOp.remsi .vector x v
  Scalar.select (IntOp.andi (IntOp.xori (IntOp.cmpi .slt r 0#32) (Scalar.cmpi .slt v 0#32)) (IntOp.cmpi .ne r 0#32)) (IntOp.addi r v) r

/-- Both are the quotient and the remainder by eight. -/
theorem words : ∀ i : Fin 240, frameWord (BitVec.ofNat 32 i.val) = BitVec.ofNat 32 (i.val / 8)
    ∧ placeWord (BitVec.ofNat 32 i.val) = BitVec.ofNat 32 (i.val % 8) := by
  decide +kernel

/-- The row numbers. -/
theorem row_number (i j : Fin 240) : iota .tc S240x240 32 [0] iota_S240x240_d0_w32 (ix2 i j) = BitVec.ofNat 32 i.val := by
  show BitVec.ofNat 32 (0 * 240 + i.val) = _
  rw [show 0 * 240 + i.val = i.val by omega]

/-- The column numbers. -/
theorem column_number (i j : Fin 240) : iota .tc S240x240 32 [1] iota_S240x240_d1_w32 (ix2 i j) = BitVec.ofNat 32 j.val := by
  show BitVec.ofNat 32 (0 * 240 + j.val) = _
  rw [show 0 * 240 + j.val = j.val by omega]

/-- The frames of the rows. -/
theorem row_frame (i j : Fin 240) : k3_pay3 (ix2 i j) = BitVec.ofNat 32 (i.val / 8) := by
  refine Eq.trans ?_ (words i).1
  rw [← row_number i j]
  rfl

/-- The frames of the columns. -/
theorem column_frame (i j : Fin 240) :
    k3_pay6 (iota .tc S240x240 32 [1] iota_S240x240_d1_w32) 8#32 k3_pay4 k3_pay5 (ix2 i j) = BitVec.ofNat 32 (j.val / 8) := by
  refine Eq.trans ?_ (words j).1
  rw [← column_number i j]
  rfl

/-- Whether a row and a column have the same place. -/
theorem same_place (i j : Fin 240) :
    k3_pay8 (iota .tc S240x240 32 [0] iota_S240x240_d0_w32) (iota .tc S240x240 32 [1] iota_S240x240_d1_w32) (ix2 i j)
      = IntOp.cmpi .eq (BitVec.ofNat 32 (i.val % 8)) (BitVec.ofNat 32 (j.val % 8)) := by
  refine Eq.trans ?_ (congrArg₂ (IntOp.cmpi .eq) (words i).2 (words j).2)
  rw [← row_number i j, ← column_number i j]
  rfl

/-- The neighbour mask. -/
def mask : IVec S240x240 1 :=
  k3_pay11 (k3_pay7 (iota .tc S240x240 32 [1] iota_S240x240_d1_w32) k3_pay3 8#32 k3_pay4 k3_pay5)
    (k3_pay8 (iota .tc S240x240 32 [0] iota_S240x240_d0_w32) (iota .tc S240x240 32 [1] iota_S240x240_d1_w32))
    (k3_pay9 (iota .tc S240x240 32 [1] iota_S240x240_d1_w32) k3_pay3 8#32 k3_pay4 k3_pay5) k3_pay10

/-- The mask holds the neighbours. -/
theorem mask_near (i j : Fin 240) : mask (ix2 i j) = near i j := by
  unfold near
  rw [← row_frame i j, ← column_frame i j, ← same_place i j]
  rfl

/-- The masked scores from two columns less each row's largest. -/
def centre (w : IVec S240x240 1) (p q : FVec Ideal S240x1 .f32) : FVec Ideal S240x240 .f32 :=
  have v101 : FVec Ideal S240x240 .f32 := addf (broadcastTo S240x240 p broadcasts_S240x1_S240x240)
    (broadcastTo S240x240 (transpose S1x240 [1, 0] q transposes_S240x1_p1_0_S1x240) broadcasts_S1x240_S240x240)
  have v108 : FVec Ideal S240x240 .f32 := select w (select (cmpf .oge v101 (broadcast S240x240 (Scalar.ofBits .f32 0x00000000#32))) v101
    (mulf (broadcast S240x240 (Scalar.ofBits .f32 0x3E4CCCCD#32)) v101)) (broadcast S240x240 (Scalar.ofBits .f32 0xD9FFCB9E#32))
  subf v108 (broadcastTo S240x240 (shapeCast S240x1
    (multiReduction .maximumf [1] S240 v108 0xFF800000#32 reduces_S240x240_S240 (.inl rfl) rfl) shapeCasts_S240_S240x1) broadcasts_S240x1_S240x240)

/-- Their shares. -/
def shares (w : IVec S240x240 1) (p q : FVec Ideal S240x1 .f32) : FVec Ideal S240x240 .f32 :=
  divf (exp (centre w p q)) (broadcastTo S240x240 (shapeCast S240x1
    (multiReduction .add [1] S240 (exp (centre w p q)) 0x00000000#32 reduces_S240x240_S240 (.inl rfl) rfl) shapeCasts_S240_S240x1) broadcasts_S240x1_S240x240)

/-- One attention layer of the body: the scores from two columns, masked, their shares, and the regions mixed by them. -/
theorem attend_table {c : ℕ} {h : FVec Ideal ⟨2, ![240, c]⟩ .f32} {p q : FVec Ideal ⟨2, ![240, 1]⟩ .f32} {w : IVec S240x240 1}
    {H P Q : Tab} (hh : Table h H) (hp : Table p P) (hq : Table q Q) (hw : ∀ i j : Fin 240, w (ix2 i j) = near i j) :
    Table (matmul (DotDims.plain 240 240 c) none (shares w p q) h (constant ⟨2, ![240, c]⟩ .f32 0x00000000#32))
      (prod 240 (share 240 (scores P Q)) H) :=
  product_table (share_table (v := centre w p q) (w := centre w p q) (centred_table (gate_table (pairs_table hp hq _ _ _) hw) _ _ _) _ _ _) hh

variable {f : FVec Ideal S240x256 .f32} {w₁ : FVec Ideal S256x8 .f32} {a₁ b₁ : FVec Ideal S8x1 .f32} {w₂ : FVec Ideal S8x16 .f32}
  {a₂ b₂ : FVec Ideal S16x1 .f32} {F W₁ A₁ B₁ W₂ A₂ B₂ : Tab}

/-- What the body's first layer holds. -/
theorem first_table (m₁ m₂ : IVec S240x240 1) (m₃ m₄ : IVec S240x240 32) (hm : ∀ i j : Fin 240, k3_pay11 m₁ m₂ m₃ m₄ (ix2 i j) = near i j)
    (hf : Table f F) (hw₁ : Table w₁ W₁) (ha : Table a₁ A₁) (hb : Table b₁ B₁) (hw₂ : Table w₂ W₂) :
    Table (k3_pay12 (F := Ideal) f m₁ m₂ m₃ m₄ w₁ a₁ b₁ w₂) (layer F W₁ A₁ B₁ W₂) :=
  have hh : Table (matmul (DotDims.plain 240 256 8) none f w₁ (constant ⟨2, ![240, 8]⟩ .f32 0x00000000#32)) (prod 256 F W₁) := product_table hf hw₁
  product_table (attend_table hh (product_table hh ha) (product_table hh hb) hm) hw₂

/-- The means of the attention features. -/
theorem second_mean (hm : ∀ i j : Fin 240, mask (ix2 i j) = near i j) {g : FVec Ideal S240x16 .f32} {p q : FVec Ideal S240x1 .f32} {G P Q : Tab}
    (hg : Table g G) (hp : Table p P) (hq : Table q Q) (k : Fin 16) :
    k3_pay16 (F := Ideal) mask g p q (ix1 k) = mean 240 (logShare 16 (fun i j => elu (prod 240 (share 240 (scores P Q)) G i j))) k :=
  mean_table (logShare_table (w := g) (centred_table (elu_table (attend_table hg hp hq hm)) _ _ _) _ _ _) _ k

end Cert.KernelIdeal.Gat

end
-- ==== Proof.KernelLevels.lean ====
/- The attention region's vector of one video and its five cuts, as the body computes them. -/
module

public import proofs.«01_k».proof.Proof.KernelGat

@[expose] public section

set_option maxRecDepth 16384

noncomputable section

namespace Cert.KernelIdeal.Gat

open Idealize.ShloMosaic Cert.Net Cert.KernelIdeal Cert.KernelIdeal.Gen

/-- The vector: the three pieces one after the other. -/
theorem joined_vec {m : FVec Ideal S256 .f32} {h : FVec Ideal S16 .f32} {a : Vec Ideal S1x1x256 .f32} {A : ℕ → EReal} {F H : Tab}
    (ha : ∀ k : Fin 256, a (ix3 (0 : Fin 1) (0 : Fin 1) k) = A k) (hm : ∀ k : Fin 256, m (ix1 k) = mean 240 F k)
    (hh : ∀ k : Fin 16, h (ix1 k) = mean 240 H k) (k : Fin 528) : k3_pay17 (F := Ideal) m h a (ix1 k) = joined A F H k := by
  unfold joined
  by_cases h0 : k.val < 256
  · rw [if_pos h0]
    refine (concatenate_apply_piece (t := S528) (0 : Fin 1) [⟨S256, shapeCast S256 a shapeCasts_S1x1x256_S256⟩, ⟨S256, m⟩, ⟨S16, h⟩]
      concatenates_S256_S256_S16_S528_d0 (ix1 k) 0 (by simp) S256 _ rfl rfl 0 rfl (ix1 (⟨k.val, h0⟩ : Fin 256))
      (by intro b hb; fin_cases b; exact absurd rfl hb) (show 0 + k.val = k.val by omega)).trans ?_
    refine (shapeCast_apply _ _ _ (ix3 (0 : Fin 1) (0 : Fin 1) (⟨k.val, h0⟩ : Fin 256)) ?_).trans (ha _)
    rw [Shape.rowMajor_val_three, Shape.rowMajor_val_one]
    show (0 * 1 + 0) * 256 + k.val = k.val
    omega
  · rw [if_neg h0]
    by_cases h1 : k.val < 512
    · rw [if_pos h1]
      exact (concatenate_apply_piece (t := S528) (0 : Fin 1) [⟨S256, shapeCast S256 a shapeCasts_S1x1x256_S256⟩, ⟨S256, m⟩, ⟨S16, h⟩]
        concatenates_S256_S256_S16_S528_d0 (ix1 k) 1 (by simp) S256 m rfl rfl 256 rfl (ix1 (⟨k.val - 256, by omega⟩ : Fin 256))
        (by intro b hb; fin_cases b; exact absurd rfl hb) (show 256 + (k.val - 256) = k.val by omega)).trans (hm _)
    · rw [if_neg h1]
      exact (concatenate_apply_piece (t := S528) (0 : Fin 1) [⟨S256, shapeCast S256 a shapeCasts_S1x1x256_S256⟩, ⟨S256, m⟩, ⟨S16, h⟩]
        concatenates_S256_S256_S16_S528_d0 (ix1 k) 2 (by simp) S16 h rfl rfl 512 rfl (ix1 (⟨k.val - 512, by omega⟩ : Fin 16))
        (by intro b hb; fin_cases b; exact absurd rfl hb) (show 512 + (k.val - 512) = k.val by omega)).trans (hh _)

/-- A piece of the vector. -/
theorem piece {v : FVec Ideal S528 .f32} {g : ℕ → EReal} (hv : ∀ k : Fin 528, v (ix1 k) = g k) {s o : ℕ}
    (h : S528.Slices ![o] ⟨1, ![s]⟩) (d : Fin s) : extractStridedSlice ⟨1, ![s]⟩ ![o] v h (ix1 d) = g (o + d) := by
  have hb : o + s ≤ 528 := h.2 0
  exact (extractStridedSlice_apply _ v h _ (ix1 (⟨o + d.val, by omega⟩ : Fin 528)) (by intro b; fin_cases b; rfl)).trans (hv _)

variable {m : FVec Ideal S256 .f32} {h : FVec Ideal S16 .f32} {a : Vec Ideal S1x1x256 .f32} {g : ℕ → EReal}

/-- The vector taken once. -/
theorem cut_one (hv : ∀ k : Fin 528, k3_pay17 (F := Ideal) m h a (ix1 k) = g k) (d : Fin 528) :
    k3_pay18 (F := Ideal) m h a (ix1 d) = level 0 0x3F800000#32 528 g d := by
  rw [level_once, ← hv d]
  rfl

/-- The vector in two pieces. -/
theorem cut_two (hv : ∀ k : Fin 528, k3_pay17 (F := Ideal) m h a (ix1 k) = g k) (d : Fin 264) :
    k3_pay19 (F := Ideal) m h a (ix1 d) = level 1 0x40000000#32 264 g d := by
  rw [level_scaled (r := 2) (by norm_num) bits_two bits_second]
  unfold k3_pay19
  simp only [addf_apply, mulf_apply, maximumf_apply, piece hv, Fin.sum_univ_castSucc, Fin.sum_univ_zero, zero_add]
  simp [runMax]
  rfl

/-- The vector in four pieces. -/
theorem cut_four (hv : ∀ k : Fin 528, k3_pay17 (F := Ideal) m h a (ix1 k) = g k) (d : Fin 132) :
    k3_pay20 (F := Ideal) m h a (ix1 d) = level 3 0x40800000#32 132 g d := by
  rw [level_scaled (r := 4) (by norm_num) bits_four bits_fourth]
  unfold k3_pay20
  simp only [addf_apply, mulf_apply, maximumf_apply, piece hv, Fin.sum_univ_castSucc, Fin.sum_univ_zero, zero_add]
  simp [runMax]
  rfl

/-- The vector in eight pieces. -/
theorem cut_eight (hv : ∀ k : Fin 528, k3_pay17 (F := Ideal) m h a (ix1 k) = g k) (d : Fin 66) :
    k3_pay21 (F := Ideal) m h a (ix1 d) = level 7 0x41000000#32 66 g d := by
  rw [level_scaled (r := 8) (by norm_num) bits_eight bits_eighth]
  unfold k3_pay21
  simp only [addf_apply, mulf_apply, maximumf_apply, piece hv, Fin.sum_univ_castSucc, Fin.sum_univ_zero, zero_add]
  simp [runMax]
  rfl

/-- The first of sixteen pieces. -/
theorem sixteenth (hv : ∀ k : Fin 528, k3_pay17 (F := Ideal) m h a (ix1 k) = g k) (d : Fin 33) :
    k3_pay22 (F := Ideal) m h a (ix1 d) = g d := by
  refine Eq.trans (b := g (0 + d.val)) ?_ (by rw [Nat.zero_add])
  unfold k3_pay22
  exact piece hv _ d

/-- The five cuts joined. -/
theorem join_cuts {p₀ : FVec Ideal S528 .f32} {p₁ : FVec Ideal S264 .f32} {p₂ : FVec Ideal S132 .f32} {p₃ : FVec Ideal S66 .f32} {p₄ : FVec Ideal S33 .f32}
    (h₀ : ∀ d : Fin 528, p₀ (ix1 d) = level 0 0x3F800000#32 528 g d) (h₁ : ∀ d : Fin 264, p₁ (ix1 d) = level 1 0x40000000#32 264 g d)
    (h₂ : ∀ d : Fin 132, p₂ (ix1 d) = level 3 0x40800000#32 132 g d) (h₃ : ∀ d : Fin 66, p₃ (ix1 d) = level 7 0x41000000#32 66 g d)
    (h₄ : ∀ d : Fin 33, p₄ (ix1 d) = level 15 0x41800000#32 33 g d) (k : Fin 1023) :
    concatenate S1023 0 [⟨S528, p₀⟩, ⟨S264, p₁⟩, ⟨S132, p₂⟩, ⟨S66, p₃⟩, ⟨S33, p₄⟩] concatenates_S528_S264_S132_S66_S33_S1023_d0 (ix1 k) = pyramid g k := by
  unfold pyramid
  by_cases c₀ : k.val < 528
  · rw [if_pos c₀]
    exact (concatenate_apply_piece (t := S1023) (0 : Fin 1) [⟨S528, p₀⟩, ⟨S264, p₁⟩, ⟨S132, p₂⟩, ⟨S66, p₃⟩, ⟨S33, p₄⟩] concatenates_S528_S264_S132_S66_S33_S1023_d0 (ix1 k) 0 (by simp) S528 p₀ rfl rfl 0 rfl
      (ix1 (⟨k.val, c₀⟩ : Fin 528)) (by intro b hb; fin_cases b; exact absurd rfl hb) (show 0 + k.val = k.val by omega)).trans (h₀ _)
  rw [if_neg c₀]
  by_cases c₁ : k.val < 792
  · rw [if_pos c₁]
    exact (concatenate_apply_piece (t := S1023) (0 : Fin 1) [⟨S528, p₀⟩, ⟨S264, p₁⟩, ⟨S132, p₂⟩, ⟨S66, p₃⟩, ⟨S33, p₄⟩] concatenates_S528_S264_S132_S66_S33_S1023_d0 (ix1 k) 1 (by simp) S264 p₁ rfl rfl 528 rfl
      (ix1 (⟨k.val - 528, by omega⟩ : Fin 264)) (by intro b hb; fin_cases b; exact absurd rfl hb) (show 528 + (k.val - 528) = k.val by omega)).trans (h₁ _)
  rw [if_neg c₁]
  by_cases c₂ : k.val < 924
  · rw [if_pos c₂]
    exact (concatenate_apply_piece (t := S1023) (0 : Fin 1) [⟨S528, p₀⟩, ⟨S264, p₁⟩, ⟨S132, p₂⟩, ⟨S66, p₃⟩, ⟨S33, p₄⟩] concatenates_S528_S264_S132_S66_S33_S1023_d0 (ix1 k) 2 (by simp) S132 p₂ rfl rfl 792 rfl
      (ix1 (⟨k.val - 792, by omega⟩ : Fin 132)) (by intro b hb; fin_cases b; exact absurd rfl hb) (show 792 + (k.val - 792) = k.val by omega)).trans (h₂ _)
  rw [if_neg c₂]
  by_cases c₃ : k.val < 990
  · rw [if_pos c₃]
    exact (concatenate_apply_piece (t := S1023) (0 : Fin 1) [⟨S528, p₀⟩, ⟨S264, p₁⟩, ⟨S132, p₂⟩, ⟨S66, p₃⟩, ⟨S33, p₄⟩] concatenates_S528_S264_S132_S66_S33_S1023_d0 (ix1 k) 3 (by simp) S66 p₃ rfl rfl 924 rfl
      (ix1 (⟨k.val - 924, by omega⟩ : Fin 66)) (by intro b hb; fin_cases b; exact absurd rfl hb) (show 924 + (k.val - 924) = k.val by omega)).trans (h₃ _)
  rw [if_neg c₃]
  exact (concatenate_apply_piece (t := S1023) (0 : Fin 1) [⟨S528, p₀⟩, ⟨S264, p₁⟩, ⟨S132, p₂⟩, ⟨S66, p₃⟩, ⟨S33, p₄⟩] concatenates_S528_S264_S132_S66_S33_S1023_d0 (ix1 k) 4 (by simp) S33 p₄ rfl rfl 990 rfl
    (ix1 (⟨k.val - 990, by omega⟩ : Fin 33)) (by intro b hb; fin_cases b; exact absurd rfl hb) (show 990 + (k.val - 990) = k.val by omega)).trans (h₄ _)

/-- The body's last step: the five cuts of the vector. -/
theorem cuts (hv : ∀ k : Fin 528, k3_pay17 (F := Ideal) m h a (ix1 k) = g k) (k : Fin 1023) :
    k3_pay1 (k3_pay23 (F := Ideal) (k3_pay17 m h a) (k3_pay18 m h a) (k3_pay19 m h a) (k3_pay20 m h a) (k3_pay21 m h a) (k3_pay22 m h a))
      (ix3 (0 : Fin 1) (0 : Fin 1) k) = pyramid g k := by
  unfold k3_pay1
  refine (shapeCast_apply _ _ _ (ix1 k) ?_).trans ?_
  · rw [Shape.rowMajor_val_three, Shape.rowMajor_val_one]
    show k.val = (0 * 1 + 0) * 1023 + k.val
    omega
  · dsimp only [k3_pay23]
    refine join_cuts (cut_one hv) (cut_two hv) (cut_four hv) (cut_eight hv) (fun d => ?_) k
    rw [level_scaled (r := 16) (by norm_num) bits_sixteen bits_sixteenth]
    simp only [addf_apply, mulf_apply, maximumf_apply, piece hv, Fin.sum_univ_castSucc, Fin.sum_univ_zero, zero_add]
    simp [runMax, sixteenth hv]
    rfl

end Cert.KernelIdeal.Gat

end
-- ==== Proof.GatValue.lean ====
/- The result array of the attention region: each video's vector in its five cuts, from what the region's arrays hold on entry. -/
module

public import proofs.«01_k».proof.Proof.KernelLevels
public import proofs.«01_k».proof.Proof.KernelIdeal.Run
public import Idealize.ShloMosaic.Lib.Pipeline.ValueKit

@[expose] public section

set_option maxRecDepth 16384

noncomputable section

namespace Cert.KernelIdeal.Gat

open Idealize.ShloMosaic Idealize.ShloMosaic.TcCoe Idealize.SL.Sem Cert.Net Cert.KernelIdeal Cert.KernelIdeal.Gen

/-- What the body leaves for one video. -/
theorem out_video {x0 : Vec Ideal S1x240x256 .f32} {x1 : Vec Ideal S1x1x256 .f32} {x2 : Vec Ideal S256x8 .f32} {x3 x4 : Vec Ideal S8x1 .f32}
    {x5 : Vec Ideal S8x16 .f32} {x6 x7 : Vec Ideal S16x1 .f32} {F W₁ A₁ B₁ W₂ A₂ B₂ : Tab} {A : ℕ → EReal}
    (h0 : ∀ (i : Fin 240) (k : Fin 256), x0 (ix3 (0 : Fin 1) i k) = F i k) (h1 : ∀ k : Fin 256, x1 (ix3 (0 : Fin 1) (0 : Fin 1) k) = A k)
    (h2 : Table x2 W₁) (h3 : Table x3 A₁) (h4 : Table x4 B₁) (h5 : Table x5 W₂) (h6 : Table x6 A₂) (h7 : Table x7 B₂) (k : Fin 1023) :
    out3_8 (F := Ideal) x0 x1 x2 x3 x4 x5 x6 x7 (ix3 (0 : Fin 1) (0 : Fin 1) k) = pyramid (joined A F (attention F W₁ A₁ B₁ W₂ A₂ B₂)) k := by
  have z3 : (![0, 0, 0] : Fin 3 → ℕ) = fun _ => 0 := by funext a; fin_cases a <;> rfl
  have z2 : (![0, 0] : Fin 2 → ℕ) = fun _ => 0 := by funext a; fin_cases a <;> rfl
  have e0 : View.ld x0 r3_0 = x0 := View.ld_unit_zero (S := S1x240x256) z3 _ _
  have e1 : View.ld x1 r3_5 = x1 := View.ld_unit_zero (S := S1x1x256) z3 _ _
  have e2 : View.ld x2 r3_1 = x2 := View.ld_unit_zero (S := S256x8) z2 _ _
  have e3 : View.ld x3 r3_2 = x3 := View.ld_unit_zero (S := S8x1) z2 _ _
  have e4 : View.ld x4 r3_2 = x4 := View.ld_unit_zero (S := S8x1) z2 _ _
  have e5 : View.ld x5 r3_3 = x5 := View.ld_unit_zero (S := S8x16) z2 _ _
  have e6 : View.ld x6 r3_4 = x6 := View.ld_unit_zero (S := S16x1) z2 _ _
  have e7 : View.ld x7 r3_4 = x7 := View.ld_unit_zero (S := S16x1) z2 _ _
  have hf : Table (k3_pay25 x0 x1 x2 x3 x4 x5 x6 x7) F := by
    intro i j
    unfold k3_pay25
    rw [e0]
    unfold k3_pay2
    refine (shapeCast_apply _ _ _ (ix3 (0 : Fin 1) i j) ?_).trans (h0 i j)
    rw [Shape.rowMajor_val_three, Shape.rowMajor_val_two]
    show (0 * 240 + i.val) * 256 + j.val = i.val * 256 + j.val
    omega
  have hm : ∀ i j : Fin 240, k3_pay11 (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7) (ix2 i j) = near i j := mask_near
  have hmean : ∀ k : Fin 256, k3_pay33 x0 x1 x2 x3 x4 x5 x6 x7 (ix1 k) = mean 240 F k := fun k => mean_table hf _ k
  have hl := first_table (k3_pay29 x0 x1 x2 x3 x4 x5 x6 x7) (k3_pay30 x0 x1 x2 x3 x4 x5 x6 x7) (k3_pay31 x0 x1 x2 x3 x4 x5 x6 x7) (k3_pay32 x0 x1 x2 x3 x4 x5 x6 x7) hm hf h2 h3 h4 h5
  have hatt : ∀ k : Fin 16, k3_pay34 x0 x1 x2 x3 x4 x5 x6 x7 (ix1 k) = mean 240 (attention F W₁ A₁ B₁ W₂ A₂ B₂) k := by
    intro k
    unfold k3_pay34
    rw [e2, e3, e4, e5, e6, e7]
    exact second_mean mask_near hl (product_table hl h6) (product_table hl h7) k
  unfold out3_8
  rw [e1]
  frame_out
  exact cuts (joined_vec h1 hmean hatt) k

/-- The block each window is on at each grid point. -/
theorem idx : ∀ t : Fin cfg3.N, win3_0.index t = ![t.val, 0, 0] ∧ win3_1.index t = ![t.val, 0, 0] ∧ win3_2.index t = ![0, 0]
    ∧ win3_3.index t = ![0, 0] ∧ win3_4.index t = ![0, 0] ∧ win3_5.index t = ![0, 0] ∧ win3_6.index t = ![0, 0]
    ∧ win3_7.index t = ![0, 0] ∧ win3_8.index t = ![t.val, 0, 0] ∧ t.val < 8 :=
  (by decide +kernel : ∀ t : Fin grid3.N, _)

variable (V : (c : Dev nD) → (b : Ref sig .tc) → Buf (Elt Ideal) ((c : Thread nD τ).loc b))

theorem whole2 (c : Dev nD) (t : Fin cfg3.N) : iblk3 V c 2 t = V c main_arg12 := by blk_ext! [iblk3, idx t]
theorem whole3 (c : Dev nD) (t : Fin cfg3.N) : iblk3 V c 3 t = V c main_arg13 := by blk_ext! [iblk3, idx t]
theorem whole4 (c : Dev nD) (t : Fin cfg3.N) : iblk3 V c 4 t = V c main_arg14 := by blk_ext! [iblk3, idx t]
theorem whole5 (c : Dev nD) (t : Fin cfg3.N) : iblk3 V c 5 t = V c main_arg15 := by blk_ext! [iblk3, idx t]
theorem whole6 (c : Dev nD) (t : Fin cfg3.N) : iblk3 V c 6 t = V c main_arg16 := by blk_ext! [iblk3, idx t]
theorem whole7 (c : Dev nD) (t : Fin cfg3.N) : iblk3 V c 7 t = V c main_arg17 := by blk_ext! [iblk3, idx t]

variable {V} {c : Dev nD} {F : ℕ → Tab} {A : ℕ → ℕ → EReal} {W₁ A₁ B₁ W₂ A₂ B₂ : Tab}

/-- The regions' features of the video a point works on. -/
theorem features_block (h0 : ∀ (b : Fin 8) (i : Fin 240) (k : Fin 256), (V c main_v23 : FVec Ideal S8x240x256 .f32) (ix3 b i k) = F b i k)
    (t : Fin cfg3.N) (i : Fin 240) (k : Fin 256) : (iblk3 V c 0 t : Vec Ideal S1x240x256 .f32) (ix3 (0 : Fin 1) i k) = F t.val i k := by
  refine Eq.trans ?_ (h0 ⟨t.val, (idx t).2.2.2.2.2.2.2.2.2⟩ i k)
  blk_ext [iblk3, idx t]

/-- The global features of the video a point works on. -/
theorem global_block (h1 : ∀ (b : Fin 8) (k : Fin 256), (V c main_v24 : FVec Ideal S8x1x256 .f32) (ix3 b (0 : Fin 1) k) = A b k)
    (t : Fin cfg3.N) (k : Fin 256) : (iblk3 V c 1 t : Vec Ideal S1x1x256 .f32) (ix3 (0 : Fin 1) (0 : Fin 1) k) = A t.val k := by
  refine Eq.trans ?_ (h1 ⟨t.val, (idx t).2.2.2.2.2.2.2.2.2⟩ k)
  blk_ext [iblk3, idx t]

/-- The region's result. -/
def outcome (F : ℕ → Tab) (A : ℕ → ℕ → EReal) (W₁ A₁ B₁ W₂ A₂ B₂ : Tab) : FVec Ideal S8x1x1023 .f32 := fun i =>
  pyramid (joined (A (i 0).val) (F (i 0).val) (attention (F (i 0).val) W₁ A₁ B₁ W₂ A₂ B₂)) (i 2).val

/-- The result array after the region. -/
theorem final (h0 : ∀ (b : Fin 8) (i : Fin 240) (k : Fin 256), (V c main_v23 : FVec Ideal S8x240x256 .f32) (ix3 b i k) = F b i k)
    (h1 : ∀ (b : Fin 8) (k : Fin 256), (V c main_v24 : FVec Ideal S8x1x256 .f32) (ix3 b (0 : Fin 1) k) = A b k)
    (h2 : Table (V c main_arg12 : FVec Ideal S256x8 .f32) W₁) (h3 : Table (V c main_arg13 : FVec Ideal S8x1 .f32) A₁)
    (h4 : Table (V c main_arg14 : FVec Ideal S8x1 .f32) B₁) (h5 : Table (V c main_arg15 : FVec Ideal S8x16 .f32) W₂)
    (h6 : Table (V c main_arg16 : FVec Ideal S16x1 .f32) A₂) (h7 : Table (V c main_arg17 : FVec Ideal S16x1 .f32) B₂) :
    (dat3 V c).arrAt 8 cfg3.N = outcome F A W₁ A₁ B₁ W₂ A₂ B₂ := by
  refine (dat3 V c).arrAt_eq_of_covers 8 _ (by decide +kernel) fun t hf y => ?_
  blk_simp
  rw [after3_8, whole2, whole3, whole4, whole5, whole6, whole7]
  have hy : y = ix3 (0 : Fin 1) (0 : Fin 1) (show Fin 1023 from y 2) := by
    funext a
    fin_cases a
    · exact Fin.ext (by have h : (y 0).val < 1 := (y 0).isLt; show (y 0).val = 0; omega)
    · exact Fin.ext (by have h : (y 1).val < 1 := (y 1).isLt; show (y 1).val = 0; omega)
    · rfl
  have e0 : (((win3_8.blk t).view.emb y) 0).val = t.val := by blk_simp [idx t]
  have e2 : (((win3_8.blk t).view.emb y) 2).val = (y 2).val := by blk_simp [idx t]
  unfold outcome
  rw [e0, e2]
  refine Eq.trans ?_ (out_video (features_block h0 t) (global_block h1 t) h2 h3 h4 h5 h6 h7 (y 2))
  exact congrArg _ hy

end Cert.KernelIdeal.Gat

end
-- ==== Proof.KernelValue.lean ====
/- The kernel's result: what each region leaves, followed through the reshapes and transposes between the regions. -/
module

public import proofs.«01_k».proof.Proof.LocalValue
public import proofs.«01_k».proof.Proof.FcgValue
public import proofs.«01_k».proof.Proof.GatValue

@[expose] public section

set_option maxRecDepth 16384

noncomputable section

namespace Cert.KernelIdeal.Value

open Idealize.ShloMosaic Idealize.ShloMosaic.TcCoe Idealize.SL.Sem Cert.Net Cert.KernelIdeal Cert.KernelIdeal.Gen

variable (m : (ℓ : Loc nD τ sig) → Buf (Elt Ideal) ℓ) (ρ : Dev nD → PrngReg) (c : Dev nD)

/-- The kernel's arguments on one core. -/
def args : Args where
  x := m ((c : Thread nD τ).loc main_arg0)
  px := m ((c : Thread nD τ).loc main_arg1)
  c₁ := m ((c : Thread nD τ).loc main_arg2)
  c₂ := m ((c : Thread nD τ).loc main_arg3)
  c₃ := m ((c : Thread nD τ).loc main_arg4)
  c₄ := m ((c : Thread nD τ).loc main_arg5)
  c₅ := m ((c : Thread nD τ).loc main_arg6)
  c₆ := m ((c : Thread nD τ).loc main_arg7)
  gw := m ((c : Thread nD τ).loc main_arg8)
  gb := m ((c : Thread nD τ).loc main_arg9)
  lw := m ((c : Thread nD τ).loc main_arg10)
  lb := m ((c : Thread nD τ).loc main_arg11)
  w₁ := m ((c : Thread nD τ).loc main_arg12)
  a₁ := m ((c : Thread nD τ).loc main_arg13)
  b₁ := m ((c : Thread nD τ).loc main_arg14)
  w₂ := m ((c : Thread nD τ).loc main_arg15)
  a₂ := m ((c : Thread nD τ).loc main_arg16)
  b₂ := m ((c : Thread nD τ).loc main_arg17)

/-! ## The filters -/

/-- The first region starts with the flattened filters. -/
theorem banks_first : Banks (V1 m ρ) c (args m c) where
  x := W1_args m ρ c main_arg0 (by decide)
  c₁ := by unfold V1 W1; entry_read; exact flat_bank _ rfl _ _
  c₂ := by unfold V1 W1; entry_read; exact flat_bank _ rfl _ _
  c₃ := by unfold V1 W1; entry_read; exact flat_bank _ rfl _ _
  c₄ := by unfold V1 W1; entry_read; exact flat_bank _ rfl _ _
  c₅ := by unfold V1 W1; entry_read; exact flat_bank _ rfl _ _
  c₆ := by unfold V1 W1; entry_read; exact flat_bank _ rfl _ _

/-- What the first two regions and the two host stretches after them leave alone. -/
theorem kept (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false) (h3 : r ∉ hostOps2_W) :
    W5 m ρ c (Proc.devRef .tc r) = W1 m ρ c (Proc.devRef .tc r) :=
  (W5_of m ρ c r h3).trans ((W4_of m ρ c r h2).trans ((W3_of m ρ c r h1).trans (W2_of m ρ c r h0)))

/-- The third region starts with the same filters. -/
theorem banks_third : Banks (V5 m ρ) c (args m c) where
  x := W5_args m ρ c main_arg0 (by decide)
  c₁ := by unfold V5; rw [kept m ρ c main_v1 (by decide) (by decide) (by decide) (by decide)]; exact (banks_first m ρ c).c₁
  c₂ := by unfold V5; rw [kept m ρ c main_v3 (by decide) (by decide) (by decide) (by decide)]; exact (banks_first m ρ c).c₂
  c₃ := by unfold V5; rw [kept m ρ c main_v5 (by decide) (by decide) (by decide) (by decide)]; exact (banks_first m ρ c).c₃
  c₄ := by unfold V5; rw [kept m ρ c main_v7 (by decide) (by decide) (by decide) (by decide)]; exact (banks_first m ρ c).c₄
  c₅ := by unfold V5; rw [kept m ρ c main_v9 (by decide) (by decide) (by decide) (by decide)]; exact (banks_first m ρ c).c₅
  c₆ := by unfold V5; rw [kept m ρ c main_v11 (by decide) (by decide) (by decide) (by decide)]; exact (banks_first m ρ c).c₆

/-! ## The global features -/

/-- The largest values, after the first region. -/
theorem peaks_held : (W2 m ρ c (Proc.devRef .tc main_v12) : FVec Ideal S8x256x128 .f32) = peaks (args m c) :=
  (W2_arr m ρ c 7).trans (final (banks_first m ρ c))

/-- The largest values of each video in one row, by place and then channel. -/
def flatPeaks (A : Args) : Tab := fun b p => A.peak b (p % 128) (p / 128 / 16) (p / 128 % 16)

/-- The first dense layer's weights, by place and then channel. -/
def flatWeights (A : Args) : Tab := fun p q => tab A.gw q (p % 128 * 256 + p / 128)

theorem peaks_table : Table (V3 m ρ c main_v16 : FVec Ideal S8x32768 .f32) (flatPeaks (args m c)) := by
  intro b p
  have hp := p.isLt
  unfold V3 W3
  entry_read
  refine (shapeCast_apply (t := S8x32768) _ _ _ (ix3 b (⟨p.val / 128, by omega⟩ : Fin 256) (⟨p.val % 128, by omega⟩ : Fin 128)) (by
    rw [Shape.rowMajor_val_three, Shape.rowMajor_val_two]
    show (b.val * 256 + p.val / 128) * 128 + p.val % 128 = b.val * 32768 + p.val
    omega)).trans ?_
  exact congrFun (peaks_held m ρ c) _

theorem weights_table : Table (V3 m ρ c main_v15 : FVec Ideal S32768x256 .f32) (flatWeights (args m c)) := by
  intro p q
  have hp := p.isLt
  have hq := q.isLt
  unfold V3 W3
  entry_read
  refine (shapeCast_apply (t := S32768x256) _ _ _ (ix4 (⟨p.val / 128 / 16, by omega⟩ : Fin 16) (⟨p.val / 128 % 16, by omega⟩ : Fin 16) (⟨p.val % 128, by omega⟩ : Fin 128) q) (by
    rw [Shape.rowMajor_val_four, Shape.rowMajor_val_two]
    show ((p.val / 128 / 16 * 16 + p.val / 128 % 16) * 128 + p.val % 128) * 256 + q.val = p.val * 256 + q.val
    omega)).trans ?_
  refine (transpose_apply _ _ _ _ (ix4 q (⟨p.val % 128, by omega⟩ : Fin 128) (⟨p.val / 128 / 16, by omega⟩ : Fin 16) (⟨p.val / 128 % 16, by omega⟩ : Fin 16))
    (by intro a; fin_cases a <;> rfl)).trans ?_
  refine (shapeCast_apply (t := S256x128x16x16) _ _ _ (ix2 q (⟨p.val % 128 * 256 + p.val / 128, by omega⟩ : Fin 32768)) (by
    rw [Shape.rowMajor_val_four, Shape.rowMajor_val_two]
    show q.val * 32768 + (p.val % 128 * 256 + p.val / 128) = ((q.val * 128 + p.val % 128) * 16 + p.val / 128 / 16) * 16 + p.val / 128 % 16
    omega)).trans ?_
  refine (congrFun (W2_args m ρ c main_arg8 (by decide)) _).trans ?_
  exact tab_table (args m c).gw q _

theorem bias_row (q : Fin 256) : (V3 m ρ c main_v17 : FVec Ideal S1x256 .f32) (ix2 (0 : Fin 1) q) = line (args m c).gb q := by
  unfold V3 W3
  entry_read
  refine (shapeCast_apply (t := S1x256) _ _ _ (ix1 q) (by
    rw [Shape.rowMajor_val_one, Shape.rowMajor_val_two]
    show q.val = 0 * 256 + q.val
    omega)).trans ?_
  refine (congrFun (W2_args m ρ c main_arg9 (by decide)) _).trans ?_
  exact (line_apply (args m c).gb q).symm

/-- The sum over places and channels, in the two orders. -/
theorem sum_globals (A : Args) (b k : ℕ) :
    ∑ r : Fin 32768, flatPeaks A b r.val * flatWeights A r.val k
      = ∑ r : Fin 32768, A.peak b (r.val / 256) (r.val % 256 / 16) (r.val % 16) * tab A.gw k r.val := by
  refine (Local.sum_split (a := 128) (b := 256) fun p => flatPeaks A b p * flatWeights A p k).symm.trans ?_
  refine Eq.trans ?_ (Local.sum_split (a := 256) (b := 128) fun r => A.peak b (r / 256) (r % 256 / 16) (r % 16) * tab A.gw k r)
  rw [Finset.sum_comm]
  refine Finset.sum_congr rfl fun s _ => Finset.sum_congr rfl fun l _ => ?_
  have hs := s.isLt
  have hl := l.isLt
  unfold flatPeaks flatWeights
  rw [show (s.val * 128 + l.val) % 128 = l.val by omega, show (s.val * 128 + l.val) / 128 = s.val by omega,
    show (l.val * 256 + s.val) / 256 = l.val by omega, show (l.val * 256 + s.val) % 256 = s.val by omega,
    show (l.val * 256 + s.val) % 16 = s.val % 16 by omega]

/-- The first dense layer by place and then channel is the one by channel and then place. -/
theorem dense_globals (A : Args) (b k : ℕ) :
    line A.gb k + ∑ p ∈ Finset.range 32768, flatPeaks A b p * flatWeights A p k = A.globals b k := by
  unfold Args.globals
  rw [add_comm, Finset.sum_range, sum_globals]

/-- The global features, after the second region. -/
theorem globals_held (b : Fin 8) (k : Fin 256) : (W4 m ρ c (Proc.devRef .tc main_v18) : FVec Ideal S8x256 .f32) (ix2 b k) = (args m c).globals b k :=
  (congrFun ((W4_arr m ρ c 3).trans (Dense.final (peaks_table m ρ c) (weights_table m ρ c) (bias_row m ρ c))) (ix2 b k)).trans (dense_globals (args m c) b k)

/-! ## The regions' features -/

theorem local_weights (a b : Fin 3) (k : Fin 128) (l : Fin 256) :
    (V5 m ρ c main_v20 : FVec Ideal S3x3x128x256 .f32) (ix4 a b k l) = tab (args m c).lw l (k.val * 9 + (a.val * 3 + b.val)) := by
  have ha := a.isLt
  have hb := b.isLt
  have hk := k.isLt
  unfold V5 W5
  entry_read
  refine (transpose_apply _ _ _ _ (ix4 l k a b) (by intro q; fin_cases q <;> rfl)).trans ?_
  refine (shapeCast_apply (t := S256x128x3x3) _ _ _ (ix2 l (⟨k.val * 9 + (a.val * 3 + b.val), by omega⟩ : Fin 1152)) (by
    rw [Shape.rowMajor_val_four, Shape.rowMajor_val_two]
    show l.val * 1152 + (k.val * 9 + (a.val * 3 + b.val)) = ((l.val * 128 + k.val) * 3 + a.val) * 3 + b.val
    omega)).trans ?_
  refine (congrFun (W4_args m ρ c main_arg10 (by decide)) _).trans ?_
  exact tab_table (args m c).lw l _

theorem local_bias (l : Fin 256) : (V5 m ρ c main_v21 : FVec Ideal S1x256 .f32) (ix2 (0 : Fin 1) l) = line (args m c).lb l := by
  unfold V5 W5
  entry_read
  refine (shapeCast_apply (t := S1x256) _ _ _ (ix1 l) (by
    rw [Shape.rowMajor_val_one, Shape.rowMajor_val_two]
    show l.val = 0 * 256 + l.val
    omega)).trans ?_
  refine (congrFun (W4_args m ρ c main_arg11 (by decide)) _).trans ?_
  exact (line_apply (args m c).lb l).symm

/-- The regions' features, after the third region, when no position is negative. -/
theorem regions_held (hp : ∀ i, 0 ≤ (args m c).px i) :
    (W6 m ρ c (Proc.devRef .tc main_v22) : FVec Ideal S8x30x8x256 .f32) = Local.features3 (args m c) :=
  (W6_arr m ρ c 10).trans (Local.final (banks_third m ρ c) (W5_args m ρ c main_arg1 (by decide)) hp (local_weights m ρ c) (local_bias m ρ c))

/-! ## The result -/

theorem regions_rows (hp : ∀ i, 0 ≤ (args m c).px i) (b : Fin 8) (i : Fin 240) (k : Fin 256) :
    (V7 m ρ c main_v23 : FVec Ideal S8x240x256 .f32) (ix3 b i k) = (args m c).regions b i k := by
  have hi := i.isLt
  unfold V7 W7
  entry_read
  refine (shapeCast_apply (t := S8x240x256) _ _ _ (ix4 b (⟨i.val / 8, by omega⟩ : Fin 30) (⟨i.val % 8, by omega⟩ : Fin 8) k) (by
    rw [Shape.rowMajor_val_four, Shape.rowMajor_val_three]
    show ((b.val * 30 + i.val / 8) * 8 + i.val % 8) * 256 + k.val = (b.val * 240 + i.val) * 256 + k.val
    omega)).trans ?_
  refine (congrFun (regions_held m ρ c hp) _).trans ?_
  show (args m c).regions b.val (i.val / 8 * 8 + i.val % 8) k.val = _
  rw [Nat.div_add_mod']

theorem globals_rows (b : Fin 8) (k : Fin 256) : (V7 m ρ c main_v24 : FVec Ideal S8x1x256 .f32) (ix3 b (0 : Fin 1) k) = (args m c).globals b k := by
  unfold V7 W7
  entry_read
  refine (shapeCast_apply (t := S8x1x256) _ _ _ (ix2 b k) (by
    rw [Shape.rowMajor_val_three, Shape.rowMajor_val_two]
    show b.val * 256 + k.val = (b.val * 1 + 0) * 256 + k.val
    omega)).trans ?_
  refine (congrFun ((W6_of m ρ c main_v18 (by decide)).trans (W5_of m ρ c main_v18 (by decide))) _).trans ?_
  exact globals_held m ρ c b k

/-- An argument array the last region reads. -/
theorem weights_held {n k : ℕ} {v : FVec Ideal ⟨2, ![n, k]⟩ .f32} {a : FVec Ideal ⟨2, ![n, k]⟩ .f32} (h : v = a) : Table v (tab a) := h ▸ tab_table a

/-- The result array at the end, when no position is negative. -/
theorem result (hp : ∀ i, 0 ≤ (args m c).px i) : W8 m ρ c (Proc.devRef .tc main_v25) = (args m c).result :=
  (W8_arr m ρ c 8).trans (Gat.final (F := fun b => (args m c).regions b) (A := fun b => (args m c).globals b)
    (regions_rows m ρ c hp) (globals_rows m ρ c)
    (weights_held (W7_args m ρ c main_arg12 (by decide))) (weights_held (W7_args m ρ c main_arg13 (by decide)))
    (weights_held (W7_args m ρ c main_arg14 (by decide))) (weights_held (W7_args m ρ c main_arg15 (by decide)))
    (weights_held (W7_args m ρ c main_arg16 (by decide))) (weights_held (W7_args m ρ c main_arg17 (by decide))))

end Cert.KernelIdeal.Value

end
-- ==== Proof.HostGlobal.lean ====
/- The reference, stage by stage: at each frame its result is the convolutional stack, and its answer the largest value over the frames. -/
module

public import proofs.«01_k».proof.Proof.HostLayers
public import proofs.«01_k».proof.Proof.KernelLayers
public import proofs.«01_k».proof.Proof.Gen.ReferenceIdeal.Run

@[expose] public section

set_option maxRecDepth 16384

noncomputable section

namespace Cert.ReferenceIdeal.Value

open Idealize.ShloMosaic Idealize.ShloMosaic.StableHlo Idealize.SL.Sem Cert.Net Cert.ReferenceIdeal Cert.ReferenceIdeal.Gen

variable (V : Valuation τ sig (Elt Ideal))

/-- The reference's zero, an integer zero converted, is zero. -/
theorem zero_first (hu : 0 < S_.numel) : (sitofp (F := Ideal) .f32 (constantI S_ 32 0#32)) (Shape.Idx.first hu) = 0 := by
  show (((0#32 : BitVec 32).toInt : ℝ) : EReal) = 0
  simp

/-- The reference's lowest value is the least of all. -/
theorem low_first (hu : 0 < S_.numel) : (broadcastInDim S_ ![] bcast_S_S_ (constant (F := Ideal) S_ .f32 0xFF800000#32)) (Shape.Idx.first hu) = ⊥ :=
  ofBits_low

/-- The largest value over the middle axis, folded from the least. -/
theorem fold_frames {b n c : ℕ} (v : FVec Ideal ⟨3, ![b, n, c]⟩ .f32) {u : Shape} (z : FVec Ideal u .f32) {hu : 0 < u.numel}
    (hz : z (Shape.Idx.first hu) = ⊥) (hr : (⟨3, ![b, n, c]⟩ : Shape).ReducesTo [1] ⟨2, ![b, c]⟩) (hu' : 0 < u.numel)
    (i : Fin b) (q : Fin c) (g : ℕ → EReal) (hv : ∀ s : Fin n, v (ix3 i s q) = g s) :
    Host.reduce FloatOps.maximumf v z hr hu' (ix2 i q) = Finset.fold max ⊥ (fun s : Fin n => g s) Finset.univ := by
  pointwise
  rw [hz]
  exact congrArg (fun g => Finset.fold max ⊥ g Finset.univ) (funext fun s => hv s)

/-- Frame `n` with its border. -/
theorem image (n : Fin 240) : Planes (n := 240) (h := 68) (w := 68) (c := 1) (res_main_v1 V) n
    (padded 2 64 64 (still (b := 8) (h := 64) (w := 64) (V (Proc.devRef .tc main_arg0)) n)) := by
  refine pad_planes (n := 240) (h := 64) (w := 64) (c := 1) (p := 2) (h2 := 68) (w2 := 68) ?_ _ _ (zero_first _) _
  intro l j k
  refine (shapeCast_apply _ _ _ (ix4 (⟨n.val / 30, by omega⟩ : Fin 8) (⟨n.val % 30, by omega⟩ : Fin 30) j k) ?_).trans
    (bank_apply (o := 8) (c := 30) (k := 64) (l := 64) (V (Proc.devRef .tc main_arg0)) ⟨n.val / 30, _⟩ ⟨n.val % 30, _⟩ j k).symm
  rw [Shape.rowMajor_val_four, Shape.rowMajor_val_four]
  show ((n.val / 30 * 30 + n.val % 30) * 64 + j.val) * 64 + k.val = ((n.val * 1 + l.val) * 64 + j.val) * 64 + k.val
  omega

/-- The first convolution. -/
theorem conv1 {n : Fin 240} {g : Img} (hP : Planes (n := 240) (h := 68) (w := 68) (c := 1) (res_main_v1 V) n g) :
    Planes (n := 240) (h := 64) (w := 64) (c := 32) (res_main_v126 V) n (conv 5 1 (bank (o := 32) (c := 1) (k := 5) (l := 5) (V (Proc.devRef .tc main_arg2))) g) := by
  rw [conv_five]
  refine swap_planes (o := 32) (n := 240) (h := 64) (w := 64) (?_ : Stacks _ _ _) _
  repeat' refine add_stacks ?_ (tap_stacks (kh := 5) (kw := 5) (h := 64) (w := 64) (c := 1) (h2 := 68) (w2 := 68) hP _ _ _ _)
  exact tap_stacks (kh := 5) (kw := 5) (h := 64) (w := 64) (c := 1) (h2 := 68) (w2 := 68) hP _ _ _ _

/-- The second convolution. -/
theorem conv2 {n : Fin 240} {f : Img} (hf : Planes (n := 240) (h := 64) (w := 64) (c := 32) (res_main_v126 V) n f) :
    Planes (n := 240) (h := 64) (w := 64) (c := 32) (res_main_v173 V) n
      (conv 3 32 (bank (o := 32) (c := 32) (k := 3) (l := 3) (V (Proc.devRef .tc main_arg3))) (padded 1 64 64 (relu f))) :=
  conv_planes (h2 := 66) (w2 := 66) (c := 32) (show Planes (n := 240) (h := 66) (w := 66) (c := 32) (res_main_v128 V) n _ from
    pad_planes (p := 1) (relu_planes hf _) _ _ (zero_first _) _) _ _ _ _ _ _ _ _ _ _ _ _ _ _ _ _ _ _ _ _ _

/-- The third convolution, after the first maximum. -/
theorem conv3 {n : Fin 240} {f : Img} (hf : Planes (n := 240) (h := 64) (w := 64) (c := 32) (res_main_v173 V) n f) :
    Planes (n := 240) (h := 32) (w := 32) (c := 64) (res_main_v222 V) n
      (conv 3 32 (bank (o := 64) (c := 32) (k := 3) (l := 3) (V (Proc.devRef .tc main_arg4))) (padded 1 32 32 (pool (relu f)))) :=
  conv_planes (h2 := 34) (w2 := 34) (c := 32) (show Planes (n := 240) (h := 34) (w := 34) (c := 32) (res_main_v177 V) n _ from
    pad_planes (p := 1) (pool_planes (h2 := 32) (w2 := 32) (relu_planes hf _) (by decide) (by decide) _ _ (low_first _) _) _ _ (zero_first _) _) _ _ _ _ _ _ _ _ _ _ _ _ _ _ _ _ _ _ _ _ _

/-- The fourth convolution. -/
theorem conv4 {n : Fin 240} {f : Img} (hf : Planes (n := 240) (h := 32) (w := 32) (c := 64) (res_main_v222 V) n f) :
    Planes (n := 240) (h := 32) (w := 32) (c := 64) (res_main_v269 V) n
      (conv 3 64 (bank (o := 64) (c := 64) (k := 3) (l := 3) (V (Proc.devRef .tc main_arg5))) (padded 1 32 32 (relu f))) :=
  conv_planes (h2 := 34) (w2 := 34) (c := 64) (show Planes (n := 240) (h := 34) (w := 34) (c := 64) (res_main_v224 V) n _ from
    pad_planes (p := 1) (relu_planes hf _) _ _ (zero_first _) _) _ _ _ _ _ _ _ _ _ _ _ _ _ _ _ _ _ _ _ _ _

/-- The fifth convolution, after the second maximum. -/
theorem conv5 {n : Fin 240} {f : Img} (hf : Planes (n := 240) (h := 32) (w := 32) (c := 64) (res_main_v269 V) n f) :
    Planes (n := 240) (h := 16) (w := 16) (c := 128) (res_main_v318 V) n
      (conv 3 64 (bank (o := 128) (c := 64) (k := 3) (l := 3) (V (Proc.devRef .tc main_arg6))) (padded 1 16 16 (pool (relu f)))) :=
  conv_planes (h2 := 18) (w2 := 18) (c := 64) (show Planes (n := 240) (h := 18) (w := 18) (c := 64) (res_main_v273 V) n _ from
    pad_planes (p := 1) (pool_planes (h2 := 16) (w2 := 16) (relu_planes hf _) (by decide) (by decide) _ _ (low_first _) _) _ _ (zero_first _) _) _ _ _ _ _ _ _ _ _ _ _ _ _ _ _ _ _ _ _ _ _

/-- The sixth convolution. -/
theorem conv6 {n : Fin 240} {f : Img} (hf : Planes (n := 240) (h := 16) (w := 16) (c := 128) (res_main_v318 V) n f) :
    Planes (n := 240) (h := 16) (w := 16) (c := 128) (res_main_v365 V) n
      (conv 3 128 (bank (o := 128) (c := 128) (k := 3) (l := 3) (V (Proc.devRef .tc main_arg7))) (padded 1 16 16 (relu f))) :=
  conv_planes (h2 := 18) (w2 := 18) (c := 128) (show Planes (n := 240) (h := 18) (w := 18) (c := 128) (res_main_v320 V) n _ from
    pad_planes (p := 1) (relu_planes hf _) _ _ (zero_first _) _) _ _ _ _ _ _ _ _ _ _ _ _ _ _ _ _ _ _ _ _ _

/-- The convolutional stack of frame `n` under the reference's arguments. -/
def value : ℕ → Img :=
  features (V (Proc.devRef .tc main_arg0)) (V (Proc.devRef .tc main_arg2)) (V (Proc.devRef .tc main_arg3)) (V (Proc.devRef .tc main_arg4))
    (V (Proc.devRef .tc main_arg5)) (V (Proc.devRef .tc main_arg6)) (V (Proc.devRef .tc main_arg7))

/-- Each frame of the reference's last stage is the convolutional stack of that frame. -/
theorem stages (n : Fin 240) : ∃ f, Planes (n := 240) (h := 16) (w := 16) (c := 128) (res_main_v365 V) n f ∧ relu f
    = value V n :=
  ⟨_, conv6 V (conv5 V (conv4 V (conv3 V (conv2 V (conv1 V (image V n)))))), by
    simp only [value, features, base, block, Nat.reduceDiv]⟩

/-- The rectified last stage holds the stack of each frame. -/
theorem last (n : Fin 240) : Planes (n := 240) (h := 16) (w := 16) (c := 128) (select (cmpf .oge (res_main_v365 V) (broadcastInDim S240x128x16x16 ![] bcast_S_S240x128x16x16 (constant S_ .f32 0x00000000#32))) (res_main_v365 V) (mulf (broadcastInDim S240x128x16x16 ![] bcast_S_S240x128x16x16 (constant S_ .f32 0x3C23D70A#32)) (res_main_v365 V))) n (value V n) := by
  obtain ⟨f, hf, e⟩ := stages V n
  rw [← e]
  exact relu_planes hf _

/-- The largest value of the stack over the thirty frames of each video, a video's places and channels in one row. -/
theorem peaks (i : Fin 8) (q : Fin 32768) :
    Host.reduce FloatOps.maximumf (shapeCast S8x30x32768 (select (cmpf .oge (res_main_v365 V) (broadcastInDim S240x128x16x16 ![] bcast_S_S240x128x16x16 (constant S_ .f32 0x00000000#32))) (res_main_v365 V) (mulf (broadcastInDim S240x128x16x16 ![] bcast_S_S240x128x16x16 (constant S_ .f32 0x3C23D70A#32)) (res_main_v365 V))) shapeCasts_S240x128x16x16_S8x30x32768) (constant S_ .f32 0xFF800000#32) reducesTo_S8x30x32768_S8x32768_d1 h_S_ (ix2 i q)
      = runMax (fun s => value V (i.val * 30 + s) (q.val / 256) (q.val % 256 / 16) (q.val % 16)) 29 := by
  rw [← runMax_fold]
  have step : ∀ s : Fin 30, shapeCast S8x30x32768 (select (cmpf .oge (res_main_v365 V) (broadcastInDim S240x128x16x16 ![] bcast_S_S240x128x16x16 (constant S_ .f32 0x00000000#32))) (res_main_v365 V) (mulf (broadcastInDim S240x128x16x16 ![] bcast_S_S240x128x16x16 (constant S_ .f32 0x3C23D70A#32)) (res_main_v365 V))) shapeCasts_S240x128x16x16_S8x30x32768 (ix3 i s q)
      = value V (i.val * 30 + s.val) (q.val / 256) (q.val % 256 / 16) (q.val % 16) := by
    intro s
    refine (shapeCast_apply _ _ _ (ix4 (⟨i.val * 30 + s.val, by omega⟩ : Fin 240) (⟨q.val / 256, by omega⟩ : Fin 128)
      (⟨q.val % 256 / 16, by omega⟩ : Fin 16) (⟨q.val % 16, by omega⟩ : Fin 16)) ?_).trans (last V _ _ _ _)
    rw [Shape.rowMajor_val_four, Shape.rowMajor_val_three]
    show (((i.val * 30 + s.val) * 128 + q.val / 256) * 16 + q.val % 256 / 16) * 16 + q.val % 16 = (i.val * 30 + s.val) * 32768 + q.val
    omega
  exact fold_frames (b := 8) (n := 30) (c := 32768) _ _ (hu := h_S_) ofBits_low reducesTo_S8x30x32768_S8x32768_d1 h_S_ i q
    (fun s => value V (i.val * 30 + s) (q.val / 256) (q.val % 256 / 16) (q.val % 16)) step

end Cert.ReferenceIdeal.Value

end
-- ==== Proof.HostLocal.lean ====
/- The reference's convolutional stack over the patches, stage by stage. -/
module

public import proofs.«01_k».proof.Proof.HostGlobal

@[expose] public section

set_option maxRecDepth 16384

noncomputable section

namespace Cert.ReferenceIdeal.Value

open Idealize.ShloMosaic Idealize.ShloMosaic.StableHlo Idealize.SL.Sem Cert.Net Cert.ReferenceIdeal Cert.ReferenceIdeal.Gen

variable (V : Valuation τ sig (Elt Ideal))

/-- The first convolution of the patches. -/
theorem local1 {n : Fin 1920} {g : Img} (hP : Planes (n := 1920) (h := 18) (w := 18) (c := 1) (res_main_v590 V) n g) :
    Planes (n := 1920) (h := 14) (w := 14) (c := 32) (res_main_v715 V) n (conv 5 1 (bank (o := 32) (c := 1) (k := 5) (l := 5) (V (Proc.devRef .tc main_arg2))) g) := by
  rw [conv_five]
  refine swap_planes (o := 32) (n := 1920) (h := 14) (w := 14) (?_ : Stacks _ _ _) _
  repeat' refine add_stacks ?_ (tap_stacks (kh := 5) (kw := 5) (h := 14) (w := 14) (c := 1) (h2 := 18) (w2 := 18) hP _ _ _ _)
  exact tap_stacks (kh := 5) (kw := 5) (h := 14) (w := 14) (c := 1) (h2 := 18) (w2 := 18) hP _ _ _ _

/-- The second convolution of the patches. -/
theorem local2 {n : Fin 1920} {f : Img} (hf : Planes (n := 1920) (h := 14) (w := 14) (c := 32) (res_main_v715 V) n f) :
    Planes (n := 1920) (h := 14) (w := 14) (c := 32) (res_main_v762 V) n
      (conv 3 32 (bank (o := 32) (c := 32) (k := 3) (l := 3) (V (Proc.devRef .tc main_arg3))) (padded 1 14 14 (relu f))) :=
  conv_planes (h2 := 16) (w2 := 16) (c := 32) (show Planes (n := 1920) (h := 16) (w := 16) (c := 32) (res_main_v717 V) n _ from
    pad_planes (p := 1) (relu_planes hf _) _ _ (zero_first _) _) _ _ _ _ _ _ _ _ _ _ _ _ _ _ _ _ _ _ _ _ _

/-- The third convolution of the patches, after the first maximum. -/
theorem local3 {n : Fin 1920} {f : Img} (hf : Planes (n := 1920) (h := 14) (w := 14) (c := 32) (res_main_v762 V) n f) :
    Planes (n := 1920) (h := 7) (w := 7) (c := 64) (res_main_v811 V) n
      (conv 3 32 (bank (o := 64) (c := 32) (k := 3) (l := 3) (V (Proc.devRef .tc main_arg4))) (padded 1 7 7 (pool (relu f)))) :=
  conv_planes (h2 := 9) (w2 := 9) (c := 32) (show Planes (n := 1920) (h := 9) (w := 9) (c := 32) (res_main_v766 V) n _ from
    pad_planes (p := 1) (pool_planes (h2 := 7) (w2 := 7) (relu_planes hf _) (by decide) (by decide) _ _ (low_first _) _) _ _ (zero_first _) _) _ _ _ _ _ _ _ _ _ _ _ _ _ _ _ _ _ _ _ _ _

/-- The fourth convolution of the patches. -/
theorem local4 {n : Fin 1920} {f : Img} (hf : Planes (n := 1920) (h := 7) (w := 7) (c := 64) (res_main_v811 V) n f) :
    Planes (n := 1920) (h := 7) (w := 7) (c := 64) (res_main_v858 V) n
      (conv 3 64 (bank (o := 64) (c := 64) (k := 3) (l := 3) (V (Proc.devRef .tc main_arg5))) (padded 1 7 7 (relu f))) :=
  conv_planes (h2 := 9) (w2 := 9) (c := 64) (show Planes (n := 1920) (h := 9) (w := 9) (c := 64) (res_main_v813 V) n _ from
    pad_planes (p := 1) (relu_planes hf _) _ _ (zero_first _) _) _ _ _ _ _ _ _ _ _ _ _ _ _ _ _ _ _ _ _ _ _

/-- The fifth convolution of the patches, after the second maximum. -/
theorem local5 {n : Fin 1920} {f : Img} (hf : Planes (n := 1920) (h := 7) (w := 7) (c := 64) (res_main_v858 V) n f) :
    Planes (n := 1920) (h := 3) (w := 3) (c := 128) (res_main_v907 V) n
      (conv 3 64 (bank (o := 128) (c := 64) (k := 3) (l := 3) (V (Proc.devRef .tc main_arg6))) (padded 1 3 3 (pool (relu f)))) :=
  conv_planes (h2 := 5) (w2 := 5) (c := 64) (show Planes (n := 1920) (h := 5) (w := 5) (c := 64) (res_main_v862 V) n _ from
    pad_planes (p := 1) (pool_planes (h2 := 3) (w2 := 3) (relu_planes hf _) (by decide) (by decide) _ _ (low_first _) _) _ _ (zero_first _) _) _ _ _ _ _ _ _ _ _ _ _ _ _ _ _ _ _ _ _ _ _

/-- The sixth convolution of the patches. -/
theorem local6 {n : Fin 1920} {f : Img} (hf : Planes (n := 1920) (h := 3) (w := 3) (c := 128) (res_main_v907 V) n f) :
    Planes (n := 1920) (h := 3) (w := 3) (c := 128) (res_main_v954 V) n
      (conv 3 128 (bank (o := 128) (c := 128) (k := 3) (l := 3) (V (Proc.devRef .tc main_arg7))) (padded 1 3 3 (relu f))) :=
  conv_planes (h2 := 5) (w2 := 5) (c := 128) (show Planes (n := 1920) (h := 5) (w := 5) (c := 128) (res_main_v909 V) n _ from
    pad_planes (p := 1) (relu_planes hf _) _ _ (zero_first _) _) _ _ _ _ _ _ _ _ _ _ _ _ _ _ _ _ _ _ _ _ _

/-- Each patch of the reference's last stage is the convolutional stack of that patch, before the rectifier. -/
theorem locals (n : Fin 1920) (g : Img) (hg : Planes (n := 1920) (h := 18) (w := 18) (c := 1) (res_main_v590 V) n (padded 2 14 14 g)) :
    ∃ f, Planes (n := 1920) (h := 3) (w := 3) (c := 128) (res_main_v954 V) n f ∧ relu f
      = base 14 14 (bank (o := 32) (c := 1) (k := 5) (l := 5) (V (Proc.devRef .tc main_arg2)))
        (bank (o := 32) (c := 32) (k := 3) (l := 3) (V (Proc.devRef .tc main_arg3)))
        (bank (o := 64) (c := 32) (k := 3) (l := 3) (V (Proc.devRef .tc main_arg4)))
        (bank (o := 64) (c := 64) (k := 3) (l := 3) (V (Proc.devRef .tc main_arg5)))
        (bank (o := 128) (c := 64) (k := 3) (l := 3) (V (Proc.devRef .tc main_arg6)))
        (bank (o := 128) (c := 128) (k := 3) (l := 3) (V (Proc.devRef .tc main_arg7))) g :=
  ⟨_, local6 V (local5 V (local4 V (local3 V (local2 V (local1 V hg))))), by
    simp only [base, block, Nat.reduceDiv]⟩

end Cert.ReferenceIdeal.Value

end
-- ==== Proof.HostGat.lean ====
/- The reference's attention: its neighbour mask, the two layers, the vector of each video and its five cuts. -/
module

public import proofs.«01_k».proof.Proof.Whole
public import proofs.«01_k».proof.Proof.HostGlobal
public import proofs.«01_k».proof.Proof.HostLocal
public import Idealize.ShloMosaic.Lib.StackMember

@[expose] public section

set_option maxRecDepth 16384

noncomputable section

namespace Cert.ReferenceIdeal.Value

open Idealize.ShloMosaic Idealize.ShloMosaic.TcCoe Idealize.SL.Sem Cert.Net Cert.ReferenceIdeal Cert.ReferenceIdeal.Gen

/-- The sign of a word. -/
def signWord (x : BitVec 32) : BitVec 32 := if x = 0 then 0 else if x.msb then -1 else 1

/-- The frame of a region, as the reference computes it. -/
def frameWord (x : BitVec 32) : BitVec 32 :=
  Scalar.select (IntOp.andi (IntOp.cmpi .ne (signWord x) (signWord 8#32)) (IntOp.cmpi .ne (IntOp.remsi .host x 8#32) 0#32))
    (IntOp.subi (IntOp.divsi .host x 8#32) 1#32) (IntOp.divsi .host x 8#32)

/-- The place of a region in its frame, as the reference computes it. -/
def placeWord (x : BitVec 32) : BitVec 32 :=
  let v : BitVec 32 := Scalar.select (IntOp.cmpi .eq 8#32 0#32) 1#32 8#32
  let r : BitVec 32 := IntOp.remsi .host x v
  Scalar.select (IntOp.andi (IntOp.cmpi .ne (IntOp.cmpi .slt r 0#32) (IntOp.cmpi .slt v 0#32)) (IntOp.cmpi .ne r 0#32)) (IntOp.addi r v) r

/-- Both are the quotient and the remainder by eight. -/
theorem words : ∀ i : Fin 240, frameWord (BitVec.ofNat 32 i.val) = BitVec.ofNat 32 (i.val / 8)
    ∧ placeWord (BitVec.ofNat 32 i.val) = BitVec.ofNat 32 (i.val % 8) := by
  decide +kernel

variable (V : Valuation τ sig (Elt Ideal))

theorem frames (i : Fin 240) : res_main_v964 V (ix1 i) = BitVec.ofNat 32 (i.val / 8) := (words i).1.symm ▸ rfl
theorem places (i : Fin 240) : res_main_v966 V (ix1 i) = BitVec.ofNat 32 (i.val % 8) := (words i).2.symm ▸ rfl

/-- A sequence of words repeated along the columns. -/
theorem down (v : IVec S240 32) (i j : Fin 240) :
    broadcastInDim S240x240 ![0, 1] bcast_S240x1_S240x240_0_1 (broadcastInDim S240x1 ![0] bcast_S240_S240x1_0 v) (ix2 i j) = v (ix1 i) :=
  (broadcastInDim_apply _ _ _ _ (ix2 i (0 : Fin 1)) (by intro a; fin_cases a <;> rfl)).trans
    (broadcastInDim_apply _ _ _ _ (ix1 i) (by intro a; fin_cases a; rfl))

/-- A sequence of words repeated along the rows. -/
theorem along (v : IVec S240 32) (i j : Fin 240) :
    broadcastInDim S240x240 ![0, 1] bcast_S1x240_S240x240_0_1 (broadcastInDim S1x240 ![1] bcast_S240_S1x240_1 v) (ix2 i j) = v (ix1 j) :=
  (broadcastInDim_apply _ _ _ _ (ix2 (0 : Fin 1) j) (by intro a; fin_cases a <;> rfl)).trans
    (broadcastInDim_apply _ _ _ _ (ix1 j) (by intro a; fin_cases a; rfl))

/-- The reference's mask holds the neighbours. -/
theorem neighbours (i j : Fin 240) : res_main_v986 V (ix2 i j) = near i j := by
  unfold near
  rw [← frames V i, ← frames V j, ← places V i, ← places V j, ← down (res_main_v964 V) i j, ← down (res_main_v966 V) i j,
    ← along (res_main_v964 V) i j, ← along (res_main_v966 V) i j]
  rfl

/-- The mask repeated for every video. -/
theorem neighbours_all (b : Fin 8) (i j : Fin 240) :
    broadcastInDim S8x240x240 ![0, 1, 2] bcast_S1x240x240_S8x240x240_0_1_2 (broadcastInDim S1x240x240 ![1, 2] bcast_S240x240_S1x240x240_1_2 (res_main_v986 V)) (ix3 b i j)
      = near i j :=
  ((broadcastInDim_apply _ _ _ _ (ix3 (0 : Fin 1) i j) (by intro a; fin_cases a <;> rfl)).trans
    (broadcastInDim_apply _ _ _ _ (ix2 i j) (by intro a; fin_cases a <;> rfl))).trans (neighbours V i j)

/-- The reference's arguments. -/
def args : Args where
  x := V (Proc.devRef .tc main_arg0)
  px := V (Proc.devRef .tc main_arg1)
  c₁ := V (Proc.devRef .tc main_arg2)
  c₂ := V (Proc.devRef .tc main_arg3)
  c₃ := V (Proc.devRef .tc main_arg4)
  c₄ := V (Proc.devRef .tc main_arg5)
  c₅ := V (Proc.devRef .tc main_arg6)
  c₆ := V (Proc.devRef .tc main_arg7)
  gw := V (Proc.devRef .tc main_arg8)
  gb := V (Proc.devRef .tc main_arg9)
  lw := V (Proc.devRef .tc main_arg10)
  lb := V (Proc.devRef .tc main_arg11)
  w₁ := V (Proc.devRef .tc main_arg12)
  a₁ := V (Proc.devRef .tc main_arg13)
  b₁ := V (Proc.devRef .tc main_arg14)
  w₂ := V (Proc.devRef .tc main_arg15)
  a₂ := V (Proc.devRef .tc main_arg16)
  b₂ := V (Proc.devRef .tc main_arg17)

variable {V} {b : Fin 8} {F : Tab}

/-- The first layer, mixed by the first weights. -/
theorem mixed1 (hF : Tables (n := 240) (m := 256) (res_main_v962 V) b F) :
    Tables (n := 240) (m := 8) (res_main_v987 V) b (prod 256 F (tab (args V).w₁)) :=
  spread_tables hF (tab_table _)

/-- The exponentials of the first layer's scores. -/
theorem grown1 (hF : Tables (n := 240) (m := 256) (res_main_v962 V) b F) :
    Tables (n := 240) (m := 240) (res_main_v1003 V) b (grown (centred 240 (scores (prod 8 (prod 256 F (tab (args V).w₁)) (tab (args V).a₁))
      (prod 8 (prod 256 F (tab (args V).w₁)) (tab (args V).b₁))))) := fun i j =>
  congrArg Ideal.exp (centred_tables (v := res_main_v996 V) (gate_tables (v := res_main_v993 V)
    (pairs_tables (spread_tables (mixed1 hF) (tab_table _)) (spread_tables (mixed1 hF) (tab_table _)) _ _ _) (neighbours_all V b) _) _ _ _ _ _ i j)

/-- The first layer, mixed by the second weights. -/
theorem mixed2 (hF : Tables (n := 240) (m := 256) (res_main_v962 V) b F) :
    Tables (n := 240) (m := 16) (res_main_v1009 V) b (layer F (tab (args V).w₁) (tab (args V).a₁) (tab (args V).b₁) (tab (args V).w₂)) :=
  spread_tables (each_tables (share_tables (grown1 hF) _ _ _ _) (mixed1 hF)) (tab_table _)

/-- The exponentials of the second layer's scores. -/
theorem grown2 {G : Tab} (hG : Tables (n := 240) (m := 16) (res_main_v1009 V) b G) :
    Tables (n := 240) (m := 240) (res_main_v1025 V) b (grown (centred 240 (scores (prod 16 G (tab (args V).a₂)) (prod 16 G (tab (args V).b₂))))) := fun i j =>
  congrArg Ideal.exp (centred_tables (v := res_main_v1018 V) (gate_tables (v := res_main_v1015 V)
    (pairs_tables (spread_tables hG (tab_table _)) (spread_tables hG (tab_table _)) _ _ _) (neighbours_all V b) _) _ _ _ _ _ i j)

/-- The second layer. -/
theorem second {G : Tab} (hG : Tables (n := 240) (m := 16) (res_main_v1009 V) b G) :
    Tables (n := 240) (m := 16) (res_main_v1030 V) b (attend 240 16 G (tab (args V).a₂) (tab (args V).b₂)) :=
  each_tables (share_tables (grown2 hG) _ _ _ _) hG

/-- Its exponential unit, less each row's largest. -/
theorem less2 {G : Tab} (hG : Tables (n := 240) (m := 16) (res_main_v1009 V) b G) :
    Tables (n := 240) (m := 16) (res_main_call35_v5 V) b (centred 16 (fun i j => elu (attend 240 16 G (tab (args V).a₂) (tab (args V).b₂) i j))) :=
  centred_tables (v := res_main_v1031 V) (elu_tables (second hG) _) _ _ _ _ _

/-- Both layers. -/
theorem attended (hF : Tables (n := 240) (m := 256) (res_main_v962 V) b F) :
    Tables (n := 240) (m := 16) (subf (res_main_call35_v5 V) (broadcastInDim S8x240x16 ![0, 1, 2] bcast_S8x240x1_S8x240x16_0_1_2 (Host.log (broadcastInDim S8x240x1 ![0, 1] bcast_S8x240_S8x240x1_0_1 (Host.reduceAdd (Host.exp (res_main_call35_v5 V)) (constant S_ .f32 0x00000000#32) reducesTo_S8x240x16_S8x240_d2 h_S_))))) b
      (attention F (tab (args V).w₁) (tab (args V).a₁) (tab (args V).b₁) (tab (args V).w₂) (tab (args V).a₂) (tab (args V).b₂)) :=
  logShare_tables (less2 (mixed2 hF)) _ _ _ _

end Cert.ReferenceIdeal.Value

end
-- ==== Proof.HostCuts.lean ====
/- The reference's result, from the patches it cuts: the two dense layers, the vector of each video and its five cuts. -/
module

public import proofs.«01_k».proof.Proof.HostGat

@[expose] public section

set_option maxRecDepth 16384

noncomputable section

namespace Cert.ReferenceIdeal.Value

open Idealize.ShloMosaic Idealize.ShloMosaic.TcCoe Idealize.SL.Sem Cert.Net Cert.ReferenceIdeal Cert.ReferenceIdeal.Gen

/-- A dense layer of the reference: the rows of the input against the rows of the weights, and the offsets. -/
theorem dense_apply {n k m : ℕ} (A : FVec Ideal ⟨2, ![n, k]⟩ .f32) (W : FVec Ideal ⟨2, ![m, k]⟩ .f32) (w : FVec Ideal ⟨1, ![m]⟩ .f32)
    (ht : (⟨2, ![m, k]⟩ : Shape).Transposes [1, 0] ⟨2, ![k, m]⟩) (h₁ : (⟨1, ![m]⟩ : Shape).BroadcastsInDim ⟨2, ![1, m]⟩ ![1])
    (h₂ : (⟨2, ![1, m]⟩ : Shape).BroadcastsInDim ⟨2, ![n, m]⟩ ![0, 1]) (f : ℕ → EReal) (i : Fin n) (j : Fin m)
    (hf : ∀ r : Fin k, A (ix2 i r) = f r) :
    addf (Host.dotGeneral (DotDims.plain n k m) none A (transpose ⟨2, ![k, m]⟩ [1, 0] W ht))
      (broadcastInDim ⟨2, ![n, m]⟩ ![0, 1] h₂ (broadcastInDim ⟨2, ![1, m]⟩ ![1] h₁ w)) (ix2 i j)
      = (∑ r : Fin k, f r * tab W j r) + line w j := by
  refine congrArg₂ (· + ·) ((StackMember.dotGeneral_plain_apply none A _ i j).trans (Finset.sum_congr rfl fun r _ => ?_)) ?_
  · refine congrArg₂ (· * ·) (hf r) ((transpose_apply _ _ _ _ (ix2 j r) (by intro a; fin_cases a <;> rfl)).trans (tab_table W j r))
  · refine (broadcastInDim_apply _ _ _ _ (ix2 (0 : Fin 1) j) fun a => ?_).trans ((broadcastInDim_apply _ _ _ _ (ix1 j) fun a => ?_).trans (line_apply w j).symm)
    · fin_cases a
      · rfl
      · show j.val = if m = 1 then 0 else j.val
        split <;> omega
    · fin_cases a
      show j.val = if m = 1 then 0 else j.val
      split <;> omega

variable (V : Valuation τ sig (Elt Ideal))

/-- The patches the reference cuts, with their border, are the crops around the positions. -/
def Patches : Prop := ∀ n : Fin 1920, Planes (n := 1920) (h := 18) (w := 18) (c := 1) (res_main_v590 V) n (padded 2 14 14 (patch (args V).x (args V).px n))

variable {V}

/-- The regions' features. -/
theorem regions_tables (hp : Patches V) (b : Fin 8) : Tables (n := 240) (m := 256) (res_main_v962 V) b ((args V).regions b) := by
  intro i k
  obtain ⟨f, hf, e⟩ := locals V (⟨b.val * 240 + i.val, by omega⟩ : Fin 1920) _ (hp ⟨b.val * 240 + i.val, by omega⟩)
  unfold res_main_v962
  refine (shapeCast_apply (t := S8x240x256) _ _ (ix3 b i k) (ix2 (⟨b.val * 240 + i.val, by omega⟩ : Fin 1920) k) ?_).trans ?_
  · rw [Shape.rowMajor_val_three, Shape.rowMajor_val_two]
    show (b.val * 240 + i.val) * 256 + k.val = (b.val * 240 + i.val) * 256 + k.val
    rfl
  refine dense_apply (n := 1920) (k := 1152) (m := 256) _ _ _ _ _ _ (fun r => (args V).local_ (b.val * 240 + i.val) (r / 9) (r % 9 / 3) (r % 3)) _ _ fun r => ?_
  refine (shapeCast_apply _ _ _ (ix4 (⟨b.val * 240 + i.val, by omega⟩ : Fin 1920) (⟨r.val / 9, by omega⟩ : Fin 128)
    (⟨r.val % 9 / 3, by omega⟩ : Fin 3) (⟨r.val % 3, by omega⟩ : Fin 3)) ?_).trans ?_
  · rw [Shape.rowMajor_val_four, Shape.rowMajor_val_two]
    show (((b.val * 240 + i.val) * 128 + r.val / 9) * 3 + r.val % 9 / 3) * 3 + r.val % 3 = (b.val * 240 + i.val) * 1152 + r.val
    omega
  refine Eq.trans ?_ (congrFun (congrFun (congrFun e (r.val / 9)) (r.val % 9 / 3)) (r.val % 3))
  exact congrArg leaky (hf _ _ _)

/-- The vector of a video. -/
theorem vector_apply (hp : Patches V) (b : Fin 8) (k : Fin 528) : (res_main_v1037 V : FVec Ideal S8x528 .f32) (ix2 b k) = (args V).vector b k := by
  have hF := regions_tables hp b
  unfold Args.vector joined
  unfold res_main_v1037
  by_cases h0 : k.val < 256
  · rw [if_pos h0]
    refine (concatenate_apply_piece (t := S8x528) (1 : Fin 2) [⟨S8x256, _⟩, ⟨S8x272, _⟩]
      concatenates_S8x256_S8x272_S8x528_d1 (ix2 b k) 0 (by simp) S8x256 _ rfl rfl 0 rfl (ix2 b (⟨k.val, h0⟩ : Fin 256))
      (by intro a ha; fin_cases a <;> first | rfl | exact absurd rfl ha) (show 0 + k.val = k.val by omega)).trans ?_
    exact dense_apply (n := 8) (k := 32768) (m := 256) _ _ _ _ _ _ (fun r => (args V).peak b.val (r / 256) (r % 256 / 16) (r % 16)) b
      (⟨k.val, h0⟩ : Fin 256) fun r => peaks V b r
  · rw [if_neg h0]
    refine (concatenate_apply_piece (t := S8x528) (1 : Fin 2) [⟨S8x256, _⟩, ⟨S8x272, _⟩]
      concatenates_S8x256_S8x272_S8x528_d1 (ix2 b k) 1 (by simp) S8x272 _ rfl rfl 256 rfl (ix2 b (⟨k.val - 256, by omega⟩ : Fin 272))
      (by intro a ha; fin_cases a <;> first | rfl | exact absurd rfl ha) (show 256 + (k.val - 256) = k.val by omega)).trans ?_
    refine (mean_tables (n := 240) (m := 272) (b := b) (f := fun i j => if j < 256 then (args V).regions b.val i j
      else attention ((args V).regions b.val) (tab (args V).w₁) (tab (args V).a₁) (tab (args V).b₁) (tab (args V).w₂) (tab (args V).a₂) (tab (args V).b₂) i (j - 256)) ?_ _ _ _ _).trans ?_
    · intro i j
      dsimp only
      by_cases hj : j.val < 256
      · rw [if_pos hj]
        exact (concatenate_apply_piece (t := S8x240x272) (2 : Fin 3) [⟨S8x240x256, _⟩, ⟨S8x240x16, _⟩]
          concatenates_S8x240x256_S8x240x16_S8x240x272_d2 (ix3 b i j) 0 (by simp) S8x240x256 _ rfl rfl 0 rfl (ix3 b i (⟨j.val, hj⟩ : Fin 256))
          (by intro a ha; fin_cases a; · rfl
              · rfl
              · exact absurd rfl ha) (show 0 + j.val = j.val by omega)).trans (hF i ⟨j.val, hj⟩)
      · rw [if_neg hj]
        exact (concatenate_apply_piece (t := S8x240x272) (2 : Fin 3) [⟨S8x240x256, _⟩, ⟨S8x240x16, _⟩]
          concatenates_S8x240x256_S8x240x16_S8x240x272_d2 (ix3 b i j) 1 (by simp) S8x240x16 _ rfl rfl 256 rfl (ix3 b i (⟨j.val - 256, by omega⟩ : Fin 16))
          (by intro a ha; fin_cases a; · rfl
              · rfl
              · exact absurd rfl ha) (show 256 + (j.val - 256) = j.val by omega)).trans (attended hF i ⟨j.val - 256, by omega⟩)
    · unfold mean
      dsimp only
      by_cases h1 : k.val < 512
      · simp only [if_pos h1, if_pos (by omega : k.val - 256 < 256)]
      · simp only [if_neg h1, if_neg (by omega : ¬ k.val - 256 < 256), show k.val - 256 - 256 = k.val - 512 by omega]

/-- One cut of the reference. -/
theorem cut_tables {k s : ℕ} (w : BitVec 32) {v : FVec Ideal S8x528 .f32} {b : Fin 8} {g : ℕ → EReal} (hv : ∀ j : Fin 528, v (ix2 b j) = g j)
    (hks : (k + 1) * s = 528) (hc : S8x528.ShapeCasts ⟨3, ![8, k + 1, s]⟩)
    (hr : (⟨3, ![8, k + 1, s]⟩ : Shape).ReducesTo [1] ⟨2, ![8, s]⟩) (hu : 0 < S_.numel)
    (h0 : S_.BroadcastsInDim ⟨2, ![8, s]⟩ ![]) (d : Fin s) :
    addf (Host.divf (Host.reduceAdd (shapeCast ⟨3, ![8, k + 1, s]⟩ v hc) (constant (F := Ideal) S_ .f32 0x00000000#32) hr hu)
        (broadcastInDim ⟨2, ![8, s]⟩ ![] h0 (constant S_ .f32 w)))
      (Host.reduce FloatOps.maximumf (shapeCast ⟨3, ![8, k + 1, s]⟩ v hc) (constant S_ .f32 0xFF800000#32) hr hu) (ix2 b d) = level k w s g d := by
  have step : ∀ t : Fin (k + 1), shapeCast ⟨3, ![8, k + 1, s]⟩ v hc (ix3 b t d) = g (t * s + d) := by
    intro t
    have ht : t.val * s + d.val < 528 := by
      have h1 : t.val * s ≤ k * s := Nat.mul_le_mul_right _ (by omega)
      have h2 : (k + 1) * s = k * s + s := Nat.succ_mul k s
      omega
    refine (shapeCast_apply _ _ _ (ix2 b (⟨t.val * s + d.val, ht⟩ : Fin 528)) ?_).trans (hv _)
    rw [Shape.rowMajor_val_three, Shape.rowMajor_val_two]
    show b.val * 528 + (t.val * s + d.val) = (b.val * (k + 1) + t.val) * s + d.val
    rw [← hks]
    ring
  unfold level
  refine congrArg₂ (· + ·) (congrArg (fun x => Ideal.div x _) ?_) ?_
  · pointwise
    exact Finset.sum_congr rfl fun t _ => step t
  · rw [← runMax_fold]
    exact fold_frames (b := 8) (n := k + 1) (c := s) _ _ (hu := hu) ofBits_low hr hu b d (fun t => g (t * s + d)) step

/-- The five cuts joined. -/
theorem join_tables {p₀ : FVec Ideal S8x528 .f32} {p₁ : FVec Ideal S8x264 .f32} {p₂ : FVec Ideal S8x132 .f32} {p₃ : FVec Ideal S8x66 .f32}
    {p₄ : FVec Ideal S8x33 .f32} {b : Fin 8} {g : ℕ → EReal}
    (h₀ : ∀ d : Fin 528, p₀ (ix2 b d) = level 0 0x3F800000#32 528 g d) (h₁ : ∀ d : Fin 264, p₁ (ix2 b d) = level 1 0x40000000#32 264 g d)
    (h₂ : ∀ d : Fin 132, p₂ (ix2 b d) = level 3 0x40800000#32 132 g d) (h₃ : ∀ d : Fin 66, p₃ (ix2 b d) = level 7 0x41000000#32 66 g d)
    (h₄ : ∀ d : Fin 33, p₄ (ix2 b d) = level 15 0x41800000#32 33 g d) (k : Fin 1023) :
    concatenate S8x1023 1 [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) = pyramid g k := by
  unfold pyramid
  by_cases c₀ : k.val < 528
  · rw [if_pos c₀]
    exact (concatenate_apply_piece (t := S8x1023) (1 : Fin 2) [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) 0 (by simp) S8x528 p₀ rfl rfl 0 rfl
      (ix2 b (⟨k.val, by omega⟩ : Fin 528)) (by intro a ha; fin_cases a <;> first | rfl | exact absurd rfl ha) (show 0 + (k.val) = k.val by omega)).trans (h₀ _)
  rw [if_neg c₀]
  by_cases c₁ : k.val < 792
  · rw [if_pos c₁]
    exact (concatenate_apply_piece (t := S8x1023) (1 : Fin 2) [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) 1 (by simp) S8x264 p₁ rfl rfl 528 rfl
      (ix2 b (⟨k.val - 528, by omega⟩ : Fin 264)) (by intro a ha; fin_cases a <;> first | rfl | exact absurd rfl ha) (show 528 + (k.val - 528) = k.val by omega)).trans (h₁ _)
  rw [if_neg c₁]
  by_cases c₂ : k.val < 924
  · rw [if_pos c₂]
    exact (concatenate_apply_piece (t := S8x1023) (1 : Fin 2) [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) 2 (by simp) S8x132 p₂ rfl rfl 792 rfl
      (ix2 b (⟨k.val - 792, by omega⟩ : Fin 132)) (by intro a ha; fin_cases a <;> first | rfl | exact absurd rfl ha) (show 792 + (k.val - 792) = k.val by omega)).trans (h₂ _)
  rw [if_neg c₂]
  by_cases c₃ : k.val < 990
  · rw [if_pos c₃]
    exact (concatenate_apply_piece (t := S8x1023) (1 : Fin 2) [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) 3 (by simp) S8x66 p₃ rfl rfl 924 rfl
      (ix2 b (⟨k.val - 924, by omega⟩ : Fin 66)) (by intro a ha; fin_cases a <;> first | rfl | exact absurd rfl ha) (show 924 + (k.val - 924) = k.val by omega)).trans (h₃ _)
  rw [if_neg c₃]
  exact (concatenate_apply_piece (t := S8x1023) (1 : Fin 2) [⟨S8x528, p₀⟩, ⟨S8x264, p₁⟩, ⟨S8x132, p₂⟩, ⟨S8x66, p₃⟩, ⟨S8x33, p₄⟩] concatenates_S8x528_S8x264_S8x132_S8x66_S8x33_S8x1023_d1 (ix2 b k) 4 (by simp) S8x33 p₄ rfl rfl 990 rfl
      (ix2 b (⟨k.val - 990, by omega⟩ : Fin 33)) (by intro a ha; fin_cases a <;> first | rfl | exact absurd rfl ha) (show 990 + (k.val - 990) = k.val by omega)).trans (h₄ _)

/-- The reference's result. -/
theorem outcome (hp : Patches V) : broadcastInDim S8x1x1023 ![0, 2] bcast_S8x1023_S8x1x1023_0_2 ((concatenate S8x1023 1 [⟨S8x528, ((addf (Host.divf (Host.reduceAdd (res_main_v1038 V) (constant S_ .f32 0x00000000#32) reducesTo_S8x1x528_S8x528_d1 h_S_) (broadcastInDim S8x528 ![] bcast_S_S8x528 (constant S_ .f32 0x3F800000#32))) (Host.reduce FloatOps.maximumf (res_main_v1038 V) (constant S_ .f32 0xFF800000#32) reducesTo_S8x1x528_S8x528_d1 h_S_)) : (⟨S8x528, .f32⟩ : BufTy).Contents (Elt Ideal))⟩, ⟨S8x264, ((addf (Host.divf (Host.reduceAdd (res_main_v1044 V) (constant S_ .f32 0x00000000#32) reducesTo_S8x2x264_S8x264_d1 h_S_) (broadcastInDim S8x264 ![] bcast_S_S8x264 (constant S_ .f32 0x40000000#32))) (Host.reduce FloatOps.maximumf (res_main_v1044 V) (constant S_ .f32 0xFF800000#32) reducesTo_S8x2x264_S8x264_d1 h_S_)) : (⟨S8x264, .f32⟩ : BufTy).Contents (Elt Ideal))⟩, ⟨S8x132, ((addf (Host.divf (Host.reduceAdd (res_main_v1050 V) (constant S_ .f32 0x00000000#32) reducesTo_S8x4x132_S8x132_d1 h_S_) (broadcastInDim S8x132 ![] bcast_S_S8x132 (constant S_ .f32 0x40800000#32))) (Host.reduce FloatOps.maximumf (res_main_v1050 V) (constant S_ .f32 0xFF800000#32) reducesTo_S8x4x132_S8x132_d1 h_S_)) : (⟨S8x132, .f32⟩ : BufTy).Contents (Elt Ideal))⟩, ⟨S8x66, ((addf (Host.divf (Host.reduceAdd (res_main_v1056 V) (constant S_ .f32 0x00000000#32) reducesTo_S8x8x66_S8x66_d1 h_S_) (broadcastInDim S8x66 ![] bcast_S_S8x66 (constant S_ .f32 0x41000000#32))) (Host.reduce FloatOps.maximumf (res_main_v1056 V) (constant S_ .f32 0xFF800000#32) reducesTo_S8x8x66_S8x66_d1 h_S_)) : (⟨S8x66, .f32⟩ : BufTy).Contents (Elt Ideal))⟩, ⟨S8x33, ((addf (Host.divf (Host.reduceAdd (res_main_v1062 V) (constant S_ .f32 0x00000000#32) reducesTo_S8x16x33_S8x33_d1 h_S_) (broadcastInDim S8x33 ![] bcast_S_S8x33 (constant S_ .f32 0x41800000#32))) (Host.reduce FloatOps.maximumf (res_main_v1062 V) (constant S_ .f32 0xFF800000#32) reducesTo_S8x16x33_S8x33_d1 h_S_)) : (⟨S8x33, .f32⟩ : BufTy).Contents (Elt Ideal))⟩] concatenates_S8x528_S8x264_S8x132_S8x66_S8x33_S8x1023_d1 : (⟨S8x1023, .f32⟩ : BufTy).Contents (Elt Ideal))) = (args V).result := by
  funext y
  have hy : y = ix3 (show Fin 8 from y 0) (0 : Fin 1) (show Fin 1023 from y 2) := by
    funext a
    fin_cases a
    · rfl
    · exact Fin.ext (by have h : (y 1).val < 1 := (y 1).isLt; show (y 1).val = 0; omega)
    · rfl
  have hv : ∀ j : Fin 528, (res_main_v1037 V : FVec Ideal S8x528 .f32) (ix2 (show Fin 8 from y 0) j) = (args V).vector (y 0).val j :=
    fun j => vector_apply hp (show Fin 8 from y 0) j
  refine (congrArg _ hy).trans ((broadcastInDim_apply _ _ _ _ (ix2 (show Fin 8 from y 0) (show Fin 1023 from y 2)) (by intro a; fin_cases a <;> rfl)).trans ?_)
  exact join_tables (cut_tables (k := 0) (s := 528) _ hv rfl _ _ _ _) (cut_tables (k := 1) (s := 264) _ hv rfl _ _ _ _) (cut_tables (k := 3) (s := 132) _ hv rfl _ _ _ _)
    (cut_tables (k := 7) (s := 66) _ hv rfl _ _ _ _) (cut_tables (k := 15) (s := 33) _ hv rfl _ _ _ _) (show Fin 1023 from y 2)

end Cert.ReferenceIdeal.Value

end
-- ==== Proof.HostCrop.lean ====
/- The reference's patches: each sample gathered from four pixels and mixed, which is the crop around the position. -/
module

public import proofs.«01_k».proof.Proof.HostCuts
public import Idealize.ShloMosaic.Lib.Routing.OpsPair

@[expose] public section

set_option maxRecDepth 16384

noncomputable section

namespace Cert.ReferenceIdeal.Value

open Idealize.ShloMosaic Idealize.ShloMosaic.TcCoe Idealize.SL.Sem Cert.Net Cert.ReferenceIdeal Cert.ReferenceIdeal.Gen

/-! ## Where the samples lie -/

/-- One value per position, repeated over the fourteen samples. -/
theorem over_samples (w : FVec Ideal S8x30x8x1 .f32) (b : Fin 8) (t : Fin 30) (r : Fin 8) (i : Fin 14) :
    broadcastInDim S8x30x8x14 ![0, 1, 2, 3] bcast_S8x30x8x1_S8x30x8x14_0_1_2_3 w (ix4 b t r i) = w (ix4 b t r (0 : Fin 1)) :=
  broadcastInDim_apply _ _ _ _ _ (by intro a; fin_cases a <;> rfl)

theorem one_column (w : FVec Ideal S8x30x8 .f32) (b : Fin 8) (t : Fin 30) (r : Fin 8) :
    broadcastInDim S8x30x8x1 ![0, 1, 2] bcast_S8x30x8_S8x30x8x1_0_1_2 w (ix4 b t r (0 : Fin 1)) = w (ix3 b t r) :=
  broadcastInDim_apply _ _ _ _ _ (by intro a; fin_cases a <;> rfl)

/-- The first pixels of the boxes, from one coordinate of the positions. -/
def lows (p : FVec Ideal S8x30x8 .f32) : FVec Ideal S8x30x8 .f32 :=
  Host.floor (minimumf (broadcastInDim S8x30x8 ![] bcast_S_S8x30x8 (id (constant S_ .f32 0x427C0000#32))) (maximumf (broadcastInDim S8x30x8 ![] bcast_S_S8x30x8 (id (constant S_ .f32 0x00000000#32))) (subf p (broadcastInDim S8x30x8 ![] bcast_S_S8x30x8 (constant S_ .f32 0x40E00000#32)))))

/-- One past the last pixels. -/
def highs (p : FVec Ideal S8x30x8 .f32) : FVec Ideal S8x30x8 .f32 :=
  Host.floor (minimumf (addf p (broadcastInDim S8x30x8 ![] bcast_S_S8x30x8 (constant S_ .f32 0x40E00000#32))) (broadcastInDim S8x30x8 ![] bcast_S_S8x30x8 (constant S_ .f32 0x42800000#32)))

/-- One less than the ends of the boxes, one column wide. -/
def lasts (p : FVec Ideal S8x30x8 .f32) : FVec Ideal S8x30x8x1 .f32 :=
  subf (broadcastInDim S8x30x8x1 ![0, 1, 2] bcast_S8x30x8_S8x30x8x1_0_1_2 (highs p)) (broadcastInDim S8x30x8x1 ![] bcast_S_S8x30x8x1 (constant S_ .f32 0x3F800000#32))

/-- The samples' places, from the box. -/
def spots (p : FVec Ideal S8x30x8 .f32) (h : FVec Ideal S14 .f32) : FVec Ideal S8x30x8x14 .f32 :=
  minimumf (broadcastInDim S8x30x8x14 ![0, 1, 2, 3] bcast_S8x30x8x1_S8x30x8x14_0_1_2_3 (lasts p)) (maximumf (broadcastInDim S8x30x8x14 ![0, 1, 2, 3] bcast_S8x30x8x1_S8x30x8x14_0_1_2_3 (broadcastInDim S8x30x8x1 ![0, 1, 2] bcast_S8x30x8_S8x30x8x1_0_1_2 (lows p))) (subf (addf (broadcastInDim S8x30x8x14 ![0, 1, 2, 3] bcast_S8x30x8x1_S8x30x8x14_0_1_2_3 (broadcastInDim S8x30x8x1 ![0, 1, 2] bcast_S8x30x8_S8x30x8x1_0_1_2 (lows p))) (Host.divf (mulf (broadcastInDim S8x30x8x14 ![0, 1, 2, 3] bcast_S1x1x1x14_S8x30x8x14_0_1_2_3 (broadcastInDim S1x1x1x14 ![3] bcast_S14_S1x1x1x14_3 h)) (broadcastInDim S8x30x8x14 ![0, 1, 2, 3] bcast_S8x30x8x1_S8x30x8x14_0_1_2_3 (broadcastInDim S8x30x8x1 ![0, 1, 2] bcast_S8x30x8_S8x30x8x1_0_1_2 (subf (highs p) (lows p))))) (broadcastInDim S8x30x8x14 ![] bcast_S_S8x30x8x14 (constant S_ .f32 0x41600000#32)))) (broadcastInDim S8x30x8x14 ![] bcast_S_S8x30x8x14 (constant S_ .f32 0x3F000000#32))))

/-- The second pixels of the samples. -/
def nexts (p : FVec Ideal S8x30x8 .f32) (f : FVec Ideal S8x30x8x14 .f32) : FVec Ideal S8x30x8x14 .f32 :=
  minimumf (addf f (broadcastInDim S8x30x8x14 ![] bcast_S_S8x30x8x14 (constant S_ .f32 0x3F800000#32))) (broadcastInDim S8x30x8x14 ![0, 1, 2, 3] bcast_S8x30x8x1_S8x30x8x14_0_1_2_3 (lasts p))

variable {p : FVec Ideal S8x30x8 .f32} {h : FVec Ideal S14 .f32} (hh : ∀ i : Fin 14, h (ix1 i) = half i)

theorem lasts_apply (b : Fin 8) (t : Fin 30) (r : Fin 8) : lasts p (ix4 b t r (0 : Fin 1)) = hi (p (ix3 b t r)) - Ideal.ofBits .f32 0x3F800000#32 := by
  unfold lasts
  show broadcastInDim S8x30x8x1 ![0, 1, 2] bcast_S8x30x8_S8x30x8x1_0_1_2 (highs p) (ix4 b t r (0 : Fin 1)) - _ = _
  rw [one_column]
  rfl

include hh in
theorem spots_apply (b : Fin 8) (t : Fin 30) (r : Fin 8) (i : Fin 14) : spots p h (ix4 b t r i) = place (p (ix3 b t r)) i := by
  have e1 := (over_samples (lasts p) b t r i).trans (lasts_apply b t r)
  have e2 := (over_samples _ b t r i).trans (one_column (lows p) b t r)
  have e3 := (over_samples _ b t r i).trans (one_column (subf (highs p) (lows p)) b t r)
  have e4 : broadcastInDim S8x30x8x14 ![0, 1, 2, 3] bcast_S1x1x1x14_S8x30x8x14_0_1_2_3 (broadcastInDim S1x1x1x14 ![3] bcast_S14_S1x1x1x14_3 h) (ix4 b t r i) = half i :=
    (broadcastInDim_apply _ _ _ _ (ix4 (0 : Fin 1) (0 : Fin 1) (0 : Fin 1) i) (by intro a; fin_cases a <;> rfl)).trans
      ((broadcastInDim_apply _ _ _ _ (ix1 i) (by intro a; fin_cases a; rfl)).trans (hh i))
  unfold spots place
  refine congrArg₂ min e1 (congrArg₂ max e2 (congrArg (· - _) (congrArg₂ (· + ·) e2 (congrArg (Ideal.div · _) (congrArg₂ (· * ·) e4 e3)))))

include hh in
theorem firsts_apply (b : Fin 8) (t : Fin 30) (r : Fin 8) (i : Fin 14) : Host.floor (spots p h) (ix4 b t r i) = first (p (ix3 b t r)) i :=
  congrArg (Ideal.liftRound Int.floor) (spots_apply hh b t r i)

include hh in
theorem nexts_apply (b : Fin 8) (t : Fin 30) (r : Fin 8) (i : Fin 14) : nexts p (Host.floor (spots p h)) (ix4 b t r i) = Net.second (p (ix3 b t r)) i :=
  congrArg₂ min (congrArg (· + _) (firsts_apply hh b t r i)) ((over_samples (lasts p) b t r i).trans (lasts_apply b t r))

/-- The frames of all videos in one row. -/
theorem in_row {α : Type} (v : S8x30x8x14.Idx → α) (n : Fin 240) (r : Fin 8) (i : Fin 14) (hb : n.val / 30 < 8) (ht : n.val % 30 < 30) :
    shapeCast S240x8x14 v shapeCasts_S8x30x8x14_S240x8x14 (ix3 n r i) = v (ix4 ⟨n.val / 30, hb⟩ ⟨n.val % 30, ht⟩ r i) :=
  shapeCast_apply _ _ _ _ (by
    rw [Shape.rowMajor_val_four, Shape.rowMajor_val_three]
    show ((n.val / 30 * 30 + n.val % 30) * 8 + r.val) * 14 + i.val = (n.val * 8 + r.val) * 14 + i.val
    rw [Nat.div_add_mod'])

/-! ## The gathers -/

/-- An index that is not negative is not moved. -/
theorem unmoved {s : Shape} (w z k : IVec s 32) (e : s.Idx) (hz : z e = 0#32) {n : ℕ} (hw : w e = BitVec.ofNat 32 n) (hn : n < 2 ^ 31) :
    select (cmpi .slt w z) k w e = BitVec.ofNat 32 n := by
  show Scalar.select (IntOp.cmpi .slt (w e) (z e)) (k e) (w e) = _
  rw [hz, Routing.wrap_of_lt _ _ (by rw [hw, BitVec.toNat_ofNat, Nat.mod_eq_of_lt (by omega)]; exact hn), hw]

/-- The pixels gathered at a frame's number and the given rows and columns. -/
def gathered (x : FVec Ideal S240x64x64 .f32) (f : IVec S240x1x1x1 32) (a : IVec S240x8x14x1 32) (b : IVec S240x8x1x14 32) : FVec Ideal S240x8x14x14 .f32 :=
  Host.gather gather_S240x64x64_S240x8x14x14x3_S240x8x14x14_n_012_n_n_012_4_111 x ((concatenate S240x8x14x14x3 4 [⟨S240x8x14x14x1, ((broadcastInDim S240x8x14x14x1 ![0, 1, 2, 3] bcast_S240x8x14x14_S240x8x14x14x1_0_1_2_3 (broadcastInDim S240x8x14x14 ![0, 1, 2, 3] bcast_S240x1x1x1_S240x8x14x14_0_1_2_3 (select (cmpi .slt f (broadcastInDim S240x1x1x1 ![] bcast_S_S240x1x1x1 (constantI S_ 32 0#32))) (addi f (broadcastInDim S240x1x1x1 ![] bcast_S_S240x1x1x1 (constantI S_ 32 240#32))) f))) : (⟨S240x8x14x14x1, .i32⟩ : BufTy).Contents (Elt Ideal))⟩, ⟨S240x8x14x14x1, ((broadcastInDim S240x8x14x14x1 ![0, 1, 2, 3] bcast_S240x8x14x14_S240x8x14x14x1_0_1_2_3 (broadcastInDim S240x8x14x14 ![0, 1, 2, 3] bcast_S240x8x14x1_S240x8x14x14_0_1_2_3 (select (cmpi .slt a (broadcastInDim S240x8x14x1 ![] bcast_S_S240x8x14x1 (constantI S_ 32 0#32))) (addi a (broadcastInDim S240x8x14x1 ![] bcast_S_S240x8x14x1 (constantI S_ 32 64#32))) a))) : (⟨S240x8x14x14x1, .i32⟩ : BufTy).Contents (Elt Ideal))⟩, ⟨S240x8x14x14x1, ((broadcastInDim S240x8x14x14x1 ![0, 1, 2, 3] bcast_S240x8x14x14_S240x8x14x14x1_0_1_2_3 (broadcastInDim S240x8x14x14 ![0, 1, 2, 3] bcast_S240x8x1x14_S240x8x14x14_0_1_2_3 (select (cmpi .slt b (broadcastInDim S240x8x1x14 ![] bcast_S_S240x8x1x14 (constantI S_ 32 0#32))) (addi b (broadcastInDim S240x8x1x14 ![] bcast_S_S240x8x1x14 (constantI S_ 32 64#32))) b))) : (⟨S240x8x14x14x1, .i32⟩ : BufTy).Contents (Elt Ideal))⟩] concatenates_S240x8x14x14x1_S240x8x14x14x1_S240x8x14x14x1_S240x8x14x14x3_d4 : (⟨S240x8x14x14x3, .i32⟩ : BufTy).Contents (Elt Ideal)))

/-- A gather at three words that name an entry reads the entry. -/
theorem gather_entry (x : FVec Ideal S240x64x64 .f32) (idx : IVec S240x8x14x14x3 32) (n : Fin 240) (r : Fin 8) (i j : Fin 14) (m : Fin 240) (a b : Fin 64)
    (h0 : idx (ix5 n r i j (0 : Fin 3)) = BitVec.ofNat 32 m.val) (h1 : idx (ix5 n r i j (1 : Fin 3)) = BitVec.ofNat 32 a.val)
    (h2 : idx (ix5 n r i j (2 : Fin 3)) = BitVec.ofNat 32 b.val) :
    Host.gather gather_S240x64x64_S240x8x14x14x3_S240x8x14x14_n_012_n_n_012_4_111 x idx (ix4 n r i j) = x (ix3 m a b) := by
  have key : ∀ (q : Fin 3) (w : ℕ) (hw : w < 64 ∨ (q = 0 ∧ w < 240)) (e : idx (ix5 n r i j q) = BitVec.ofNat 32 w),
      gather_S240x64x64_S240x8x14x14x3_S240x8x14x14_n_012_n_n_012_4_111.start (ix4 n r i j) idx q
        + gather_S240x64x64_S240x8x14x14x3_S240x8x14x14_n_012_n_n_012_4_111.batchCoord (ix4 n r i j) q
        + gather_S240x64x64_S240x8x14x14x3_S240x8x14x14_n_012_n_n_012_4_111.offCoord (ix4 n r i j) q = w := by
    intro q w hw e
    have hq : q ∈ gather_S240x64x64_S240x8x14x14x3_S240x8x14x14_n_012_n_n_012_4_111.startIndexMap := by fin_cases q <;> decide
    rw [GatherDims.batchCoord_eq_zero _ _ _ List.not_mem_nil,
      GatherDims.offCoord_eq_zero _ _ _ (fun h => ((GatherDims.mem_sKept _ _).mp h).1 (by fin_cases q <;> decide))]
    simp only [Nat.add_zero]
    unfold GatherDims.start
    rw [dif_pos hq]
    have hsi : gather_S240x64x64_S240x8x14x14x3_S240x8x14x14_n_012_n_n_012_4_111.siIdx (ix4 n r i j)
        ⟨List.idxOf q gather_S240x64x64_S240x8x14x14x3_S240x8x14x14_n_012_n_n_012_4_111.startIndexMap, List.idxOf_lt_length_iff.2 hq⟩ = ix5 n r i j q := by
      funext c; refine Fin.ext ?_
      fin_cases c <;> first | rfl | (fin_cases q <;> rfl)
    rw [hsi, e]
    have hs : w ≤ S240x64x64.size q - gather_S240x64x64_S240x8x14x14x3_S240x8x14x14_n_012_n_n_012_4_111.sliceSizes q := by
      fin_cases q
      · show w ≤ 240 - 1
        rcases hw with h | ⟨_, h⟩ <;> omega
      · show w ≤ 64 - 1
        rcases hw with h | ⟨h, _⟩
        · omega
        · exact absurd h (by decide)
      · show w ≤ 64 - 1
        rcases hw with h | ⟨h, _⟩
        · omega
        · exact absurd h (by decide)
    rw [toInt_small (by rcases hw with h | ⟨_, h⟩ <;> omega)]
    exact min_eq_left hs
  unfold Host.gather
  refine congrArg x (funext fun q => Fin.ext ?_)
  fin_cases q
  · exact key 0 m.val (Or.inr ⟨rfl, m.isLt⟩) h0
  · exact key 1 a.val (Or.inl a.isLt) h1
  · exact key 2 b.val (Or.inl b.isLt) h2

/-- One of the three words of each index, put last. -/
theorem word_last (A : Fin 3 → IVec S240x8x14x14 32) (n : Fin 240) (r : Fin 8) (i j : Fin 14) (q : Fin 3) :
    concatenate S240x8x14x14x3 4 [⟨S240x8x14x14x1, broadcastInDim S240x8x14x14x1 ![0, 1, 2, 3] bcast_S240x8x14x14_S240x8x14x14x1_0_1_2_3 (A 0)⟩,
        ⟨S240x8x14x14x1, broadcastInDim S240x8x14x14x1 ![0, 1, 2, 3] bcast_S240x8x14x14_S240x8x14x14x1_0_1_2_3 (A 1)⟩,
        ⟨S240x8x14x14x1, broadcastInDim S240x8x14x14x1 ![0, 1, 2, 3] bcast_S240x8x14x14_S240x8x14x14x1_0_1_2_3 (A 2)⟩]
      concatenates_S240x8x14x14x1_S240x8x14x14x1_S240x8x14x14x1_S240x8x14x14x3_d4 (ix5 n r i j q) = A q (ix4 n r i j) := by
  have hp : ∀ q : Fin 3, broadcastInDim S240x8x14x14x1 ![0, 1, 2, 3] bcast_S240x8x14x14_S240x8x14x14x1_0_1_2_3 (A q) (ix5 n r i j (0 : Fin 1)) = A q (ix4 n r i j) :=
    fun q => broadcastInDim_apply _ _ _ _ _ (by intro a; fin_cases a <;> rfl)
  refine (concatenate_apply_piece (t := S240x8x14x14x3) (4 : Fin 5)
    [⟨S240x8x14x14x1, broadcastInDim S240x8x14x14x1 ![0, 1, 2, 3] bcast_S240x8x14x14_S240x8x14x14x1_0_1_2_3 (A 0)⟩,
      ⟨S240x8x14x14x1, broadcastInDim S240x8x14x14x1 ![0, 1, 2, 3] bcast_S240x8x14x14_S240x8x14x14x1_0_1_2_3 (A 1)⟩,
      ⟨S240x8x14x14x1, broadcastInDim S240x8x14x14x1 ![0, 1, 2, 3] bcast_S240x8x14x14_S240x8x14x14x1_0_1_2_3 (A 2)⟩] _ (ix5 n r i j q) q.val q.isLt S240x8x14x14x1
    (broadcastInDim S240x8x14x14x1 ![0, 1, 2, 3] bcast_S240x8x14x14_S240x8x14x14x1_0_1_2_3 (A q)) (by fin_cases q <;> rfl) rfl q.val
    (by fin_cases q <;> rfl) (ix5 n r i j (0 : Fin 1)) (by intro a ha; fin_cases a <;> first | rfl | exact absurd rfl ha) (Nat.add_zero _)).trans (hp q)

/-- One value per frame, repeated over its patches. -/
theorem frame_values {α : Type} (w : S240x1x1x1.Idx → α) (n : Fin 240) (r : Fin 8) (i j : Fin 14) :
    broadcastInDim S240x8x14x14 ![0, 1, 2, 3] bcast_S240x1x1x1_S240x8x14x14_0_1_2_3 w (ix4 n r i j) = w (ix4 n (0 : Fin 1) (0 : Fin 1) (0 : Fin 1)) :=
  broadcastInDim_apply _ _ _ _ _ (by intro a; fin_cases a <;> rfl)

/-- A column of values per row of the patch, repeated along it. -/
theorem row_values {α : Type} (w : S240x8x14x1.Idx → α) (n : Fin 240) (r : Fin 8) (i j : Fin 14) :
    broadcastInDim S240x8x14x14 ![0, 1, 2, 3] bcast_S240x8x14x1_S240x8x14x14_0_1_2_3 w (ix4 n r i j) = w (ix4 n r i (0 : Fin 1)) :=
  broadcastInDim_apply _ _ _ _ _ (by intro a; fin_cases a <;> rfl)

/-- A row of values per column of the patch, repeated down it. -/
theorem column_values {α : Type} (w : S240x8x1x14.Idx → α) (n : Fin 240) (r : Fin 8) (i j : Fin 14) :
    broadcastInDim S240x8x14x14 ![0, 1, 2, 3] bcast_S240x8x1x14_S240x8x14x14_0_1_2_3 w (ix4 n r i j) = w (ix4 n r (0 : Fin 1) j) :=
  broadcastInDim_apply _ _ _ _ _ (by intro a; fin_cases a <;> rfl)

/-- The gathered pixel. -/
theorem gathered_apply {x : FVec Ideal S240x64x64 .f32} {f : IVec S240x1x1x1 32} {a : IVec S240x8x14x1 32} {b : IVec S240x8x1x14 32} {n : Fin 240} {r : Fin 8} {i j : Fin 14}
    {u v : Fin 64} (hf : f (ix4 n (0 : Fin 1) (0 : Fin 1) (0 : Fin 1)) = BitVec.ofNat 32 n.val) (ha : a (ix4 n r i (0 : Fin 1)) = BitVec.ofNat 32 u.val)
    (hb : b (ix4 n r (0 : Fin 1) j) = BitVec.ofNat 32 v.val) : gathered x f a b (ix4 n r i j) = x (ix3 n u v) := by
  have hn := n.isLt
  have hu := u.isLt
  have hv := v.isLt
  let A : Fin 3 → IVec S240x8x14x14 32 := ![
    broadcastInDim S240x8x14x14 ![0, 1, 2, 3] bcast_S240x1x1x1_S240x8x14x14_0_1_2_3 (select (cmpi .slt f (broadcastInDim S240x1x1x1 ![] bcast_S_S240x1x1x1 (constantI S_ 32 0#32))) (addi f (broadcastInDim S240x1x1x1 ![] bcast_S_S240x1x1x1 (constantI S_ 32 240#32))) f),
    broadcastInDim S240x8x14x14 ![0, 1, 2, 3] bcast_S240x8x14x1_S240x8x14x14_0_1_2_3 (select (cmpi .slt a (broadcastInDim S240x8x14x1 ![] bcast_S_S240x8x14x1 (constantI S_ 32 0#32))) (addi a (broadcastInDim S240x8x14x1 ![] bcast_S_S240x8x14x1 (constantI S_ 32 64#32))) a),
    broadcastInDim S240x8x14x14 ![0, 1, 2, 3] bcast_S240x8x1x14_S240x8x14x14_0_1_2_3 (select (cmpi .slt b (broadcastInDim S240x8x1x14 ![] bcast_S_S240x8x1x14 (constantI S_ 32 0#32))) (addi b (broadcastInDim S240x8x1x14 ![] bcast_S_S240x8x1x14 (constantI S_ 32 64#32))) b)]
  refine gather_entry x _ n r i j n u v ((word_last A n r i j 0).trans ?_) ((word_last A n r i j 1).trans ?_) ((word_last A n r i j 2).trans ?_)
  · exact (frame_values _ n r i j).trans (unmoved _ _ _ _ rfl hf (by omega))
  · exact (row_values _ n r i j).trans (unmoved _ _ _ _ rfl ha (by omega))
  · exact (column_values _ n r i j).trans (unmoved _ _ _ _ rfl hb (by omega))

/-! ## The patches -/

theorem to_column {α : Type} (w : S240x8x14.Idx → α) (n : Fin 240) (r : Fin 8) (i : Fin 14) :
    broadcastInDim S240x8x14x1 ![0, 1, 2] bcast_S240x8x14_S240x8x14x1_0_1_2 w (ix4 n r i (0 : Fin 1)) = w (ix3 n r i) :=
  broadcastInDim_apply _ _ _ _ _ (by intro a; fin_cases a <;> rfl)

theorem to_row {α : Type} (w : S240x8x14.Idx → α) (n : Fin 240) (r : Fin 8) (j : Fin 14) :
    broadcastInDim S240x8x1x14 ![0, 1, 3] bcast_S240x8x14_S240x8x1x14_0_1_3 w (ix4 n r (0 : Fin 1) j) = w (ix3 n r j) :=
  broadcastInDim_apply _ _ _ _ _ (by intro a; fin_cases a <;> rfl)

/-- Two values mixed by a weight given per row. -/
def mixRows (w : FVec Ideal S240x8x14x1 .f32) (x y : FVec Ideal S240x8x14x14 .f32) : FVec Ideal S240x8x14x14 .f32 :=
  addf (mulf (broadcastInDim S240x8x14x14 ![0, 1, 2, 3] bcast_S240x8x14x1_S240x8x14x14_0_1_2_3 (subf (broadcastInDim S240x8x14x1 ![] bcast_S_S240x8x14x1 (constant S_ .f32 0x3F800000#32)) w)) x)
    (mulf (broadcastInDim S240x8x14x14 ![0, 1, 2, 3] bcast_S240x8x14x1_S240x8x14x14_0_1_2_3 w) y)

/-- Two values mixed by a weight given per column. -/
def mixColumns (w : FVec Ideal S240x8x1x14 .f32) (x y : FVec Ideal S240x8x14x14 .f32) : FVec Ideal S240x8x14x14 .f32 :=
  addf (mulf (broadcastInDim S240x8x14x14 ![0, 1, 2, 3] bcast_S240x8x1x14_S240x8x14x14_0_1_2_3 (subf (broadcastInDim S240x8x1x14 ![] bcast_S_S240x8x1x14 (constant S_ .f32 0x3F800000#32)) w)) x)
    (mulf (broadcastInDim S240x8x14x14 ![0, 1, 2, 3] bcast_S240x8x1x14_S240x8x14x14_0_1_2_3 w) y)

theorem mixRows_apply {w : FVec Ideal S240x8x14x1 .f32} {x y : FVec Ideal S240x8x14x14 .f32} {n : Fin 240} {r : Fin 8} {i j : Fin 14} {a b c : EReal}
    (hw : w (ix4 n r i (0 : Fin 1)) = a) (hx : x (ix4 n r i j) = b) (hy : y (ix4 n r i j) = c) : mixRows w x y (ix4 n r i j) = mix a b c := by
  unfold mix
  rw [← hw, ← hx, ← hy]
  exact congrArg₂ (· + ·) (congrArg (· * _) (row_values _ n r i j)) (congrArg (· * _) (row_values _ n r i j))

theorem mixColumns_apply {w : FVec Ideal S240x8x1x14 .f32} {x y : FVec Ideal S240x8x14x14 .f32} {n : Fin 240} {r : Fin 8} {i j : Fin 14} {a b c : EReal}
    (hw : w (ix4 n r (0 : Fin 1) j) = a) (hx : x (ix4 n r i j) = b) (hy : y (ix4 n r i j) = c) : mixColumns w x y (ix4 n r i j) = mix a b c := by
  unfold mix
  rw [← hw, ← hx, ← hy]
  exact congrArg₂ (· + ·) (congrArg (· * _) (column_values _ n r i j)) (congrArg (· * _) (column_values _ n r i j))

variable (V : Valuation τ sig (Elt Ideal))

/-- The first coordinate of a position. -/
theorem position_x (b : Fin 8) (t : Fin 30) (r : Fin 8) : res_main_v375 V (ix3 b t r) = (args V).px (ix4 b t r (0 : Fin 2)) := by
  unfold res_main_v375
  refine (shapeCast_apply (t := S8x30x8) _ _ _ (ix4 b t r (0 : Fin 1)) (by
    rw [Shape.rowMajor_val_four, Shape.rowMajor_val_three]
    show ((b.val * 30 + t.val) * 8 + r.val) * 1 + 0 = (b.val * 30 + t.val) * 8 + r.val
    omega)).trans ?_
  exact extractStridedSlice_apply _ _ _ _ _ (by intro a; fin_cases a <;> first | rfl | exact (Nat.zero_add _).symm)

/-- The second coordinate of a position. -/
theorem position_y (b : Fin 8) (t : Fin 30) (r : Fin 8) : res_main_v377 V (ix3 b t r) = (args V).px (ix4 b t r (1 : Fin 2)) := by
  unfold res_main_v377
  refine (shapeCast_apply (t := S8x30x8) _ _ _ (ix4 b t r (0 : Fin 1)) (by
    rw [Shape.rowMajor_val_four, Shape.rowMajor_val_three]
    show ((b.val * 30 + t.val) * 8 + r.val) * 1 + 0 = (b.val * 30 + t.val) * 8 + r.val
    omega)).trans ?_
  exact extractStridedSlice_apply _ _ _ _ _ (by intro a; fin_cases a <;> first | rfl | exact (Nat.zero_add _).symm)

theorem halves (i : Fin 14) : res_main_v398 V (ix1 i) = half i := rfl

/-- The patches, as two mixtures of four gathers. -/
theorem patches_mix : res_main_v588 V = mixRows (res_main_v467 V)
    (mixColumns (res_main_v466 V) (gathered (res_main_v457 V) (res_main_v465 V) (res_main_v470 V) (res_main_v471 V))
      (gathered (res_main_v457 V) (res_main_v465 V) (res_main_v470 V) (res_main_v498 V)))
    (mixColumns (res_main_v466 V) (gathered (res_main_v457 V) (res_main_v465 V) (res_main_v527 V) (res_main_v471 V))
      (gathered (res_main_v457 V) (res_main_v465 V) (res_main_v527 V) (res_main_v498 V))) := rfl

/-- The frames of all videos. -/
theorem images (n : Fin 240) (a b : Fin 64) : res_main_v457 V (ix3 n a b) = still (args V).x n 0 a b := by
  have hn := n.isLt
  unfold res_main_v457
  refine (shapeCast_apply (t := S240x64x64) _ _ _ (ix4 (⟨n.val / 30, by omega⟩ : Fin 8) (⟨n.val % 30, by omega⟩ : Fin 30) a b) (by
    rw [Shape.rowMajor_val_four, Shape.rowMajor_val_three]
    show ((n.val / 30 * 30 + n.val % 30) * 64 + a.val) * 64 + b.val = (n.val * 64 + a.val) * 64 + b.val
    rw [Nat.div_add_mod'])).trans ?_
  exact (bank_apply (args V).x ⟨n.val / 30, by omega⟩ ⟨n.val % 30, by omega⟩ a b).symm

variable {V}

/-- A sample of a patch. -/
theorem sample_apply (hp : ∀ i, 0 ≤ (args V).px i) (n : Fin 240) (r : Fin 8) (i j : Fin 14) :
    res_main_v588 V (ix4 n r i j) = patch (args V).x (args V).px (n.val * 8 + r.val) 0 i j := by
  have hn := n.isLt
  have hr := r.isLt
  have hb : n.val / 30 < 8 := by omega
  have ht : n.val % 30 < 30 := by omega
  have ex : res_main_v375 V (ix3 ⟨n.val / 30, hb⟩ ⟨n.val % 30, ht⟩ r) = bank (args V).px (n.val / 30) (n.val % 30) r 0 :=
    (position_x V _ _ r).trans (bank_apply (args V).px ⟨n.val / 30, hb⟩ ⟨n.val % 30, ht⟩ r 0).symm
  have ey : res_main_v377 V (ix3 ⟨n.val / 30, hb⟩ ⟨n.val % 30, ht⟩ r) = bank (args V).px (n.val / 30) (n.val % 30) r 1 :=
    (position_y V _ _ r).trans (bank_apply (args V).px ⟨n.val / 30, hb⟩ ⟨n.val % 30, ht⟩ r 1).symm
  have hx0 : 0 ≤ bank (args V).px (n.val / 30) (n.val % 30) r 0 :=
    (hp _).trans_eq (bank_apply (args V).px ⟨n.val / 30, hb⟩ ⟨n.val % 30, ht⟩ r 0).symm
  have hy0 : 0 ≤ bank (args V).px (n.val / 30) (n.val % 30) r 1 :=
    (hp _).trans_eq (bank_apply (args V).px ⟨n.val / 30, hb⟩ ⟨n.val % 30, ht⟩ r 1).symm
  unfold patch
  rw [show (n.val * 8 + r.val) / 8 = n.val by omega, show (n.val * 8 + r.val) % 8 = r.val by omega]
  generalize bank (args V).px (n.val / 30) (n.val % 30) r 0 = qx at ex hx0 ⊢
  generalize bank (args V).px (n.val / 30) (n.val % 30) r 1 = qy at ey hy0 ⊢
  obtain ⟨a, b, u, u0, u1, ea, eb, eu⟩ := sample hy0 i.val
  obtain ⟨c, d, w, w0, w1, ec, ed, ew⟩ := sample hx0 j.val
  have fx : res_main_v471 V (ix4 n r (0 : Fin 1) j) = BitVec.ofNat 32 c.val := by
    refine (to_row _ n r j).trans ((in_row _ n r j hb ht).trans ?_)
    refine (congrArg (Ideal.fptosi 32) ((firsts_apply (halves V) _ _ r j).trans ?_)).trans (word_pixel c)
    rw [ex]; exact ec
  have sx : res_main_v498 V (ix4 n r (0 : Fin 1) j) = BitVec.ofNat 32 d.val := by
    refine (to_row _ n r j).trans ((in_row _ n r j hb ht).trans ?_)
    refine (congrArg (Ideal.fptosi 32) ((nexts_apply (halves V) _ _ r j).trans ?_)).trans (word_pixel d)
    rw [ex]; exact ed
  have fy : res_main_v470 V (ix4 n r i (0 : Fin 1)) = BitVec.ofNat 32 a.val := by
    refine (to_column _ n r i).trans ((in_row _ n r i hb ht).trans ?_)
    refine (congrArg (Ideal.fptosi 32) ((firsts_apply (halves V) _ _ r i).trans ?_)).trans (word_pixel a)
    rw [ey]; exact ea
  have sy : res_main_v527 V (ix4 n r i (0 : Fin 1)) = BitVec.ofNat 32 b.val := by
    refine (to_column _ n r i).trans ((in_row _ n r i hb ht).trans ?_)
    refine (congrArg (Ideal.fptosi 32) ((nexts_apply (halves V) _ _ r i).trans ?_)).trans (word_pixel b)
    rw [ey]; exact eb
  have wx : res_main_v466 V (ix4 n r (0 : Fin 1) j) = part qx j := by
    refine (to_row _ n r j).trans ((in_row _ n r j hb ht).trans ?_)
    refine (congrArg₂ (· - ·) (spots_apply (halves V) _ _ r j) (firsts_apply (halves V) _ _ r j)).trans ?_
    rw [ex]; rfl
  have wy : res_main_v467 V (ix4 n r i (0 : Fin 1)) = part qy i := by
    refine (to_column _ n r i).trans ((in_row _ n r i hb ht).trans ?_)
    refine (congrArg₂ (· - ·) (spots_apply (halves V) _ _ r i) (firsts_apply (halves V) _ _ r i)).trans ?_
    rw [ey]; rfl
  have hf : res_main_v465 V (ix4 n (0 : Fin 1) (0 : Fin 1) (0 : Fin 1)) = BitVec.ofNat 32 n.val :=
    broadcastInDim_apply (s := S240) (t := S240x1x1x1) _ _ _ _ (ix1 n) (by intro a; fin_cases a; rfl)
  have im := images V n
  rw [patches_mix]
  unfold crop
  rw [ea, eb, ec, ed, pixel_coe, pixel_coe, pixel_coe, pixel_coe]
  exact mixRows_apply wy (mixColumns_apply wx ((gathered_apply hf fy fx).trans (im a c)) ((gathered_apply hf fy sx).trans (im a d)))
    (mixColumns_apply wx ((gathered_apply hf sy fx).trans (im b c)) ((gathered_apply hf sy sx).trans (im b d)))

/-- The patches the reference cuts are the crops around the positions, when no position is negative. -/
theorem patches (hp : ∀ i, 0 ≤ (args V).px i) : Patches V := by
  intro n
  have hn := n.isLt
  refine pad_planes (p := 2) (h := 14) (w := 14) (h2 := 18) (w2 := 18) ?_ _ _ (zero_first _) _
  intro l i j
  have hl : l.val = 0 := by have := l.isLt; omega
  refine (shapeCast_apply (t := S1920x1x14x14) _ _ _ (ix4 (⟨n.val / 8, by omega⟩ : Fin 240) (⟨n.val % 8, by omega⟩ : Fin 8) i j) (by
    rw [Shape.rowMajor_val_four, Shape.rowMajor_val_four]
    show ((n.val / 8 * 8 + n.val % 8) * 14 + i.val) * 14 + j.val = ((n.val * 1 + l.val) * 14 + i.val) * 14 + j.val
    rw [Nat.div_add_mod', hl]
    omega)).trans ?_
  refine (sample_apply hp ⟨n.val / 8, by omega⟩ ⟨n.val % 8, by omega⟩ i j).trans ?_
  show patch (args V).x (args V).px (n.val / 8 * 8 + n.val % 8) 0 i j = patch (args V).x (args V).px n.val l.val i j
  rw [Nat.div_add_mod', hl]

end Cert.ReferenceIdeal.Value

end
-- ==== Proof.Nonneg.lean ====
/- What the precondition says: no position is negative. -/
module

public import proofs.«01_k».proof.Pre_positions_nonneg
public import proofs.«01_k».proof.Proof.Gen.Pre_positions_nonneg
public import Idealize.ShloMosaic.Lib.ReduceAll
public import Idealize.ShloMosaic.Lib.StableHlo.Predicate
public import proofs.«01_k».proof.Proof.Spec

@[expose] public section

noncomputable section

namespace Cert.Pre_positions_nonneg

open Idealize.ShloMosaic StableHlo.Predicate Facts

/-- One comparison with zero. -/
theorem nonneg_of_oge {v : EReal} (h : FloatOps.cmpf (F := Ideal) (φ := .f32) .oge v (FloatOps.ofBits .f32 0x00000000#32) = 1#1) : 0 ≤ v := by
  have h0 : (FloatOps.ofBits .f32 0x00000000#32 : Ideal .f32) = (0 : EReal) := Ideal.ofBits_zero .f32
  rw [h0] at h
  exact of_decide_eq_true ((ofBool_eq_one_iff _).1 h)

/-- When every comparison holds, no position is negative. -/
theorem nonneg [Facts] {p : FVec Ideal S8x30x8x2 .f32}
    (h : Host.reduce IntOp.andi (cmpf .oge p (broadcastInDim S8x30x8x2 ![] bcast_S_S8x30x8x2 (constant S_ .f32 0x00000000#32)))
      (constantI S_ 1 1#1) reducesTo_S8x30x8x2_S_d0_1_2_3 h_S_ = fun _ => 1#1) (i : S8x30x8x2.Idx) : 0 ≤ (p i : EReal) := by
  have : Subsingleton S_.Idx := ⟨fun a b => funext fun k => k.elim0⟩
  exact nonneg_of_oge (Host.reduce_andi_all _ _ _ _ (fun k => k.elim0) (congrFun h _) i)

end Cert.Pre_positions_nonneg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_positions_nonneg
public import proofs.«01_k».proof.Proof.SameProgram
public import proofs.«01_k».proof.Proof.KernelValue
public import proofs.«01_k».proof.Proof.HostCrop
public import proofs.«01_k».proof.Proof.Nonneg
public import Idealize.ShloMosaic.Adequacy
public import Idealize.ShloMosaic.Init

@[expose] public section

set_option maxRecDepth 16384

noncomputable section

namespace Cert.Proof

open Idealize.ShloMosaic Idealize.SL.Sem Cert.Kernel

/-- The reference leaves its arguments as they were, and has no semaphore to leave raised. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The two programs' arguments, when the memories agree on them. -/
theorem args_agree (A B : Cert.Net.Args) (h0 : A.x = B.x) (h1 : A.px = B.px) (h2 : A.c₁ = B.c₁) (h3 : A.c₂ = B.c₂) (h4 : A.c₃ = B.c₃) (h5 : A.c₄ = B.c₄)
    (h6 : A.c₅ = B.c₅) (h7 : A.c₆ = B.c₆) (h8 : A.gw = B.gw) (h9 : A.gb = B.gb) (h10 : A.lw = B.lw) (h11 : A.lb = B.lb) (h12 : A.w₁ = B.w₁)
    (h13 : A.a₁ = B.a₁) (h14 : A.b₁ = B.b₁) (h15 : A.w₂ = B.w₂) (h16 : A.a₂ = B.a₂) (h17 : A.b₂ = B.b₂) : A = B := by
  cases A
  cases B
  congr

/-- Over the extended reals the kernel and the reference give the same descriptors, when no position is negative. -/
theorem algebraic : Cert.algebraic_KernelIdeal_ReferenceIdeal_pre_positions_nonneg := by
  intro m g m' g' hpre hagree
  have hp : ∀ c i, 0 ≤ (Cert.KernelIdeal.Value.args m c).px i := fun c => Cert.Pre_positions_nonneg.nonneg (hpre c)
  refine ⟨fun c => (Cert.KernelIdeal.Value.args m c).result, ?_, ?_⟩
  · refine (θ_run Cert.KernelIdeal.defs _ _).mono (fun r h c => ?_) (Cert.KernelIdeal.Gen.run_whole m g)
    have k : ∀ a ∈ Cert.KernelIdeal.Gen.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (h.1 c _ (Cert.KernelIdeal.Gen.mem_uc a hs)).trans (Cert.KernelIdeal.Gen.W8_args m g c a ha)
    exact ⟨(h.1 c _ (Cert.KernelIdeal.Gen.mem_uc Cert.KernelIdeal.main_v25 (by decide))).trans (Cert.KernelIdeal.Value.result m g c (hp c)),
      k Cert.KernelIdeal.main_arg0 (by decide) (by decide),
      k Cert.KernelIdeal.main_arg1 (by decide) (by decide),
      k Cert.KernelIdeal.main_arg2 (by decide) (by decide),
      k Cert.KernelIdeal.main_arg3 (by decide) (by decide),
      k Cert.KernelIdeal.main_arg4 (by decide) (by decide),
      k Cert.KernelIdeal.main_arg5 (by decide) (by decide),
      k Cert.KernelIdeal.main_arg6 (by decide) (by decide),
      k Cert.KernelIdeal.main_arg7 (by decide) (by decide),
      k Cert.KernelIdeal.main_arg8 (by decide) (by decide),
      k Cert.KernelIdeal.main_arg9 (by decide) (by decide),
      k Cert.KernelIdeal.main_arg10 (by decide) (by decide),
      k Cert.KernelIdeal.main_arg11 (by decide) (by decide),
      k Cert.KernelIdeal.main_arg12 (by decide) (by decide),
      k Cert.KernelIdeal.main_arg13 (by decide) (by decide),
      k Cert.KernelIdeal.main_arg14 (by decide) (by decide),
      k Cert.KernelIdeal.main_arg15 (by decide) (by decide),
      k Cert.KernelIdeal.main_arg16 (by decide) (by decide),
      k Cert.KernelIdeal.main_arg17 (by decide) (by decide)⟩
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9, h10, h11, h12, h13, h14, h15, h16, h17⟩ := hagree c
    have e : Cert.ReferenceIdeal.Value.args (StableHlo.launchContents m' c) = Cert.KernelIdeal.Value.args m c :=
      args_agree _ _ h0 h1 h2 h3 h4 h5 h6 h7 h8 h9 h10 h11 h12 h13 h14 h15 h16 h17
    refine (Cert.ReferenceIdeal.Value.outcome (Cert.ReferenceIdeal.Value.patches ?_)).trans ?_
    · rw [e]
      exact hp c
    · rw [e]

theorem claim : Cert.Claim := ⟨Cert.Kernel.Gen.facts, Cert.KernelIdeal.Gen.facts, Cert.ReferenceIdeal.Gen.facts, Cert.Pre_positions_nonneg.Gen.facts,
  Cert.Kernel.Value.frame, fun m ρ _ => Cert.KernelIdeal.Gen.frame m ρ, fun m ρ _ => Cert.KernelIdeal.Gen.frame m ρ,
  frame_reference, fun m ρ _ => frame_reference m ρ trivial, trivial, algebraic⟩

end Cert.Proof

end
